-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_a [hPre_finite_a : Cert.Pre_finite_a.Facts] (m : (ℓ : Loc Cert.KernelIdeal.nD Cert.KernelIdeal.τ Cert.KernelIdeal.sig) → Buf (Elt Ideal) ℓ) : Prop :=
  ∀ c : Dev Cert.KernelIdeal.nD,
    (Cert.Pre_finite_a.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_a [hPre_finite_a : Cert.Pre_finite_a.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_a.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_b [hPre_finite_b : Cert.Pre_finite_b.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_b.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_b [hPre_finite_b : Cert.Pre_finite_b.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_b.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_c [hPre_finite_c : Cert.Pre_finite_c.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_c.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_c [hPre_finite_c : Cert.Pre_finite_c.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_c.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_e [hPre_finite_e : Cert.Pre_finite_e.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_e.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_e [hPre_finite_e : Cert.Pre_finite_e.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_e.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_a [hKernelIdeal : Cert.KernelIdeal.Facts] [hPre_finite_a : Cert.Pre_finite_a.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_a m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_a [hReferenceIdeal : Cert.ReferenceIdeal.Facts] [hPre_finite_a : Cert.Pre_finite_a.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_a m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite_b [hKernel2Ideal : Cert.Kernel2Ideal.Facts] [hPre_finite_b : Cert.Pre_finite_b.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_b m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite_b [hReference2Ideal : Cert.Reference2Ideal.Facts] [hPre_finite_b : Cert.Pre_finite_b.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_b m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_c [hKernel3Ideal : Cert.Kernel3Ideal.Facts] [hPre_finite_c : Cert.Pre_finite_c.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_c m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_c [hReference3Ideal : Cert.Reference3Ideal.Facts] [hPre_finite_c : Cert.Pre_finite_c.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_c m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_e [hKernel5Ideal : Cert.Kernel5Ideal.Facts] [hPre_finite_e : Cert.Pre_finite_e.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_e m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_e [hReference5Ideal : Cert.Reference5Ideal.Facts] [hPre_finite_e : Cert.Pre_finite_e.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_e m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14)
      ∧ r.2.mem ((c.tc : Thread Cert.Kernel10.nD Cert.Kernel10.τ).loc Cert.Kernel10.main_arg15) = m ((c.tc : Thread Cert.Kernel10.nD Cert.Kernel10.τ).loc Cert.Kernel10.main_arg15)
      ∧ r.2.mem ((c.tc : Thread Cert.Kernel10.nD Cert.Kernel10.τ).loc Cert.Kernel10.main_arg16) = m ((c.tc : Thread Cert.Kernel10.nD Cert.Kernel10.τ).loc Cert.Kernel10.main_arg16)
      ∧ r.2.mem ((c.tc : Thread Cert.Kernel10.nD Cert.Kernel10.τ).loc Cert.Kernel10.main_arg17) = m ((c.tc : Thread Cert.Kernel10.nD Cert.Kernel10.τ).loc Cert.Kernel10.main_arg17)
      ∧ r.2.mem ((c.tc : Thread Cert.Kernel10.nD Cert.Kernel10.τ).loc Cert.Kernel10.main_arg18) = m ((c.tc : Thread Cert.Kernel10.nD Cert.Kernel10.τ).loc Cert.Kernel10.main_arg18)
      ∧ r.2.mem ((c.tc : Thread Cert.Kernel10.nD Cert.Kernel10.τ).loc Cert.Kernel10.main_arg19) = m ((c.tc : Thread Cert.Kernel10.nD Cert.Kernel10.τ).loc Cert.Kernel10.main_arg19)
      ∧ r.2.mem ((c.tc : Thread Cert.Kernel10.nD Cert.Kernel10.τ).loc Cert.Kernel10.main_arg20) = m ((c.tc : Thread Cert.Kernel10.nD Cert.Kernel10.τ).loc Cert.Kernel10.main_arg20)
      ∧ r.2.mem ((c.tc : Thread Cert.Kernel10.nD Cert.Kernel10.τ).loc Cert.Kernel10.main_arg21) = m ((c.tc : Thread Cert.Kernel10.nD Cert.Kernel10.τ).loc Cert.Kernel10.main_arg21)
      ∧ r.2.mem ((c.tc : Thread Cert.Kernel10.nD Cert.Kernel10.τ).loc Cert.Kernel10.main_arg22) = m ((c.tc : Thread Cert.Kernel10.nD Cert.Kernel10.τ).loc Cert.Kernel10.main_arg22)
      ∧ r.2.mem ((c.tc : Thread Cert.Kernel10.nD Cert.Kernel10.τ).loc Cert.Kernel10.main_arg23) = m ((c.tc : Thread Cert.Kernel10.nD Cert.Kernel10.τ).loc Cert.Kernel10.main_arg23)
      ∧ r.2.mem ((c.tc : Thread Cert.Kernel10.nD Cert.Kernel10.τ).loc Cert.Kernel10.main_arg24) = m ((c.tc : Thread Cert.Kernel10.nD Cert.Kernel10.τ).loc Cert.Kernel10.main_arg24)
      ∧ r.2.mem ((c.tc : Thread Cert.Kernel10.nD Cert.Kernel10.τ).loc Cert.Kernel10.main_arg25) = m ((c.tc : Thread Cert.Kernel10.nD Cert.Kernel10.τ).loc Cert.Kernel10.main_arg25)
      ∧ r.2.mem ((c.tc : Thread Cert.Kernel10.nD Cert.Kernel10.τ).loc Cert.Kernel10.main_arg26) = m ((c.tc : Thread Cert.Kernel10.nD Cert.Kernel10.τ).loc Cert.Kernel10.main_arg26)
      ∧ r.2.mem ((c.tc : Thread Cert.Kernel10.nD Cert.Kernel10.τ).loc Cert.Kernel10.main_arg27) = m ((c.tc : Thread Cert.Kernel10.nD Cert.Kernel10.τ).loc Cert.Kernel10.main_arg27))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
      ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
      ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
      ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
      ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
      ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
      ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
      ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
      ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23)
      ∧ r.2.mem ((c.tc : Thread Cert.Kernel10Ideal.nD Cert.Kernel10Ideal.τ).loc Cert.Kernel10Ideal.main_arg24) = m ((c.tc : Thread Cert.Kernel10Ideal.nD Cert.Kernel10Ideal.τ).loc Cert.Kernel10Ideal.main_arg24)
      ∧ r.2.mem ((c.tc : Thread Cert.Kernel10Ideal.nD Cert.Kernel10Ideal.τ).loc Cert.Kernel10Ideal.main_arg25) = m ((c.tc : Thread Cert.Kernel10Ideal.nD Cert.Kernel10Ideal.τ).loc Cert.Kernel10Ideal.main_arg25)
      ∧ r.2.mem ((c.tc : Thread Cert.Kernel10Ideal.nD Cert.Kernel10Ideal.τ).loc Cert.Kernel10Ideal.main_arg26) = m ((c.tc : Thread Cert.Kernel10Ideal.nD Cert.Kernel10Ideal.τ).loc Cert.Kernel10Ideal.main_arg26)
      ∧ r.2.mem ((c.tc : Thread Cert.Kernel10Ideal.nD Cert.Kernel10Ideal.τ).loc Cert.Kernel10Ideal.main_arg27) = m ((c.tc : Thread Cert.Kernel10Ideal.nD Cert.Kernel10Ideal.τ).loc Cert.Kernel10Ideal.main_arg27))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15)
      ∧ r.2.mem ((c.tc : Thread Cert.Reference10Ideal.nD Cert.Reference10Ideal.τ).loc Cert.Reference10Ideal.main_arg16) = m ((c.tc : Thread Cert.Reference10Ideal.nD Cert.Reference10Ideal.τ).loc Cert.Reference10Ideal.main_arg16)
      ∧ r.2.mem ((c.tc : Thread Cert.Reference10Ideal.nD Cert.Reference10Ideal.τ).loc Cert.Reference10Ideal.main_arg17) = m ((c.tc : Thread Cert.Reference10Ideal.nD Cert.Reference10Ideal.τ).loc Cert.Reference10Ideal.main_arg17)
      ∧ r.2.mem ((c.tc : Thread Cert.Reference10Ideal.nD Cert.Reference10Ideal.τ).loc Cert.Reference10Ideal.main_arg18) = m ((c.tc : Thread Cert.Reference10Ideal.nD Cert.Reference10Ideal.τ).loc Cert.Reference10Ideal.main_arg18)
      ∧ r.2.mem ((c.tc : Thread Cert.Reference10Ideal.nD Cert.Reference10Ideal.τ).loc Cert.Reference10Ideal.main_arg19) = m ((c.tc : Thread Cert.Reference10Ideal.nD Cert.Reference10Ideal.τ).loc Cert.Reference10Ideal.main_arg19)
      ∧ r.2.mem ((c.tc : Thread Cert.Reference10Ideal.nD Cert.Reference10Ideal.τ).loc Cert.Reference10Ideal.main_arg20) = m ((c.tc : Thread Cert.Reference10Ideal.nD Cert.Reference10Ideal.τ).loc Cert.Reference10Ideal.main_arg20)
      ∧ r.2.mem ((c.tc : Thread Cert.Reference10Ideal.nD Cert.Reference10Ideal.τ).loc Cert.Reference10Ideal.main_arg21) = m ((c.tc : Thread Cert.Reference10Ideal.nD Cert.Reference10Ideal.τ).loc Cert.Reference10Ideal.main_arg21)
      ∧ r.2.mem ((c.tc : Thread Cert.Reference10Ideal.nD Cert.Reference10Ideal.τ).loc Cert.Reference10Ideal.main_arg22) = m ((c.tc : Thread Cert.Reference10Ideal.nD Cert.Reference10Ideal.τ).loc Cert.Reference10Ideal.main_arg22)
      ∧ r.2.mem ((c.tc : Thread Cert.Reference10Ideal.nD Cert.Reference10Ideal.τ).loc Cert.Reference10Ideal.main_arg23) = m ((c.tc : Thread Cert.Reference10Ideal.nD Cert.Reference10Ideal.τ).loc Cert.Reference10Ideal.main_arg23)
      ∧ r.2.mem ((c.tc : Thread Cert.Reference10Ideal.nD Cert.Reference10Ideal.τ).loc Cert.Reference10Ideal.main_arg24) = m ((c.tc : Thread Cert.Reference10Ideal.nD Cert.Reference10Ideal.τ).loc Cert.Reference10Ideal.main_arg24)
      ∧ r.2.mem ((c.tc : Thread Cert.Reference10Ideal.nD Cert.Reference10Ideal.τ).loc Cert.Reference10Ideal.main_arg25) = m ((c.tc : Thread Cert.Reference10Ideal.nD Cert.Reference10Ideal.τ).loc Cert.Reference10Ideal.main_arg25)
      ∧ r.2.mem ((c.tc : Thread Cert.Reference10Ideal.nD Cert.Reference10Ideal.τ).loc Cert.Reference10Ideal.main_arg26) = m ((c.tc : Thread Cert.Reference10Ideal.nD Cert.Reference10Ideal.τ).loc Cert.Reference10Ideal.main_arg26)
      ∧ r.2.mem ((c.tc : Thread Cert.Reference10Ideal.nD Cert.Reference10Ideal.τ).loc Cert.Reference10Ideal.main_arg27) = m ((c.tc : Thread Cert.Reference10Ideal.nD Cert.Reference10Ideal.τ).loc Cert.Reference10Ideal.main_arg27))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_finite_a [hKernelIdeal : Cert.KernelIdeal.Facts] [hReferenceIdeal : Cert.ReferenceIdeal.Facts] [hPre_finite_a : Cert.Pre_finite_a.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_a m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v48) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite_b [hKernel2Ideal : Cert.Kernel2Ideal.Facts] [hReference2Ideal : Cert.Reference2Ideal.Facts] [hPre_finite_b : Cert.Pre_finite_b.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_b m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v10)) (v3 : (c : Dev Cert.Kernel2Ideal.nD) → Buf (Elt Ideal) ((c.tc : Thread Cert.Kernel2Ideal.nD Cert.Kernel2Ideal.τ).loc Cert.Kernel2Ideal.main_v12)) (v4 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v10) = v2 c
          ∧ r.2.mem ((c.tc : Thread Cert.Kernel2Ideal.nD Cert.Kernel2Ideal.τ).loc Cert.Kernel2Ideal.main_v12) = v3 c
          ∧ r.2.mem ((c.tc : Thread Cert.Kernel2Ideal.nD Cert.Kernel2Ideal.τ).loc Cert.Kernel2Ideal.main_v14) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_v37) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite_c [hKernel3Ideal : Cert.Kernel3Ideal.Facts] [hReference3Ideal : Cert.Reference3Ideal.Facts] [hPre_finite_c : Cert.Pre_finite_c.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_c m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v10)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)) (v5 : (c : Dev Cert.Kernel3Ideal.nD) → Buf (Elt Ideal) ((c.tc : Thread Cert.Kernel3Ideal.nD Cert.Kernel3Ideal.τ).loc Cert.Kernel3Ideal.main_v7_5)) (v6 : (c : Dev Cert.Kernel3Ideal.nD) → Buf (Elt Ideal) ((c.tc : Thread Cert.Kernel3Ideal.nD Cert.Kernel3Ideal.τ).loc Cert.Kernel3Ideal.main_v7_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v10) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_v7_5) = v5 c
          ∧ r.2.mem ((c.tc : Thread Cert.Kernel3Ideal.nD Cert.Kernel3Ideal.τ).loc Cert.Kernel3Ideal.main_v7_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v80) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_v26) = v3 c
          ∧ r.2.mem ((c.tc : Thread Cert.Reference3Ideal.nD Cert.Reference3Ideal.τ).loc Cert.Reference3Ideal.main_v81) = v4 c
          ∧ r.2.mem ((c.tc : Thread Cert.Reference3Ideal.nD Cert.Reference3Ideal.τ).loc Cert.Reference3Ideal.main_v82) = v5 c
          ∧ r.2.mem ((c.tc : Thread Cert.Reference3Ideal.nD Cert.Reference3Ideal.τ).loc Cert.Reference3Ideal.main_v83) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v20)) (v2 : (c : Dev Cert.Kernel4Ideal.nD) → Buf (Elt Ideal) ((c.tc : Thread Cert.Kernel4Ideal.nD Cert.Kernel4Ideal.τ).loc Cert.Kernel4Ideal.main_v19_2)) (v3 : (c : Dev Cert.Kernel4Ideal.nD) → Buf (Elt Ideal) ((c.tc : Thread Cert.Kernel4Ideal.nD Cert.Kernel4Ideal.τ).loc Cert.Kernel4Ideal.main_v19_3)) (v4 : (c : Dev Cert.Kernel4Ideal.nD) → Buf (Elt Ideal) ((c.tc : Thread Cert.Kernel4Ideal.nD Cert.Kernel4Ideal.τ).loc Cert.Kernel4Ideal.main_v19_4)) (v5 : (c : Dev Cert.Kernel4Ideal.nD) → Buf (Elt Ideal) ((c.tc : Thread Cert.Kernel4Ideal.nD Cert.Kernel4Ideal.τ).loc Cert.Kernel4Ideal.main_v19_5)) (v6 : (c : Dev Cert.Kernel4Ideal.nD) → Buf (Elt Ideal) ((c.tc : Thread Cert.Kernel4Ideal.nD Cert.Kernel4Ideal.τ).loc Cert.Kernel4Ideal.main_v19_6)) (v7 : (c : Dev Cert.Kernel4Ideal.nD) → Buf (Elt Ideal) ((c.tc : Thread Cert.Kernel4Ideal.nD Cert.Kernel4Ideal.τ).loc Cert.Kernel4Ideal.main_v21)) (v8 : (c : Dev Cert.Kernel4Ideal.nD) → Buf (Elt Ideal) ((c.tc : Thread Cert.Kernel4Ideal.nD Cert.Kernel4Ideal.τ).loc Cert.Kernel4Ideal.main_v22)) (v9 : (c : Dev Cert.Kernel4Ideal.nD) → Buf (Elt Ideal) ((c.tc : Thread Cert.Kernel4Ideal.nD Cert.Kernel4Ideal.τ).loc Cert.Kernel4Ideal.main_v23)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v20) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_v19_3) = v3 c
          ∧ r.2.mem ((c.tc : Thread Cert.Kernel4Ideal.nD Cert.Kernel4Ideal.τ).loc Cert.Kernel4Ideal.main_v19_4) = v4 c
          ∧ r.2.mem ((c.tc : Thread Cert.Kernel4Ideal.nD Cert.Kernel4Ideal.τ).loc Cert.Kernel4Ideal.main_v19_5) = v5 c
          ∧ r.2.mem ((c.tc : Thread Cert.Kernel4Ideal.nD Cert.Kernel4Ideal.τ).loc Cert.Kernel4Ideal.main_v19_6) = v6 c
          ∧ r.2.mem ((c.tc : Thread Cert.Kernel4Ideal.nD Cert.Kernel4Ideal.τ).loc Cert.Kernel4Ideal.main_v21) = v7 c
          ∧ r.2.mem ((c.tc : Thread Cert.Kernel4Ideal.nD Cert.Kernel4Ideal.τ).loc Cert.Kernel4Ideal.main_v22) = v8 c
          ∧ r.2.mem ((c.tc : Thread Cert.Kernel4Ideal.nD Cert.Kernel4Ideal.τ).loc Cert.Kernel4Ideal.main_v23) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_v87) = v2 c
          ∧ r.2.mem ((c.tc : Thread Cert.Reference4Ideal.nD Cert.Reference4Ideal.τ).loc Cert.Reference4Ideal.main_v88) = v3 c
          ∧ r.2.mem ((c.tc : Thread Cert.Reference4Ideal.nD Cert.Reference4Ideal.τ).loc Cert.Reference4Ideal.main_v50) = v4 c
          ∧ r.2.mem ((c.tc : Thread Cert.Reference4Ideal.nD Cert.Reference4Ideal.τ).loc Cert.Reference4Ideal.main_v20) = v5 c
          ∧ r.2.mem ((c.tc : Thread Cert.Reference4Ideal.nD Cert.Reference4Ideal.τ).loc Cert.Reference4Ideal.main_v23) = v6 c
          ∧ r.2.mem ((c.tc : Thread Cert.Reference4Ideal.nD Cert.Reference4Ideal.τ).loc Cert.Reference4Ideal.main_v76) = v7 c
          ∧ r.2.mem ((c.tc : Thread Cert.Reference4Ideal.nD Cert.Reference4Ideal.τ).loc Cert.Reference4Ideal.main_v83) = v8 c
          ∧ r.2.mem ((c.tc : Thread Cert.Reference4Ideal.nD Cert.Reference4Ideal.τ).loc Cert.Reference4Ideal.main_v89) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_e [hKernel5Ideal : Cert.Kernel5Ideal.Facts] [hReference5Ideal : Cert.Reference5Ideal.Facts] [hPre_finite_e : Cert.Pre_finite_e.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_e m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)) (v4 : (c : Dev Cert.Kernel5Ideal.nD) → Buf (Elt Ideal) ((c.tc : Thread Cert.Kernel5Ideal.nD Cert.Kernel5Ideal.τ).loc Cert.Kernel5Ideal.main_v7_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_v7_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v32) = v2 c
          ∧ r.2.mem ((c.tc : Thread Cert.Reference5Ideal.nD Cert.Reference5Ideal.τ).loc Cert.Reference5Ideal.main_v33) = v3 c
          ∧ r.2.mem ((c.tc : Thread Cert.Reference5Ideal.nD Cert.Reference5Ideal.τ).loc Cert.Reference5Ideal.main_v34) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v32)) (v1 : (c : Dev Cert.Kernel6Ideal.nD) → Buf (Elt Ideal) ((c.tc : Thread Cert.Kernel6Ideal.nD Cert.Kernel6Ideal.τ).loc Cert.Kernel6Ideal.main_v33)) (v2 : (c : Dev Cert.Kernel6Ideal.nD) → Buf (Elt Ideal) ((c.tc : Thread Cert.Kernel6Ideal.nD Cert.Kernel6Ideal.τ).loc Cert.Kernel6Ideal.main_v31_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32) = v0 c
          ∧ r.2.mem ((c.tc : Thread Cert.Kernel6Ideal.nD Cert.Kernel6Ideal.τ).loc Cert.Kernel6Ideal.main_v33) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_v37) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)) (v3 : (c : Dev Cert.Kernel7Ideal.nD) → Buf (Elt Ideal) ((c.tc : Thread Cert.Kernel7Ideal.nD Cert.Kernel7Ideal.τ).loc Cert.Kernel7Ideal.main_v5_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_v5_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v4)) (v1 : (c : Dev Cert.Kernel8Ideal.nD) → Buf (Elt Ideal) ((c.tc : Thread Cert.Kernel8Ideal.nD Cert.Kernel8Ideal.τ).loc Cert.Kernel8Ideal.main_v5)) (v2 : (c : Dev Cert.Kernel8Ideal.nD) → Buf (Elt Ideal) ((c.tc : Thread Cert.Kernel8Ideal.nD Cert.Kernel8Ideal.τ).loc Cert.Kernel8Ideal.main_v6)) (v3 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_v5) = v1 c
          ∧ r.2.mem ((c.tc : Thread Cert.Kernel8Ideal.nD Cert.Kernel8Ideal.τ).loc Cert.Kernel8Ideal.main_v6) = v2 c
          ∧ r.2.mem ((c.tc : Thread Cert.Kernel8Ideal.nD Cert.Kernel8Ideal.τ).loc Cert.Kernel8Ideal.main_v7) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4)) (v1 : (c : Dev Cert.Kernel9Ideal.nD) → Buf (Elt Ideal) ((c.tc : Thread Cert.Kernel9Ideal.nD Cert.Kernel9Ideal.τ).loc Cert.Kernel9Ideal.main_v5)) (v2 : (c : Dev Cert.Kernel9Ideal.nD) → Buf (Elt Ideal) ((c.tc : Thread Cert.Kernel9Ideal.nD Cert.Kernel9Ideal.τ).loc Cert.Kernel9Ideal.main_v6)) (v3 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_v5) = v1 c
          ∧ r.2.mem ((c.tc : Thread Cert.Kernel9Ideal.nD Cert.Kernel9Ideal.τ).loc Cert.Kernel9Ideal.main_v6) = v2 c
          ∧ r.2.mem ((c.tc : Thread Cert.Kernel9Ideal.nD Cert.Kernel9Ideal.τ).loc Cert.Kernel9Ideal.main_v7) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)
      ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15)
      ∧ m' ((c.tc : Thread Cert.Reference10Ideal.nD Cert.Reference10Ideal.τ).loc Cert.Reference10Ideal.main_arg16) = m ((c.tc : Thread Cert.Kernel10Ideal.nD Cert.Kernel10Ideal.τ).loc Cert.Kernel10Ideal.main_arg16)
      ∧ m' ((c.tc : Thread Cert.Reference10Ideal.nD Cert.Reference10Ideal.τ).loc Cert.Reference10Ideal.main_arg17) = m ((c.tc : Thread Cert.Kernel10Ideal.nD Cert.Kernel10Ideal.τ).loc Cert.Kernel10Ideal.main_arg17)
      ∧ m' ((c.tc : Thread Cert.Reference10Ideal.nD Cert.Reference10Ideal.τ).loc Cert.Reference10Ideal.main_arg18) = m ((c.tc : Thread Cert.Kernel10Ideal.nD Cert.Kernel10Ideal.τ).loc Cert.Kernel10Ideal.main_arg18)
      ∧ m' ((c.tc : Thread Cert.Reference10Ideal.nD Cert.Reference10Ideal.τ).loc Cert.Reference10Ideal.main_arg19) = m ((c.tc : Thread Cert.Kernel10Ideal.nD Cert.Kernel10Ideal.τ).loc Cert.Kernel10Ideal.main_arg19)
      ∧ m' ((c.tc : Thread Cert.Reference10Ideal.nD Cert.Reference10Ideal.τ).loc Cert.Reference10Ideal.main_arg20) = m ((c.tc : Thread Cert.Kernel10Ideal.nD Cert.Kernel10Ideal.τ).loc Cert.Kernel10Ideal.main_arg20)
      ∧ m' ((c.tc : Thread Cert.Reference10Ideal.nD Cert.Reference10Ideal.τ).loc Cert.Reference10Ideal.main_arg21) = m ((c.tc : Thread Cert.Kernel10Ideal.nD Cert.Kernel10Ideal.τ).loc Cert.Kernel10Ideal.main_arg21)
      ∧ m' ((c.tc : Thread Cert.Reference10Ideal.nD Cert.Reference10Ideal.τ).loc Cert.Reference10Ideal.main_arg22) = m ((c.tc : Thread Cert.Kernel10Ideal.nD Cert.Kernel10Ideal.τ).loc Cert.Kernel10Ideal.main_arg22)
      ∧ m' ((c.tc : Thread Cert.Reference10Ideal.nD Cert.Reference10Ideal.τ).loc Cert.Reference10Ideal.main_arg23) = m ((c.tc : Thread Cert.Kernel10Ideal.nD Cert.Kernel10Ideal.τ).loc Cert.Kernel10Ideal.main_arg23)
      ∧ m' ((c.tc : Thread Cert.Reference10Ideal.nD Cert.Reference10Ideal.τ).loc Cert.Reference10Ideal.main_arg24) = m ((c.tc : Thread Cert.Kernel10Ideal.nD Cert.Kernel10Ideal.τ).loc Cert.Kernel10Ideal.main_arg24)
      ∧ m' ((c.tc : Thread Cert.Reference10Ideal.nD Cert.Reference10Ideal.τ).loc Cert.Reference10Ideal.main_arg25) = m ((c.tc : Thread Cert.Kernel10Ideal.nD Cert.Kernel10Ideal.τ).loc Cert.Kernel10Ideal.main_arg25)
      ∧ m' ((c.tc : Thread Cert.Reference10Ideal.nD Cert.Reference10Ideal.τ).loc Cert.Reference10Ideal.main_arg26) = m ((c.tc : Thread Cert.Kernel10Ideal.nD Cert.Kernel10Ideal.τ).loc Cert.Kernel10Ideal.main_arg26)
      ∧ m' ((c.tc : Thread Cert.Reference10Ideal.nD Cert.Reference10Ideal.τ).loc Cert.Reference10Ideal.main_arg27) = m ((c.tc : Thread Cert.Kernel10Ideal.nD Cert.Kernel10Ideal.τ).loc Cert.Kernel10Ideal.main_arg27)) →
    ∃ (v0 : (c : Dev Cert.Kernel10Ideal.nD) → Buf (Elt Ideal) ((c.tc : Thread Cert.Kernel10Ideal.nD Cert.Kernel10Ideal.τ).loc Cert.Kernel10Ideal.main_v61)) (v1 : (c : Dev Cert.Kernel10Ideal.nD) → Buf (Elt Ideal) ((c.tc : Thread Cert.Kernel10Ideal.nD Cert.Kernel10Ideal.τ).loc Cert.Kernel10Ideal.main_v62)) (v2 : (c : Dev Cert.Kernel10Ideal.nD) → Buf (Elt Ideal) ((c.tc : Thread Cert.Kernel10Ideal.nD Cert.Kernel10Ideal.τ).loc Cert.Kernel10Ideal.main_v63)) (v3 : (c : Dev Cert.Kernel10Ideal.nD) → Buf (Elt Ideal) ((c.tc : Thread Cert.Kernel10Ideal.nD Cert.Kernel10Ideal.τ).loc Cert.Kernel10Ideal.main_v64)) (v4 : (c : Dev Cert.Kernel10Ideal.nD) → Buf (Elt Ideal) ((c.tc : Thread Cert.Kernel10Ideal.nD Cert.Kernel10Ideal.τ).loc Cert.Kernel10Ideal.main_v65)) (v5 : (c : Dev Cert.Kernel10Ideal.nD) → Buf (Elt Ideal) ((c.tc : Thread Cert.Kernel10Ideal.nD Cert.Kernel10Ideal.τ).loc Cert.Kernel10Ideal.main_v66)) (v6 : (c : Dev Cert.Kernel10Ideal.nD) → Buf (Elt Ideal) ((c.tc : Thread Cert.Kernel10Ideal.nD Cert.Kernel10Ideal.τ).loc Cert.Kernel10Ideal.main_v67)) (v7 : (c : Dev Cert.Kernel10Ideal.nD) → Buf (Elt Ideal) ((c.tc : Thread Cert.Kernel10Ideal.nD Cert.Kernel10Ideal.τ).loc Cert.Kernel10Ideal.main_v68)) (v8 : (c : Dev Cert.Kernel10Ideal.nD) → Buf (Elt Ideal) ((c.tc : Thread Cert.Kernel10Ideal.nD Cert.Kernel10Ideal.τ).loc Cert.Kernel10Ideal.main_v70)) (v9 : (c : Dev Cert.Kernel10Ideal.nD) → Buf (Elt Ideal) ((c.tc : Thread Cert.Kernel10Ideal.nD Cert.Kernel10Ideal.τ).loc Cert.Kernel10Ideal.main_v72)) (v10 : (c : Dev Cert.Kernel10Ideal.nD) → Buf (Elt Ideal) ((c.tc : Thread Cert.Kernel10Ideal.nD Cert.Kernel10Ideal.τ).loc Cert.Kernel10Ideal.main_v74)) (v11 : (c : Dev Cert.Kernel10Ideal.nD) → Buf (Elt Ideal) ((c.tc : Thread Cert.Kernel10Ideal.nD Cert.Kernel10Ideal.τ).loc Cert.Kernel10Ideal.main_v76)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v61) = v0 c
          ∧ r.2.mem ((c.tc : Thread Cert.Kernel10Ideal.nD Cert.Kernel10Ideal.τ).loc Cert.Kernel10Ideal.main_v62) = v1 c
          ∧ r.2.mem ((c.tc : Thread Cert.Kernel10Ideal.nD Cert.Kernel10Ideal.τ).loc Cert.Kernel10Ideal.main_v63) = v2 c
          ∧ r.2.mem ((c.tc : Thread Cert.Kernel10Ideal.nD Cert.Kernel10Ideal.τ).loc Cert.Kernel10Ideal.main_v64) = v3 c
          ∧ r.2.mem ((c.tc : Thread Cert.Kernel10Ideal.nD Cert.Kernel10Ideal.τ).loc Cert.Kernel10Ideal.main_v65) = v4 c
          ∧ r.2.mem ((c.tc : Thread Cert.Kernel10Ideal.nD Cert.Kernel10Ideal.τ).loc Cert.Kernel10Ideal.main_v66) = v5 c
          ∧ r.2.mem ((c.tc : Thread Cert.Kernel10Ideal.nD Cert.Kernel10Ideal.τ).loc Cert.Kernel10Ideal.main_v67) = v6 c
          ∧ r.2.mem ((c.tc : Thread Cert.Kernel10Ideal.nD Cert.Kernel10Ideal.τ).loc Cert.Kernel10Ideal.main_v68) = v7 c
          ∧ r.2.mem ((c.tc : Thread Cert.Kernel10Ideal.nD Cert.Kernel10Ideal.τ).loc Cert.Kernel10Ideal.main_v70) = v8 c
          ∧ r.2.mem ((c.tc : Thread Cert.Kernel10Ideal.nD Cert.Kernel10Ideal.τ).loc Cert.Kernel10Ideal.main_v72) = v9 c
          ∧ r.2.mem ((c.tc : Thread Cert.Kernel10Ideal.nD Cert.Kernel10Ideal.τ).loc Cert.Kernel10Ideal.main_v74) = v10 c
          ∧ r.2.mem ((c.tc : Thread Cert.Kernel10Ideal.nD Cert.Kernel10Ideal.τ).loc Cert.Kernel10Ideal.main_v76) = v11 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
          ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
          ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
          ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
          ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
          ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
          ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
          ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
          ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
          ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23)
          ∧ r.2.mem ((c.tc : Thread Cert.Kernel10Ideal.nD Cert.Kernel10Ideal.τ).loc Cert.Kernel10Ideal.main_arg24) = m ((c.tc : Thread Cert.Kernel10Ideal.nD Cert.Kernel10Ideal.τ).loc Cert.Kernel10Ideal.main_arg24)
          ∧ r.2.mem ((c.tc : Thread Cert.Kernel10Ideal.nD Cert.Kernel10Ideal.τ).loc Cert.Kernel10Ideal.main_arg25) = m ((c.tc : Thread Cert.Kernel10Ideal.nD Cert.Kernel10Ideal.τ).loc Cert.Kernel10Ideal.main_arg25)
          ∧ r.2.mem ((c.tc : Thread Cert.Kernel10Ideal.nD Cert.Kernel10Ideal.τ).loc Cert.Kernel10Ideal.main_arg26) = m ((c.tc : Thread Cert.Kernel10Ideal.nD Cert.Kernel10Ideal.τ).loc Cert.Kernel10Ideal.main_arg26)
          ∧ r.2.mem ((c.tc : Thread Cert.Kernel10Ideal.nD Cert.Kernel10Ideal.τ).loc Cert.Kernel10Ideal.main_arg27) = m ((c.tc : Thread Cert.Kernel10Ideal.nD Cert.Kernel10Ideal.τ).loc Cert.Kernel10Ideal.main_arg27))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v8) = v2 c
          ∧ r.2.mem ((c.tc : Thread Cert.Reference10Ideal.nD Cert.Reference10Ideal.τ).loc Cert.Reference10Ideal.main_v14) = v3 c
          ∧ r.2.mem ((c.tc : Thread Cert.Reference10Ideal.nD Cert.Reference10Ideal.τ).loc Cert.Reference10Ideal.main_v31) = v4 c
          ∧ r.2.mem ((c.tc : Thread Cert.Reference10Ideal.nD Cert.Reference10Ideal.τ).loc Cert.Reference10Ideal.main_v55) = v5 c
          ∧ r.2.mem ((c.tc : Thread Cert.Reference10Ideal.nD Cert.Reference10Ideal.τ).loc Cert.Reference10Ideal.main_v36) = v6 c
          ∧ r.2.mem ((c.tc : Thread Cert.Reference10Ideal.nD Cert.Reference10Ideal.τ).loc Cert.Reference10Ideal.main_v42) = v7 c
          ∧ r.2.mem ((c.tc : Thread Cert.Reference10Ideal.nD Cert.Reference10Ideal.τ).loc Cert.Reference10Ideal.main_v58) = v8 c
          ∧ r.2.mem ((c.tc : Thread Cert.Reference10Ideal.nD Cert.Reference10Ideal.τ).loc Cert.Reference10Ideal.main_v82) = v9 c
          ∧ r.2.mem ((c.tc : Thread Cert.Reference10Ideal.nD Cert.Reference10Ideal.τ).loc Cert.Reference10Ideal.main_v63) = v10 c
          ∧ r.2.mem ((c.tc : Thread Cert.Reference10Ideal.nD Cert.Reference10Ideal.τ).loc Cert.Reference10Ideal.main_v69) = v11 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15)
          ∧ r.2.mem ((c.tc : Thread Cert.Reference10Ideal.nD Cert.Reference10Ideal.τ).loc Cert.Reference10Ideal.main_arg16) = m' ((c.tc : Thread Cert.Reference10Ideal.nD Cert.Reference10Ideal.τ).loc Cert.Reference10Ideal.main_arg16)
          ∧ r.2.mem ((c.tc : Thread Cert.Reference10Ideal.nD Cert.Reference10Ideal.τ).loc Cert.Reference10Ideal.main_arg17) = m' ((c.tc : Thread Cert.Reference10Ideal.nD Cert.Reference10Ideal.τ).loc Cert.Reference10Ideal.main_arg17)
          ∧ r.2.mem ((c.tc : Thread Cert.Reference10Ideal.nD Cert.Reference10Ideal.τ).loc Cert.Reference10Ideal.main_arg18) = m' ((c.tc : Thread Cert.Reference10Ideal.nD Cert.Reference10Ideal.τ).loc Cert.Reference10Ideal.main_arg18)
          ∧ r.2.mem ((c.tc : Thread Cert.Reference10Ideal.nD Cert.Reference10Ideal.τ).loc Cert.Reference10Ideal.main_arg19) = m' ((c.tc : Thread Cert.Reference10Ideal.nD Cert.Reference10Ideal.τ).loc Cert.Reference10Ideal.main_arg19)
          ∧ r.2.mem ((c.tc : Thread Cert.Reference10Ideal.nD Cert.Reference10Ideal.τ).loc Cert.Reference10Ideal.main_arg20) = m' ((c.tc : Thread Cert.Reference10Ideal.nD Cert.Reference10Ideal.τ).loc Cert.Reference10Ideal.main_arg20)
          ∧ r.2.mem ((c.tc : Thread Cert.Reference10Ideal.nD Cert.Reference10Ideal.τ).loc Cert.Reference10Ideal.main_arg21) = m' ((c.tc : Thread Cert.Reference10Ideal.nD Cert.Reference10Ideal.τ).loc Cert.Reference10Ideal.main_arg21)
          ∧ r.2.mem ((c.tc : Thread Cert.Reference10Ideal.nD Cert.Reference10Ideal.τ).loc Cert.Reference10Ideal.main_arg22) = m' ((c.tc : Thread Cert.Reference10Ideal.nD Cert.Reference10Ideal.τ).loc Cert.Reference10Ideal.main_arg22)
          ∧ r.2.mem ((c.tc : Thread Cert.Reference10Ideal.nD Cert.Reference10Ideal.τ).loc Cert.Reference10Ideal.main_arg23) = m' ((c.tc : Thread Cert.Reference10Ideal.nD Cert.Reference10Ideal.τ).loc Cert.Reference10Ideal.main_arg23)
          ∧ r.2.mem ((c.tc : Thread Cert.Reference10Ideal.nD Cert.Reference10Ideal.τ).loc Cert.Reference10Ideal.main_arg24) = m' ((c.tc : Thread Cert.Reference10Ideal.nD Cert.Reference10Ideal.τ).loc Cert.Reference10Ideal.main_arg24)
          ∧ r.2.mem ((c.tc : Thread Cert.Reference10Ideal.nD Cert.Reference10Ideal.τ).loc Cert.Reference10Ideal.main_arg25) = m' ((c.tc : Thread Cert.Reference10Ideal.nD Cert.Reference10Ideal.τ).loc Cert.Reference10Ideal.main_arg25)
          ∧ r.2.mem ((c.tc : Thread Cert.Reference10Ideal.nD Cert.Reference10Ideal.τ).loc Cert.Reference10Ideal.main_arg26) = m' ((c.tc : Thread Cert.Reference10Ideal.nD Cert.Reference10Ideal.τ).loc Cert.Reference10Ideal.main_arg26)
          ∧ r.2.mem ((c.tc : Thread Cert.Reference10Ideal.nD Cert.Reference10Ideal.τ).loc Cert.Reference10Ideal.main_arg27) = m' ((c.tc : Thread Cert.Reference10Ideal.nD Cert.Reference10Ideal.τ).loc Cert.Reference10Ideal.main_arg27))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_a : Cert.Pre_finite_a.Facts) (hPre_finite_b : Cert.Pre_finite_b.Facts) (hPre_finite_c : Cert.Pre_finite_c.Facts) (hPre_finite_e : Cert.Pre_finite_e.Facts),
    quiescent_Kernel (hKernel := hKernel)
    ∧ quiescent_KernelIdeal (hKernelIdeal := hKernelIdeal)
    ∧ quiescent_KernelIdeal_pre_finite_a (hKernelIdeal := hKernelIdeal) (hPre_finite_a := hPre_finite_a)
    ∧ quiescent_ReferenceIdeal (hReferenceIdeal := hReferenceIdeal)
    ∧ quiescent_ReferenceIdeal_pre_finite_a (hReferenceIdeal := hReferenceIdeal) (hPre_finite_a := hPre_finite_a)
    ∧ quiescent_Kernel2 (hKernel2 := hKernel2)
    ∧ quiescent_Kernel2Ideal (hKernel2Ideal := hKernel2Ideal)
    ∧ quiescent_Kernel2Ideal_pre_finite_b (hKernel2Ideal := hKernel2Ideal) (hPre_finite_b := hPre_finite_b)
    ∧ quiescent_Reference2Ideal (hReference2Ideal := hReference2Ideal)
    ∧ quiescent_Reference2Ideal_pre_finite_b (hReference2Ideal := hReference2Ideal) (hPre_finite_b := hPre_finite_b)
    ∧ quiescent_Kernel3 (hKernel3 := hKernel3)
    ∧ quiescent_Kernel3Ideal (hKernel3Ideal := hKernel3Ideal)
    ∧ quiescent_Kernel3Ideal_pre_finite_c (hKernel3Ideal := hKernel3Ideal) (hPre_finite_c := hPre_finite_c)
    ∧ quiescent_Reference3Ideal (hReference3Ideal := hReference3Ideal)
    ∧ quiescent_Reference3Ideal_pre_finite_c (hReference3Ideal := hReference3Ideal) (hPre_finite_c := hPre_finite_c)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_e (hKernel5Ideal := hKernel5Ideal) (hPre_finite_e := hPre_finite_e)
    ∧ quiescent_Reference5Ideal (hReference5Ideal := hReference5Ideal)
    ∧ quiescent_Reference5Ideal_pre_finite_e (hReference5Ideal := hReference5Ideal) (hPre_finite_e := hPre_finite_e)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_a (hKernelIdeal := hKernelIdeal) (hReferenceIdeal := hReferenceIdeal) (hPre_finite_a := hPre_finite_a)
    ∧ preserves_Kernel2_Kernel2Ideal
    ∧ algebraic_Kernel2Ideal_Reference2Ideal_pre_finite_b (hKernel2Ideal := hKernel2Ideal) (hReference2Ideal := hReference2Ideal) (hPre_finite_b := hPre_finite_b)
    ∧ preserves_Kernel3_Kernel3Ideal
    ∧ algebraic_Kernel3Ideal_Reference3Ideal_pre_finite_c (hKernel3Ideal := hKernel3Ideal) (hReference3Ideal := hReference3Ideal) (hPre_finite_c := hPre_finite_c)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_e (hKernel5Ideal := hKernel5Ideal) (hReference5Ideal := hReference5Ideal) (hPre_finite_e := hPre_finite_e)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_a.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_v29 : IVec S_ 1) (main_v32 : IVec S8192x1024 1) (main_c_12 : IVec S_ 1) : IVec S_ 1 :=
  let main_v33 : IVec S_ 1 := (fun x v => Host.reduce IntOp.andi x v reducesTo_S8192x1024_S_d0_1 h_S_) main_v32 main_c_12
  let main_v34 : IVec S_ 1 := andi main_v29 main_v33
  main_v34

def fn_part1 {F : FTy → Type} [FloatOps F] (main_arg6 : FVec F S1024x2816 .f32) (main_arg7 : FVec F S2816x1024 .f32) (main_arg8 : FVec F S8192x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1024x2816 .f32 := Host.absf main_arg6
  let main_cst_7 : FVec F S_ .f32 := constant S_ .f32 0x7F800000#32
  let main_v21 : FVec F S1024x2816 .f32 := broadcastInDim S1024x2816 ![] bcast_S_S1024x2816 main_cst_7
  let main_v22 : IVec S1024x2816 1 := cmpf .olt main_v20 main_v21
  let main_c_8 : IVec S_ 1 := constantI S_ 1 1#1
  let main_v23 : IVec S_ 1 := (fun x v => Host.reduce IntOp.andi x v reducesTo_S1024x2816_S_d0_1 h_S_) main_v22 main_c_8
  let main_v24 : IVec S_ 1 := andi main_v19 main_v23
  let main_v25 : FVec F S2816x1024 .f32 := Host.absf main_arg7
  let main_cst_9 : FVec F S_ .f32 := constant S_ .f32 0x7F800000#32
  let main_v26 : FVec F S2816x1024 .f32 := broadcastInDim S2816x1024 ![] bcast_S_S2816x1024 main_cst_9
  let main_v27 : IVec S2816x1024 1 := cmpf .olt main_v25 main_v26
  let main_c_10 : IVec S_ 1 := constantI S_ 1 1#1
  let main_v28 : IVec S_ 1 := (fun x v => Host.reduce IntOp.andi x v reducesTo_S2816x1024_S_d0_1 h_S_) main_v27 main_c_10
  let main_v29 : IVec S_ 1 := andi main_v24 main_v28
  let main_v30 : FVec F S8192x1024 .f32 := Host.absf main_arg8
  let main_cst_11 : FVec F S_ .f32 := constant S_ .f32 0x7F800000#32
  let main_v31 : FVec F S8192x1024 .f32 := broadcastInDim S8192x1024 ![] bcast_S_S8192x1024 main_cst_11
  let main_v32 : IVec S8192x1024 1 := cmpf .olt main_v30 main_v31
  let main_c_12 : IVec S_ 1 := constantI S_ 1 1#1
  fn_part2 (F := F) main_v29 main_v32 main_c_12

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1x1024 .f32) (main_arg5 : FVec F S1024x2816 .f32) (main_arg6 : FVec F S1024x2816 .f32) (main_arg7 : FVec F S2816x1024 .f32) (main_arg8 : FVec F S8192x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_c_0 : IVec S_ 1 := constantI S_ 1 1#1
  let main_v4 : IVec S_ 1 := andi main_c_0 main_v3
  let main_v5 : FVec F S1x1024 .f32 := Host.absf main_arg2
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1x1024 .f32 := Host.absf main_arg3
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1x1024 .f32 := Host.absf main_arg4
  let main_cst_5 : FVec F S_ .f32 := constant S_ .f32 0x7F800000#32
  fn_part1 (F := F) main_arg6 main_arg7 main_arg8 main_v14 main_v15 main_cst_5
-- ==== Pre_finite_b.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩

class Facts : Prop where
  bitsLt_bf16_f32 : FTy.bits .bf16 < FTy.bits .f32
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg5 : FVec F S1024x2816 .f32) (main_v0 : FVec F S8192x2816 .f32) (main_v1 : FVec F S8192x2816 .f32) (main_v16 : IVec S_ 1) : IVec S_ 1 :=
  let main_v17 : FVec F S1024x2816 .f32 := Host.absf main_arg5
  let main_cst_5 : FVec F S_ .f32 := constant S_ .f32 0x7F800000#32
  let main_v18 : FVec F S1024x2816 .f32 := broadcastInDim S1024x2816 ![] bcast_S_S1024x2816 main_cst_5
  let main_v19 : IVec S1024x2816 1 := cmpf .olt main_v17 main_v18
  let main_c_6 : IVec S_ 1 := constantI S_ 1 1#1
  let main_v20 : IVec S_ 1 := (fun x v => Host.reduce IntOp.andi x v reducesTo_S1024x2816_S_d0_1 h_S_) main_v19 main_c_6
  let main_v21 : IVec S_ 1 := andi main_v16 main_v20
  let main_v22 : FVec F S8192x2816 .f32 := Host.absf main_v0
  let main_cst_7 : FVec F S_ .f32 := constant S_ .f32 0x7F800000#32
  let main_v23 : FVec F S8192x2816 .f32 := broadcastInDim S8192x2816 ![] bcast_S_S8192x2816 main_cst_7
  let main_v24 : IVec S8192x2816 1 := cmpf .olt main_v22 main_v23
  let main_c_8 : IVec S_ 1 := constantI S_ 1 1#1
  let main_v25 : IVec S_ 1 := (fun x v => Host.reduce IntOp.andi x v reducesTo_S8192x2816_S_d0_1 h_S_) main_v24 main_c_8
  let main_v26 : IVec S_ 1 := andi main_v21 main_v25
  let main_v27 : FVec F S8192x2816 .f32 := Host.absf main_v1
  let main_cst_9 : FVec F S_ .f32 := constant S_ .f32 0x7F800000#32
  let main_v28 : FVec F S8192x2816 .f32 := broadcastInDim S8192x2816 ![] bcast_S_S8192x2816 main_cst_9
  let main_v29 : IVec S8192x2816 1 := cmpf .olt main_v27 main_v28
  let main_c_10 : IVec S_ 1 := constantI S_ 1 1#1
  let main_v30 : IVec S_ 1 := (fun x v => Host.reduce IntOp.andi x v reducesTo_S8192x2816_S_d0_1 h_S_) main_v29 main_c_10
  let main_v31 : IVec S_ 1 := andi main_v26 main_v30
  main_v31

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1024x2816 .f32) (main_arg5 : FVec F S1024x2816 .f32) (main_arg6 : FVec F S8192x1024 .f32) (main_arg7 : FVec F S8192x2816 .bf16) (main_arg8 : FVec F S8192x2816 .bf16) : IVec S_ 1 :=
  let main_v0 : FVec F S8192x2816 .f32 := (extf .f32 · bitsLt_bf16_f32) main_arg7
  let main_v1 : FVec F S8192x2816 .f32 := (extf .f32 · bitsLt_bf16_f32) main_arg8
  let main_v2 : FVec F S1x1024 .f32 := Host.absf main_arg2
  let main_cst : FVec F S_ .f32 := constant S_ .f32 0x7F800000#32
  let main_v3 : FVec F S1x1024 .f32 := broadcastInDim S1x1024 ![] bcast_S_S1x1024 main_cst
  let main_v4 : IVec S1x1024 1 := cmpf .olt main_v2 main_v3
  let main_c : IVec S_ 1 := constantI S_ 1 1#1
  let main_v5 : IVec S_ 1 := (fun x v => Host.reduce IntOp.andi x v reducesTo_S1x1024_S_d0_1 h_S_) main_v4 main_c
  let main_c_0 : IVec S_ 1 := constantI S_ 1 1#1
  let main_v6 : IVec S_ 1 := andi main_c_0 main_v5
  let main_v7 : FVec F S1x1024 .f32 := Host.absf main_arg3
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_c_2 : IVec S_ 1 := constantI S_ 1 1#1
  let main_v10 : IVec S_ 1 := (fun x v => Host.reduce IntOp.andi x v reducesTo_S1x1024_S_d0_1 h_S_) main_v9 main_c_2
  let main_v11 : IVec S_ 1 := andi main_v6 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_c_4 : IVec S_ 1 := constantI S_ 1 1#1
  let main_v15 : IVec S_ 1 := (fun x v => Host.reduce IntOp.andi x v reducesTo_S1024x2816_S_d0_1 h_S_) main_v14 main_c_4
  let main_v16 : IVec S_ 1 := andi main_v11 main_v15
  fn_part1 (F := F) main_arg5 main_v0 main_v1 main_v16
-- ==== Pre_finite_c.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg8 : FVec F S8192x1024 .f32) (main_arg9 : FVec F S1x1024 .f32) (main_v14 : IVec S_ 1) (main_v15 : FVec F S1024x2816 .f32) (main_cst_5 : FVec F S_ .f32) : IVec S_ 1 :=
  let main_v16 : FVec F S1024x2816 .f32 := broadcastInDim S1024x2816 ![] bcast_S_S1024x2816 main_cst_5
  let main_v17 : IVec S1024x2816 1 := cmpf .olt main_v15 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v14 main_v18
  let main_v20 : FVec F S8192x1024 .f32 := Host.absf main_arg8
  let main_cst_7 : FVec F S_ .f32 := constant S_ .f32 0x7F800000#32
  let main_v21 : FVec F S8192x1024 .f32 := broadcastInDim S8192x1024 ![] bcast_S_S8192x1024 main_cst_7
  let main_v22 : IVec S8192x1024 1 := cmpf .olt main_v20 main_v21
  let main_c_8 : IVec S_ 1 := constantI S_ 1 1#1
  let main_v23 : IVec S_ 1 := (fun x v => Host.reduce IntOp.andi x v reducesTo_S8192x1024_S_d0_1 h_S_) main_v22 main_c_8
  let main_v24 : IVec S_ 1 := andi main_v19 main_v23
  let main_v25 : FVec F S1x1024 .f32 := Host.absf main_arg9
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  main_v29

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1x1024 .f32) (main_arg5 : FVec F S1024x2816 .f32) (main_arg6 : FVec F S1024x2816 .f32) (main_arg7 : FVec F S2816x1024 .f32) (main_arg8 : FVec F S8192x1024 .f32) (main_arg9 : FVec F S1x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_c_0 : IVec S_ 1 := constantI S_ 1 1#1
  let main_v4 : IVec S_ 1 := andi main_c_0 main_v3
  let main_v5 : FVec F S1x1024 .f32 := Host.absf main_arg2
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1x1024 .f32 := Host.absf main_arg4
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1024x2816 .f32 := Host.absf main_arg6
  let main_cst_5 : FVec F S_ .f32 := constant S_ .f32 0x7F800000#32
  fn_part1 (F := F) main_arg8 main_arg9 main_v14 main_v15 main_cst_5
-- ==== Pre_finite_e.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_v14 : IVec S_ 1) (main_v15 : FVec F S1024x2816 .f32) (main_cst_5 : FVec F S_ .f32) : IVec S_ 1 :=
  let main_v16 : FVec F S1024x2816 .f32 := broadcastInDim S1024x2816 ![] bcast_S_S1024x2816 main_cst_5
  let main_v17 : IVec S1024x2816 1 := cmpf .olt main_v15 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v14 main_v18
  main_v19

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1x1024 .f32) (main_arg5 : FVec F S1024x2816 .f32) (main_arg6 : FVec F S1024x2816 .f32) (main_arg7 : FVec F S2816x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_c_0 : IVec S_ 1 := constantI S_ 1 1#1
  let main_v4 : IVec S_ 1 := andi main_c_0 main_v3
  let main_v5 : FVec F S1x1024 .f32 := Host.absf main_arg2
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1x1024 .f32 := Host.absf main_arg4
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1024x2816 .f32 := Host.absf main_arg6
  let main_cst_5 : FVec F S_ .f32 := constant S_ .f32 0x7F800000#32
  fn_part1 (F := F) main_v14 main_v15 main_cst_5
-- ==== Kernel.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2112x1024 : Shape := ⟨3, ![4, 2112, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8x1024 : Shape := ⟨2, ![8, 1024]⟩
abbrev S512x1024 : Shape := ⟨2, ![512, 1024]⟩
abbrev S512x2816 : Shape := ⟨2, ![512, 2816]⟩
abbrev S64x8x1024 : Shape := ⟨3, ![64, 8, 1024]⟩
abbrev S2x704x1024 : Shape := ⟨3, ![2, 704, 1024]⟩
abbrev S1408x1024 : Shape := ⟨2, ![1408, 1024]⟩
abbrev S512x1408 : Shape := ⟨2, ![512, 1408]⟩
abbrev S1024 : Shape := ⟨1, ![1024]⟩

abbrev nBuf : Space → Nat
  | .hbm => 71
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S2816x1024, .f32⟩
  | .hbm, ⟨10, _⟩ => ⟨S4x704x1024, .f32⟩
  | .hbm, ⟨11, _⟩ => ⟨S2816x1024, .f32⟩
  | .hbm, ⟨12, _⟩ => ⟨S4x704x1024, .f32⟩
  | .hbm, ⟨13, _⟩ => ⟨S4x704x1024, .f32⟩
  | .hbm, ⟨14, _⟩ => ⟨S4x2112x1024, .f32⟩
  | .hbm, ⟨15, _⟩ => ⟨S4x2112x1024, .bf16⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .bf16⟩
  | .hbm, ⟨61, _⟩ => ⟨S8192x2816, .f32⟩
  | .hbm, ⟨62, _⟩ => ⟨S8192x1024, .f32⟩
  | .hbm, ⟨63, _⟩ => ⟨S8192x2816, .bf16⟩
  | .hbm, ⟨64, _⟩ => ⟨S8192x2816, .bf16⟩
  | .hbm, ⟨65, _⟩ => ⟨S8192x2816, .bf16⟩
  | .hbm, ⟨66, _⟩ => ⟨S8192x1024, .bf16⟩
  | .hbm, ⟨67, _⟩ => ⟨S8x1024, .f32⟩
  | .hbm, ⟨68, _⟩ => ⟨S_, .f32⟩
  | .hbm, ⟨69, _⟩ => ⟨S1024, .f32⟩
  | .hbm, ⟨70, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S4x704x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_v46_2 : Ref sig .tc := ⟨.hbm, 66, rfl⟩
abbrev main_v46_3 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_31 : BitVec 32 := 0#32
  let v49 : BitVec 1 := Scalar.cmpi .ne v48 c0_i32_31
  v49

def k0_cond2 (i : grid0.Coords) : BitVec 1 :=
  let arg0 : BitVec 32 := BitVec.ofNat 32 (i 0).val
  let c0_i32_32 : BitVec 32 := 0#32
  let v50 : BitVec 1 := Scalar.cmpi .sgt arg0 c0_i32_32
  let v51 : BitVec 32 := Scalar.extui v50
  let c0_i32_33 : BitVec 32 := 0#32
  let v52 : BitVec 1 := Scalar.cmpi .ne v51 c0_i32_33
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .bf16⟩
  | .hbm, ⟨71, _⟩ => ⟨S8192x2816, .bf16⟩
  | .hbm, ⟨72, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v20_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v20_1 : Ref sig .tc := ⟨.hbm, 44, rfl⟩
abbrev main_v20_0 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S2816x1024 : Shape := ⟨2, ![2816, 1024]⟩
abbrev S4x704x1024 : Shape := ⟨3, ![4, 704, 1024]⟩
abbrev S4x2112x1024 : Shape := ⟨3, ![4, 2112, 1024]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 32
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S8192x1024, .f32⟩
  | .hbm, ⟨7, _⟩ => ⟨S8192x2816, .bf16⟩
  | .hbm, ⟨8, _⟩ => ⟨S8192x2816, .bf16⟩
  | .hbm, ⟨9, _⟩ => ⟨S_, .f32⟩
  | .hbm, ⟨10, _⟩ => ⟨S2816x1024, .f32⟩
  | .hbm, ⟨11, _⟩ => ⟨S2816x1024, .f32⟩
  | .hbm, ⟨12, _⟩ => ⟨S4x704x1024, .f32⟩
  | .hbm, ⟨13, _⟩ => ⟨S2816x1024, .f32⟩
  | .hbm, ⟨14, _⟩ => ⟨S4x704x1024, .f32⟩
  | .hbm, ⟨15, _⟩ => ⟨S4x704x1024, .f32⟩
  | .hbm, ⟨16, _⟩ => ⟨S4x2112x1024, .f32⟩
  | .hbm, ⟨17, _⟩ => ⟨S4x2112x1024, .bf16⟩
  | .hbm, ⟨18, _⟩ => ⟨S8192x1024, .f32⟩
  | .hbm, ⟨19, _⟩ => ⟨S8192x1024, .bf16⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S4x704x1024, .bf16⟩
  | .local _ .vmem, ⟨12, _⟩ => ⟨S4x704x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_34 : BitVec 32 := 0#32
  let v64 : BitVec 1 := Scalar.cmpi .ne v63 c0_i32_34
  v64

def k0_cond2 (i : grid0.Coords) : BitVec 1 :=
  let arg0 : BitVec 32 := BitVec.ofNat 32 (i 0).val
  let c0_i32_35 : BitVec 32 := 0#32
  let v65 : BitVec 1 := Scalar.cmpi .sgt arg0 c0_i32_35
  let v66 : BitVec 32 := Scalar.extui v65
  let c0_i32_36 : BitVec 32 := 0#32
  let v67 : BitVec 1 := Scalar.cmpi .ne v66 c0_i32_36
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S8192x1024, .f32⟩
  | .hbm, ⟨7, _⟩ => ⟨S8192x2816, .bf16⟩
  | .hbm, ⟨8, _⟩ => ⟨S8192x2816, .bf16⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2112x1024 : Shape := ⟨3, ![4, 2112, 1024]⟩
abbrev S8x128 : Shape := ⟨2, ![8, 128]⟩
abbrev S8x1024 : Shape := ⟨2, ![8, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S2x704x1024 : Shape := ⟨3, ![2, 704, 1024]⟩
abbrev S1408x1024 : Shape := ⟨2, ![1408, 1024]⟩
abbrev S512x1408 : Shape := ⟨2, ![512, 1408]⟩
abbrev S512x128 : Shape := ⟨2, ![512, 128]⟩
abbrev S64x8x128 : Shape := ⟨3, ![64, 8, 128]⟩
abbrev S64x8x1024 : Shape := ⟨3, ![64, 8, 1024]⟩
abbrev S_ : Shape := ⟨0, ![]⟩
abbrev S1024 : Shape := ⟨1, ![1024]⟩

abbrev nBuf : Space → Nat
  | .hbm => 29
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S1x1024, .f32⟩
  | .hbm, ⟨10, _⟩ => ⟨S2816x1024, .f32⟩
  | .hbm, ⟨11, _⟩ => ⟨S4x704x1024, .f32⟩
  | .hbm, ⟨12, _⟩ => ⟨S2816x1024, .f32⟩
  | .hbm, ⟨13, _⟩ => ⟨S4x704x1024, .f32⟩
  | .hbm, ⟨14, _⟩ => ⟨S4x704x1024, .f32⟩
  | .hbm, ⟨15, _⟩ => ⟨S4x2112x1024, .f32⟩
  | .hbm, ⟨16, _⟩ => ⟨S4x2112x1024, .bf16⟩
  | .hbm, ⟨17, _⟩ => ⟨S8x128, .f32⟩
  | .hbm, ⟨18, _⟩ => ⟨S8192x1024, .f32⟩
  | .hbm, ⟨19, _⟩ => ⟨S8x1024, .f32⟩
  | .hbm, ⟨20, _⟩ => ⟨S8192x1024, .f32⟩
  | .hbm, ⟨21, _⟩ => ⟨S8192x2816, .bf16⟩
  | .hbm, ⟨22, _⟩ => ⟨S8192x2816, .bf16⟩
  | .hbm, ⟨23, _⟩ => ⟨S8192x2816, .bf16⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1024, .f32⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S4x704x1024, .bf16⟩
  | .local _ .vmem, ⟨7, _⟩ => ⟨S4x704x1024, .bf16⟩
  | .local _ .vmem, ⟨8, _⟩ => ⟨S4x704x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S8x128, .f32⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | .local _ .vmem, ⟨16, _⟩ => ⟨S512x1024, .f32⟩
  | .local _ .vmem, ⟨17, _⟩ => ⟨S512x1024, .f32⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | .local _ .vmem, ⟨23, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v154 : BitVec 1 := Scalar.cmpi .eq arg0 c0_i32
  let v155 : BitVec 32 := Scalar.extui v154
  let c0_i32_75 : BitVec 32 := 0#32
  let v156 : BitVec 1 := Scalar.cmpi .ne v155 c0_i32_75
  v156

def k0_cond2 (i : grid0.Coords) : BitVec 1 :=
  let arg0 : BitVec 32 := BitVec.ofNat 32 (i 0).val
  let c0_i32_76 : BitVec 32 := 0#32
  let v157 : BitVec 1 := Scalar.cmpi .sgt arg0 c0_i32_76
  let v158 : BitVec 32 := Scalar.extui v157
  let c0_i32_77 : BitVec 32 := 0#32
  let v159 : BitVec 1 := Scalar.cmpi .ne v158 c0_i32_77
  v159

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1x1024, .f32⟩
  | 5 => ⟨S1024x2816, .f32⟩
  | 6 => ⟨S1024x2816, .f32⟩
  | 7 => ⟨S2816x1024, .f32⟩
  | 8 => ⟨S8192x1024, .f32⟩
  | 9 => ⟨S1x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S1x1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S8192x2816, .f32⟩
  | 33 => ⟨S8192x2816, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S8192x2816, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S_, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S_, .f32⟩
  | 58 => ⟨S8192x2816, .f32⟩
  | 59 => ⟨S8192x2816, .f32⟩
  | 60 => ⟨S8192x2816, .f32⟩
  | 61 => ⟨S8192x2816, .f32⟩
  | 62 => ⟨S8192x2816, .f32⟩
  | 63 => ⟨S8192x2816, .f32⟩
  | 64 => ⟨S8192x1024, .f32⟩
  | 65 => ⟨S_, .f32⟩
  | 66 => ⟨S1x1024, .f32⟩
  | 67 => ⟨S1x1024, .f32⟩
  | 68 => ⟨S8192x1024, .f32⟩
  | 69 => ⟨S8192x1024, .f32⟩
  | 70 => ⟨S8192x1024, .f32⟩
  | 71 => ⟨S8192x1024, .f32⟩
  | 72 => ⟨S_, .f32⟩
  | 73 => ⟨S8192, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192x1, .f32⟩
  | 80 => ⟨S8192x1, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S_, .f32⟩
  | 96 => ⟨S8192, .f32⟩
  | 97 => ⟨S_, .f32⟩
  | 98 => ⟨S8192, .f32⟩
  | 99 => ⟨S8192, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S8192, .f32⟩
  | 108 => ⟨S_, .f32⟩
  | 109 => ⟨S8192, .f32⟩
  | 110 => ⟨S8192, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x2816, .bf16⟩
  | 9 => ⟨S8192x2816, .bf16⟩
  | 10 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v20 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_v21_2 : Ref sig .tc := ⟨.hbm, 50, rfl⟩
abbrev main_call1_cst_1 : Ref sig .tc := ⟨.hbm, 51, rfl⟩
abbrev main_call1_v6 : Ref sig .tc := ⟨.hbm, 52, rfl⟩
abbrev main_call1_v7 : Ref sig .tc := ⟨.hbm, 53, rfl⟩
abbrev main_v21_1 : Ref sig .tc := ⟨.hbm, 54, rfl⟩
abbrev main_v21_0 : Ref sig .tc := ⟨.hbm, 55, rfl⟩
abbrev main_v22 : Ref sig .tc := ⟨.hbm, 56, rfl⟩
abbrev main_cst_3 : Ref sig .tc := ⟨.hbm, 57, rfl⟩
abbrev main_v23 : Ref sig .tc := ⟨.hbm, 58, rfl⟩
abbrev main_v24 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v25 : Ref sig .tc := ⟨.hbm, 63, rfl⟩
abbrev main_v26 : Ref sig .tc := ⟨.hbm, 64, rfl⟩
abbrev main_cst_4 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_5 : Ref sig .tc := ⟨.hbm, 72, rfl⟩
abbrev main_v33 : Ref sig .tc := ⟨.hbm, 73, rfl⟩
abbrev main_v34 : Ref sig .tc := ⟨.hbm, 74, rfl⟩
abbrev main_cst_6 : Ref sig .tc := ⟨.hbm, 75, rfl⟩
abbrev main_v35 : Ref sig .tc := ⟨.hbm, 76, rfl⟩
abbrev main_v36 : Ref sig .tc := ⟨.hbm, 77, rfl⟩
abbrev main_cst_7 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_8 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_9 : Ref sig .tc := ⟨.hbm, 92, rfl⟩
abbrev main_v49 : Ref sig .tc := ⟨.hbm, 93, rfl⟩
abbrev main_v50 : Ref sig .tc := ⟨.hbm, 94, rfl⟩
abbrev main_cst_10 : Ref sig .tc := ⟨.hbm, 95, rfl⟩
abbrev main_v51 : Ref sig .tc := ⟨.hbm, 96, rfl⟩
abbrev main_cst_11 : Ref sig .tc := ⟨.hbm, 97, rfl⟩
abbrev main_v52 : Ref sig .tc := ⟨.hbm, 98, rfl⟩
abbrev main_v53 : Ref sig .tc := ⟨.hbm, 99, rfl⟩
abbrev main_cst_12 : Ref sig .tc := ⟨.hbm, 100, rfl⟩
abbrev main_v54 : Ref sig .tc := ⟨.hbm, 101, rfl⟩
abbrev main_cst_13 : Ref sig .tc := ⟨.hbm, 102, rfl⟩
abbrev main_v55 : Ref sig .tc := ⟨.hbm, 103, rfl⟩
abbrev main_cst_14 : Ref sig .tc := ⟨.hbm, 104, rfl⟩
abbrev main_cst_15 : Ref sig .tc := ⟨.hbm, 105, rfl⟩
abbrev main_v56 : Ref sig .tc := ⟨.hbm, 106, rfl⟩
abbrev main_v57 : Ref sig .tc := ⟨.hbm, 107, rfl⟩
abbrev main_cst_16 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_17 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_18 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_19 : Ref sig .tc := ⟨.hbm, 126, rfl⟩
abbrev main_v73 : Ref sig .tc := ⟨.hbm, 127, rfl⟩
abbrev main_v74 : Ref sig .tc := ⟨.hbm, 128, rfl⟩
abbrev main_cst_20 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x2568 : Shape := ⟨2, ![1024, 2568]⟩
abbrev S4x1536 : Shape := ⟨2, ![4, 1536]⟩
abbrev S1x4 : Shape := ⟨2, ![1, 4]⟩
abbrev S2568x1024 : Shape := ⟨2, ![2568, 1024]⟩
abbrev S2048x1024 : Shape := ⟨2, ![2048, 1024]⟩
abbrev S512x1024 : Shape := ⟨2, ![512, 1024]⟩
abbrev S8x1024 : Shape := ⟨2, ![8, 1024]⟩
abbrev S_ : Shape := ⟨0, ![]⟩
abbrev S120x1024 : Shape := ⟨2, ![120, 1024]⟩
abbrev S2688x1024 : Shape := ⟨2, ![2688, 1024]⟩
abbrev S1x128 : Shape := ⟨2, ![1, 128]⟩
abbrev S4 : Shape := ⟨1, ![4]⟩
abbrev S1 : Shape := ⟨1, ![1]⟩
abbrev S2 : Shape := ⟨1, ![2]⟩
abbrev S8192x1536 : Shape := ⟨2, ![8192, 1536]⟩
abbrev S8192x128 : Shape := ⟨2, ![8192, 128]⟩
abbrev S8192x512 : Shape := ⟨2, ![8192, 512]⟩
abbrev S512x1536 : Shape := ⟨2, ![512, 1536]⟩
abbrev S512x128 : Shape := ⟨2, ![512, 128]⟩
abbrev S512x512 : Shape := ⟨2, ![512, 512]⟩
abbrev S520x1536 : Shape := ⟨2, ![520, 1536]⟩
abbrev S512 : Shape := ⟨1, ![512]⟩
abbrev S512x1 : Shape := ⟨2, ![512, 1]⟩
abbrev S8x1536 : Shape := ⟨2, ![8, 1536]⟩
abbrev S1536x1024 : Shape := ⟨2, ![1536, 1024]⟩
abbrev S128x1024 : Shape := ⟨2, ![128, 1024]⟩
abbrev S1x1536 : Shape := ⟨2, ![1, 1536]⟩
abbrev S8192x8 : Shape := ⟨2, ![8192, 8]⟩
abbrev S8192x4 : Shape := ⟨2, ![8192, 4]⟩

abbrev nBuf : Space → Nat
  | .hbm => 47
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2568, .f32⟩
  | .hbm, ⟨5, _⟩ => ⟨S4x1536, .f32⟩
  | .hbm, ⟨6, _⟩ => ⟨S1x4, .f32⟩
  | .hbm, ⟨7, _⟩ => ⟨S1x4, .f32⟩
  | .hbm, ⟨8, _⟩ => ⟨S2568x1024, .f32⟩
  | .hbm, ⟨9, _⟩ => ⟨S2568x1024, .bf16⟩
  | .hbm, ⟨10, _⟩ => ⟨S2048x1024, .bf16⟩
  | .hbm, ⟨11, _⟩ => ⟨S512x1024, .bf16⟩
  | .hbm, ⟨12, _⟩ => ⟨S8x1024, .bf16⟩
  | .hbm, ⟨13, _⟩ => ⟨S_, .bf16⟩
  | .hbm, ⟨14, _⟩ => ⟨S120x1024, .bf16⟩
  | .hbm, ⟨15, _⟩ => ⟨S2688x1024, .bf16⟩
  | .hbm, ⟨16, _⟩ => ⟨S_, .f32⟩
  | .hbm, ⟨17, _⟩ => ⟨S1x128, .f32⟩
  | .hbm, ⟨18, _⟩ => ⟨S4, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S4, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S8192x1536, .f32⟩
  | .hbm, ⟨35, _⟩ => ⟨S8192x128, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x128, .f32⟩
  | .hbm, ⟨42, _⟩ => ⟨S8192x128, .f32⟩
  | .hbm, ⟨43, _⟩ => ⟨S8192x8, .f32⟩
  | .hbm, ⟨44, _⟩ => ⟨S8192x4, .f32⟩
  | .hbm, ⟨45, _⟩ => ⟨S8192x4, .f32⟩
  | .hbm, ⟨46, _⟩ => ⟨S8192x4, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2688x1024, .bf16⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S512x1536, .f32⟩
  | .local _ .vmem, ⟨10, _⟩ => ⟨S512x1536, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S520x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev main_v19_4 : Ref sig .tc := ⟨.hbm, 38, rfl⟩
abbrev main_v19_5 : Ref sig .tc := ⟨.hbm, 39, rfl⟩
abbrev main_v19_6 : Ref sig .tc := ⟨.hbm, 40, rfl⟩
abbrev main_v19_7 : Ref sig .tc := ⟨.hbm, 41, rfl⟩
abbrev main_v19_8 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2688x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S8192x1024 : Shape := ⟨2, ![8192, 1024]⟩
abbrev S1x1024 : Shape := ⟨2, ![1, 1024]⟩
abbrev S1024x2568 : Shape := ⟨2, ![1024, 2568]⟩
abbrev S4x1536 : Shape := ⟨2, ![4, 1536]⟩
abbrev S1x4 : Shape := ⟨2, ![1, 4]⟩
abbrev S_ : Shape := ⟨0, ![]⟩
abbrev S8192 : Shape := ⟨1, ![8192]⟩
abbrev S8192x1 : Shape := ⟨2, ![8192, 1]⟩
abbrev S8192x2568 : Shape := ⟨2, ![8192, 2568]⟩
abbrev S8192x1536 : Shape := ⟨2, ![8192, 1536]⟩
abbrev S8192x512 : Shape := ⟨2, ![8192, 512]⟩
abbrev S8192x4 : Shape := ⟨2, ![8192, 4]⟩
abbrev S3x1536 : Shape := ⟨2, ![3, 1536]⟩
abbrev S8195x1536 : Shape := ⟨2, ![8195, 1536]⟩
abbrev S1x1536 : Shape := ⟨2, ![1, 1536]⟩
abbrev S8192x4x128 : Shape := ⟨3, ![8192, 4, 128]⟩
abbrev S8192x4x1 : Shape := ⟨3, ![8192, 4, 1]⟩
abbrev S128x64x4 : Shape := ⟨3, ![128, 64, 4]⟩
abbrev S8192x8 : Shape := ⟨2, ![8192, 8]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1024x2568, .f32⟩
  | 5 => ⟨S4x1536, .f32⟩
  | 6 => ⟨S1x4, .f32⟩
  | 7 => ⟨S1x4, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S8192x1024, .f32⟩
  | 22 => ⟨S8192x1024, .f32⟩
  | 23 => ⟨S_, .f32⟩
  | 24 => ⟨S1x1024, .f32⟩
  | 25 => ⟨S1x1024, .f32⟩
  | 26 => ⟨S8192x1024, .f32⟩
  | 27 => ⟨S8192x1024, .f32⟩
  | 28 => ⟨S8192x1024, .f32⟩
  | 29 => ⟨S8192x1024, .f32⟩
  | 30 => ⟨S8192x2568, .f32⟩
  | 31 => ⟨S8192x1536, .f32⟩
  | 32 => ⟨S8192x512, .f32⟩
  | 33 => ⟨S8192x4, .f32⟩
  | 34 => ⟨S8192x4, .f32⟩
  | 35 => ⟨S8192x512, .f32⟩
  | 36 => ⟨S_, .f32⟩
  | 37 => ⟨S3x1536, .f32⟩
  | 38 => ⟨S8195x1536, .f32⟩
  | 39 => ⟨S1x1536, .f32⟩
  | 40 => ⟨S8192x1536, .f32⟩
  | 41 => ⟨S8192x1536, .f32⟩
  | 42 => ⟨S8192x1536, .f32⟩
  | 43 => ⟨S_, .f32⟩
  | 44 => ⟨S8192x1536, .f32⟩
  | 45 => ⟨S8192x1536, .f32⟩
  | 46 => ⟨S1x1536, .f32⟩
  | 47 => ⟨S8192x1536, .f32⟩
  | 48 => ⟨S8192x1536, .f32⟩
  | 49 => ⟨S8192x1536, .f32⟩
  | 50 => ⟨S8192x1536, .f32⟩
  | 51 => ⟨S1x1536, .f32⟩
  | 52 => ⟨S8192x1536, .f32⟩
  | 53 => ⟨S8192x1536, .f32⟩
  | 54 => ⟨S8192x1536, .f32⟩
  | 55 => ⟨S8192x1536, .f32⟩
  | 56 => ⟨S1x1536, .f32⟩
  | 57 => ⟨S8192x1536, .f32⟩
  | 58 => ⟨S8192x1536, .f32⟩
  | 59 => ⟨S8192x1536, .f32⟩
  | 60 => ⟨S8192x1536, .f32⟩
  | 61 => ⟨S8192x1536, .f32⟩
  | 62 => ⟨S8192x1536, .f32⟩
  | 63 => ⟨S_, .f32⟩
  | 64 => ⟨S8192x1536, .f32⟩
  | 65 => ⟨S8192x1536, .f32⟩
  | 66 => ⟨S_, .f32⟩
  | 67 => ⟨S8192x1536, .f32⟩
  | 68 => ⟨S8192x1536, .f32⟩
  | 69 => ⟨S8192x1536, .f32⟩
  | 70 => ⟨S8192x512, .f32⟩
  | 71 => ⟨S8192x512, .f32⟩
  | 72 => ⟨S8192x512, .f32⟩
  | 73 => ⟨S8192x4x128, .f32⟩
  | 74 => ⟨S8192x4x128, .f32⟩
  | 75 => ⟨S_, .f32⟩
  | 76 => ⟨S8192x4, .f32⟩
  | 77 => ⟨S8192x4x1, .f32⟩
  | 78 => ⟨S_, .f32⟩
  | 79 => ⟨S8192x4x1, .f32⟩
  | 80 => ⟨S8192x4x1, .f32⟩
  | 81 => ⟨S8192x4x1, .f32⟩
  | 82 => ⟨S8192x4x128, .f32⟩
  | 83 => ⟨S8192x4x128, .f32⟩
  | 84 => ⟨S_, .f32⟩
  | 85 => ⟨S8192x4x128, .f32⟩
  | 86 => ⟨S8192x4x128, .f32⟩
  | 87 => ⟨S8192x4x128, .f32⟩
  | 88 => ⟨S8192x4x128, .f32⟩
  | 89 => ⟨S_, .f32⟩
  | 90 => ⟨S8192x4, .f32⟩
  | 91 => ⟨S8192x4x1, .f32⟩
  | 92 => ⟨S_, .f32⟩
  | 93 => ⟨S8192x4x1, .f32⟩
  | 94 => ⟨S8192x4x1, .f32⟩
  | 95 => ⟨S8192x4x1, .f32⟩
  | 96 => ⟨S8192x4x128, .f32⟩
  | 97 => ⟨S8192x4x128, .f32⟩
  | 98 => ⟨S8192x4, .f32⟩
  | 99 => ⟨S8192x4, .f32⟩
  | 100 => ⟨S_, .f32⟩
  | 101 => ⟨S8192x4, .f32⟩
  | 102 => ⟨S8192x4, .f32⟩
  | 103 => ⟨S_, .f32⟩
  | 104 => ⟨S8192x4, .f32⟩
  | 105 => ⟨S8192x4, .f32⟩
  | 106 => ⟨S1x4, .f32⟩
  | 107 => ⟨S1x4, .f32⟩
  | 108 => ⟨S8192x4, .f32⟩
  | 109 => ⟨S8192x4, .f32⟩
  | 110 => ⟨S_, .f32⟩
  | 111 => ⟨S8192x4, .f32⟩
  | 112 => ⟨S8192x4, .f32⟩
  | 113 => ⟨S8192x4, .f32⟩
  | 114 => ⟨S8192x4, .f32⟩
  | 115 => ⟨S8192x4, .i1⟩
  | 116 => ⟨S8192x4, .f32⟩
  | 117 => ⟨S8192x4, .f32⟩
  | 118 => ⟨S8192x4, .f32⟩
  | 119 => ⟨S8192x4, .f32⟩
  | 120 => ⟨S8192x4, .f32⟩
  | 121 => ⟨S8192x4, .f32⟩
  | 122 => ⟨S8192x4, .f32⟩
  | 123 => ⟨S8192x4, .f32⟩
  | 124 => ⟨S8192x4, .f32⟩
  | 125 => ⟨S8192x4, .f32⟩
  | 126 => ⟨S128x64x4, .f32⟩
  | 127 => ⟨S_, .f32⟩
  | _ => ⟨S8192x1024, .f32⟩

abbrev hbmTy0_1 (i : Nat) : BufTy := match i % 128 with
  | 0 => ⟨S_, .f32⟩
  | 1 => ⟨S128x64x4, .f32⟩
  | 2 => ⟨S8192x8, .f32⟩
  | 3 => ⟨S8192x512, .f32⟩
  | 4 => ⟨S8192x512, .f32⟩
  | 5 => ⟨S8192x4, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_10 : Ref sig .tc := ⟨.hbm, 100, rfl⟩
abbrev main_v73 : Ref sig .tc := ⟨.hbm, 101, rfl⟩
abbrev main_v74 : Ref sig .tc := ⟨.hbm, 102, rfl⟩
abbrev main_cst_11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call1_cst : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_call2_call0_cst : Ref sig .tc := ⟨.hbm, 127, rfl⟩
abbrev main_call2_call0_v0 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2112x1024 : Shape := ⟨3, ![4, 2112, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S2x704x1024 : Shape := ⟨3, ![2, 704, 1024]⟩
abbrev S1408x1024 : Shape := ⟨2, ![1408, 1024]⟩
abbrev S512x1408 : Shape := ⟨2, ![512, 1408]⟩

abbrev nBuf : Space → Nat
  | .hbm => 20
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2816x1024, .f32⟩
  | .hbm, ⟨9, _⟩ => ⟨S4x704x1024, .f32⟩
  | .hbm, ⟨10, _⟩ => ⟨S2816x1024, .f32⟩
  | .hbm, ⟨11, _⟩ => ⟨S4x704x1024, .f32⟩
  | .hbm, ⟨12, _⟩ => ⟨S4x704x1024, .f32⟩
  | .hbm, ⟨13, _⟩ => ⟨S4x2112x1024, .f32⟩
  | .hbm, ⟨14, _⟩ => ⟨S4x2112x1024, .bf16⟩
  | .hbm, ⟨15, _⟩ => ⟨S8192x1024, .f32⟩
  | .hbm, ⟨16, _⟩ => ⟨S8192x1024, .f32⟩
  | .hbm, ⟨17, _⟩ => ⟨S8192x2816, .bf16⟩
  | .hbm, ⟨18, _⟩ => ⟨S8192x2816, .bf16⟩
  | .hbm, ⟨19, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S4x704x1024, .bf16⟩
  | .local _ .vmem, ⟨7, _⟩ => ⟨S4x704x1024, .bf16⟩
  | .local _ .vmem, ⟨8, _⟩ => ⟨S4x704x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x2816, .bf16⟩
  | .hbm, ⟨70, _⟩ => ⟨S8192x2816, .bf16⟩
  | .hbm, ⟨71, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_v21_2 : Ref sig .tc := ⟨.hbm, 48, rfl⟩
abbrev main_call1_cst_1 : Ref sig .tc := ⟨.hbm, 49, rfl⟩
abbrev main_call1_v6 : Ref sig .tc := ⟨.hbm, 50, rfl⟩
abbrev main_call1_v7 : Ref sig .tc := ⟨.hbm, 51, rfl⟩
abbrev main_v21_1 : Ref sig .tc := ⟨.hbm, 52, rfl⟩
abbrev main_v21_0 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v25 : Ref sig .tc := ⟨.hbm, 61, rfl⟩
abbrev main_v26 : Ref sig .tc := ⟨.hbm, 62, rfl⟩
abbrev main_cst_4 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 52
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S8192x2816, .bf16⟩
  | .hbm, ⟨7, _⟩ => ⟨S8192x2816, .bf16⟩
  | .hbm, ⟨8, _⟩ => ⟨S8192x1024, .bf16⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .bf16⟩
  | .hbm, ⟨46, _⟩ => ⟨S8192x1024, .bf16⟩
  | .hbm, ⟨47, _⟩ => ⟨S2816x1024, .bf16⟩
  | .hbm, ⟨48, _⟩ => ⟨S2816x1024, .bf16⟩
  | .hbm, ⟨49, _⟩ => ⟨S2816x1024, .bf16⟩
  | .hbm, ⟨50, _⟩ => ⟨S1024x2816, .bf16⟩
  | .hbm, ⟨51, _⟩ => ⟨S1024x2816, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S1408x1024, .bf16⟩
  | .local _ .vmem, ⟨16, _⟩ => ⟨S1408x1024, .f32⟩
  | .local _ .vmem, ⟨17, _⟩ => ⟨S1408x1024, .f32⟩
  | .local _ .vmem, ⟨18, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev main_v31_2 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_26 : BitVec 32 := 0#32
  let v32 : BitVec 1 := Scalar.cmpi .ne v31 c0_i32_26
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S8192x2816, .bf16⟩
  | .hbm, ⟨7, _⟩ => ⟨S8192x2816, .bf16⟩
  | .hbm, ⟨8, _⟩ => ⟨S8192x1024, .bf16⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S2816x1024, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S1024x2816, .f32⟩
  | .hbm, ⟨52, _⟩ => ⟨S2816x1024, .f32⟩
  | .hbm, ⟨53, _⟩ => ⟨S2816x1024, .f32⟩
  | .hbm, ⟨54, _⟩ => ⟨S1024x2816, .f32⟩
  | .hbm, ⟨55, _⟩ => ⟨S2816x1024, .f32⟩
  | .hbm, ⟨56, _⟩ => ⟨S1024x2816, .f32⟩
  | .hbm, ⟨57, _⟩ => ⟨S1024x2816, .bf16⟩
  | .hbm, ⟨58, _⟩ => ⟨S1024x2816, .bf16⟩
  | .hbm, ⟨59, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Kernel7.lean ====
abbrev S8x1024 : Shape := ⟨2, ![8, 1024]⟩
abbrev S8x4x384 : Shape := ⟨3, ![8, 4, 384]⟩
abbrev S8x2304 : Shape := ⟨2, ![8, 2304]⟩
abbrev S1024x2304 : Shape := ⟨2, ![1024, 2304]⟩
abbrev S8x1x1024 : Shape := ⟨3, ![8, 1, 1024]⟩
abbrev S8x8x1024 : Shape := ⟨3, ![8, 8, 1024]⟩
abbrev S_ : Shape := ⟨0, ![]⟩
abbrev S8x4x1024 : Shape := ⟨3, ![8, 4, 1024]⟩
abbrev S8x16x1024 : Shape := ⟨3, ![8, 16, 1024]⟩
abbrev S8x16x128 : Shape := ⟨3, ![8, 16, 128]⟩
abbrev S128x2304 : Shape := ⟨2, ![128, 2304]⟩
abbrev S1x1x128 : Shape := ⟨3, ![1, 1, 128]⟩
abbrev S1x128 : Shape := ⟨2, ![1, 128]⟩
abbrev S8x128 : Shape := ⟨2, ![8, 128]⟩

abbrev nBuf : Space → Nat
  | .hbm => 18
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x4x384, .f32⟩
  | .hbm, ⟨2, _⟩ => ⟨S8x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S8x1x1024, .f32⟩
  | .hbm, ⟨7, _⟩ => ⟨S8x8x1024, .f32⟩
  | .hbm, ⟨8, _⟩ => ⟨S_, .i32⟩
  | .hbm, ⟨9, _⟩ => ⟨S_, .f32⟩
  | .hbm, ⟨10, _⟩ => ⟨S8x4x1024, .f32⟩
  | .hbm, ⟨11, _⟩ => ⟨S_, .f32⟩
  | .hbm, ⟨12, _⟩ => ⟨S8x4x1024, .f32⟩
  | .hbm, ⟨13, _⟩ => ⟨S8x16x1024, .f32⟩
  | .hbm, ⟨14, _⟩ => ⟨S1024x2304, .f32⟩
  | .hbm, ⟨15, _⟩ => ⟨S1024x2304, .f32⟩
  | .hbm, ⟨16, _⟩ => ⟨S1024x2304, .f32⟩
  | .hbm, ⟨17, _⟩ => ⟨S1024x2304, .f32⟩
  | .local _ .vmem, ⟨0, _⟩ => ⟨S8x16x128, .f32⟩
  | .local _ .vmem, ⟨1, _⟩ => ⟨S8x16x128, .f32⟩
  | .local _ .vmem, ⟨2, _⟩ => ⟨S8x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | .local _ .vmem, ⟨14, _⟩ => ⟨S128x2304, .f32⟩
  | .local _ .vmem, ⟨15, _⟩ => ⟨S128x2304, .f32⟩
  | .local _ .vmem, ⟨16, _⟩ => ⟨S128x2304, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8x1024 : Shape := ⟨2, ![8, 1024]⟩
abbrev S8x4x384 : Shape := ⟨3, ![8, 4, 384]⟩
abbrev S8x2304 : Shape := ⟨2, ![8, 2304]⟩
abbrev S1024x2304 : Shape := ⟨2, ![1024, 2304]⟩
abbrev S_ : Shape := ⟨0, ![]⟩
abbrev S2304x1024 : Shape := ⟨2, ![2304, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x4x384, .f32⟩
  | .hbm, ⟨2, _⟩ => ⟨S8x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x2304, .f32⟩
  | .hbm, ⟨16, _⟩ => ⟨S2304x1024, .f32⟩
  | .hbm, ⟨17, _⟩ => ⟨S1024x2304, .f32⟩
  | .hbm, ⟨18, _⟩ => ⟨S_, .f32⟩
  | .hbm, ⟨19, _⟩ => ⟨S1024x2304, .f32⟩
  | .hbm, ⟨20, _⟩ => ⟨S1024x2304, .f32⟩
  | .hbm, ⟨21, _⟩ => ⟨S_, .f32⟩
  | .hbm, ⟨22, _⟩ => ⟨S1024x2304, .f32⟩
  | .hbm, ⟨23, _⟩ => ⟨S1024x2304, .f32⟩
  | .hbm, ⟨24, _⟩ => ⟨S1024x2304, .f32⟩
  | .hbm, ⟨25, _⟩ => ⟨S_, .f32⟩
  | .hbm, ⟨26, _⟩ => ⟨S1024x2304, .f32⟩
  | .hbm, ⟨27, _⟩ => ⟨S1024x2304, .f32⟩
  | .hbm, ⟨28, _⟩ => ⟨S1024x2304, .f32⟩
  | .hbm, ⟨29, _⟩ => ⟨S_, .f32⟩
  | .hbm, ⟨30, _⟩ => ⟨S1024x2304, .f32⟩
  | .hbm, ⟨31, _⟩ => ⟨S1024x2304, .f32⟩
  | .hbm, ⟨32, _⟩ => ⟨S1024x2304, .f32⟩
  | .hbm, ⟨33, _⟩ => ⟨S_, .f32⟩
  | .hbm, ⟨34, _⟩ => ⟨S1024x2304, .f32⟩
  | .hbm, ⟨35, _⟩ => ⟨S1024x2304, .f32⟩
  | .hbm, ⟨36, _⟩ => ⟨S_, .f32⟩
  | .hbm, ⟨37, _⟩ => ⟨S1024x2304, .f32⟩
  | .hbm, ⟨38, _⟩ => ⟨S1024x2304, .f32⟩
  | .hbm, ⟨39, _⟩ => ⟨S1024x2304, .f32⟩
  | .hbm, ⟨40, _⟩ => ⟨S_, .f32⟩
  | .hbm, ⟨41, _⟩ => ⟨S1024x2304, .f32⟩
  | .hbm, ⟨42, _⟩ => ⟨S1024x2304, .f32⟩
  | .hbm, ⟨43, _⟩ => ⟨S1024x2304, .f32⟩
  | .hbm, ⟨44, _⟩ => ⟨S_, .f32⟩
  | .hbm, ⟨45, _⟩ => ⟨S1024x2304, .f32⟩
  | .hbm, ⟨46, _⟩ => ⟨S1024x2304, .f32⟩
  | .hbm, ⟨47, _⟩ => ⟨S1024x2304, .f32⟩
  | .hbm, ⟨48, _⟩ => ⟨S_, .f32⟩
  | .hbm, ⟨49, _⟩ => ⟨S1024x2304, .f32⟩
  | .hbm, ⟨50, _⟩ => ⟨S1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Kernel8.lean ====
abbrev S704x1024 : Shape := ⟨2, ![704, 1024]⟩
abbrev S1024x704 : Shape := ⟨2, ![1024, 704]⟩
abbrev S176x1024 : Shape := ⟨2, ![176, 1024]⟩

abbrev nBuf : Space → Nat
  | .hbm => 16
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S1024x704, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S704x1024 : Shape := ⟨2, ![704, 1024]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S352x1024 : Shape := ⟨2, ![352, 1024]⟩
abbrev S1024x704 : Shape := ⟨2, ![1024, 704]⟩
abbrev S704x1024 : Shape := ⟨2, ![704, 1024]⟩

abbrev nBuf : Space → Nat
  | .hbm => 16
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S1024x704, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S352x1024 : Shape := ⟨2, ![352, 1024]⟩
abbrev S1024x704 : Shape := ⟨2, ![1024, 704]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S8x24x1024 : Shape := ⟨3, ![8, 24, 1024]⟩
abbrev S1x1024 : Shape := ⟨2, ![1, 1024]⟩
abbrev S1024 : Shape := ⟨1, ![1024]⟩
abbrev S1x9216 : Shape := ⟨2, ![1, 9216]⟩
abbrev S1x512 : Shape := ⟨2, ![1, 512]⟩
abbrev S1x128 : Shape := ⟨2, ![1, 128]⟩
abbrev S1x4 : Shape := ⟨2, ![1, 4]⟩
abbrev S9x1024 : Shape := ⟨2, ![9, 1024]⟩
abbrev S_ : Shape := ⟨0, ![]⟩
abbrev S4 : Shape := ⟨1, ![4]⟩
abbrev S1 : Shape := ⟨1, ![1]⟩
abbrev S2 : Shape := ⟨1, ![2]⟩
abbrev S7x1024 : Shape := ⟨2, ![7, 1024]⟩
abbrev S24x1024 : Shape := ⟨2, ![24, 1024]⟩
abbrev S1x24x1024 : Shape := ⟨3, ![1, 24, 1024]⟩

abbrev nBuf : Space → Nat
  | .hbm => 153
  | .vmem => 8
  | .smem => 0
  | _ => 0

abbrev hbmTy0_0 (i : Nat) : BufTy := match i % 128 with
  | 0 => ⟨S8x24x1024, .f32⟩
  | 1 => ⟨S1x1024, .f32⟩
  | 2 => ⟨S1x1024, .f32⟩
  | 3 => ⟨S1x1024, .f32⟩
  | 4 => ⟨S1024, .f32⟩
  | 5 => ⟨S1x9216, .f32⟩
  | 6 => ⟨S1x512, .f32⟩
  | 7 => ⟨S1x128, .f32⟩
  | 8 => ⟨S1x4, .f32⟩
  | 9 => ⟨S1x4, .f32⟩
  | 10 => ⟨S1x1024, .f32⟩
  | 11 => ⟨S1x1024, .f32⟩
  | 12 => ⟨S1x1024, .f32⟩
  | 13 => ⟨S1024, .f32⟩
  | 14 => ⟨S1x9216, .f32⟩
  | 15 => ⟨S1x512, .f32⟩
  | 16 => ⟨S1x128, .f32⟩
  | 17 => ⟨S1x4, .f32⟩
  | 18 => ⟨S1x4, .f32⟩
  | 19 => ⟨S1x1024, .f32⟩
  | 20 => ⟨S1x1024, .f32⟩
  | 21 => ⟨S1x1024, .f32⟩
  | 22 => ⟨S1024, .f32⟩
  | 23 => ⟨S1x9216, .f32⟩
  | 24 => ⟨S1x512, .f32⟩
  | 25 => ⟨S1x128, .f32⟩
  | 26 => ⟨S1x4, .f32⟩
  | 27 => ⟨S1x4, .f32⟩
  | 28 => ⟨S1x1024, .f32⟩
  | 29 => ⟨S9x1024, .f32⟩
  | 30 => ⟨S_, .i32⟩
  | 31 => ⟨S_, .f32⟩
  | 32 => ⟨S1x1024, .f32⟩
  | 33 => ⟨S_, .i32⟩
  | 34 => ⟨S_, .f32⟩
  | 35 => ⟨S1x1024, .f32⟩
  | 36 => ⟨S_, .f32⟩
  | 37 => ⟨S1x128, .f32⟩
  | 38 => ⟨S4, .f32⟩
  | 39 => ⟨S_, .i32⟩
  | 40 => ⟨S1, .i32⟩
  | 41 => ⟨S_, .i32⟩
  | 42 => ⟨S1, .i32⟩
  | 43 => ⟨S2, .i32⟩
  | 44 => ⟨S1x128, .f32⟩
  | 45 => ⟨S_, .i32⟩
  | 46 => ⟨S_, .f32⟩
  | 47 => ⟨S1x1024, .f32⟩
  | 48 => ⟨S_, .f32⟩
  | 49 => ⟨S1x128, .f32⟩
  | 50 => ⟨S4, .f32⟩
  | 51 => ⟨S_, .i32⟩
  | 52 => ⟨S1, .i32⟩
  | 53 => ⟨S_, .i32⟩
  | 54 => ⟨S1, .i32⟩
  | 55 => ⟨S2, .i32⟩
  | 56 => ⟨S1x128, .f32⟩
  | 57 => ⟨S_, .i32⟩
  | 58 => ⟨S_, .f32⟩
  | 59 => ⟨S1x1024, .f32⟩
  | 60 => ⟨S_, .f32⟩
  | 61 => ⟨S7x1024, .f32⟩
  | 62 => ⟨S24x1024, .f32⟩
  | 63 => ⟨S1x1024, .f32⟩
  | 64 => ⟨S9x1024, .f32⟩
  | 65 => ⟨S_, .i32⟩
  | 66 => ⟨S_, .f32⟩
  | 67 => ⟨S1x1024, .f32⟩
  | 68 => ⟨S_, .i32⟩
  | 69 => ⟨S_, .f32⟩
  | 70 => ⟨S1x1024, .f32⟩
  | 71 => ⟨S_, .f32⟩
  | 72 => ⟨S1x128, .f32⟩
  | 73 => ⟨S4, .f32⟩
  | 74 => ⟨S_, .i32⟩
  | 75 => ⟨S1, .i32⟩
  | 76 => ⟨S_, .i32⟩
  | 77 => ⟨S1, .i32⟩
  | 78 => ⟨S2, .i32⟩
  | 79 => ⟨S1x128, .f32⟩
  | 80 => ⟨S_, .i32⟩
  | 81 => ⟨S_, .f32⟩
  | 82 => ⟨S1x1024, .f32⟩
  | 83 => ⟨S_, .f32⟩
  | 84 => ⟨S1x128, .f32⟩
  | 85 => ⟨S4, .f32⟩
  | 86 => ⟨S_, .i32⟩
  | 87 => ⟨S1, .i32⟩
  | 88 => ⟨S_, .i32⟩
  | 89 => ⟨S1, .i32⟩
  | 90 => ⟨S2, .i32⟩
  | 91 => ⟨S1x128, .f32⟩
  | 92 => ⟨S_, .i32⟩
  | 93 => ⟨S_, .f32⟩
  | 94 => ⟨S1x1024, .f32⟩
  | 95 => ⟨S_, .f32⟩
  | 96 => ⟨S7x1024, .f32⟩
  | 97 => ⟨S24x1024, .f32⟩
  | 98 => ⟨S1x1024, .f32⟩
  | 99 => ⟨S9x1024, .f32⟩
  | 100 => ⟨S_, .i32⟩
  | 101 => ⟨S_, .f32⟩
  | 102 => ⟨S1x1024, .f32⟩
  | 103 => ⟨S_, .i32⟩
  | 104 => ⟨S_, .f32⟩
  | 105 => ⟨S1x1024, .f32⟩
  | 106 => ⟨S_, .f32⟩
  | 107 => ⟨S1x128, .f32⟩
  | 108 => ⟨S4, .f32⟩
  | 109 => ⟨S_, .i32⟩
  | 110 => ⟨S1, .i32⟩
  | 111 => ⟨S_, .i32⟩
  | 112 => ⟨S1, .i32⟩
  | 113 => ⟨S2, .i32⟩
  | 114 => ⟨S1x128, .f32⟩
  | 115 => ⟨S_, .i32⟩
  | 116 => ⟨S_, .f32⟩
  | 117 => ⟨S1x1024, .f32⟩
  | 118 => ⟨S_, .f32⟩
  | 119 => ⟨S1x128, .f32⟩
  | 120 => ⟨S4, .f32⟩
  | 121 => ⟨S_, .i32⟩
  | 122 => ⟨S1, .i32⟩
  | 123 => ⟨S_, .i32⟩
  | 124 => ⟨S1, .i32⟩
  | 125 => ⟨S2, .i32⟩
  | 126 => ⟨S1x128, .f32⟩
  | 127 => ⟨S_, .i32⟩
  | _ => ⟨S8x24x1024, .f32⟩

abbrev hbmTy0_1 (i : Nat) : BufTy := match i % 128 with
  | 0 => ⟨S_, .f32⟩
  | 1 => ⟨S1x1024, .f32⟩
  | 2 => ⟨S_, .f32⟩
  | 3 => ⟨S7x1024, .f32⟩
  | 4 => ⟨S24x1024, .f32⟩
  | 5 => ⟨S24x1024, .f32⟩
  | 6 => ⟨S24x1024, .f32⟩
  | 7 => ⟨S24x1024, .f32⟩
  | 8 => ⟨S24x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1024, .f32⟩
  | 19 => ⟨S1x1024, .f32⟩
  | 20 => ⟨S1024, .f32⟩
  | 21 => ⟨S1x1024, .f32⟩
  | 22 => ⟨S1024, .f32⟩
  | 23 => ⟨S1x1024, .f32⟩
  | 24 => ⟨S1024, .f32⟩
  | _ => ⟨S8x24x1024, .f32⟩

abbrev hbmTy (i : Nat) : BufTy := match i / 128 with
  | 0 => hbmTy0_0 i
  | 1 => hbmTy0_1 i
  | _ => ⟨S8x24x1024, .f32⟩

abbrev bufTy : (tb : Table) → Fin (tcTables nBuf tb) → BufTy
  | .hbm, ⟨i, _⟩ => hbmTy i
  | .local _ .vmem, ⟨0, _⟩ => ⟨S8x24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_c : Ref sig .tc := ⟨.hbm, 30, rfl⟩
abbrev main_call0_v0 : Ref sig .tc := ⟨.hbm, 31, rfl⟩
abbrev main_v2 : Ref sig .tc := ⟨.hbm, 32, rfl⟩
abbrev main_c_0 : Ref sig .tc := ⟨.hbm, 33, rfl⟩
abbrev main_call1_v0 : Ref sig .tc := ⟨.hbm, 34, rfl⟩
abbrev main_v3 : Ref sig .tc := ⟨.hbm, 35, rfl⟩
abbrev main_cst : Ref sig .tc := ⟨.hbm, 36, rfl⟩
abbrev main_v4 : Ref sig .tc := ⟨.hbm, 37, rfl⟩
abbrev main_v5 : Ref sig .tc := ⟨.hbm, 38, rfl⟩
abbrev main_c_1 : Ref sig .tc := ⟨.hbm, 39, rfl⟩
abbrev main_v6 : Ref sig .tc := ⟨.hbm, 40, rfl⟩
abbrev main_c_2 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_c_3 : Ref sig .tc := ⟨.hbm, 45, rfl⟩
abbrev main_call2_v0 : Ref sig .tc := ⟨.hbm, 46, rfl⟩
abbrev main_v10 : Ref sig .tc := ⟨.hbm, 47, rfl⟩
abbrev main_cst_4 : Ref sig .tc := ⟨.hbm, 48, rfl⟩
abbrev main_v11 : Ref sig .tc := ⟨.hbm, 49, rfl⟩
abbrev main_v12 : Ref sig .tc := ⟨.hbm, 50, rfl⟩
abbrev main_c_5 : Ref sig .tc := ⟨.hbm, 51, rfl⟩
abbrev main_v13 : Ref sig .tc := ⟨.hbm, 52, rfl⟩
abbrev main_c_6 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_c_7 : Ref sig .tc := ⟨.hbm, 57, rfl⟩
abbrev main_call3_v0 : Ref sig .tc := ⟨.hbm, 58, rfl⟩
abbrev main_v17 : Ref sig .tc := ⟨.hbm, 59, rfl⟩
abbrev main_cst_8 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_c_9 : Ref sig .tc := ⟨.hbm, 65, rfl⟩
abbrev main_call4_v0 : Ref sig .tc := ⟨.hbm, 66, rfl⟩
abbrev main_v22 : Ref sig .tc := ⟨.hbm, 67, rfl⟩
abbrev main_c_10 : Ref sig .tc := ⟨.hbm, 68, rfl⟩
abbrev main_call5_v0 : Ref sig .tc := ⟨.hbm, 69, rfl⟩
abbrev main_v23 : Ref sig .tc := ⟨.hbm, 70, rfl⟩
abbrev main_cst_11 : Ref sig .tc := ⟨.hbm, 71, rfl⟩
abbrev main_v24 : Ref sig .tc := ⟨.hbm, 72, rfl⟩
abbrev main_v25 : Ref sig .tc := ⟨.hbm, 73, rfl⟩
abbrev main_c_12 : Ref sig .tc := ⟨.hbm, 74, rfl⟩
abbrev main_v26 : Ref sig .tc := ⟨.hbm, 75, rfl⟩
abbrev main_c_13 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_14 : Ref sig .tc := ⟨.hbm, 80, rfl⟩
abbrev main_call6_v0 : Ref sig .tc := ⟨.hbm, 81, rfl⟩
abbrev main_v30 : Ref sig .tc := ⟨.hbm, 82, rfl⟩
abbrev main_cst_15 : Ref sig .tc := ⟨.hbm, 83, rfl⟩
abbrev main_v31 : Ref sig .tc := ⟨.hbm, 84, rfl⟩
abbrev main_v32 : Ref sig .tc := ⟨.hbm, 85, rfl⟩
abbrev main_c_16 : Ref sig .tc := ⟨.hbm, 86, rfl⟩
abbrev main_v33 : Ref sig .tc := ⟨.hbm, 87, rfl⟩
abbrev main_c_17 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_c_18 : Ref sig .tc := ⟨.hbm, 92, rfl⟩
abbrev main_call7_v0 : Ref sig .tc := ⟨.hbm, 93, rfl⟩
abbrev main_v37 : Ref sig .tc := ⟨.hbm, 94, rfl⟩
abbrev main_cst_19 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_c_20 : Ref sig .tc := ⟨.hbm, 100, rfl⟩
abbrev main_call8_v0 : Ref sig .tc := ⟨.hbm, 101, rfl⟩
abbrev main_v42 : Ref sig .tc := ⟨.hbm, 102, rfl⟩
abbrev main_c_21 : Ref sig .tc := ⟨.hbm, 103, rfl⟩
abbrev main_call9_v0 : Ref sig .tc := ⟨.hbm, 104, rfl⟩
abbrev main_v43 : Ref sig .tc := ⟨.hbm, 105, rfl⟩
abbrev main_cst_22 : Ref sig .tc := ⟨.hbm, 106, rfl⟩
abbrev main_v44 : Ref sig .tc := ⟨.hbm, 107, rfl⟩
abbrev main_v45 : Ref sig .tc := ⟨.hbm, 108, rfl⟩
abbrev main_c_23 : Ref sig .tc := ⟨.hbm, 109, rfl⟩
abbrev main_v46 : Ref sig .tc := ⟨.hbm, 110, rfl⟩
abbrev main_c_24 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_c_25 : Ref sig .tc := ⟨.hbm, 115, rfl⟩
abbrev main_call10_v0 : Ref sig .tc := ⟨.hbm, 116, rfl⟩
abbrev main_v50 : Ref sig .tc := ⟨.hbm, 117, rfl⟩
abbrev main_cst_26 : Ref sig .tc := ⟨.hbm, 118, rfl⟩
abbrev main_v51 : Ref sig .tc := ⟨.hbm, 119, rfl⟩
abbrev main_v52 : Ref sig .tc := ⟨.hbm, 120, rfl⟩
abbrev main_c_27 : Ref sig .tc := ⟨.hbm, 121, rfl⟩
abbrev main_v53 : Ref sig .tc := ⟨.hbm, 122, rfl⟩
abbrev main_c_28 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_c_29 : Ref sig .tc := ⟨.hbm, 127, rfl⟩
abbrev main_call11_v0 : Ref sig .tc := ⟨.hbm, 128, rfl⟩
abbrev main_v57 : Ref sig .tc := ⟨.hbm, 129, rfl⟩
abbrev main_cst_30 : Ref sig .tc := ⟨.hbm, 130, rfl⟩
abbrev main_v58 : Ref sig .tc := ⟨.hbm, 131, rfl⟩
abbrev main_v59 : Ref sig .tc := ⟨.hbm, 132, rfl⟩
abbrev main_v60_0 : Ref sig .tc := ⟨.hbm, 133, rfl⟩
abbrev main_v60_1 : Ref sig .tc := ⟨.hbm, 134, rfl⟩
abbrev main_v60_2 : Ref sig .tc := ⟨.hbm, 135, rfl⟩
abbrev main_v60_3 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference10Ideal.lean ====
abbrev S8x24x1024 : Shape := ⟨3, ![8, 24, 1024]⟩
abbrev S1x1024 : Shape := ⟨2, ![1, 1024]⟩
abbrev S1024 : Shape := ⟨1, ![1024]⟩
abbrev S1x9216 : Shape := ⟨2, ![1, 9216]⟩
abbrev S1x512 : Shape := ⟨2, ![1, 512]⟩
abbrev S1x128 : Shape := ⟨2, ![1, 128]⟩
abbrev S1x4 : Shape := ⟨2, ![1, 4]⟩
abbrev S8x1x1024 : Shape := ⟨3, ![8, 1, 1024]⟩
abbrev S8x1024 : Shape := ⟨2, ![8, 1024]⟩
abbrev S_ : Shape := ⟨0, ![]⟩

abbrev nBuf : Space → Nat
  | .hbm => 141
  | .vmem => 0
  | .smem => 0
  | _ => 0

abbrev hbmTy0_0 (i : Nat) : BufTy := match i % 128 with
  | 0 => ⟨S8x24x1024, .f32⟩
  | 1 => ⟨S1x1024, .f32⟩
  | 2 => ⟨S1x1024, .f32⟩
  | 3 => ⟨S1x1024, .f32⟩
  | 4 => ⟨S1024, .f32⟩
  | 5 => ⟨S1x9216, .f32⟩
  | 6 => ⟨S1x512, .f32⟩
  | 7 => ⟨S1x128, .f32⟩
  | 8 => ⟨S1x4, .f32⟩
  | 9 => ⟨S1x4, .f32⟩
  | 10 => ⟨S1x1024, .f32⟩
  | 11 => ⟨S1x1024, .f32⟩
  | 12 => ⟨S1x1024, .f32⟩
  | 13 => ⟨S1024, .f32⟩
  | 14 => ⟨S1x9216, .f32⟩
  | 15 => ⟨S1x512, .f32⟩
  | 16 => ⟨S1x128, .f32⟩
  | 17 => ⟨S1x4, .f32⟩
  | 18 => ⟨S1x4, .f32⟩
  | 19 => ⟨S1x1024, .f32⟩
  | 20 => ⟨S1x1024, .f32⟩
  | 21 => ⟨S1x1024, .f32⟩
  | 22 => ⟨S1024, .f32⟩
  | 23 => ⟨S1x9216, .f32⟩
  | 24 => ⟨S1x512, .f32⟩
  | 25 => ⟨S1x128, .f32⟩
  | 26 => ⟨S1x4, .f32⟩
  | 27 => ⟨S1x4, .f32⟩
  | 28 => ⟨S8x1x1024, .f32⟩
  | 29 => ⟨S8x1024, .f32⟩
  | 30 => ⟨S_, .f32⟩
  | 31 => ⟨S1024, .f32⟩
  | 32 => ⟨S1x1024, .f32⟩
  | 33 => ⟨S_, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S8x1x1024, .f32⟩
  | 67 => ⟨S8x1024, .f32⟩
  | 68 => ⟨S_, .f32⟩
  | 69 => ⟨S1024, .f32⟩
  | 70 => ⟨S1x1024, .f32⟩
  | 71 => ⟨S_, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S8x1x1024, .f32⟩
  | 105 => ⟨S8x1024, .f32⟩
  | 106 => ⟨S_, .f32⟩
  | 107 => ⟨S1024, .f32⟩
  | 108 => ⟨S_, .f32⟩
  | 109 => ⟨S1024, .f32⟩
  | 110 => ⟨S1024, .f32⟩
  | 111 => ⟨S_, .f32⟩
  | 112 => ⟨S1024, .f32⟩
  | 113 => ⟨S1024, .f32⟩
  | 114 => ⟨S1024, .f32⟩
  | 115 => ⟨S_, .f32⟩
  | 116 => ⟨S1024, .f32⟩
  | 117 => ⟨S1024, .f32⟩
  | 118 => ⟨S1024, .f32⟩
  | 119 => ⟨S_, .f32⟩
  | 120 => ⟨S1024, .f32⟩
  | 121 => ⟨S1024, .f32⟩
  | 122 => ⟨S1024, .f32⟩
  | 123 => ⟨S_, .f32⟩
  | 124 => ⟨S1024, .f32⟩
  | 125 => ⟨S1024, .f32⟩
  | 126 => ⟨S_, .f32⟩
  | 127 => ⟨S1024, .f32⟩
  | _ => ⟨S8x24x1024, .f32⟩

abbrev hbmTy0_1 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S_, .f32⟩
  | 7 => ⟨S1024, .f32⟩
  | 8 => ⟨S1024, .f32⟩
  | 9 => ⟨S1024, .f32⟩
  | 10 => ⟨S_, .f32⟩
  | 11 => ⟨S1024, .f32⟩
  | 12 => ⟨S1024, .f32⟩
  | _ => ⟨S8x24x1024, .f32⟩

abbrev hbmTy (i : Nat) : BufTy := match i / 128 with
  | 0 => hbmTy0_0 i
  | 1 => hbmTy0_1 i
  | _ => ⟨S8x24x1024, .f32⟩

abbrev bufTy : (tb : Table) → Fin (tcTables nBuf tb) → BufTy
  | .hbm, ⟨i, _⟩ => hbmTy i
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_v3 : Ref sig .tc := ⟨.hbm, 32, rfl⟩
abbrev main_cst_0 : Ref sig .tc := ⟨.hbm, 33, rfl⟩
abbrev main_v4 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_2 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_3 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_4 : Ref sig .tc := ⟨.hbm, 48, rfl⟩
abbrev main_v15 : Ref sig .tc := ⟨.hbm, 49, rfl⟩
abbrev main_v16 : Ref sig .tc := ⟨.hbm, 50, rfl⟩
abbrev main_cst_5 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_6 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_7 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_8 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_9 : Ref sig .tc := ⟨.hbm, 68, rfl⟩
abbrev main_v30 : Ref sig .tc := ⟨.hbm, 69, rfl⟩
abbrev main_v31 : Ref sig .tc := ⟨.hbm, 70, rfl⟩
abbrev main_cst_10 : Ref sig .tc := ⟨.hbm, 71, rfl⟩
abbrev main_v32 : Ref sig .tc := ⟨.hbm, 72, rfl⟩
abbrev main_v33 : Ref sig .tc := ⟨.hbm, 73, rfl⟩
abbrev main_cst_11 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_12 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_13 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_14 : Ref sig .tc := ⟨.hbm, 86, rfl⟩
abbrev main_v43 : Ref sig .tc := ⟨.hbm, 87, rfl⟩
abbrev main_v44 : Ref sig .tc := ⟨.hbm, 88, rfl⟩
abbrev main_cst_15 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_16 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_17 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_18 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_19 : Ref sig .tc := ⟨.hbm, 106, rfl⟩
abbrev main_v58 : Ref sig .tc := ⟨.hbm, 107, rfl⟩
abbrev main_cst_20 : Ref sig .tc := ⟨.hbm, 108, rfl⟩
abbrev main_v59 : Ref sig .tc := ⟨.hbm, 109, rfl⟩
abbrev main_v60 : Ref sig .tc := ⟨.hbm, 110, rfl⟩
abbrev main_cst_21 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_22 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_23 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_24 : Ref sig .tc := ⟨.hbm, 123, rfl⟩
abbrev main_v70 : Ref sig .tc := ⟨.hbm, 124, rfl⟩
abbrev main_v71 : Ref sig .tc := ⟨.hbm, 125, rfl⟩
abbrev main_cst_25 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_26 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_27 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_cst_28 : Ref sig .tc := ⟨.hbm, 138, rfl⟩
abbrev main_v81 : Ref sig .tc := ⟨.hbm, 139, rfl⟩
abbrev main_v82 : Ref sig .tc := ⟨.hbm, 140, rfl⟩

abbrev nD : Nat := 1
abbrev τ : Topo := Topo.v7x

variable {F : FTy → Type} [FloatOps F]
-- ==== Kernel11.lean ====
abbrev S4x704x1024 : Shape := ⟨3, ![4, 704, 1024]⟩
abbrev S704x1024 : Shape := ⟨2, ![704, 1024]⟩
abbrev S4x352x1024 : Shape := ⟨3, ![4, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x704x1024, .bf16⟩
  | .hbm, ⟨1, _⟩ => ⟨S704x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference11Ideal.lean ====
abbrev S4x704x1024 : Shape := ⟨3, ![4, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x704x1024, .f32⟩
  | .hbm, ⟨2, _⟩ => ⟨S_, .f32⟩
  | .hbm, ⟨3, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S4x704x1024 : Shape := ⟨3, ![4, 704, 1024]⟩
abbrev S4x352x1024 : Shape := ⟨3, ![4, 352, 1024]⟩
abbrev S1x704x1024 : Shape := ⟨3, ![1, 704, 1024]⟩
abbrev S1x352x1024 : Shape := ⟨3, ![1, 352, 1024]⟩
abbrev S352x1024 : Shape := ⟨2, ![352, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x704x1024, .bf16⟩
  | .hbm, ⟨1, _⟩ => ⟨S4x352x1024, .bf16⟩
  | .hbm, ⟨2, _⟩ => ⟨S4x352x1024, .bf16⟩
  | .local _ .vmem, ⟨0, _⟩ => ⟨S1x704x1024, .bf16⟩
  | .local _ .vmem, ⟨1, _⟩ => ⟨S1x704x1024, .bf16⟩
  | .local _ .vmem, ⟨2, _⟩ => ⟨S1x352x1024, .bf16⟩
  | .local _ .vmem, ⟨3, _⟩ => ⟨S1x352x1024, .bf16⟩
  | .local _ .vmem, ⟨4, _⟩ => ⟨S1x352x1024, .bf16⟩
  | .local _ .vmem, ⟨5, _⟩ => ⟨S1x352x1024, .bf16⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  c0_i32
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4x704x1024 : Shape := ⟨3, ![4, 704, 1024]⟩
abbrev S4x352x1024 : Shape := ⟨3, ![4, 352, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x352x1024, .bf16⟩
  | .hbm, ⟨2, _⟩ => ⟨S4x352x1024, .bf16⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .bf16⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Reals.lean ====
module
public import Idealize.ShloMosaic.Lib.Pointwise
public import Idealize.ShloMosaic.Lib.IdealHost
@[expose] public section
/-!
Facts about the extended reals that the value claims of this certificate share: which values are real
numbers, the logistic function in its two spellings, the derivative of `silu` in its two spellings, and
the root mean square of a row.
-/
noncomputable section
namespace Cert.Reals
open Idealize.ShloMosaic

/-- An extended real that is a real number. -/
def IsR (x : EReal) : Prop := ∃ r : ℝ, x = r

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y) := by
  rintro ⟨a, rfl⟩ ⟨b, rfl⟩; exact ⟨a + b, (EReal.coe_add a b).symm⟩
theorem IsR.mul {x y : EReal} : IsR x → IsR y → IsR (x * y) := by
  rintro ⟨a, rfl⟩ ⟨b, rfl⟩; exact ⟨a * b, (EReal.coe_mul a b).symm⟩
theorem IsR.neg {x : EReal} : IsR x → IsR (-x) := by
  rintro ⟨a, rfl⟩; exact ⟨-a, (EReal.coe_neg a).symm⟩
theorem IsR.sub {x y : EReal} : IsR x → IsR y → IsR (x - y) := by
  rintro ⟨a, rfl⟩ ⟨b, rfl⟩; exact ⟨a - b, (EReal.coe_sub a b).symm⟩
theorem IsR.sum {ι : Type} (s : Finset ι) {f : ι → EReal} (h : ∀ i, IsR (f i)) : IsR (∑ i ∈ s, f i) := by
  classical
  induction s using Finset.induction_on with
  | empty => exact ⟨0, by simp⟩
  | insert a s ha ih => rw [Finset.sum_insert ha]; exact (h a).add ih
theorem isR_iff {x : EReal} : IsR x ↔ x ≠ ⊥ ∧ x ≠ ⊤ := by
  induction x using EReal.rec with
  | bot => simp [IsR]
  | top => simp [IsR]
  | coe r => simp [IsR]
/-- A value whose magnitude is below infinity is a real number. -/
theorem IsR.of_abs {x : EReal} (h : max x (-x) < ⊤) : IsR x := by
  rw [isR_iff]
  constructor <;> rintro rfl <;> simp at h

theorem half_eq : Ideal.ofBits FTy.f32 0x3F000000#32 = ((1 / 2 : ℝ) : EReal) := by
  simp [Ideal.ofBits, Ideal.ieee]
  rw [← EReal.coe_mul]; norm_num
theorem neg_half_eq : Ideal.ofBits FTy.f32 0xBF000000#32 = ((-1 / 2 : ℝ) : EReal) := by
  simp [Ideal.ofBits, Ideal.ieee]
  rw [← EReal.coe_mul]; norm_num
theorem kilo_eq : Ideal.ofBits FTy.f32 0x44800000#32 = ((1024 : ℝ) : EReal) := by
  simp [Ideal.ofBits, Ideal.ieee]
  rw [← EReal.coe_mul]; norm_num
theorem eps_eq : ∃ e : ℝ, 0 < e ∧ Ideal.ofBits FTy.f32 0x358637BD#32 = (e : EReal) := by
  refine ⟨_, ?_, by simp [Ideal.ofBits, Ideal.ieee]; rfl⟩
  norm_num

/-- The quotient of a real number by one that is not zero. -/
theorem div_coe (a b : ℝ) (hb : b ≠ 0) : Ideal.div (a : EReal) (b : EReal) = ((a / b : ℝ) : EReal) := by
  have : (b : EReal) ≠ 0 := by exact_mod_cast hb
  rw [Ideal.div, if_neg this, ← EReal.coe_inv, ← EReal.coe_mul, div_eq_mul_inv]

/-- The logistic function by the hyperbolic tangent: the same at every extended real. -/
theorem tanh_logistic (a : EReal) :
    ((1 / 2 : ℝ) : EReal) * Ideal.tanh (((1 / 2 : ℝ) : EReal) * a) + ((1 / 2 : ℝ) : EReal) = Ideal.logistic a := by
  induction a using EReal.rec with
  | bot =>
    rw [EReal.coe_mul_bot_of_pos (by norm_num), Ideal.tanh_bot, Ideal.logistic_bot,
      mul_neg_one, ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    have hp : 0 < Real.exp (r / 2) := Real.exp_pos _
    have hn : 0 < Real.exp (-(r / 2)) := Real.exp_pos _
    have e1 : Real.exp (-r) = Real.exp (-(r / 2)) * Real.exp (-(r / 2)) := by
      rw [← Real.exp_add]; congr 1; ring
    have e2 : Real.exp (r / 2) * Real.exp (-(r / 2)) = 1 := by
      rw [← Real.exp_add]; simp
    rw [Real.tanh_eq_sinh_div_cosh, Real.sinh_eq, Real.cosh_eq, e1, show (1 / 2 : ℝ) * r = r / 2 by ring]
    set p := Real.exp (r / 2)
    set q := Real.exp (-(r / 2))
    have h1 : (p + q) ≠ 0 := by positivity
    have h2 : (1 + q * q) ≠ 0 := by positivity
    field_simp
    nlinarith [e2]

/-- The constant one half of the texts. -/
def half : EReal := Ideal.ofBits FTy.f32 0x3F000000#32
/-- The constant one of the texts. -/
def one : EReal := Ideal.ofBits FTy.f32 0x3F800000#32
/-- The logistic function as the kernels write it. -/
def sg (a : EReal) : EReal := half * Ideal.tanh (half * a) + half

theorem sg_logistic (a : EReal) : sg a = Ideal.logistic a := by
  unfold sg half
  rw [half_eq]; exact tanh_logistic a
theorem half_isR : IsR half := by unfold half; rw [half_eq]; exact IsR.coe _
theorem one_eq : one = 1 := Ideal.ofBits_one_f32

/-- The logistic function of a real number is one. -/
theorem logistic_isR (a : EReal) : IsR (Ideal.logistic a) := by
  induction a using EReal.rec with
  | bot => exact ⟨0, by simp⟩
  | top => exact ⟨1, by simp⟩
  | coe r => exact ⟨_, Ideal.logistic_coe r⟩

/-- The gradient of `silu a * b` in `a`, in the two spellings: equal at every `a` where the others are real. -/
theorem silu_grad (a d b : EReal) (hd : IsR d) (hb : IsR b) :
    d * (b * (Ideal.logistic a * (1 + a * (1 - Ideal.logistic a)))) =
      d * b * Ideal.logistic a + a * (d * b) * (Ideal.logistic a * (1 - Ideal.logistic a)) := by
  obtain ⟨d, rfl⟩ := hd
  obtain ⟨b, rfl⟩ := hb
  induction a using EReal.rec with
  | bot => simp
  | top =>
    rw [Ideal.logistic_top, show (1 : EReal) - 1 = 0 from EReal.sub_self (EReal.coe_ne_top 1) (EReal.coe_ne_bot 1)]; simp
  | coe r =>
    obtain ⟨s, hs⟩ := logistic_isR (r : EReal)
    rw [hs]
    norm_cast
    ring

theorem top_of_sum_sq {ι : Type} [Fintype ι] (x : ι → EReal) (h : ¬ ∀ i, IsR (x i)) : ∑ i, x i * x i = ⊤ := by
  obtain ⟨i, hi⟩ := not_forall.mp h
  have nn : ∀ j, 0 ≤ x j * x j := fun j => by
    rcases le_total 0 (x j) with h | h
    · exact mul_nonneg h h
    · have h' := EReal.neg_nonneg.2 h
      rw [← neg_mul_neg]; exact mul_nonneg h' h'
  refine top_le_iff.mp (le_trans (le_of_eq ?_) (Finset.single_le_sum (fun j _ => nn j) (Finset.mem_univ i)))
  rw [isR_iff, not_and_or, not_not, not_not] at hi
  rcases hi with e | e <;> rw [e] <;> simp

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The mean square of a row plus a positive number: the row is real and so is this, positive, or this is infinite. -/
theorem row_cases {ι : Type} [Fintype ι] (x : ι → EReal) (n e : ℝ) (hn : 0 < n) (he : 0 < e) :
    ((∀ i, IsR (x i)) ∧ ∃ s : ℝ, 0 < s ∧ Ideal.div (∑ i, x i * x i) (n : EReal) + (e : EReal) = s)
      ∨ Ideal.div (∑ i, x i * x i) (n : EReal) + (e : EReal) = ⊤ := by
  by_cases h : ∀ i, IsR (x i)
  · left
    choose f hf using h
    refine ⟨fun i => ⟨f i, hf i⟩, (∑ i, f i * f i) / n + e, add_pos_of_nonneg_of_pos (div_nonneg (Finset.sum_nonneg fun i _ => mul_self_nonneg _) hn.le) he, ?_⟩
    simp only [hf]
    simp only [← EReal.coe_mul]
    rw [coe_sum, div_coe _ _ hn.ne', EReal.coe_add]
  · right
    have : (n : EReal) ≠ 0 := by exact_mod_cast hn.ne'
    rw [top_of_sum_sq x h, Ideal.div, if_neg this, ← EReal.coe_inv, EReal.top_mul_coe_of_pos (by positivity)]
    exact EReal.top_add_coe e

theorem rsqrt_top : Ideal.rsqrt ⊤ = 0 := rfl
theorem rsqrt_pos {s : ℝ} (h : 0 < s) : Ideal.rsqrt (s : EReal) = (((Real.sqrt s)⁻¹ : ℝ) : EReal) := by
  change (if s < 0 then ⊥ else if s = 0 then ⊤ else (((Real.sqrt s)⁻¹ : ℝ) : EReal)) = _
  rw [if_neg (not_lt.2 h.le), if_neg h.ne']

/-- A row over its root mean square is real, whatever the row. -/
theorem row_norm_isR {ι : Type} [Fintype ι] (x : ι → EReal) (n e : ℝ) (hn : 0 < n) (he : 0 < e) (i : ι) :
    IsR (x i * Ideal.rsqrt (Ideal.div (∑ i, x i * x i) (n : EReal) + (e : EReal))) := by
  rcases row_cases x n e hn he with ⟨hx, s, hs, eq⟩ | eq
  · rw [eq, rsqrt_pos hs]; exact (hx i).mul (IsR.coe _)
  · rw [eq, rsqrt_top, mul_zero]; exact IsR.zero

/-- A real factor moves out of a sum when it is not negative. -/
theorem pos_mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- The row of a block, an eighth and a place in it, over the three of them: every row once. -/
theorem sum_rows {N M : ℕ} (hM : M = N * 512) (F : Fin M → EReal) (idx : Fin 8 → Fin N → Fin 64 → Fin M)
    (h : ∀ y t x, (idx y t x).val = t.val * 512 + (x.val * 8 + y.val)) : ∑ y, ∑ t, ∑ x, F (idx y t x) = ∑ n, F n := by
  let e : Fin 8 × Fin N × Fin 64 ≃ Fin M :=
    { toFun := fun p => idx p.1 p.2.1 p.2.2
      invFun := fun n => (⟨n.val % 8, by omega⟩, ⟨n.val / 512, by have := n.isLt; omega⟩, ⟨n.val % 512 / 8, by omega⟩)
      left_inv := fun ⟨y, t, x⟩ => by
        have := h y t x
        have := y.isLt
        have := x.isLt
        refine Prod.ext (Fin.ext ?_) (Prod.ext (Fin.ext ?_) (Fin.ext ?_))
        · show (idx y t x).val % 8 = y.val
          omega
        · show (idx y t x).val / 512 = t.val
          omega
        · show (idx y t x).val % 512 / 8 = x.val
          omega
      right_inv := fun n => Fin.ext (by
        refine (h _ _ _).trans ?_
        show n.val / 512 * 512 + (n.val % 512 / 8 * 8 + n.val % 8) = n.val
        omega) }
  rw [← Fintype.sum_equiv e (fun p => F (idx p.1 p.2.1 p.2.2)) F fun _ => rfl]
  simp only [Fintype.sum_prod_type]
/-- The gradient of a row over its root mean square, in two spellings: by one mean of the cotangent along the
row, and as differentiation term by term gives it. They agree at every row where the cotangent is real. -/
theorem norm_grad {ι : Type} [Fintype ι] (x d : ι → EReal) (o : EReal) (n e : ℝ) (hn : 0 < n) (he : 0 < e) (hd : ∀ i, IsR (d i)) (k : ι)
    (S R q : EReal) (hS : S = Ideal.div (∑ i, x i * x i) (n : EReal) + (e : EReal)) (hR : R = Ideal.rsqrt S)
    (hq : q = Ideal.div ((∑ i, x i * d i) * (((-1 / 2 : ℝ) : EReal) * Ideal.div R S)) (n : EReal)) :
    o + R * (d k - x k * R * Ideal.div (∑ i, d i * (x i * R)) (n : EReal)) = o + d k * R + x k * q + q * x k := by
  have hn' : (n : EReal) ≠ 0 := by exact_mod_cast hn.ne'
  rcases row_cases x n e hn he with ⟨hx, s, hs, eq⟩ | eq
  · rw [eq] at hS
    subst hS
    rw [rsqrt_pos hs] at hR
    choose f hf using hx
    choose g hg using hd
    have h2 : ((Real.sqrt s)⁻¹) * ((Real.sqrt s)⁻¹) = s⁻¹ := by rw [← mul_inv, Real.mul_self_sqrt hs.le]
    generalize (Real.sqrt s)⁻¹ = ρ at hR h2
    subst hR
    rw [div_coe _ _ hs.ne'] at hq
    simp only [hf, hg, ← EReal.coe_mul, coe_sum, div_coe _ _ hn.ne'] at hq ⊢
    subst hq
    rw [add_assoc, add_assoc]
    refine congrArg (o + ·) ?_
    rw [← EReal.coe_mul, ← EReal.coe_mul, ← EReal.coe_add, ← EReal.coe_add, ← EReal.coe_sub, ← EReal.coe_mul]
    refine congrArg _ ?_
    have e1 : (∑ i, g i * (f i * ρ)) = (∑ i, f i * g i) * ρ := by
      rw [Finset.sum_mul]; exact Finset.sum_congr rfl fun i _ => by ring
    rw [e1, div_eq_mul_inv ρ s, ← h2]
    field_simp
    ring
  · rw [eq] at hS
    subst hS
    rw [rsqrt_top] at hR
    subst hR
    have h0 : Ideal.div 0 ⊤ = 0 := by rw [Ideal.div, if_neg EReal.top_ne_zero, zero_mul]
    have h1 : Ideal.div 0 (n : EReal) = 0 := by rw [Ideal.div, if_neg hn', zero_mul]
    rw [h0, mul_zero, mul_zero, h1] at hq
    subst hq
    simp
end Cert.Reals
-- ==== Proof.Finite.lean ====
module
public import proofs.«01_k».proof.Proof.Reals
public import Idealize.ShloMosaic.Lib.ReduceAll
public import Idealize.ShloMosaic.Lib.StableHlo
@[expose] public section
/-! A precondition's `jnp.all(jnp.abs(v) < inf)`, read back: every element of `v` is a real number. -/
noncomputable section
namespace Cert.Reals
open Idealize.ShloMosaic

theorem isR_of_all {s t u : Shape} {axes : List (Fin s.rank)} [Subsingleton t.Idx] {v : FVec Ideal s .f32} {w : FVec Ideal s .f32}
    {init : u.Idx → BitVec 1} {h : s.ReducesTo axes t} {hu : 0 < u.numel} {j : t.Idx}
    (e : Host.reduce IntOp.andi (cmpf .olt (Host.absf v) w) init h hu j = 1#1) (hw : ∀ i, w i = Ideal.ofBits .f32 0x7F800000#32)
    (i : s.Idx) : IsR (v i) := by
  have := Host.reduce_andi_all _ _ _ _ _ e i
  refine IsR.of_abs ?_
  have ht : Ideal.ofBits .f32 0x7F800000#32 = ⊤ := by simp [Ideal.ofBits, Ideal.ieee]
  have hc : FloatOps.cmpf (F := Ideal) CmpFPredicate.olt (Host.absf v i) (w i) = 1#1 := this
  rw [hw i, ht] at hc
  change Ideal.cmp .olt (max (v i) (-v i)) ⊤ = 1#1 at hc
  by_contra hlt
  simp [Ideal.cmp, hlt] at hc
end Cert.Reals
-- ==== Proof.GateGrad.lean ====
module
public import proofs.«01_k».proof.Proof.Gen.KernelIdeal.Frame
public import Idealize.ShloMosaic.Lib.Pipeline.ValueKit
public import Idealize.ShloMosaic.Lib.Pointwise
public import Idealize.ShloMosaic.Lib.ValueIdx
public import Idealize.ShloMosaic.Lib.ValueIdxCore
@[expose] public section
/-!
The gradient of the feed-forward gate, region by blocks of 512 rows: what each output array holds after the last
block, by the arrays the region finds. The gate's own gradient is kept as eight partial sums, row `y` of which sums
the rows `8 x + y` of every block.
-/
set_option maxRecDepth 16384
noncomputable section
namespace Cert.KernelIdeal.Hand
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- The block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 2, 0] ∧ win0_6.index t = ![t.val, 0]
    ∧ win0_7.index t = ![t.val, 0] ∧ win0_8.index t = ![t.val, 0] ∧ win0_9.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 2, 0] ∧ win0_6.index t = ![t.val, 0]
    ∧ win0_7.index t = ![t.val, 0] ∧ win0_8.index t = ![t.val, 0] ∧ win0_9.index t = ![0, 0])

theorem point_lt (t : Fin cfg0.N) : t.val < 16 := lt_of_lt_of_eq t.isLt (show cfg0.N = 16 from N_0)

/-- A point is the first of its grid or follows another. -/
theorem cases (t : Fin cfg0.N) : (t.val % 16 = 0 ∧ ¬ 1 ≤ t.val) ∨ (¬ t.val % 16 = 0 ∧ 1 ≤ t.val) := by
  have := point_lt t
  omega

/-- Row `i` of block `t`. -/
def row (t : Fin cfg0.N) (i : Fin 512) : Fin 8192 := ⟨t.val * 512 + i.val, by have := point_lt t; omega⟩

theorem row_val (t : Fin cfg0.N) (i : Fin 512) : (row t i).val = t.val * 512 + i.val := rfl

/-- What the region finds in the arrays behind its windows. -/
@[irreducible] def dxo (c : Dev nD) : S8192x1024.Idx → EReal := V m c main_arg8
@[irreducible] def fwd (c : Dev nD) : S8192x1024.Idx → EReal := V m c main_v44
@[irreducible] def sa (c : Dev nD) : S8192x2816.Idx → EReal := V m c main_v45
@[irreducible] def ga (c : Dev nD) : S8192x2816.Idx → EReal := V m c main_v42
@[irreducible] def gate (c : Dev nD) : S1x1024.Idx → EReal := V m c main_arg4
@[irreducible] def wall (c : Dev nD) : S4x2112x1024.Idx → EReal := V m c main_v6

theorem blk0 (c : Dev nD) (t : Fin cfg0.N) (i : Fin 512) (j : Fin 1024) :
    iblk m c 0 t (ix2 i j) = dxo m c (ix2 (row t i) j) := by
  have e : ((cfg0.win 0).blk t).view.emb (ix2 i j) = ix2 (row t i) j := by blk_ext [idx t, row_val]
  unfold iblk dxo; exact congrArg (V m c main_arg8) e
theorem blk1 (c : Dev nD) (t : Fin cfg0.N) (i : Fin 512) (j : Fin 1024) :
    iblk m c 1 t (ix2 i j) = fwd m c (ix2 (row t i) j) := by
  have e : ((cfg0.win 1).blk t).view.emb (ix2 i j) = ix2 (row t i) j := by blk_ext [idx t, row_val]
  unfold iblk fwd; exact congrArg (V m c main_v44) e
theorem blk2 (c : Dev nD) (t : Fin cfg0.N) (i : Fin 512) (j : Fin 2816) :
    iblk m c 2 t (ix2 i j) = sa m c (ix2 (row t i) j) := by
  have e : ((cfg0.win 2).blk t).view.emb (ix2 i j) = ix2 (row t i) j := by blk_ext [idx t, row_val]
  unfold iblk sa; exact congrArg (V m c main_v45) e
theorem blk3 (c : Dev nD) (t : Fin cfg0.N) (i : Fin 512) (j : Fin 2816) :
    iblk m c 3 t (ix2 i j) = ga m c (ix2 (row t i) j) := by
  have e : ((cfg0.win 3).blk t).view.emb (ix2 i j) = ix2 (row t i) j := by blk_ext [idx t, row_val]
  unfold iblk ga; exact congrArg (V m c main_v42) e
theorem blk4 (c : Dev nD) (t : Fin cfg0.N) (i : Fin 1) (j : Fin 1024) :
    iblk m c 4 t (ix2 i j) = gate m c (ix2 i j) := by
  have e : ((cfg0.win 4).blk t).view.emb (ix2 i j) = ix2 i j := by blk_ext [idx t, row_val]
  unfold iblk gate; exact congrArg (V m c main_arg4) e
theorem blk5 (c : Dev nD) (t : Fin cfg0.N) (k : Fin 4) (i : Fin 704) (j : Fin 1024) :
    iblk m c 5 t (ix3 k i j) = wall m c (ix3 k (⟨1408 + i.val, by omega⟩ : Fin 2112) j) := by
  have e : ((cfg0.win 5).blk t).view.emb (ix3 k i j) = ix3 k (⟨1408 + i.val, by omega⟩ : Fin 2112) j := by blk_ext [idx t, row_val]
  unfold iblk wall; exact congrArg (V m c main_v6) e

theorem emb6 (t : Fin cfg0.N) (i : Fin 512) (j : Fin 2816) :
    ((View.whole main_v46_0).slice (win0_6.rect t)).emb (ix2 i j) = ix2 (row t i) j := by blk_ext [idx t, row_val]
theorem emb7 (t : Fin cfg0.N) (i : Fin 512) (j : Fin 2816) :
    ((View.whole main_v46_1).slice (win0_7.rect t)).emb (ix2 i j) = ix2 (row t i) j := by blk_ext [idx t, row_val]
theorem emb8 (t : Fin cfg0.N) (i : Fin 512) (j : Fin 1024) :
    ((View.whole main_v46_2).slice (win0_8.rect t)).emb (ix2 i j) = ix2 (row t i) j := by blk_ext [idx t, row_val]

/-- The cotangent of the product of the two branches, from the packed weights. -/
def dS (c : Dev nD) (i : Fin 8192) (f : Fin 2816) : EReal :=
  ∑ x : Fin 1024, Ideal.ofBits .f32 0x3F000000#32 * gate m c (ix2 0 x) * dxo m c (ix2 i x)
    * wall m c (ix3 (⟨f.val / 704, by omega⟩ : Fin 4) (⟨1408 + f.val % 704, by omega⟩ : Fin 2112) x)

theorem arr8 (c : Dev nD) : (dats m 0 c).arrAt 8 cfg0.N =
    fun j => Ideal.ofBits .f32 0x3F000000#32 * gate m c (ix2 0 (j 1)) * dxo m c j := by
  refine (dats m 0 c).arrAt_eq_of_covers 8 _ (by decide +kernel) fun t hf y => ?_
  blk_simp
  rw [after0_8]
  have e : (outsAt0 m c t.val t.isLt).2.2.1 = k0_pay6 (iblk m c 0 t) (iblk m c 4 t) := by
    obtain ⟨h0, h1⟩ | ⟨h0, h1⟩ := cases t
    · rw [outsAt0_A m c t h0 h1]; frame_out
    · rw [outsAt0_B m c t h0 h1]; frame_out
  rw [e]
  idx_vars y
  pointwise [k0_pay6]
  rw [emb8, blk4, blk0]
  rfl

/-- The product read at the packed weights' own coordinates. -/
theorem dS_eq (c : Dev nD) (i : Fin 8192) (y : Fin 2816) (k : Fin 4) (l : Fin 2112) (hk : k.val = y.val / 704)
    (hl : l.val = 1408 + y.val % 704) :
    (∑ x : Fin 1024, Ideal.ofBits .f32 0x3F000000#32 * gate m c (ix2 0 x) * dxo m c (ix2 i x) * wall m c (ix3 k l x)) = dS m c i y := by
  unfold dS
  exact Finset.sum_congr rfl fun x _ => congrArg _ (congrArg (wall m c) (by blk_ext [hk, hl]))

theorem arr6 (c : Dev nD) : (dats m 0 c).arrAt 6 cfg0.N = fun j => dS m c (j 0) (j 1) * ga m c j := by
  refine (dats m 0 c).arrAt_eq_of_covers 6 _ (by decide +kernel) fun t hf y => ?_
  blk_simp
  rw [after0_6]
  idx_vars y
  rw [emb6]
  obtain ⟨h0, h1⟩ | ⟨h0, h1⟩ := cases t
  · rw [outsAt0_A m c t h0 h1]
    frame_out
    canon_tiles x h
    · idx_vars x
      obtain rfl := Fin.ext h0
      pointwise [k0_pay2, k0_pay1, k0_pay6]
      simp only [blk0, blk3, blk4, blk5]
      exact congrArg₂ (· * ·) (dS_eq m c _ _ _ _ (by dsimp only; omega) (by dsimp only; omega)) (congrArg _ (by blk_ext []))
    · idx_vars x
      obtain rfl := Fin.ext h0
      pointwise [k0_pay8, k0_pay7, k0_pay6]
      simp only [blk0, blk3, blk4, blk5]
      exact congrArg₂ (· * ·) (dS_eq m c _ _ _ _ (by dsimp only; omega) (by dsimp only; omega)) (congrArg _ (by blk_ext []))
  · rw [outsAt0_B m c t h0 h1]
    frame_out
    canon_tiles x h
    · idx_vars x
      obtain rfl := Fin.ext h0
      pointwise [k0_pay2, k0_pay1, k0_pay6]
      simp only [blk0, blk3, blk4, blk5]
      exact congrArg₂ (· * ·) (dS_eq m c _ _ _ _ (by dsimp only; omega) (by dsimp only; omega)) (congrArg _ (by blk_ext []))
    · idx_vars x
      obtain rfl := Fin.ext h0
      pointwise [k0_pay8, k0_pay7, k0_pay6]
      simp only [blk0, blk3, blk4, blk5]
      exact congrArg₂ (· * ·) (dS_eq m c _ _ _ _ (by dsimp only; omega) (by dsimp only; omega)) (congrArg _ (by blk_ext []))

theorem arr7 (c : Dev nD) : (dats m 0 c).arrAt 7 cfg0.N = fun j => dS m c (j 0) (j 1) * sa m c j := by
  refine (dats m 0 c).arrAt_eq_of_covers 7 _ (by decide +kernel) fun t hf y => ?_
  blk_simp
  rw [after0_7]
  idx_vars y
  rw [emb7]
  obtain ⟨h0, h1⟩ | ⟨h0, h1⟩ := cases t
  · rw [outsAt0_A m c t h0 h1]
    frame_out
    canon_tiles x h
    · idx_vars x
      obtain rfl := Fin.ext h0
      pointwise [k0_pay3, k0_pay1, k0_pay6]
      simp only [blk0, blk2, blk4, blk5]
      exact congrArg₂ (· * ·) (dS_eq m c _ _ _ _ (by dsimp only; omega) (by dsimp only; omega)) (congrArg _ (by blk_ext []))
    · idx_vars x
      obtain rfl := Fin.ext h0
      pointwise [k0_pay9, k0_pay7, k0_pay6]
      simp only [blk0, blk2, blk4, blk5]
      exact congrArg₂ (· * ·) (dS_eq m c _ _ _ _ (by dsimp only; omega) (by dsimp only; omega)) (congrArg _ (by blk_ext []))
  · rw [outsAt0_B m c t h0 h1]
    frame_out
    canon_tiles x h
    · idx_vars x
      obtain rfl := Fin.ext h0
      pointwise [k0_pay3, k0_pay1, k0_pay6]
      simp only [blk0, blk2, blk4, blk5]
      exact congrArg₂ (· * ·) (dS_eq m c _ _ _ _ (by dsimp only; omega) (by dsimp only; omega)) (congrArg _ (by blk_ext []))
    · idx_vars x
      obtain rfl := Fin.ext h0
      pointwise [k0_pay9, k0_pay7, k0_pay6]
      simp only [blk0, blk2, blk4, blk5]
      exact congrArg₂ (· * ·) (dS_eq m c _ _ _ _ (by dsimp only; omega) (by dsimp only; omega)) (congrArg _ (by blk_ext []))

def last : Fin cfg0.N := ⟨15, lt_of_lt_of_eq (by omega : 15 < 16) (show 16 = cfg0.N from N_0.symm)⟩

theorem flush9 : (cfg0.win 9).WholeAt last := by decide +kernel

theorem arr9 (c : Dev nD) : (dats m 0 c).arrAt 9 cfg0.N = fun j => ∑ t : Fin cfg0.N, ∑ x : Fin 64,
      Ideal.ofBits .f32 0x3F000000#32 * fwd m c (ix2 (row t (⟨x.val * 8 + (j 0).val, by have : (j 0).val < 8 := (j 0).isLt; omega⟩ : Fin 512)) (j 1))
        * dxo m c (ix2 (row t (⟨x.val * 8 + (j 0).val, by have : (j 0).val < 8 := (j 0).isLt; omega⟩ : Fin 512)) (j 1)) := by
  refine (dats m 0 c).arrAt_eq_of_after_last 9 last flush9 _ fun j => ?_
  blk_simp
  rw [after0_9]
  refine (Pipeline.eq_sum_fin_of_reset_step_apply_last (fun n h => (outsAt0 m c n h).2.2.2) 16 (fun _ => 0)
    (fun t j => k0_pay5 (iblk m c 0 t) (iblk m c 1 t) j) (fun t h j => ?_) (fun t h j => ?_) (le_of_eq N_0) last (by show 15 + 1 = cfg0.N; exact N_0.symm) _).trans ?_
  · rw [outsAt0_A m c t h (by have := point_lt t; omega)]
    frame_out
    simp
  · rw [outsAt0_B m c t h (by omega)]
    frame_out
    pointwise [k0_pay4]
  · rw [zero_add]
    refine Finset.sum_congr rfl fun t _ => ?_
    idx_vars j
    pointwise [k0_pay5]
    simp only [blk0, blk1]
end Cert.KernelIdeal.Hand
-- ==== Proof.GateGradHost.lean ====
module
public import proofs.«01_k».proof.Proof.Reals
public import proofs.«01_k».proof.Proof.Gen.KernelIdeal.Frame
public import proofs.«01_k».proof.Proof.Gen.ReferenceIdeal.Read
public import Idealize.ShloMosaic.Lib.Pipeline.ValueKit
public import Idealize.ShloMosaic.Lib.Pointwise
public import Idealize.ShloMosaic.Lib.ValueIdx
public import Idealize.ShloMosaic.Lib.ValueIdxCore
public import Idealize.ShloMosaic.Lib.StableHlo.RunRead
@[expose] public section
/-! What the host lines before the region make of the arguments: the saved values of the forward pass, by the
reference's own stages, and the packed weights. -/
set_option maxRecDepth 16384
noncomputable section
namespace Cert.KernelIdeal.Hand
open Cert.KernelIdeal Cert.KernelIdeal.Gen Idealize.ShloMosaic Idealize.ShloMosaic.TcCoe Idealize.SL.Sem
open Cert.ReferenceIdeal.Read Cert.Reals

variable (m : (ℓ : Loc nD τ sig) → Buf (Elt Ideal) ℓ) (c : Dev nD)

/-- The gate branch before its activation. -/
def A : S8192x2816.Idx → EReal := val_main_v18 (F := Ideal) (m (c.tc.loc main_arg0)) (m (c.tc.loc main_arg1)) (m (c.tc.loc main_arg2)) (m (c.tc.loc main_arg3)) (m (c.tc.loc main_arg5))
/-- The other branch. -/
def B : S8192x2816.Idx → EReal := val_main_v19 (F := Ideal) (m (c.tc.loc main_arg0)) (m (c.tc.loc main_arg1)) (m (c.tc.loc main_arg2)) (m (c.tc.loc main_arg3)) (m (c.tc.loc main_arg6))

theorem v45 (j : S8192x2816.Idx) : (V m c main_v45 : S8192x2816.Idx → EReal) j = A m c j * sg (A m c j) := by
  entry_read
  rfl
theorem v42 (j : S8192x2816.Idx) : (V m c main_v42 : S8192x2816.Idx → EReal) j = B m c j * (sg (A m c j) * (one + A m c j * (one - sg (A m c j)))) := by
  entry_read
  rfl
theorem v44 : (V m c main_v44 : S8192x1024.Idx → EReal) = Host.dotGeneral (F := Ideal) (φ₁ := .f32) (φ₂ := .f32) Cert.ReferenceIdeal.dot_S8192x2816_S2816x1024_S8192x1024_1_0_0_1_n_n none (fun j => A m c j * sg (A m c j) * B m c j : FVec Ideal S8192x2816 .f32) (m (c.tc.loc main_arg7)) := by
  entry_read
  rfl
theorem v6 (k : Fin 4) (l : Fin 704) (x : Fin 1024) : (V m c main_v6 : S4x2112x1024.Idx → EReal) (ix3 k (⟨1408 + l.val, by omega⟩ : Fin 2112) x) =
    m (c.tc.loc main_arg7) (ix2 (⟨k.val * 704 + l.val, by omega⟩ : Fin 2816) x) := by
  unfold_abbrev_sides
  after_reads_simp
  pointwise
  rw [dif_neg (by omega), dif_neg (by omega)]
  after_reads_simp
  pointwise
  exact congrArg (fun f => m (c.tc.loc main_arg7) (ix2 f x)) (Fin.ext (show k.val * 704 + (1408 + l.val - 704 - 704) = k.val * 704 + l.val by omega))
end Cert.KernelIdeal.Hand
-- ==== Proof.GateGradRun.lean ====
module
public import proofs.«01_k».proof.Proof.GateGrad
public import Idealize.ShloMosaic.Lib.Claim
public import Idealize.ShloMosaic.Lib.StableHlo.RunRead
@[expose] public section
/-! What the feed-forward gate's gradient leaves in its four results, by the arrays of the region. -/
set_option maxRecDepth 16384
noncomputable section
namespace Cert.KernelIdeal.Hand
open Idealize.ShloMosaic Idealize.ShloMosaic.TcCoe Idealize.SL.Sem Cert.KernelIdeal Cert.KernelIdeal.Gen
variable (m : (ℓ : Loc nD τ sig) → Buf (Elt Ideal) ℓ) (g : Dev nD → PrngReg) (c : Dev nD)

/-- What the run leaves in the four results. -/
theorem run_values : θ_run (defs (F := Ideal)) (onTc (τ := τ) (main (F := Ideal))) ⟨m, fun _ => 0, g⟩ (fun r => ∀ c : Dev nD,
    r.2.mem ((c.tc : Thread nD τ).loc main_v46_0) = (dats m 0 c).arrAt 6 cfg0.N
    ∧ r.2.mem ((c.tc : Thread nD τ).loc main_v46_1) = (dats m 0 c).arrAt 7 cfg0.N
    ∧ r.2.mem ((c.tc : Thread nD τ).loc main_v46_2) = (dats m 0 c).arrAt 8 cfg0.N
    ∧ r.2.mem ((c.tc : Thread nD τ).loc main_v48) = Pipeline.afterTail₀ cfgs (dats m) 0 (V0 m) [hostOps1] c main_v48) :=
  θ_run_mono (run_main m g) fun r h c => ⟨(h c).1 6, (h c).1 7, (h c).1 8, (h c).2 main_v48 (by decide +kernel)⟩

/-- The eight partial sums of the gate's gradient. -/
@[irreducible] def part : S8x1024.Idx → EReal := (dats m 0 c).arrAt 9 cfg0.N

theorem tail : (Pipeline.afterTail₀ cfgs (dats m) 0 (V0 m) [hostOps1] c main_v48 : S1x1024.Idx → EReal) = fun j => ∑ x : Fin 8, part m c (ix2 x (j 1)) := by
  unfold Pipeline.afterTail₀
  have e : Pipeline.withArrays (cfgs 0).spec c (V0 m c) (fun w => (dats m 0 c).arrAt w (cfgs 0).N) (Proc.devRef .tc main_v46_3) = part m c := by
    unfold part
    exact Pipeline.withArrays_arr (cfgs 0).spec (by decide +kernel) c (V0 m c) (fun w => (dats m 0 c).arrAt w (cfgs 0).N) 9
  after_reads_simp
  rw [e]
  funext j
  idx_vars j
  pointwise
end Cert.KernelIdeal.Hand
-- ==== Proof.GateGradClaim.lean ====
module
public import proofs.«01_k».proof.Defs
public import proofs.«01_k».proof.Proof.Finite
public import proofs.«01_k».proof.Proof.GateGrad
public import proofs.«01_k».proof.Proof.GateGradHost
public import proofs.«01_k».proof.Proof.GateGradRun
public import proofs.«01_k».proof.Proof.Gen.ReferenceIdeal.Run
public import proofs.«01_k».proof.Proof.Gen.Pre_finite_a
@[expose] public section
/-!
The gradient of the feed-forward gate: the kernel's four results are the reference's, at finite cotangents.
-/
set_option maxRecDepth 16384
noncomputable section
namespace Cert.KernelIdeal.Hand
open Idealize.ShloMosaic Idealize.ShloMosaic.TcCoe Idealize.SL.Sem Cert.KernelIdeal Cert.KernelIdeal.Gen Cert.Reals
open Cert.ReferenceIdeal.Read
variable (m : (ℓ : Loc nD τ sig) → Buf (Elt Ideal) ℓ) (c : Dev nD)

theorem finite [Cert.Pre_finite_a.Facts] (h : Pre_KernelIdeal_finite_a m) (c : Dev nD) :
    (∀ i, IsR ((m (c.tc.loc main_arg1) : S1x1024.Idx → EReal) i)) ∧ (∀ i, IsR ((m (c.tc.loc main_arg2) : S1x1024.Idx → EReal) i))
      ∧ (∀ i, IsR ((m (c.tc.loc main_arg3) : S1x1024.Idx → EReal) i)) ∧ (∀ i, IsR ((m (c.tc.loc main_arg4) : S1x1024.Idx → EReal) i))
      ∧ (∀ i, IsR ((m (c.tc.loc main_arg6) : S1024x2816.Idx → EReal) i)) ∧ (∀ i, IsR ((m (c.tc.loc main_arg7) : S2816x1024.Idx → EReal) i))
      ∧ (∀ i, IsR ((m (c.tc.loc main_arg8) : S8192x1024.Idx → EReal) i)) := by
  have e := congrFun (h c) ix0
  simp only [Pre_finite_a.fn, Pre_finite_a.fn_part1, Pre_finite_a.fn_part2, andi, IntOp.andi_eq_one] at e
  obtain ⟨⟨⟨⟨⟨⟨⟨-, e1⟩, e2⟩, e3⟩, e4⟩, e6⟩, e7⟩, e8⟩ := e
  exact ⟨isR_of_all e1 fun _ => rfl, isR_of_all e2 fun _ => rfl, isR_of_all e3 fun _ => rfl, isR_of_all e4 fun _ => rfl,
    isR_of_all e6 fun _ => rfl, isR_of_all e7 fun _ => rfl, isR_of_all e8 fun _ => rfl⟩

section
variable (x0 : S8192x1024.Idx → EReal) (x1 x2 x3 x4 : S1x1024.Idx → EReal) (x5 x6 : S1024x2816.Idx → EReal)
  (x7 : S2816x1024.Idx → EReal) (x8 : S8192x1024.Idx → EReal)

/-- The modulated norm of any `x` is real. -/
theorem norm_isR (h1 : ∀ i, IsR (x1 i)) (h2 : ∀ i, IsR (x2 i)) (h3 : ∀ i, IsR (x3 i)) (i : Fin 8192) (k : Fin 1024) :
    IsR (val_main_v17 (F := Ideal) x0 x1 x2 x3 (ix2 i k)) := by
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
  obtain ⟨e, he, ee⟩ := eps_eq
  rw [kilo_eq, ee]
  exact (((row_norm_isR (fun x => x0 (ix2 i x)) 1024 e (by norm_num) he k).mul (h3 _)).mul (IsR.one.add (h2 _))).add (h1 _)

theorem up_isR (h1 : ∀ i, IsR (x1 i)) (h2 : ∀ i, IsR (x2 i)) (h3 : ∀ i, IsR (x3 i)) (h6 : ∀ i, IsR (x6 i)) (i : Fin 8192) (f : Fin 2816) :
    IsR (val_main_v19 (F := Ideal) x0 x1 x2 x3 x6 (ix2 i f)) := by
  pointwise [val_main_v19]
  exact IsR.sum _ fun k => (norm_isR x0 x1 x2 x3 h1 h2 h3 i k).mul (h6 _)

/-- The cotangent of the product of the two branches. -/
theorem back_eq (i : Fin 8192) (f : Fin 2816) : val_main_v35 (F := Ideal) x4 x7 x8 (ix2 i f) =
    ∑ x : Fin 1024, Ideal.ofBits .f32 0x3F000000#32 * x4 (ix2 0 x) * x8 (ix2 i x) * x7 (ix2 f x) := by
  pointwise [val_main_v35, val_main_v29, val_main_v28, val_main_v24, val_main_v23, val_main_cst_3]

theorem back_isR (h4 : ∀ i, IsR (x4 i)) (h7 : ∀ i, IsR (x7 i)) (h8 : ∀ i, IsR (x8 i)) (i : Fin 8192) (f : Fin 2816) :
    IsR (val_main_v35 (F := Ideal) x4 x7 x8 (ix2 i f)) := by
  rw [back_eq]
  exact IsR.sum _ fun k => ((half_isR.mul (h4 _)).mul (h8 _)).mul (h7 _)

/-- The reference's logistic. -/
theorem sig_eq (j : S8192x2816.Idx) : val_main_v20_2 (F := Ideal) x0 x1 x2 x3 x5 j = Ideal.logistic (val_main_v18 (F := Ideal) x0 x1 x2 x3 x5 j) := by
  rw [val_main_v20_2_apply, val_main_call0_v4_apply, val_main_call0_v3_apply, val_main_call0_v2_apply, val_main_call0_v1_apply,
    val_main_call0_v0_apply, val_main_call0_cst_apply, val_main_call0_cst_0_apply]
  simp [Ideal.logistic]

/-- The gradient of the gate branch. -/
theorem da_eq (h1 : ∀ i, IsR (x1 i)) (h2 : ∀ i, IsR (x2 i)) (h3 : ∀ i, IsR (x3 i)) (h4 : ∀ i, IsR (x4 i)) (h6 : ∀ i, IsR (x6 i))
    (h7 : ∀ i, IsR (x7 i)) (h8 : ∀ i, IsR (x8 i)) (i : Fin 8192) (f : Fin 2816) :
    (val_main_v39 (F := Ideal) x0 x1 x2 x3 x4 x5 x6 x7 x8 : S8192x2816.Idx → EReal) (ix2 i f) =
      (val_main_v35 (F := Ideal) x4 x7 x8 : S8192x2816.Idx → EReal) (ix2 i f) *
        ((val_main_v19 (F := Ideal) x0 x1 x2 x3 x6 : S8192x2816.Idx → EReal) (ix2 i f) *
          (sg ((val_main_v18 (F := Ideal) x0 x1 x2 x3 x5 : S8192x2816.Idx → EReal) (ix2 i f)) *
            (one + (val_main_v18 (F := Ideal) x0 x1 x2 x3 x5 : S8192x2816.Idx → EReal) (ix2 i f) *
              (one - sg ((val_main_v18 (F := Ideal) x0 x1 x2 x3 x5 : S8192x2816.Idx → EReal) (ix2 i f)))))) := by
  rw [sg_logistic, show one = 1 from Ideal.ofBits_one_f32, silu_grad _ _ _ (back_isR x4 x7 x8 h4 h7 h8 i f) (up_isR x0 x1 x2 x3 x6 h1 h2 h3 h6 i f)]
  simp only [val_main_v39_apply, val_main_v38_apply, val_main_call1_v2_apply, val_main_call1_v1_apply, val_main_call1_v0_apply, val_main_v37_apply, val_main_v20_1_apply, val_main_call0_v7_apply, val_main_call0_v6_apply, val_main_call0_cst_1_apply, sig_eq]
  simp

/-- The gradient of the other branch. -/
theorem db_eq (i : Fin 8192) (f : Fin 2816) :
    (val_main_v40 (F := Ideal) x0 x1 x2 x3 x4 x5 x7 x8 : S8192x2816.Idx → EReal) (ix2 i f) =
      (val_main_v35 (F := Ideal) x4 x7 x8 : S8192x2816.Idx → EReal) (ix2 i f) *
        ((val_main_v18 (F := Ideal) x0 x1 x2 x3 x5 : S8192x2816.Idx → EReal) (ix2 i f) *
          sg ((val_main_v18 (F := Ideal) x0 x1 x2 x3 x5 : S8192x2816.Idx → EReal) (ix2 i f))) := by
  rw [sg_logistic, mul_comm]
  simp only [val_main_v40_apply, val_main_v36_apply, val_main_v20_0_apply, sig_eq]
  simp

theorem df_eq (i : Fin 8192) (k : Fin 1024) :
    (val_main_v41 (F := Ideal) x4 x8 : S8192x1024.Idx → EReal) (ix2 i k) =
      Ideal.ofBits .f32 0x3F000000#32 * x4 (ix2 0 k) * x8 (ix2 i k) := by
  pointwise [val_main_v41, val_main_v29, val_main_v28, val_main_v24, val_main_v23, val_main_cst_3]

theorem dgate_eq (k : Fin 1024) :
    (val_main_v34 (F := Ideal) x0 x1 x2 x3 x5 x6 x7 x8 : S1x1024.Idx → EReal) (ix2 0 k) =
      Ideal.ofBits .f32 0x3F000000#32 * ∑ n : Fin 8192, x8 (ix2 n k) * (val_main_v22 (F := Ideal) x0 x1 x2 x3 x5 x6 x7 : S8192x1024.Idx → EReal) (ix2 n k) := by
  pointwise [val_main_v34, val_main_v33, val_main_v32, val_main_v31, val_main_v30, val_main_cst_4, val_main_cst_5]

/-- The forward product under the kernel's logistic is the reference's. -/
theorem fwd_eq : (V m c main_v44 : S8192x1024.Idx → EReal) = val_main_v22 (F := Ideal) (m (c.tc.loc main_arg0)) (m (c.tc.loc main_arg1)) (m (c.tc.loc main_arg2)) (m (c.tc.loc main_arg3)) (m (c.tc.loc main_arg5)) (m (c.tc.loc main_arg6)) (m (c.tc.loc main_arg7)) := by
  rw [v44]
  unfold val_main_v22
  refine congrArg (fun u => Host.dotGeneral (F := Ideal) (φ₁ := .f32) (φ₂ := .f32) (so := _) _ none u _) (funext fun j => ?_)
  rw [val_main_v21_apply, val_main_v20_0_apply, sig_eq, sg_logistic]
  rfl

theorem dS_val (i : Fin 8192) (f : Fin 2816) : dS m c i f =
    (val_main_v35 (F := Ideal) (m (c.tc.loc main_arg4)) (m (c.tc.loc main_arg7)) (m (c.tc.loc main_arg8)) : S8192x2816.Idx → EReal) (ix2 i f) := by
  rw [back_eq]
  unfold dS gate dxo wall
  refine Finset.sum_congr rfl fun x _ => congrArg₂ (· * ·) ?_ ?_
  · entry_read
    rfl
  · rw [show (⟨1408 + f.val % 704, by omega⟩ : Fin 2112) = ⟨1408 + (⟨f.val % 704, Nat.mod_lt _ (by omega)⟩ : Fin 704).val, by omega⟩ from rfl, v6]
    exact congrArg (fun f => m (c.tc.loc main_arg7) (ix2 f x)) (Fin.ext (show f.val / 704 * 704 + f.val % 704 = f.val by omega))
end
theorem da_val (h : Pre_KernelIdeal_finite_a m) : ((dats m 0 c).arrAt 6 cfg0.N : S8192x2816.Idx → EReal) =
    val_main_v39 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  obtain ⟨h1, h2, h3, h4, h6, h7, h8⟩ := finite m h c
  rw [arr6]
  funext j
  idx_vars j
  rw [da_eq _ _ _ _ _ _ _ _ _ h1 h2 h3 h4 h6 h7 h8]
  unfold ga
  exact congrArg₂ (· * ·) (dS_val m c _ _) (v42 m c _)

theorem db_val : ((dats m 0 c).arrAt 7 cfg0.N : S8192x2816.Idx → EReal) =
    val_main_v40 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg7)) (m (c.tc.loc main_arg8)) := by
  rw [arr7]
  funext j
  idx_vars j
  rw [db_eq]
  unfold sa
  exact congrArg₂ (· * ·) (dS_val m c _ _) (v45 m c _)

theorem df_val : ((dats m 0 c).arrAt 8 cfg0.N : S8192x1024.Idx → EReal) =
    val_main_v41 (F := Ideal) (m (c.tc.loc main_arg4)) (m (c.tc.loc main_arg8)) := by
  rw [arr8]
  funext j
  idx_vars j
  rw [df_eq]
  unfold gate dxo
  entry_read
  rfl

theorem dgate_val : (Pipeline.afterTail₀ cfgs (dats m) 0 (V0 m) [hostOps1] c main_v48 : S1x1024.Idx → EReal) =
    val_main_v34 (F := Ideal) (m (c.tc.loc main_arg0)) (m (c.tc.loc main_arg1)) (m (c.tc.loc main_arg2)) (m (c.tc.loc main_arg3)) (m (c.tc.loc main_arg5)) (m (c.tc.loc main_arg6)) (m (c.tc.loc main_arg7)) (m (c.tc.loc main_arg8)) := by
  rw [tail]
  funext j
  idx_vars j
  obtain rfl : j0 = 0 := Subsingleton.elim _ _
  rw [dgate_eq, half_eq, pos_mul_sum _ _ _ (by norm_num), ← half_eq]
  have e : ∀ y : Fin 8, part m c (ix2 y j1) = ∑ t : Fin cfg0.N, ∑ x : Fin 64,
      (fun n : Fin 8192 => Ideal.ofBits .f32 0x3F000000#32 * fwd m c (ix2 n j1) * dxo m c (ix2 n j1))
        ((fun (y : Fin 8) (t : Fin cfg0.N) (x : Fin 64) => row t (⟨x.val * 8 + y.val, by omega⟩ : Fin 512)) y t x) :=
    fun y => by unfold part; rw [arr9]; rfl
  refine (Finset.sum_congr rfl fun y _ => e y).trans ((sum_rows (show 8192 = cfg0.N * 512 by rw [show cfg0.N = 16 from N_0])
    (fun n => Ideal.ofBits .f32 0x3F000000#32 * fwd m c (ix2 n j1) * dxo m c (ix2 n j1))
    (fun (y : Fin 8) (t : Fin cfg0.N) (x : Fin 64) => row t (⟨x.val * 8 + y.val, by omega⟩ : Fin 512)) fun y t x => row_val _ _).trans ?_)
  refine Finset.sum_congr rfl fun n _ => ?_
  show Ideal.ofBits .f32 0x3F000000#32 * fwd m c (ix2 n j1) * dxo m c (ix2 n j1) = _
  have e8 : (V m c main_arg8 : S8192x1024.Idx → EReal) = m (c.tc.loc main_arg8) := by
    entry_read
    rfl
  unfold fwd dxo
  rw [fwd_eq, e8, mul_assoc]
  exact congrArg (fun z : EReal => Ideal.ofBits FTy.f32 0x3F000000#32 * z) (EReal.mul_comm _ _)

/-- The reference's run, its results as the stages of its text. -/
theorem ref_values (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v39) = val_main_v39 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8))
      ∧ r.2.mem ((c.tc : Thread Cert.ReferenceIdeal.nD Cert.ReferenceIdeal.τ).loc Cert.ReferenceIdeal.main_v40) = val_main_v40 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg7)) (m' (c.tc.loc Cert.ReferenceIdeal.main_arg8))
      ∧ r.2.mem ((c.tc : Thread Cert.ReferenceIdeal.nD Cert.ReferenceIdeal.τ).loc Cert.ReferenceIdeal.main_v41) = val_main_v41 (F := Ideal) (m' (c.tc.loc Cert.ReferenceIdeal.main_arg4)) (m' (c.tc.loc Cert.ReferenceIdeal.main_arg8))
      ∧ r.2.mem ((c.tc : Thread Cert.ReferenceIdeal.nD Cert.ReferenceIdeal.τ).loc Cert.ReferenceIdeal.main_v34) = val_main_v34 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  θ_run_mono (Cert.ReferenceIdeal.Value.run m' g') fun r h c =>
    ⟨(h c).1.trans (val_main_v39_eq m' c), (h c).2.1.trans (val_main_v40_eq _ _ _ _ _ _ _ _), (h c).2.2.1.trans (val_main_v41_eq _ _),
      (h c).2.2.2.1.trans (val_main_v34_eq _ _ _ _ _ _ _ _), (h c).2.2.2.2⟩

theorem algebraic : Cert.algebraic_KernelIdeal_ReferenceIdeal_pre_finite_a := by
  intro m g m' g' hpre hagree
  refine ⟨fun c => val_main_v39 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)),
    fun c => val_main_v40 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg7)) (m (c.tc.loc main_arg8)),
    fun c => val_main_v41 (F := Ideal) (m (c.tc.loc main_arg4)) (m (c.tc.loc main_arg8)),
    fun c => val_main_v34 (F := Ideal) (m (c.tc.loc main_arg0)) (m (c.tc.loc main_arg1)) (m (c.tc.loc main_arg2)) (m (c.tc.loc main_arg3)) (m (c.tc.loc main_arg5)) (m (c.tc.loc main_arg6)) (m (c.tc.loc main_arg7)) (m (c.tc.loc main_arg8)),
    θ_run_mono (θ_run_and (run_values m g) (unchanged m g)) fun r h c => ?_, θ_run_mono (ref_values m' g') fun r h c => ?_⟩
  · exact ⟨(h.1 c).1.trans (da_val m c hpre), (h.1 c).2.1.trans (db_val m c), (h.1 c).2.2.1.trans (df_val m c), (h.1 c).2.2.2.trans (dgate_val m c), h.2 c⟩
  · obtain ⟨a0, a1, a2, a3, a4, a5, a6, a7, a8⟩ := hagree c
    have h := h c
    rw [a0, a1, a2, a3, a4, a5, a6, a7, a8] at h
    rw [a0, a1, a2, a3, a4, a5, a6, a7, a8]
    exact h
end Cert.KernelIdeal.Hand
-- ==== Proof.NormGrad.lean ====
module
public import proofs.«01_k».proof.Proof.Gen.Kernel2Ideal.Frame
public import Idealize.ShloMosaic.Lib.Pipeline.ValueKit
public import Idealize.ShloMosaic.Lib.Pointwise
public import Idealize.ShloMosaic.Lib.ValueIdx
public import Idealize.ShloMosaic.Lib.ValueIdxCore
@[expose] public section
/-!
The gradient of the feed-forward norm, region by blocks of 512 rows: what each output array holds after the
last block, by the arrays the region finds. The three column sums are kept as eight partial sums, row `y` of
which sums the rows `8 x + y` of every block.
-/
set_option maxRecDepth 16384
noncomputable section
namespace Cert.Kernel2Ideal.Hand
open Cert.Kernel2Ideal Cert.Kernel2Ideal.Gen Idealize.ShloMosaic Idealize.ShloMosaic.TcCoe Idealize.SL.Sem
open Idealize.ShloMosaic.Pipeline (Dat)
variable (m : (ℓ : Loc nD τ sig) → Buf (Elt Ideal) ℓ)

/-- The block each window holds at point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0, 0] ∧ win0_8.index t = ![0, 1, 0] ∧ win0_9.index t = ![t.val, 0] ∧ win0_10.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0, 0] ∧ win0_8.index t = ![0, 1, 0] ∧ win0_9.index t = ![t.val, 0] ∧ win0_10.index t = ![t.val, 0])

theorem point_lt (t : Fin cfg0.N) : t.val < 16 := lt_of_lt_of_eq t.isLt (show cfg0.N = 16 from N_0)

/-- A point is the first of its grid or follows another. -/
theorem cases (t : Fin cfg0.N) : (t.val % 16 = 0 ∧ ¬ 1 ≤ t.val) ∨ (¬ t.val % 16 = 0 ∧ 1 ≤ t.val) := by
  have := point_lt t
  omega

/-- Row `i` of block `t`. -/
def row (t : Fin cfg0.N) (i : Fin 512) : Fin 8192 := ⟨t.val * 512 + i.val, by have := point_lt t; omega⟩

theorem row_val (t : Fin cfg0.N) (i : Fin 512) : (row t i).val = t.val * 512 + i.val := rfl

/-- The arrays the region finds. -/
@[irreducible] def dxo (c : Dev nD) : S8192x1024.Idx → EReal := V m c main_arg6
@[irreducible] def xs (c : Dev nD) : S8192x1024.Idx → EReal := V m c main_arg0
@[irreducible] def da (c : Dev nD) : S8192x2816.Idx → EReal := V m c main_arg7
@[irreducible] def db (c : Dev nD) : S8192x2816.Idx → EReal := V m c main_arg8
@[irreducible] def shift (c : Dev nD) : S1x1024.Idx → EReal := V m c main_arg1
@[irreducible] def scale (c : Dev nD) : S1x1024.Idx → EReal := V m c main_arg2
@[irreducible] def gain (c : Dev nD) : S1x1024.Idx → EReal := V m c main_arg3
@[irreducible] def wall (c : Dev nD) : S4x2112x1024.Idx → EReal := V m c main_v7

theorem blk0 (c : Dev nD) (t : Fin cfg0.N) (i : Fin 512) (j : Fin 1024) :
    iblk m c 0 t (ix2 i j) = dxo m c (ix2 (row t i) j) := by
  have e : ((cfg0.win 0).blk t).view.emb (ix2 i j) = ix2 (row t i) j := by blk_ext [idx t, row_val]
  unfold iblk dxo; exact congrArg (V m c main_arg6) e
theorem blk1 (c : Dev nD) (t : Fin cfg0.N) (i : Fin 512) (j : Fin 1024) :
    iblk m c 1 t (ix2 i j) = xs m c (ix2 (row t i) j) := by
  have e : ((cfg0.win 1).blk t).view.emb (ix2 i j) = ix2 (row t i) j := by blk_ext [idx t, row_val]
  unfold iblk xs; exact congrArg (V m c main_arg0) e
theorem blk2 (c : Dev nD) (t : Fin cfg0.N) (i : Fin 512) (j : Fin 2816) :
    iblk m c 2 t (ix2 i j) = da m c (ix2 (row t i) j) := by
  have e : ((cfg0.win 2).blk t).view.emb (ix2 i j) = ix2 (row t i) j := by blk_ext [idx t, row_val]
  unfold iblk da; exact congrArg (V m c main_arg7) e
theorem blk3 (c : Dev nD) (t : Fin cfg0.N) (i : Fin 512) (j : Fin 2816) :
    iblk m c 3 t (ix2 i j) = db m c (ix2 (row t i) j) := by
  have e : ((cfg0.win 3).blk t).view.emb (ix2 i j) = ix2 (row t i) j := by blk_ext [idx t, row_val]
  unfold iblk db; exact congrArg (V m c main_arg8) e
theorem blk4 (c : Dev nD) (t : Fin cfg0.N) (i : Fin 1) (j : Fin 1024) :
    iblk m c 4 t (ix2 i j) = shift m c (ix2 i j) := by
  have e : ((cfg0.win 4).blk t).view.emb (ix2 i j) = ix2 i j := by blk_ext [idx t, row_val]
  unfold iblk shift; exact congrArg (V m c main_arg1) e
theorem blk5 (c : Dev nD) (t : Fin cfg0.N) (i : Fin 1) (j : Fin 1024) :
    iblk m c 5 t (ix2 i j) = scale m c (ix2 i j) := by
  have e : ((cfg0.win 5).blk t).view.emb (ix2 i j) = ix2 i j := by blk_ext [idx t, row_val]
  unfold iblk scale; exact congrArg (V m c main_arg2) e
theorem blk6 (c : Dev nD) (t : Fin cfg0.N) (i : Fin 1) (j : Fin 1024) :
    iblk m c 6 t (ix2 i j) = gain m c (ix2 i j) := by
  have e : ((cfg0.win 6).blk t).view.emb (ix2 i j) = ix2 i j := by blk_ext [idx t, row_val]
  unfold iblk gain; exact congrArg (V m c main_arg3) e
theorem blk7 (c : Dev nD) (t : Fin cfg0.N) (k : Fin 4) (i : Fin 704) (j : Fin 1024) :
    iblk m c 7 t (ix3 k i j) = wall m c (ix3 k (⟨i.val, by omega⟩ : Fin 2112) j) := by
  have e : ((cfg0.win 7).blk t).view.emb (ix3 k i j) = ix3 k (⟨i.val, by omega⟩ : Fin 2112) j := by blk_ext [idx t, row_val]
  unfold iblk wall; exact congrArg (V m c main_v7) e
theorem blk8 (c : Dev nD) (t : Fin cfg0.N) (k : Fin 4) (i : Fin 704) (j : Fin 1024) :
    iblk m c 8 t (ix3 k i j) = wall m c (ix3 k (⟨704 + i.val, by omega⟩ : Fin 2112) j) := by
  have e : ((cfg0.win 8).blk t).view.emb (ix3 k i j) = ix3 k (⟨704 + i.val, by omega⟩ : Fin 2112) j := by blk_ext [idx t, row_val]
  unfold iblk wall; exact congrArg (V m c main_v7) e

theorem emb9 (t : Fin cfg0.N) (i : Fin 512) (j : Fin 1024) :
    ((View.whole main_v8_0).slice (win0_9.rect t)).emb (ix2 i j) = ix2 (row t i) j := by blk_ext [idx t, row_val]
theorem emb10 (t : Fin cfg0.N) (i : Fin 512) (j : Fin 1024) :
    ((View.whole main_v8_1).slice (win0_10.rect t)).emb (ix2 i j) = ix2 (row t i) j := by blk_ext [idx t, row_val]

/-- The gradient of the modulated norm, from the packed weights. -/
@[irreducible] def dh (c : Dev nD) (i : Fin 8192) (k : Fin 1024) : EReal :=
  (∑ f : Fin 2816, da m c (ix2 i f) * wall m c (ix3 (⟨f.val / 704, by omega⟩ : Fin 4) (⟨f.val % 704, by omega⟩ : Fin 2112) k))
    + ∑ f : Fin 2816, db m c (ix2 i f) * wall m c (ix3 (⟨f.val / 704, by omega⟩ : Fin 4) (⟨704 + f.val % 704, by omega⟩ : Fin 2112) k)

/-- One over the root mean square of a row. -/
@[irreducible] def rs (c : Dev nD) (i : Fin 8192) : EReal :=
  Ideal.rsqrt (Ideal.div (∑ k : Fin 1024, xs m c (ix2 i k) * xs m c (ix2 i k)) (Ideal.ofBits .f32 0x44800000#32) + Ideal.ofBits .f32 0x358637BD#32)

/-- The gradient of the normalised row. -/
def dn (c : Dev nD) (i : Fin 8192) (k : Fin 1024) : EReal := dh m c i k * (Ideal.ofBits .f32 0x3F800000#32 + scale m c (ix2 0 k)) * gain m c (ix2 0 k)

section
variable (c : Dev nD) (t : Fin cfg0.N) (i : Fin 512) (k : Fin 1024)

/-- What a block computes, row by row. -/
theorem dh_blk : k0_pay1 (k0_pay14 (iblk m c 2 t) (iblk m c 7 t)) (iblk m c 3 t) (k0_pay15 (iblk m c 8 t)) (ix2 i k) = dh m c (row t i) k := by
  pointwise [k0_pay1, k0_pay14, k0_pay15]
  simp only [blk2, blk3, blk7, blk8]
  unfold dh
  exact congrArg₂ (· + ·) (Finset.sum_congr rfl fun x _ => congrArg _ (congrArg (wall m c) (by blk_ext [])))
    (Finset.sum_congr rfl fun x _ => congrArg _ (congrArg (wall m c) (by blk_ext [])))

theorem rs_blk (z : Fin 1) : k0_pay10 (iblk m c 1 t) (ix2 i z) = rs m c (row t i) := by
  pointwise [k0_pay10]
  simp only [blk1]
  unfold rs
  rfl

theorem n_blk : k0_pay11 (iblk m c 1 t) (ix2 i k) = xs m c (ix2 (row t i) k) * rs m c (row t i) := by
  pointwise [k0_pay11]
  rw [rs_blk, blk1]

theorem y_blk : k0_pay12 (iblk m c 6 t) (iblk m c 1 t) (ix2 i k) = xs m c (ix2 (row t i) k) * rs m c (row t i) * gain m c (ix2 0 k) := by
  pointwise [k0_pay12]
  rw [n_blk, blk6]

theorem dy_blk : k0_pay2 (iblk m c 5 t) (k0_pay14 (iblk m c 2 t) (iblk m c 7 t)) (iblk m c 3 t) (k0_pay15 (iblk m c 8 t)) (ix2 i k)
    = dh m c (row t i) k * (Ideal.ofBits .f32 0x3F800000#32 + scale m c (ix2 0 k)) := by
  pointwise [k0_pay2]
  rw [dh_blk, blk5]
end

theorem arr10 (c : Dev nD) : (dats m 0 c).arrAt 10 cfg0.N =
    fun j => xs m c j * rs m c (j 0) * gain m c (ix2 0 (j 1)) * (Ideal.ofBits .f32 0x3F800000#32 + scale m c (ix2 0 (j 1))) + shift m c (ix2 0 (j 1)) := by
  refine (dats m 0 c).arrAt_eq_of_covers 10 _ (by decide +kernel) fun t hf y => ?_
  blk_simp
  rw [after0_10]
  have e : (outsAt0 m c t.val t.isLt).2.1 = k0_pay13 (iblk m c 6 t) (iblk m c 5 t) (iblk m c 1 t) (iblk m c 4 t) := by
    obtain ⟨h0, h1⟩ | ⟨h0, h1⟩ := cases t
    · rw [outsAt0_A m c t h0 h1]; frame_out
    · rw [outsAt0_B m c t h0 h1]; frame_out
  rw [e]
  idx_vars y
  pointwise [k0_pay13]
  rw [emb10, y_blk, blk4, blk5]
  rfl

theorem arr9 (c : Dev nD) : (dats m 0 c).arrAt 9 cfg0.N =
    fun j => dxo m c j + rs m c (j 0) * (dn m c (j 0) (j 1) - xs m c j * rs m c (j 0)
      * Ideal.div (∑ k : Fin 1024, dn m c (j 0) k * (xs m c (ix2 (j 0) k) * rs m c (j 0))) (Ideal.ofBits .f32 0x44800000#32)) := by
  refine (dats m 0 c).arrAt_eq_of_covers 9 _ (by decide +kernel) fun t hf y => ?_
  blk_simp
  rw [after0_9]
  have e : (outsAt0 m c t.val t.isLt).1 = k0_pay6 (iblk m c 6 t) (iblk m c 5 t) (k0_pay10 (iblk m c 1 t)) (k0_pay11 (iblk m c 1 t))
      (k0_pay14 (iblk m c 2 t) (iblk m c 7 t)) (iblk m c 3 t) (k0_pay15 (iblk m c 8 t)) (iblk m c 0 t) := by
    obtain ⟨h0, h1⟩ | ⟨h0, h1⟩ := cases t
    · rw [outsAt0_A m c t h0 h1]; frame_out
    · rw [outsAt0_B m c t h0 h1]; frame_out
  rw [e]
  idx_vars y
  pointwise [k0_pay6]
  rw [emb9]
  simp only [blk0, rs_blk, dy_blk, blk6, n_blk]
  rfl

def last : Fin cfg0.N := ⟨15, lt_of_lt_of_eq (by omega : 15 < 16) (show 16 = cfg0.N from N_0.symm)⟩

theorem flush11 : (cfg0.win 11).WholeAt last := by decide +kernel
theorem flush12 : (cfg0.win 12).WholeAt last := by decide +kernel
theorem flush13 : (cfg0.win 13).WholeAt last := by decide +kernel

/-- The row of block `t` that goes into partial sum `y` as its summand `x`. -/
def sub8 (t : Fin cfg0.N) (x : Fin 64) (y : Fin 8) : Fin 8192 := row t (⟨x.val * 8 + y.val, by omega⟩ : Fin 512)

theorem arr11 (c : Dev nD) : (dats m 0 c).arrAt 11 cfg0.N = fun j => ∑ t : Fin cfg0.N, ∑ x : Fin 64, dh m c (sub8 t x (j 0)) (j 1) := by
  refine (dats m 0 c).arrAt_eq_of_after_last 11 last flush11 _ fun j => ?_
  blk_simp
  rw [after0_11]
  refine (Pipeline.eq_sum_fin_of_reset_step_apply_last (fun n h => (outsAt0 m c n h).2.2.1) 16 (fun _ => 0)
    (fun t j => k0_pay3 (k0_pay14 (iblk m c 2 t) (iblk m c 7 t)) (iblk m c 3 t) (k0_pay15 (iblk m c 8 t)) j) (fun t h j => ?_) (fun t h j => ?_) (le_of_eq N_0) last (by show 15 + 1 = cfg0.N; exact N_0.symm) _).trans ?_
  · rw [outsAt0_A m c t h (by have := point_lt t; omega)]
    frame_out
    simp
  · rw [outsAt0_B m c t h (by omega)]
    frame_out
    pointwise [k0_pay7]
  · rw [zero_add]
    refine Finset.sum_congr rfl fun t _ => ?_
    idx_vars j
    pointwise [k0_pay3]
    simp only [dh_blk]
    rfl

theorem arr12 (c : Dev nD) : (dats m 0 c).arrAt 12 cfg0.N = fun j => ∑ t : Fin cfg0.N, ∑ x : Fin 64,
    dh m c (sub8 t x (j 0)) (j 1) * (xs m c (ix2 (sub8 t x (j 0)) (j 1)) * rs m c (sub8 t x (j 0)) * gain m c (ix2 0 (j 1))) := by
  refine (dats m 0 c).arrAt_eq_of_after_last 12 last flush12 _ fun j => ?_
  blk_simp
  rw [after0_12]
  refine (Pipeline.eq_sum_fin_of_reset_step_apply_last (fun n h => (outsAt0 m c n h).2.2.2.1) 16 (fun _ => 0)
    (fun t j => k0_pay4 (k0_pay12 (iblk m c 6 t) (iblk m c 1 t)) (k0_pay14 (iblk m c 2 t) (iblk m c 7 t)) (iblk m c 3 t) (k0_pay15 (iblk m c 8 t)) j) (fun t h j => ?_) (fun t h j => ?_) (le_of_eq N_0) last (by show 15 + 1 = cfg0.N; exact N_0.symm) _).trans ?_
  · rw [outsAt0_A m c t h (by have := point_lt t; omega)]
    frame_out
    simp
  · rw [outsAt0_B m c t h (by omega)]
    frame_out
    pointwise [k0_pay8]
  · rw [zero_add]
    refine Finset.sum_congr rfl fun t _ => ?_
    idx_vars j
    pointwise [k0_pay4]
    simp only [dh_blk, y_blk]
    rfl

theorem arr13 (c : Dev nD) : (dats m 0 c).arrAt 13 cfg0.N = fun j => ∑ t : Fin cfg0.N, ∑ x : Fin 64,
    dh m c (sub8 t x (j 0)) (j 1) * (Ideal.ofBits .f32 0x3F800000#32 + scale m c (ix2 0 (j 1))) * (xs m c (ix2 (sub8 t x (j 0)) (j 1)) * rs m c (sub8 t x (j 0))) := by
  refine (dats m 0 c).arrAt_eq_of_after_last 13 last flush13 _ fun j => ?_
  blk_simp
  rw [after0_13]
  refine (Pipeline.eq_sum_fin_of_reset_step_apply_last (fun n h => (outsAt0 m c n h).2.2.2.2) 16 (fun _ => 0)
    (fun t j => k0_pay5 (iblk m c 5 t) (k0_pay11 (iblk m c 1 t)) (k0_pay14 (iblk m c 2 t) (iblk m c 7 t)) (iblk m c 3 t) (k0_pay15 (iblk m c 8 t)) j) (fun t h j => ?_) (fun t h j => ?_) (le_of_eq N_0) last (by show 15 + 1 = cfg0.N; exact N_0.symm) _).trans ?_
  · rw [outsAt0_A m c t h (by have := point_lt t; omega)]
    frame_out
    simp
  · rw [outsAt0_B m c t h (by omega)]
    frame_out
    pointwise [k0_pay9]
  · rw [zero_add]
    refine Finset.sum_congr rfl fun t _ => ?_
    idx_vars j
    pointwise [k0_pay5]
    simp only [dy_blk, n_blk]
    rw [Ideal.ofBits_one_f32]
    rfl
end Cert.Kernel2Ideal.Hand
-- ==== Proof.NormGradRef.lean ====
module
public import proofs.«01_k».proof.Proof.Reals
public import proofs.«01_k».proof.Proof.NormGrad
public import proofs.«01_k».proof.Proof.Gen.Reference2Ideal.Run
public import proofs.«01_k».proof.Proof.Gen.Reference2Ideal.Read
public import Idealize.ShloMosaic.Lib.StableHlo.RunRead
@[expose] public section
/-! The reference's stages of the norm's gradient in the kernel's terms. -/
set_option maxRecDepth 16384
noncomputable section
namespace Cert.Kernel2Ideal.Hand
open Idealize.ShloMosaic Idealize.ShloMosaic.TcCoe Idealize.SL.Sem Cert.Kernel2Ideal Cert.Kernel2Ideal.Gen Cert.Reals
open Cert.Reference2Ideal.Read
variable (m : (ℓ : Loc nD τ sig) → Buf (Elt Ideal) ℓ) (c : Dev nD)

/-- Of the packed weights the first part of a chunk is the gate's and the second the other branch's. -/
theorem v7_gate (k : Fin 4) (l : Fin 704) (x : Fin 1024) : (V m c main_v7 : S4x2112x1024.Idx → EReal) (ix3 k (⟨l.val, by omega⟩ : Fin 2112) x) =
    m (c.tc.loc main_arg4) (ix2 x (⟨k.val * 704 + l.val, by omega⟩ : Fin 2816)) := by
  unfold_abbrev_sides
  after_reads_simp
  pointwise
  after_reads_simp
  pointwise
theorem v7_up (k : Fin 4) (l : Fin 704) (x : Fin 1024) : (V m c main_v7 : S4x2112x1024.Idx → EReal) (ix3 k (⟨704 + l.val, by omega⟩ : Fin 2112) x) =
    m (c.tc.loc main_arg5) (ix2 x (⟨k.val * 704 + l.val, by omega⟩ : Fin 2816)) := by
  unfold_abbrev_sides
  after_reads_simp
  pointwise
  after_reads_simp
  pointwise

/-- The gradient of the modulated norm. -/
theorem dh_eq (i : Fin 8192) (k : Fin 1024) : dh m c i k =
    (val_main_v27 (F := Ideal) (m (c.tc.loc main_arg4)) (m (c.tc.loc main_arg5)) (m (c.tc.loc main_arg7)) (m (c.tc.loc main_arg8)) : S8192x1024.Idx → EReal) (ix2 i k) := by
  pointwise [val_main_v27, val_main_v26, val_main_v25, val_main_v24, val_main_v23]
  unfold dh
  rw [add_comm]
  refine congrArg₂ (· + ·) (Finset.sum_congr rfl fun f _ => congrArg₂ (· * ·) ?_ ?_) (Finset.sum_congr rfl fun f _ => congrArg₂ (· * ·) ?_ ?_)
  · unfold db; entry_read; rfl
  · unfold wall
    rw [show (⟨704 + f.val % 704, by omega⟩ : Fin 2112) = ⟨704 + (⟨f.val % 704, Nat.mod_lt _ (by omega)⟩ : Fin 704).val, by omega⟩ from rfl, v7_up]
    exact congrArg (fun f => m (c.tc.loc main_arg5) (ix2 k f)) (Fin.ext (show f.val / 704 * 704 + f.val % 704 = f.val by omega))
  · unfold da; entry_read; rfl
  · unfold wall
    rw [show (⟨f.val % 704, by omega⟩ : Fin 2112) = ⟨(⟨f.val % 704, Nat.mod_lt _ (by omega)⟩ : Fin 704).val, by omega⟩ from rfl, v7_gate]
    exact congrArg (fun f => m (c.tc.loc main_arg4) (ix2 k f)) (Fin.ext (show f.val / 704 * 704 + f.val % 704 = f.val by omega))

/-- One over the root mean square of a row. -/
theorem rs_eq (i : Fin 8192) (z : Fin 1) : rs m c i = (val_main_v7 (F := Ideal) (m (c.tc.loc main_arg0)) : Cert.Reference2Ideal.S8192x1.Idx → EReal) (ix2 i z) := by
  pointwise [val_main_v7, val_main_v6, val_main_v5, val_main_v4, val_main_v3, val_main_v2, val_main_v1, val_main_v0, val_main_cst, val_main_cst_0, val_main_cst_1, val_main_cst_2]
  unfold rs xs
  entry_read
  rfl

section
variable (x0 : S8192x1024.Idx → EReal) (x1 x2 x3 : S1x1024.Idx → EReal) (x4 x5 : S1024x2816.Idx → EReal) (x6 : S8192x1024.Idx → EReal)
  (x7 x8 : S8192x2816.Idx → EReal)

theorem dn_eq (i : Fin 8192) (k : Fin 1024) : (val_main_v39 (F := Ideal) x2 x3 x4 x5 x7 x8 : S8192x1024.Idx → EReal) (ix2 i k) =
    (val_main_v27 (F := Ideal) x4 x5 x7 x8 : S8192x1024.Idx → EReal) (ix2 i k) * (Ideal.ofBits .f32 0x3F800000#32 + x2 (ix2 0 k)) * x3 (ix2 0 k) := by
  pointwise [val_main_v39, val_main_v38, val_main_v34, val_main_v33, val_main_v16, val_main_v15, val_main_cst_3]

theorem dn_isR (h2 : ∀ i, IsR (x2 i)) (h3 : ∀ i, IsR (x3 i)) (h4 : ∀ i, IsR (x4 i)) (h5 : ∀ i, IsR (x5 i)) (h7 : ∀ i, IsR (x7 i)) (h8 : ∀ i, IsR (x8 i))
    (i : Fin 8192) (k : Fin 1024) : IsR ((val_main_v39 (F := Ideal) x2 x3 x4 x5 x7 x8 : S8192x1024.Idx → EReal) (ix2 i k)) := by
  rw [dn_eq, Ideal.ofBits_one_f32]
  refine (IsR.mul ?_ (IsR.one.add (h2 _))).mul (h3 _)
  pointwise [val_main_v27, val_main_v26, val_main_v25, val_main_v24, val_main_v23]
  exact (IsR.sum _ fun f => (h8 _).mul (h5 _)).add (IsR.sum _ fun f => (h7 _).mul (h4 _))

/-- The gradient of the rows, in the reference's spelling and the kernel's. -/
theorem dx_eq (hd : ∀ i k, IsR ((val_main_v39 (F := Ideal) x2 x3 x4 x5 x7 x8 : S8192x1024.Idx → EReal) (ix2 i k))) (i : Fin 8192) (k : Fin 1024)
    (r : EReal) (hr : r = (val_main_v7 (F := Ideal) x0 : Cert.Reference2Ideal.S8192x1.Idx → EReal) (ix2 i 0))
    (d : Fin 1024 → EReal) (hdd : ∀ k, d k = (val_main_v39 (F := Ideal) x2 x3 x4 x5 x7 x8 : S8192x1024.Idx → EReal) (ix2 i k)) :
    x6 (ix2 i k) + r * (d k - x0 (ix2 i k) * r * Ideal.div (∑ k : Fin 1024, d k * (x0 (ix2 i k) * r)) (Ideal.ofBits .f32 0x44800000#32)) =
      (val_main_v54 (F := Ideal) x0 x2 x3 x4 x5 x6 x7 x8 : S8192x1024.Idx → EReal) (ix2 i k) := by
  obtain ⟨e, he, ee⟩ := eps_eq
  have hS : (val_main_v6 (F := Ideal) x0 : Cert.Reference2Ideal.S8192x1.Idx → EReal) (ix2 i 0) =
      Ideal.div (∑ k : Fin 1024, x0 (ix2 i k) * x0 (ix2 i k)) ((1024 : ℝ) : EReal) + (e : EReal) := by
    rw [← kilo_eq, ← ee]
    pointwise [val_main_v6, val_main_v5, val_main_v4, val_main_v3, val_main_v2, val_main_v1, val_main_v0, val_main_cst, val_main_cst_0, val_main_cst_1]
  have hR : r = Ideal.rsqrt ((val_main_v6 (F := Ideal) x0 : Cert.Reference2Ideal.S8192x1.Idx → EReal) (ix2 i 0)) := by
    rw [hr]
    pointwise [val_main_v7]
  rw [kilo_eq, norm_grad (fun k => x0 (ix2 i k)) d (x6 (ix2 i k)) 1024 e (by norm_num) he (fun k => hdd k ▸ hd i k) k _ r _ hS hR rfl]
  pointwise [val_main_v54, val_main_v53, val_main_v52, val_main_v51, val_main_v50, val_main_v49, val_main_v48, val_main_v47, val_main_v46, val_main_v45,
    val_main_v44, val_main_v43, val_main_v42, val_main_v41, val_main_v40, val_main_v10, val_main_v9, val_main_v8, val_main_cst_9, val_main_cst_7, val_main_cst_2, val_main_cst_8]
  simp only [← hdd, ← hr, kilo_eq, neg_half_eq]
  simp
  rw [← hr]

theorem h_eq (i : Fin 8192) (k : Fin 1024) : (val_main_v55 (F := Ideal) x0 x1 x2 x3 : S8192x1024.Idx → EReal) (ix2 i k) =
    x0 (ix2 i k) * (val_main_v7 (F := Ideal) x0 : Cert.Reference2Ideal.S8192x1.Idx → EReal) (ix2 i 0) * x3 (ix2 0 k) * (Ideal.ofBits .f32 0x3F800000#32 + x2 (ix2 0 k)) + x1 (ix2 0 k) := by
  pointwise [val_main_v55, val_main_v20, val_main_v19, val_main_v18, val_main_v17, val_main_v16, val_main_v15, val_main_v14, val_main_v13, val_main_v12, val_main_v11, val_main_cst_3]

theorem dshift_eq (k : Fin 1024) : (val_main_v29 (F := Ideal) x4 x5 x7 x8 : S1x1024.Idx → EReal) (ix2 0 k) =
    ∑ n : Fin 8192, (val_main_v27 (F := Ideal) x4 x5 x7 x8 : S8192x1024.Idx → EReal) (ix2 n k) := by
  pointwise [val_main_v29, val_main_v28, val_main_cst_4]

theorem dscale_eq (k : Fin 1024) : (val_main_v32 (F := Ideal) x0 x3 x4 x5 x7 x8 : S1x1024.Idx → EReal) (ix2 0 k) =
    ∑ n : Fin 8192, x0 (ix2 n k) * (val_main_v7 (F := Ideal) x0 : Cert.Reference2Ideal.S8192x1.Idx → EReal) (ix2 n 0) * x3 (ix2 0 k)
      * (val_main_v27 (F := Ideal) x4 x5 x7 x8 : S8192x1024.Idx → EReal) (ix2 n k) := by
  pointwise [val_main_v32, val_main_v31, val_main_v30, val_main_v14, val_main_v13, val_main_v12, val_main_v11, val_main_cst_5]

theorem dgain_eq (k : Fin 1024) : (val_main_v37 (F := Ideal) x0 x2 x4 x5 x7 x8 : S1x1024.Idx → EReal) (ix2 0 k) =
    ∑ n : Fin 8192, x0 (ix2 n k) * (val_main_v7 (F := Ideal) x0 : Cert.Reference2Ideal.S8192x1.Idx → EReal) (ix2 n 0)
      * ((val_main_v27 (F := Ideal) x4 x5 x7 x8 : S8192x1024.Idx → EReal) (ix2 n k) * (Ideal.ofBits .f32 0x3F800000#32 + x2 (ix2 0 k))) := by
  pointwise [val_main_v37, val_main_v36, val_main_v35, val_main_v34, val_main_v33, val_main_v16, val_main_v15, val_main_v12, val_main_v11, val_main_cst_3, val_main_cst_6]
end
end Cert.Kernel2Ideal.Hand
-- ==== Proof.Windows.lean ====
module
public import Idealize.ShloMosaic.Lib.Pipeline.ValueKit
public import Idealize.ShloMosaic.Lib.Pipeline.FrameSuffix
@[expose] public section
/-! Arrays after a region some of whose windows share an array. -/
set_option maxRecDepth 16384
noncomputable section
namespace Cert.Windows
open Idealize.ShloMosaic Idealize.ShloMosaic.TcCoe Idealize.SL.Sem

/-- After the region the array of a window that shares it with no other holds what that window's blocks left. -/
theorem withArrays_once {nD : Nat} {τ : Topo} {sig : RefSig} {gr W : Nat} (win : Fin W → Pipeline.WinSpec sig gr) (c : Dev nD) (v : Valuation τ sig (Elt Ideal))
    (A : (w : Fin W) → Buf (Elt Ideal) ((win w).arr.view.loc (c.tc : Thread nD τ))) (w : Fin W)
    (h : ∀ w', Pipeline.arrRef win w' = Pipeline.arrRef win w → w' = w) :
    Pipeline.withArrays win c v A (Proc.devRef .tc (Pipeline.arrRef win w)) = A w := by
  have hw : ∃ w', Proc.devRef .tc (Pipeline.arrRef win w') = Proc.devRef (τ := τ) .tc (Pipeline.arrRef win w) := ⟨w, rfl⟩
  refine (dif_pos hw).trans ?_
  suffices ∀ (w' : Fin W) (e : Proc.devRef .tc (Pipeline.arrRef win w') = Proc.devRef (τ := τ) .tc (Pipeline.arrRef win w)),
      cast (congrArg (fun b : DevRef τ sig => b.ty.Contents (Elt Ideal)) e) (A w') = A w from this _ hw.choose_spec
  intro w' e
  obtain rfl := h w' (Proc.devRef_injective _ e)
  rfl
end Cert.Windows
-- ==== Proof.NormGradRun.lean ====
module
public import proofs.«01_k».proof.Proof.NormGrad
public import proofs.«01_k».proof.Proof.Windows
public import Idealize.ShloMosaic.Lib.Claim
public import Idealize.ShloMosaic.Lib.StableHlo.RunRead
@[expose] public section
/-! What the feed-forward norm's gradient leaves in its five results, by the arrays of the region. -/
set_option maxRecDepth 16384
noncomputable section
namespace Cert.Kernel2Ideal.Hand
open Idealize.ShloMosaic Idealize.ShloMosaic.TcCoe Idealize.SL.Sem Cert.Kernel2Ideal Cert.Kernel2Ideal.Gen
variable (m : (ℓ : Loc nD τ sig) → Buf (Elt Ideal) ℓ) (g : Dev nD → PrngReg) (c : Dev nD)

/-- What the run leaves in the five results. -/
theorem run_values : θ_run (defs (F := Ideal)) (onTc (τ := τ) (main (F := Ideal))) ⟨m, fun _ => 0, g⟩ (fun r => ∀ c : Dev nD,
    r.2.mem ((c.tc : Thread nD τ).loc main_v8_0) = (dats m 0 c).arrAt 9 cfg0.N
    ∧ r.2.mem ((c.tc : Thread nD τ).loc main_v8_1) = (dats m 0 c).arrAt 10 cfg0.N
    ∧ r.2.mem ((c.tc : Thread nD τ).loc main_v10) = Pipeline.afterTail₀ cfgs (dats m) 0 (V0 m) [hostOps1] c main_v10
    ∧ r.2.mem ((c.tc : Thread nD τ).loc main_v12) = Pipeline.afterTail₀ cfgs (dats m) 0 (V0 m) [hostOps1] c main_v12
    ∧ r.2.mem ((c.tc : Thread nD τ).loc main_v14) = Pipeline.afterTail₀ cfgs (dats m) 0 (V0 m) [hostOps1] c main_v14) :=
  θ_run_mono (run_main m g) fun r h c => ⟨(h c).1 9, (h c).1 10, (h c).2 main_v10 (by decide +kernel),
    (h c).2 main_v12 (by decide +kernel), (h c).2 main_v14 (by decide +kernel)⟩

/-- The eight partial sums of the gradients of shift, scale and gain. -/
@[irreducible] def part11 : S8x1024.Idx → EReal := (dats m 0 c).arrAt 11 cfg0.N
@[irreducible] def part12 : S8x1024.Idx → EReal := (dats m 0 c).arrAt 12 cfg0.N
@[irreducible] def part13 : S8x1024.Idx → EReal := (dats m 0 c).arrAt 13 cfg0.N

/-- The host's sums of the eight. -/
theorem tail11 : (Pipeline.afterTail₀ cfgs (dats m) 0 (V0 m) [hostOps1] c main_v10 : S1x1024.Idx → EReal) = fun j => ∑ x : Fin 8, part11 m c (ix2 x (j 1)) := by
  unfold Pipeline.afterTail₀
  have e : Pipeline.withArrays (cfgs 0).spec c (V0 m c) (fun w => (dats m 0 c).arrAt w (cfgs 0).N) (Proc.devRef .tc main_v8_2) = part11 m c := by
    unfold part11
    exact Cert.Windows.withArrays_once (cfgs 0).spec c (V0 m c) (fun w => (dats m 0 c).arrAt w (cfgs 0).N) 11 (by decide +kernel)
  after_reads_simp
  rw [e]
  funext j
  idx_vars j
  pointwise
theorem tail12 : (Pipeline.afterTail₀ cfgs (dats m) 0 (V0 m) [hostOps1] c main_v12 : S1x1024.Idx → EReal) = fun j => ∑ x : Fin 8, part12 m c (ix2 x (j 1)) := by
  unfold Pipeline.afterTail₀
  have e : Pipeline.withArrays (cfgs 0).spec c (V0 m c) (fun w => (dats m 0 c).arrAt w (cfgs 0).N) (Proc.devRef .tc main_v8_3) = part12 m c := by
    unfold part12
    exact Cert.Windows.withArrays_once (cfgs 0).spec c (V0 m c) (fun w => (dats m 0 c).arrAt w (cfgs 0).N) 12 (by decide +kernel)
  after_reads_simp
  rw [e]
  funext j
  idx_vars j
  pointwise
theorem tail13 : (Pipeline.afterTail₀ cfgs (dats m) 0 (V0 m) [hostOps1] c main_v14 : S1x1024.Idx → EReal) = fun j => ∑ x : Fin 8, part13 m c (ix2 x (j 1)) := by
  unfold Pipeline.afterTail₀
  have e : Pipeline.withArrays (cfgs 0).spec c (V0 m c) (fun w => (dats m 0 c).arrAt w (cfgs 0).N) (Proc.devRef .tc main_v8_4) = part13 m c := by
    unfold part13
    exact Cert.Windows.withArrays_once (cfgs 0).spec c (V0 m c) (fun w => (dats m 0 c).arrAt w (cfgs 0).N) 13 (by decide +kernel)
  after_reads_simp
  rw [e]
  funext j
  idx_vars j
  pointwise
end Cert.Kernel2Ideal.Hand
-- ==== Proof.NormGradClaim.lean ====
module
public import proofs.«01_k».proof.Defs
public import proofs.«01_k».proof.Proof.Finite
public import proofs.«01_k».proof.Proof.NormGrad
public import proofs.«01_k».proof.Proof.NormGradRef
public import proofs.«01_k».proof.Proof.NormGradRun
public import proofs.«01_k».proof.Proof.Gen.Reference2Ideal.Run
public import proofs.«01_k».proof.Proof.Gen.Pre_finite_b
@[expose] public section
/-!
The gradient of the feed-forward norm: the kernel's five results are the reference's, where the arguments that
make the rows' cotangent are finite.
-/
set_option maxRecDepth 16384
noncomputable section
namespace Cert.Kernel2Ideal.Hand
open Idealize.ShloMosaic Idealize.ShloMosaic.TcCoe Idealize.SL.Sem Cert.Kernel2Ideal Cert.Kernel2Ideal.Gen Cert.Reals
open Cert.Reference2Ideal.Read
variable (m : (ℓ : Loc nD τ sig) → Buf (Elt Ideal) ℓ) (c : Dev nD)

/-- What the precondition says of each argument it names. -/
theorem finite [Cert.Pre_finite_b.Facts] (h : Pre_Kernel2Ideal_finite_b m) (c : Dev nD) :
    (∀ i, IsR ((m (c.tc.loc main_arg2) : S1x1024.Idx → EReal) i)) ∧ (∀ i, IsR ((m (c.tc.loc main_arg3) : S1x1024.Idx → EReal) i))
      ∧ (∀ i, IsR ((m (c.tc.loc main_arg4) : S1024x2816.Idx → EReal) i)) ∧ (∀ i, IsR ((m (c.tc.loc main_arg5) : S1024x2816.Idx → EReal) i))
      ∧ (∀ i, IsR ((m (c.tc.loc main_arg7) : S8192x2816.Idx → EReal) i)) ∧ (∀ i, IsR ((m (c.tc.loc main_arg8) : S8192x2816.Idx → EReal) i)) := by
  have e := congrFun (h c) ix0
  simp only [Pre_finite_b.fn, Pre_finite_b.fn_part1, andi, IntOp.andi_eq_one] at e
  obtain ⟨⟨⟨⟨⟨⟨-, e2⟩, e3⟩, e4⟩, e5⟩, e7⟩, e8⟩ := e
  exact ⟨isR_of_all e2 fun _ => rfl, isR_of_all e3 fun _ => rfl, isR_of_all e4 fun _ => rfl, isR_of_all e5 fun _ => rfl,
    isR_of_all e7 fun _ => rfl, isR_of_all e8 fun _ => rfl⟩

/-- Each array the region finds is an argument. -/
theorem args : xs m c = m (c.tc.loc main_arg0) ∧ dxo m c = m (c.tc.loc main_arg6) ∧ shift m c = m (c.tc.loc main_arg1)
    ∧ scale m c = m (c.tc.loc main_arg2) ∧ gain m c = m (c.tc.loc main_arg3) := by
  unfold xs dxo shift scale gain
  refine ⟨?_, ?_, ?_, ?_, ?_⟩ <;> entry_read <;> rfl

theorem dx_val (h : Pre_Kernel2Ideal_finite_b m) : ((dats m 0 c).arrAt 9 cfg0.N : S8192x1024.Idx → EReal) =
    val_main_v54 (F := Ideal) (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)) := by
  obtain ⟨h2, h3, h4, h5, h7, h8⟩ := finite m h c
  obtain ⟨ex, eo, -, es, eg⟩ := args m c
  rw [arr9]
  funext j
  idx_vars j
  refine Eq.trans ?_ (dx_eq _ _ _ _ _ _ _ _ (dn_isR _ _ _ _ _ _ h2 h3 h4 h5 h7 h8) j0 j1 _ (rs_eq m c j0 0) (fun k => dn m c j0 k) fun k => ?_)
  · rw [ex, eo]
  · unfold dn
    rw [dn_eq, dh_eq, es, eg]

theorem h_val : ((dats m 0 c).arrAt 10 cfg0.N : S8192x1024.Idx → EReal) =
    val_main_v55 (F := Ideal) (m (c.tc.loc main_arg0)) (m (c.tc.loc main_arg1)) (m (c.tc.loc main_arg2)) (m (c.tc.loc main_arg3)) := by
  obtain ⟨ex, -, ei, es, eg⟩ := args m c
  rw [arr10]
  funext j
  idx_vars j
  rw [h_eq, ex, ei, es, eg]
  exact congrArg (fun r : EReal => (_ * r * _ * _ + _ : EReal)) (rs_eq m c j0 0)

/-- The eight partial sums, added up, are the sum over all rows. -/
theorem sum_sub8 (F : Fin 8192 → EReal) : (∑ y : Fin 8, ∑ t : Fin cfg0.N, ∑ x : Fin 64, F (sub8 t x y)) = ∑ n, F n :=
  sum_rows (show 8192 = cfg0.N * 512 by rw [show cfg0.N = 16 from N_0]) F (fun y t x => sub8 t x y) fun _ _ _ => row_val _ _

theorem dshift_val : (Pipeline.afterTail₀ cfgs (dats m) 0 (V0 m) [hostOps1] c main_v10 : S1x1024.Idx → EReal) =
    val_main_v29 (F := Ideal) (m (c.tc.loc main_arg4)) (m (c.tc.loc main_arg5)) (m (c.tc.loc main_arg7)) (m (c.tc.loc main_arg8)) := by
  rw [tail11]
  funext j
  idx_vars j
  obtain rfl : j0 = 0 := Subsingleton.elim _ _
  rw [dshift_eq]
  unfold part11
  rw [arr11]
  refine (sum_sub8 fun n => dh m c n j1).trans (Finset.sum_congr rfl fun n _ => ?_)
  rw [dh_eq]

theorem dscale_val : (Pipeline.afterTail₀ cfgs (dats m) 0 (V0 m) [hostOps1] c main_v12 : S1x1024.Idx → EReal) =
    val_main_v32 (F := Ideal) (m (c.tc.loc main_arg0)) (m (c.tc.loc main_arg3)) (m (c.tc.loc main_arg4)) (m (c.tc.loc main_arg5)) (m (c.tc.loc main_arg7)) (m (c.tc.loc main_arg8)) := by
  obtain ⟨ex, -, -, -, eg⟩ := args m c
  rw [tail12]
  funext j
  idx_vars j
  obtain rfl : j0 = 0 := Subsingleton.elim _ _
  rw [dscale_eq]
  unfold part12
  rw [arr12]
  refine (sum_sub8 fun n => dh m c n j1 * (xs m c (ix2 n j1) * rs m c n * gain m c (ix2 0 j1))).trans (Finset.sum_congr rfl fun n _ => ?_)
  rw [dh_eq, rs_eq m c n 0, ex, eg, EReal.mul_comm]

theorem dgain_val : (Pipeline.afterTail₀ cfgs (dats m) 0 (V0 m) [hostOps1] c main_v14 : S1x1024.Idx → EReal) =
    val_main_v37 (F := Ideal) (m (c.tc.loc main_arg0)) (m (c.tc.loc main_arg2)) (m (c.tc.loc main_arg4)) (m (c.tc.loc main_arg5)) (m (c.tc.loc main_arg7)) (m (c.tc.loc main_arg8)) := by
  obtain ⟨ex, -, -, es, -⟩ := args m c
  rw [tail13]
  funext j
  idx_vars j
  obtain rfl : j0 = 0 := Subsingleton.elim _ _
  rw [dgain_eq]
  unfold part13
  rw [arr13]
  refine (sum_sub8 fun n => dh m c n j1 * (Ideal.ofBits .f32 0x3F800000#32 + scale m c (ix2 0 j1)) * (xs m c (ix2 n j1) * rs m c n)).trans (Finset.sum_congr rfl fun n _ => ?_)
  rw [dh_eq, rs_eq m c n 0, ex, es, EReal.mul_comm]

/-- The reference's run, its results as the stages of its text. -/
theorem ref_values (m' : (ℓ : Loc Cert.Reference2Ideal.nD Cert.Reference2Ideal.τ Cert.Reference2Ideal.sig) → Buf (Elt Ideal) ℓ) (g' : Dev Cert.Reference2Ideal.nD → PrngReg) :
    θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
      r.2.mem ((c.tc : Thread Cert.Reference2Ideal.nD Cert.Reference2Ideal.τ).loc Cert.Reference2Ideal.main_v54) = val_main_v54 (F := Ideal) (m' (c.tc.loc Cert.Reference2Ideal.main_arg0)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) (m' (c.tc.loc Cert.Reference2Ideal.main_arg7)) (m' (c.tc.loc Cert.Reference2Ideal.main_arg8))
      ∧ r.2.mem ((c.tc : Thread Cert.Reference2Ideal.nD Cert.Reference2Ideal.τ).loc Cert.Reference2Ideal.main_v55) = val_main_v55 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3))
      ∧ r.2.mem ((c.tc : Thread Cert.Reference2Ideal.nD Cert.Reference2Ideal.τ).loc Cert.Reference2Ideal.main_v29) = val_main_v29 (F := Ideal) (m' (c.tc.loc Cert.Reference2Ideal.main_arg4)) (m' (c.tc.loc Cert.Reference2Ideal.main_arg5)) (m' (c.tc.loc Cert.Reference2Ideal.main_arg7)) (m' (c.tc.loc Cert.Reference2Ideal.main_arg8))
      ∧ r.2.mem ((c.tc : Thread Cert.Reference2Ideal.nD Cert.Reference2Ideal.τ).loc Cert.Reference2Ideal.main_v32) = val_main_v32 (F := Ideal) (m' (c.tc.loc Cert.Reference2Ideal.main_arg0)) (m' (c.tc.loc Cert.Reference2Ideal.main_arg3)) (m' (c.tc.loc Cert.Reference2Ideal.main_arg4)) (m' (c.tc.loc Cert.Reference2Ideal.main_arg5)) (m' (c.tc.loc Cert.Reference2Ideal.main_arg7)) (m' (c.tc.loc Cert.Reference2Ideal.main_arg8))
      ∧ r.2.mem ((c.tc : Thread Cert.Reference2Ideal.nD Cert.Reference2Ideal.τ).loc Cert.Reference2Ideal.main_v37) = val_main_v37 (F := Ideal) (m' (c.tc.loc Cert.Reference2Ideal.main_arg0)) (m' (c.tc.loc Cert.Reference2Ideal.main_arg2)) (m' (c.tc.loc Cert.Reference2Ideal.main_arg4)) (m' (c.tc.loc Cert.Reference2Ideal.main_arg5)) (m' (c.tc.loc Cert.Reference2Ideal.main_arg7)) (m' (c.tc.loc Cert.Reference2Ideal.main_arg8))
      ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)) :=
  θ_run_mono (Cert.Reference2Ideal.Value.run m' g') fun r h c =>
    ⟨(h c).1.trans (val_main_v54_eq m' c), (h c).2.1.trans (val_main_v55_eq _ _ _ _), (h c).2.2.1.trans (val_main_v29_eq _ _ _ _),
      (h c).2.2.2.1.trans (val_main_v32_eq _ _ _ _ _ _), (h c).2.2.2.2.1.trans (val_main_v37_eq _ _ _ _ _ _), (h c).2.2.2.2.2⟩

/-- Kernel and reference leave the same five results. -/
theorem algebraic : Cert.algebraic_Kernel2Ideal_Reference2Ideal_pre_finite_b := by
  intro m g m' g' hpre hagree
  refine ⟨fun c => val_main_v54 (F := Ideal) (m (c.tc.loc main_arg0)) (m (c.tc.loc main_arg2)) (m (c.tc.loc main_arg3)) (m (c.tc.loc main_arg4)) (m (c.tc.loc main_arg5)) (m (c.tc.loc main_arg6)) (m (c.tc.loc main_arg7)) (m (c.tc.loc main_arg8)),
    fun c => val_main_v55 (F := Ideal) (m (c.tc.loc main_arg0)) (m (c.tc.loc main_arg1)) (m (c.tc.loc main_arg2)) (m (c.tc.loc main_arg3)),
    fun c => val_main_v29 (F := Ideal) (m (c.tc.loc main_arg4)) (m (c.tc.loc main_arg5)) (m (c.tc.loc main_arg7)) (m (c.tc.loc main_arg8)),
    fun c => val_main_v32 (F := Ideal) (m (c.tc.loc main_arg0)) (m (c.tc.loc main_arg3)) (m (c.tc.loc main_arg4)) (m (c.tc.loc main_arg5)) (m (c.tc.loc main_arg7)) (m (c.tc.loc main_arg8)),
    fun c => val_main_v37 (F := Ideal) (m (c.tc.loc main_arg0)) (m (c.tc.loc main_arg2)) (m (c.tc.loc main_arg4)) (m (c.tc.loc main_arg5)) (m (c.tc.loc main_arg7)) (m (c.tc.loc main_arg8)),
    θ_run_mono (θ_run_and (run_values m g) (unchanged m g)) fun r h c => ?_, θ_run_mono (ref_values m' g') fun r h c => ?_⟩
  · exact ⟨(h.1 c).1.trans (dx_val m c hpre), (h.1 c).2.1.trans (h_val m c), (h.1 c).2.2.1.trans (dshift_val m c), (h.1 c).2.2.2.1.trans (dscale_val m c), (h.1 c).2.2.2.2.trans (dgain_val m c), h.2 c⟩
  · obtain ⟨a0, a1, a2, a3, a4, a5, a6, a7, a8⟩ := hagree c
    have h := h c
    rw [a0, a1, a2, a3, a4, a5, a6, a7, a8] at h
    rw [a0, a1, a2, a3, a4, a5, a6, a7, a8]
    exact h
end Cert.Kernel2Ideal.Hand
-- ==== Proof.Loss.lean ====
module
public import proofs.«01_k».proof.Proof.Gen.Kernel3Ideal.Frame
public import proofs.«01_k».proof.Proof.Reals
public import Idealize.ShloMosaic.Lib.Pipeline.ValueKit
public import Idealize.ShloMosaic.Lib.Pointwise
public import Idealize.ShloMosaic.Lib.ValueIdx
public import Idealize.ShloMosaic.Lib.ValueIdxCore
@[expose] public section
/-!
The feed-forward layer with the final norm and loss, by blocks of 512 rows: what each output array holds after
the last block, by the arrays the region finds. The loss and the gain's gradient are kept as eight partial sums,
row `y` of which sums the rows `8 x + y` of every block; the loss keeps 128 lanes apart as well.
-/
set_option maxRecDepth 16384
noncomputable section
namespace Cert.Kernel3Ideal.Hand
open Cert.Kernel3Ideal Cert.Kernel3Ideal.Gen Idealize.ShloMosaic Idealize.ShloMosaic.TcCoe Idealize.SL.Sem
open Idealize.ShloMosaic.Pipeline (Dat)
open Cert.Reals
variable (m : (ℓ : Loc nD τ sig) → Buf (Elt Ideal) ℓ)

/-- The block each window holds at point `t`. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0, 0] ∧ win0_6.index t = ![0, 1, 0] ∧ win0_7.index t = ![0, 2, 0] ∧ win0_8.index t = ![t.val, 0] ∧ win0_9.index t = ![0, 0] ∧ win0_11.index t = ![t.val, 0] ∧ win0_13.index t = ![t.val, 0] ∧ win0_14.index t = ![t.val, 0] ∧ win0_15.index t = ![t.val, 0] ∧ win0_16.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0, 0] ∧ win0_6.index t = ![0, 1, 0] ∧ win0_7.index t = ![0, 2, 0] ∧ win0_8.index t = ![t.val, 0] ∧ win0_9.index t = ![0, 0] ∧ win0_11.index t = ![t.val, 0] ∧ win0_13.index t = ![t.val, 0] ∧ win0_14.index t = ![t.val, 0] ∧ win0_15.index t = ![t.val, 0] ∧ win0_16.index t = ![t.val, 0])

theorem point_lt (t : Fin cfg0.N) : t.val < 16 := lt_of_lt_of_eq t.isLt (show cfg0.N = 16 from N_0)

/-- A point is the first of its grid or follows another. -/
theorem cases (t : Fin cfg0.N) : (t.val % 16 = 0 ∧ ¬ 1 ≤ t.val) ∨ (¬ t.val % 16 = 0 ∧ 1 ≤ t.val) := by
  have := point_lt t
  omega

/-- Row `i` of block `t`. -/
def row (t : Fin cfg0.N) (i : Fin 512) : Fin 8192 := ⟨t.val * 512 + i.val, by have := point_lt t; omega⟩

theorem row_val (t : Fin cfg0.N) (i : Fin 512) : (row t i).val = t.val * 512 + i.val := rfl

/-- The arrays the region finds. -/
@[irreducible] def xs (c : Dev nD) : S8192x1024.Idx → EReal := V m c main_arg0
@[irreducible] def shift (c : Dev nD) : S1x1024.Idx → EReal := V m c main_arg1
@[irreducible] def scale (c : Dev nD) : S1x1024.Idx → EReal := V m c main_arg2
@[irreducible] def gate (c : Dev nD) : S1x1024.Idx → EReal := V m c main_arg3
@[irreducible] def gain (c : Dev nD) : S1x1024.Idx → EReal := V m c main_arg4
@[irreducible] def tgt (c : Dev nD) : S8192x1024.Idx → EReal := V m c main_arg8
@[irreducible] def fin (c : Dev nD) : S1x1024.Idx → EReal := V m c main_arg9
@[irreducible] def wall (c : Dev nD) : S4x2112x1024.Idx → EReal := V m c main_v6

theorem blk0 (c : Dev nD) (t : Fin cfg0.N) (i : Fin 512) (j : Fin 1024) :
    iblk m c 0 t (ix2 i j) = xs m c (ix2 (row t i) j) := by
  have e : ((cfg0.win 0).blk t).view.emb (ix2 i j) = ix2 (row t i) j := by blk_ext [idx t, row_val]
  unfold iblk xs; exact congrArg (V m c main_arg0) e
theorem blk1 (c : Dev nD) (t : Fin cfg0.N) (i : Fin 1) (j : Fin 1024) :
    iblk m c 1 t (ix2 i j) = shift m c (ix2 i j) := by
  have e : ((cfg0.win 1).blk t).view.emb (ix2 i j) = ix2 i j := by blk_ext [idx t, row_val]
  unfold iblk shift; exact congrArg (V m c main_arg1) e
theorem blk2 (c : Dev nD) (t : Fin cfg0.N) (i : Fin 1) (j : Fin 1024) :
    iblk m c 2 t (ix2 i j) = scale m c (ix2 i j) := by
  have e : ((cfg0.win 2).blk t).view.emb (ix2 i j) = ix2 i j := by blk_ext [idx t, row_val]
  unfold iblk scale; exact congrArg (V m c main_arg2) e
theorem blk3 (c : Dev nD) (t : Fin cfg0.N) (i : Fin 1) (j : Fin 1024) :
    iblk m c 3 t (ix2 i j) = gate m c (ix2 i j) := by
  have e : ((cfg0.win 3).blk t).view.emb (ix2 i j) = ix2 i j := by blk_ext [idx t, row_val]
  unfold iblk gate; exact congrArg (V m c main_arg3) e
theorem blk4 (c : Dev nD) (t : Fin cfg0.N) (i : Fin 1) (j : Fin 1024) :
    iblk m c 4 t (ix2 i j) = gain m c (ix2 i j) := by
  have e : ((cfg0.win 4).blk t).view.emb (ix2 i j) = ix2 i j := by blk_ext [idx t, row_val]
  unfold iblk gain; exact congrArg (V m c main_arg4) e
theorem blk8 (c : Dev nD) (t : Fin cfg0.N) (i : Fin 512) (j : Fin 1024) :
    iblk m c 8 t (ix2 i j) = tgt m c (ix2 (row t i) j) := by
  have e : ((cfg0.win 8).blk t).view.emb (ix2 i j) = ix2 (row t i) j := by blk_ext [idx t, row_val]
  unfold iblk tgt; exact congrArg (V m c main_arg8) e
theorem blk9 (c : Dev nD) (t : Fin cfg0.N) (i : Fin 1) (j : Fin 1024) :
    iblk m c 9 t (ix2 i j) = fin m c (ix2 i j) := by
  have e : ((cfg0.win 9).blk t).view.emb (ix2 i j) = ix2 i j := by blk_ext [idx t, row_val]
  unfold iblk fin; exact congrArg (V m c main_arg9) e
theorem blk5 (c : Dev nD) (t : Fin cfg0.N) (k : Fin 4) (i : Fin 704) (j : Fin 1024) :
    iblk m c 5 t (ix3 k i j) = wall m c (ix3 k (⟨i.val, by omega⟩ : Fin 2112) j) := by
  have e : ((cfg0.win 5).blk t).view.emb (ix3 k i j) = ix3 k (⟨i.val, by omega⟩ : Fin 2112) j := by blk_ext [idx t, row_val]
  unfold iblk wall; exact congrArg (V m c main_v6) e
theorem blk6 (c : Dev nD) (t : Fin cfg0.N) (k : Fin 4) (i : Fin 704) (j : Fin 1024) :
    iblk m c 6 t (ix3 k i j) = wall m c (ix3 k (⟨704 + i.val, by omega⟩ : Fin 2112) j) := by
  have e : ((cfg0.win 6).blk t).view.emb (ix3 k i j) = ix3 k (⟨704 + i.val, by omega⟩ : Fin 2112) j := by blk_ext [idx t, row_val]
  unfold iblk wall; exact congrArg (V m c main_v6) e
theorem blk7 (c : Dev nD) (t : Fin cfg0.N) (k : Fin 4) (i : Fin 704) (j : Fin 1024) :
    iblk m c 7 t (ix3 k i j) = wall m c (ix3 k (⟨1408 + i.val, by omega⟩ : Fin 2112) j) := by
  have e : ((cfg0.win 7).blk t).view.emb (ix3 k i j) = ix3 k (⟨1408 + i.val, by omega⟩ : Fin 2112) j := by blk_ext [idx t, row_val]
  unfold iblk wall; exact congrArg (V m c main_v6) e

theorem emb11 (t : Fin cfg0.N) (i : Fin 512) (j : Fin 1024) :
    ((View.whole main_v7_1).slice (win0_11.rect t)).emb (ix2 i j) = ix2 (row t i) j := by blk_ext [idx t, row_val]
theorem emb13 (t : Fin cfg0.N) (i : Fin 512) (j : Fin 1024) :
    ((View.whole main_v7_3).slice (win0_13.rect t)).emb (ix2 i j) = ix2 (row t i) j := by blk_ext [idx t, row_val]
theorem emb14 (t : Fin cfg0.N) (i : Fin 512) (j : Fin 2816) :
    ((View.whole main_v7_4).slice (win0_14.rect t)).emb (ix2 i j) = ix2 (row t i) j := by blk_ext [idx t, row_val]
theorem emb15 (t : Fin cfg0.N) (i : Fin 512) (j : Fin 2816) :
    ((View.whole main_v7_5).slice (win0_15.rect t)).emb (ix2 i j) = ix2 (row t i) j := by blk_ext [idx t, row_val]
theorem emb16 (t : Fin cfg0.N) (i : Fin 512) (j : Fin 2816) :
    ((View.whole main_v7_6).slice (win0_16.rect t)).emb (ix2 i j) = ix2 (row t i) j := by blk_ext [idx t, row_val]

/-- One over the root mean square of a row of the layer's argument. -/
@[irreducible] def rs (c : Dev nD) (i : Fin 8192) : EReal :=
  Ideal.rsqrt (Ideal.div (∑ k : Fin 1024, xs m c (ix2 i k) * xs m c (ix2 i k)) (Ideal.ofBits .f32 0x44800000#32) + Ideal.ofBits .f32 0x358637BD#32)

/-- The modulated norm. -/
@[irreducible] def h (c : Dev nD) (i : Fin 8192) (k : Fin 1024) : EReal :=
  xs m c (ix2 i k) * rs m c i * gain m c (ix2 0 k) * (1 + scale m c (ix2 0 k)) + shift m c (ix2 0 k)

/-- The gate branch before its activation, and the other branch, from the packed weights. -/
@[irreducible] def ba (c : Dev nD) (i : Fin 8192) (f : Fin 2816) : EReal :=
  ∑ k : Fin 1024, h m c i k * wall m c (ix3 (⟨f.val / 704, by omega⟩ : Fin 4) (⟨f.val % 704, by omega⟩ : Fin 2112) k)
@[irreducible] def bb (c : Dev nD) (i : Fin 8192) (f : Fin 2816) : EReal :=
  ∑ k : Fin 1024, h m c i k * wall m c (ix3 (⟨f.val / 704, by omega⟩ : Fin 4) (⟨704 + f.val % 704, by omega⟩ : Fin 2112) k)

/-- The gate branch behind its activation, the activation's gradient times the other branch, and the branches' product. -/
def sa (c : Dev nD) (i : Fin 8192) (f : Fin 2816) : EReal := ba m c i f * sg (ba m c i f)
def ga (c : Dev nD) (i : Fin 8192) (f : Fin 2816) : EReal :=
  bb m c i f * (sg (ba m c i f) * (1 + ba m c i f * (1 - sg (ba m c i f))))
def sb (c : Dev nD) (i : Fin 8192) (f : Fin 2816) : EReal := sa m c i f * bb m c i f

/-- The layer's product of branches through the last weights. -/
@[irreducible] def fo (c : Dev nD) (i : Fin 8192) (k : Fin 1024) : EReal :=
  ∑ f : Fin 2816, sb m c i f * wall m c (ix3 (⟨f.val / 704, by omega⟩ : Fin 4) (⟨1408 + f.val % 704, by omega⟩ : Fin 2112) k)

/-- The layer's result. -/
@[irreducible] def xo (c : Dev nD) (i : Fin 8192) (k : Fin 1024) : EReal := xs m c (ix2 i k) + half * gate m c (ix2 0 k) * fo m c i k

/-- One over the root mean square of a row of the layer's result. -/
@[irreducible] def rl (c : Dev nD) (i : Fin 8192) : EReal :=
  Ideal.rsqrt (Ideal.div (∑ k : Fin 1024, xo m c i k * xo m c i k) (Ideal.ofBits .f32 0x44800000#32) + Ideal.ofBits .f32 0x358637BD#32)

/-- What is off the target. -/
@[irreducible] def er (c : Dev nD) (i : Fin 8192) (k : Fin 1024) : EReal := xo m c i k * rl m c i * fin m c (ix2 0 k) - tgt m c (ix2 i k)

/-- The gradient of the normalised row. -/
def dn (c : Dev nD) (i : Fin 8192) (k : Fin 1024) : EReal := er m c i k * Ideal.ofBits .f32 0x3A800000#32 * fin m c (ix2 0 k)

/-- The columns of the first and of the second half. -/
def lo (f : Fin 1408) : Fin 2816 := ⟨f.val, by omega⟩
def hi (f : Fin 1408) : Fin 2816 := ⟨1408 + f.val, by omega⟩

theorem sum_halves (g : Fin 2816 → EReal) : ∑ f, g f = ∑ f, g (lo f) + ∑ f, g (hi f) :=
  Fin.sum_univ_add (a := 1408) (b := 1408) g

/-- What the three products of a half read of the packed weights. -/
theorem ba_eq (c : Dev nD) (i : Fin 8192) (y : Fin 2816) (k : Fin 4) (l : Fin 2112) (hk : k.val = y.val / 704) (hl : l.val = y.val % 704) :
    (∑ x : Fin 1024, h m c i x * wall m c (ix3 k l x)) = ba m c i y := by
  unfold ba
  exact Finset.sum_congr rfl fun x _ => congrArg _ (congrArg (wall m c) (by blk_ext [hk, hl]))
theorem bb_eq (c : Dev nD) (i : Fin 8192) (y : Fin 2816) (k : Fin 4) (l : Fin 2112) (hk : k.val = y.val / 704) (hl : l.val = 704 + y.val % 704) :
    (∑ x : Fin 1024, h m c i x * wall m c (ix3 k l x)) = bb m c i y := by
  unfold bb
  exact Finset.sum_congr rfl fun x _ => congrArg _ (congrArg (wall m c) (by blk_ext [hk, hl]))

section
variable (c : Dev nD) (t : Fin cfg0.N) (i : Fin 512)

/-- The blocks' own intermediate arrays, of the first and the second half. -/
abbrev H0 := k0_pay3 (iblk m c 0 t) (iblk m c 4 t) (iblk m c 1 t) (iblk m c 2 t)
abbrev A1 := k0_pay5 (iblk m c 0 t) (iblk m c 4 t) (iblk m c 1 t) (iblk m c 2 t) (View.ld (iblk m c 5 t) (Rect.unit ![0, 0, 0] ![2, 704, 1024] inb_S4x704x1024_S2x704x1024_0_0_0))
abbrev B1 := k0_pay6 (iblk m c 0 t) (iblk m c 4 t) (iblk m c 1 t) (iblk m c 2 t) (View.ld (iblk m c 6 t) (Rect.unit ![0, 0, 0] ![2, 704, 1024] inb_S4x704x1024_S2x704x1024_0_0_0))
abbrev T1 := k0_pay7 (iblk m c 0 t) (iblk m c 4 t) (iblk m c 1 t) (iblk m c 2 t) (View.ld (iblk m c 5 t) (Rect.unit ![0, 0, 0] ![2, 704, 1024] inb_S4x704x1024_S2x704x1024_0_0_0))
abbrev A2 := k0_pay15 (k0_pay3 (iblk m c 0 t) (iblk m c 4 t) (iblk m c 1 t) (iblk m c 2 t)) (View.ld (iblk m c 5 t) (Rect.unit ![2, 0, 0] ![2, 704, 1024] inb_S4x704x1024_S2x704x1024_2_0_0))
abbrev B2 := k0_pay16 (k0_pay3 (iblk m c 0 t) (iblk m c 4 t) (iblk m c 1 t) (iblk m c 2 t)) (View.ld (iblk m c 6 t) (Rect.unit ![2, 0, 0] ![2, 704, 1024] inb_S4x704x1024_S2x704x1024_2_0_0))
abbrev T2 := k0_pay17 (k0_pay3 (iblk m c 0 t) (iblk m c 4 t) (iblk m c 1 t) (iblk m c 2 t)) (View.ld (iblk m c 5 t) (Rect.unit ![2, 0, 0] ![2, 704, 1024] inb_S4x704x1024_S2x704x1024_2_0_0))
abbrev F1 := k0_pay14 k0_pay4 (A1 m c t) (B1 m c t) (T1 m c t) k0_pay8 (View.ld (iblk m c 7 t) (Rect.unit ![0, 0, 0] ![2, 704, 1024] inb_S4x704x1024_S2x704x1024_0_0_0))
abbrev Y := k0_pay24 (iblk m c 0 t) (F1 m c t) (A2 m c t) (B2 m c t) (T2 m c t) (Ideal.ofBits FTy.f32 1056964608#32) (View.ld (iblk m c 7 t) (Rect.unit ![2, 0, 0] ![2, 704, 1024] inb_S4x704x1024_S2x704x1024_2_0_0)) (iblk m c 3 t)
abbrev Q := k0_pay25 (iblk m c 0 t) (F1 m c t) (A2 m c t) (B2 m c t) (T2 m c t) (Ideal.ofBits FTy.f32 1056964608#32) (View.ld (iblk m c 7 t) (Rect.unit ![2, 0, 0] ![2, 704, 1024] inb_S4x704x1024_S2x704x1024_2_0_0)) (iblk m c 3 t)

/-- What a block computes, row by row. -/
theorem h_blk (k : Fin 1024) : H0 m c t (ix2 i k) = h m c (row t i) k := by
  pointwise [k0_pay3]
  simp only [blk0, blk1, blk2, blk4]
  unfold h rs
  rfl

theorem a1_blk (f : Fin 1408) : A1 m c t (ix2 i f) = ba m c (row t i) (lo f) := by
  pointwise [k0_pay5]
  simp only [h_blk, blk5]
  exact ba_eq m c _ _ _ _ (by simp only [lo]) (by simp only [lo])
theorem b1_blk (f : Fin 1408) : B1 m c t (ix2 i f) = bb m c (row t i) (lo f) := by
  pointwise [k0_pay6]
  simp only [h_blk, blk6]
  exact bb_eq m c _ _ _ _ (by simp only [lo]) (by simp only [lo])
theorem a2_blk (f : Fin 1408) : A2 m c t (ix2 i f) = ba m c (row t i) (hi f) := by
  pointwise [k0_pay15]
  simp only [h_blk, blk5]
  exact ba_eq m c _ _ _ _ (by simp only [hi]; omega) (by simp only [hi]; omega)
theorem b2_blk (f : Fin 1408) : B2 m c t (ix2 i f) = bb m c (row t i) (hi f) := by
  pointwise [k0_pay16]
  simp only [h_blk, blk6]
  exact bb_eq m c _ _ _ _ (by simp only [hi]; omega) (by simp only [hi]; omega)
theorem t1_blk (f : Fin 1408) : T1 m c t (ix2 i f) = Ideal.tanh (half * ba m c (row t i) (lo f)) := by
  pointwise [k0_pay7]
  simp only [a1_blk]
  rfl
theorem t2_blk (f : Fin 1408) : T2 m c t (ix2 i f) = Ideal.tanh (half * ba m c (row t i) (hi f)) := by
  pointwise [k0_pay17]
  simp only [a2_blk]
  rfl
theorem s1_blk (f : Fin 1408) : k0_pay13 (A1 m c t) (B1 m c t) (T1 m c t) k0_pay8 (ix2 i f) = sb m c (row t i) (lo f) := by
  pointwise [k0_pay8, k0_pay10, k0_pay9, k0_pay13]
  simp only [a1_blk, b1_blk, t1_blk]
  rfl
theorem f1_blk (k : Fin 1024) : F1 m c t (ix2 i k) = ∑ f, (fun f : Fin 2816 => sb m c (row t i) f
      * wall m c (ix3 (⟨f.val / 704, by omega⟩ : Fin 4) (⟨1408 + f.val % 704, by omega⟩ : Fin 2112) k)) (lo f) := by
  pointwise [k0_pay14, k0_pay4]
  simp only [s1_blk, blk7]
  exact Finset.sum_congr rfl fun f _ => congrArg _ (congrArg (wall m c) (by blk_ext [lo]))
theorem f_blk (k : Fin 1024) : k0_pay23 (F1 m c t) (A2 m c t) (B2 m c t) (T2 m c t) (Ideal.ofBits FTy.f32 1056964608#32) (View.ld (iblk m c 7 t) (Rect.unit ![2, 0, 0] ![2, 704, 1024] inb_S4x704x1024_S2x704x1024_2_0_0)) (ix2 i k) = fo m c (row t i) k := by
  pointwise [k0_pay23, k0_pay22, k0_pay19, k0_pay18]
  simp only [f1_blk, a2_blk, b2_blk, t2_blk, blk7]
  unfold fo
  rw [sum_halves]
  refine congrArg _ (Finset.sum_congr rfl fun f _ => congrArg _ (congrArg (wall m c) ?_))
  blk_ext [hi]
theorem y_blk (k : Fin 1024) : Y m c t (ix2 i k) = xo m c (row t i) k := by
  pointwise [k0_pay24]
  simp only [f_blk, blk3, blk0]
  unfold xo
  rfl
theorem q_blk (k : Fin 1024) : Q m c t (ix2 i k) = xo m c (row t i) k * xo m c (row t i) k := by
  pointwise [k0_pay25]
  simp only [y_blk]
theorem rl_blk (z : Fin 1) : k0_pay26 (Q m c t) (ix2 i z) = rl m c (row t i) := by
  pointwise [k0_pay26]
  simp only [q_blk]
  unfold rl
  rfl
theorem n_blk (k : Fin 1024) : k0_pay27 (Y m c t) (Q m c t) (ix2 i k) = xo m c (row t i) k * rl m c (row t i) := by
  pointwise [k0_pay27]
  simp only [rl_blk, y_blk]
theorem er_blk (k : Fin 1024) : k0_pay28 (Y m c t) (iblk m c 8 t) (iblk m c 9 t) (Q m c t) (ix2 i k) = er m c (row t i) k := by
  pointwise [k0_pay28]
  simp only [n_blk, blk8, blk9]
  unfold er
  rfl
theorem dy_blk (k : Fin 1024) : k0_pay29 (Y m c t) (iblk m c 8 t) (iblk m c 9 t) (Q m c t) (ix2 i k)
    = er m c (row t i) k * Ideal.ofBits .f32 0x3A800000#32 := by
  pointwise [k0_pay29]
  simp only [er_blk]
end

theorem arr13 (c : Dev nD) : (dats m 0 c).arrAt 13 cfg0.N = fun j => fo m c (j 0) (j 1) := by
  refine (dats m 0 c).arrAt_eq_of_covers 13 _ (by decide +kernel) fun t hf y => ?_
  blk_simp
  rw [after0_13]
  have e : (outsAt0 m c t.val t.isLt).2.2.2.1 = k0_pay23 (F1 m c t) (A2 m c t) (B2 m c t) (T2 m c t) (Ideal.ofBits FTy.f32 1056964608#32)
      (View.ld (iblk m c 7 t) (Rect.unit ![2, 0, 0] ![2, 704, 1024] inb_S4x704x1024_S2x704x1024_2_0_0)) := by
    obtain ⟨h0, h1⟩ | ⟨h0, h1⟩ := cases t
    · rw [outsAt0_A m c t h0 h1]; frame_out; rfl
    · rw [outsAt0_B m c t h0 h1]; frame_out; rfl
  rw [e]
  idx_vars y
  rw [emb13]
  simp only [f_blk]
  rfl

theorem arr11 (c : Dev nD) : (dats m 0 c).arrAt 11 cfg0.N =
    fun j => rl m c (j 0) * (dn m c (j 0) (j 1) - xo m c (j 0) (j 1) * rl m c (j 0)
      * Ideal.div (∑ k : Fin 1024, dn m c (j 0) k * (xo m c (j 0) k * rl m c (j 0))) (Ideal.ofBits .f32 0x44800000#32)) := by
  refine (dats m 0 c).arrAt_eq_of_covers 11 _ (by decide +kernel) fun t hf y => ?_
  blk_simp
  rw [after0_11]
  have e : (outsAt0 m c t.val t.isLt).2.1 = k0_pay31 (Y m c t) (iblk m c 8 t) (iblk m c 9 t) (Q m c t) := by
    obtain ⟨h0, h1⟩ | ⟨h0, h1⟩ := cases t
    · rw [outsAt0_A m c t h0 h1]; frame_out; rfl
    · rw [outsAt0_B m c t h0 h1]; frame_out; rfl
  rw [e]
  idx_vars y
  pointwise [k0_pay31]
  rw [emb11]
  simp only [rl_blk, dy_blk, blk9, n_blk]
  rfl

def last : Fin cfg0.N := ⟨15, lt_of_lt_of_eq (by omega : 15 < 16) (show 16 = cfg0.N from N_0.symm)⟩

theorem flush10 : (cfg0.win 10).WholeAt last := by decide +kernel
theorem flush12 : (cfg0.win 12).WholeAt last := by decide +kernel

/-- The row of block `t` that goes into partial sum `y` as its summand `x`. -/
def sub8 (t : Fin cfg0.N) (x : Fin 64) (y : Fin 8) : Fin 8192 := row t (⟨x.val * 8 + y.val, by omega⟩ : Fin 512)

theorem arr12 (c : Dev nD) : (dats m 0 c).arrAt 12 cfg0.N = fun j => ∑ t : Fin cfg0.N, ∑ x : Fin 64,
    er m c (sub8 t x (j 0)) (j 1) * Ideal.ofBits .f32 0x3A800000#32 * (xo m c (sub8 t x (j 0)) (j 1) * rl m c (sub8 t x (j 0))) := by
  refine (dats m 0 c).arrAt_eq_of_after_last 12 last flush12 _ fun j => ?_
  blk_simp
  rw [after0_12]
  refine (Pipeline.eq_sum_fin_of_reset_step_apply_last (fun n h => (outsAt0 m c n h).2.2.1) 16 (fun _ => 0)
    (fun t j => k0_pay32 (Y m c t) (iblk m c 8 t) (iblk m c 9 t) (Q m c t) j) (fun t h j => ?_) (fun t h j => ?_) (le_of_eq N_0) last (by show 15 + 1 = cfg0.N; exact N_0.symm) _).trans ?_
  · rw [outsAt0_A m c t h (by have := point_lt t; omega)]
    frame_out
    simp
    rfl
  · rw [outsAt0_B m c t h (by omega)]
    frame_out
    pointwise [k0_pay2]
    rfl
  · rw [zero_add]
    refine Finset.sum_congr rfl fun t _ => ?_
    idx_vars j
    pointwise [k0_pay32]
    simp only [dy_blk, n_blk]
    rfl

/-- Column `128 g + l`. -/
def lane (g : Fin 8) (l : Fin 128) : Fin 1024 := ⟨g.val * 128 + l.val, by omega⟩

theorem arr10 (c : Dev nD) : (dats m 0 c).arrAt 10 cfg0.N = fun j => ∑ t : Fin cfg0.N,
    (∑ x : Fin 64, ∑ g : Fin 8, er m c (sub8 t x (j 0)) (lane g (j 1)) * er m c (sub8 t x (j 0)) (lane g (j 1))) * Ideal.ofBits .f32 0x3A000000#32 := by
  refine (dats m 0 c).arrAt_eq_of_after_last 10 last flush10 _ fun j => ?_
  blk_simp
  rw [after0_10]
  refine (Pipeline.eq_sum_fin_of_reset_step_apply_last (fun n h => (outsAt0 m c n h).1) 16 (fun _ => 0)
    (fun t j => k0_pay30 (Y m c t) (iblk m c 8 t) (iblk m c 9 t) (Q m c t) j) (fun t h j => ?_) (fun t h j => ?_) (le_of_eq N_0) last (by show 15 + 1 = cfg0.N; exact N_0.symm) _).trans ?_
  · rw [outsAt0_A m c t h (by have := point_lt t; omega)]
    frame_out
    simp
    rfl
  · rw [outsAt0_B m c t h (by omega)]
    frame_out
    pointwise [k0_pay1]
    rfl
  · rw [zero_add]
    refine Finset.sum_congr rfl fun t _ => ?_
    idx_vars j
    pointwise [k0_pay30]
    simp only [er_blk]
    refine congrArg (· * _) (Finset.sum_congr rfl fun x _ => ?_)
    rw [Fin.sum_univ_eight, show lane 0 j1 = ⟨j1.val, by omega⟩ from Fin.ext (by simp [lane])]
    rfl

/-- Two halves stored side by side hold, at a column, what the half of the column holds. -/
theorem halves (P Q : FVec Idealize.ShloMosaic.Ideal S512x1408 .bf16) (g : Fin 2816 → EReal) (r : Fin 512) (hP : ∀ f, P (ix2 r f) = g (lo f))
    (hQ : ∀ f, Q (ix2 r f) = g (hi f)) (y : Fin 2816) :
    View.canon (Val := Elt Idealize.ShloMosaic.Ideal) (s := S512x2816) (e := EltTy.bf16) [⟨Rect.unit ![0, 1408] ![512, 1408] inb_S512x2816_S512x1408_0_1408, Q⟩,
      ⟨Rect.unit ![0, 0] ![512, 1408] inb_S512x2816_S512x1408_0_0, P⟩] (ix2 r y) = g y := by
  canon_tiles x h
  · idx_vars x
    obtain rfl := Fin.ext h0
    exact (hQ _).trans (congrArg g (Fin.ext h1.symm))
  · idx_vars x
    obtain rfl := Fin.ext h0
    refine (hP _).trans (congrArg g (Fin.ext ?_))
    simp only [lo]
    omega

theorem sa_lo (c : Dev nD) (t : Fin cfg0.N) (i : Fin 512) (f : Fin 1408) :
    k0_pay11 (A1 m c t) (T1 m c t) k0_pay8 (ix2 i f) = sa m c (row t i) (lo f) := by
  pointwise [k0_pay11, k0_pay10, k0_pay9, k0_pay8]
  simp only [a1_blk, t1_blk]
  rfl
theorem sa_hi (c : Dev nD) (t : Fin cfg0.N) (i : Fin 512) (f : Fin 1408) :
    k0_pay20 (A2 m c t) (T2 m c t) (Ideal.ofBits FTy.f32 1056964608#32) (ix2 i f) = sa m c (row t i) (hi f) := by
  pointwise [k0_pay20, k0_pay19, k0_pay18]
  simp only [a2_blk, t2_blk]
  rfl

theorem ga_lo (c : Dev nD) (t : Fin cfg0.N) (i : Fin 512) (f : Fin 1408) :
    k0_pay12 (A1 m c t) (B1 m c t) (T1 m c t) k0_pay8 (ix2 i f) = ga m c (row t i) (lo f) := by
  pointwise [k0_pay12, k0_pay9, k0_pay8]
  simp only [a1_blk, b1_blk, t1_blk]
  rfl
theorem ga_hi (c : Dev nD) (t : Fin cfg0.N) (i : Fin 512) (f : Fin 1408) :
    k0_pay21 (A2 m c t) (B2 m c t) (T2 m c t) (Ideal.ofBits FTy.f32 1056964608#32) (ix2 i f) = ga m c (row t i) (hi f) := by
  pointwise [k0_pay21, k0_pay18]
  simp only [a2_blk, b2_blk, t2_blk]
  rfl

theorem sb_hi (c : Dev nD) (t : Fin cfg0.N) (i : Fin 512) (f : Fin 1408) :
    k0_pay22 (A2 m c t) (B2 m c t) (T2 m c t) (Ideal.ofBits FTy.f32 1056964608#32) (ix2 i f) = sb m c (row t i) (hi f) := by
  pointwise [k0_pay22, k0_pay19, k0_pay18]
  simp only [a2_blk, b2_blk, t2_blk]
  rfl

theorem arr14 (c : Dev nD) : (dats m 0 c).arrAt 14 cfg0.N = fun j => sa m c (j 0) (j 1) := by
  refine (dats m 0 c).arrAt_eq_of_covers 14 _ (by decide +kernel) fun t hf y => ?_
  blk_simp
  rw [after0_14]
  idx_vars y
  rw [emb14]
  obtain ⟨h0, h1⟩ | ⟨h0, h1⟩ := cases t
  · rw [outsAt0_A m c t h0 h1]
    frame_out
    exact halves _ _ (fun f => sa m c (row t y0) f) y0 (fun f => sa_lo m c t y0 f) (fun f => sa_hi m c t y0 f) y1
  · rw [outsAt0_B m c t h0 h1]
    frame_out
    exact halves _ _ (fun f => sa m c (row t y0) f) y0 (fun f => sa_lo m c t y0 f) (fun f => sa_hi m c t y0 f) y1

theorem arr15 (c : Dev nD) : (dats m 0 c).arrAt 15 cfg0.N = fun j => ga m c (j 0) (j 1) := by
  refine (dats m 0 c).arrAt_eq_of_covers 15 _ (by decide +kernel) fun t hf y => ?_
  blk_simp
  rw [after0_15]
  idx_vars y
  rw [emb15]
  obtain ⟨h0, h1⟩ | ⟨h0, h1⟩ := cases t
  · rw [outsAt0_A m c t h0 h1]
    frame_out
    exact halves _ _ (fun f => ga m c (row t y0) f) y0 (fun f => ga_lo m c t y0 f) (fun f => ga_hi m c t y0 f) y1
  · rw [outsAt0_B m c t h0 h1]
    frame_out
    exact halves _ _ (fun f => ga m c (row t y0) f) y0 (fun f => ga_lo m c t y0 f) (fun f => ga_hi m c t y0 f) y1

theorem arr16 (c : Dev nD) : (dats m 0 c).arrAt 16 cfg0.N = fun j => sb m c (j 0) (j 1) := by
  refine (dats m 0 c).arrAt_eq_of_covers 16 _ (by decide +kernel) fun t hf y => ?_
  blk_simp
  rw [after0_16]
  idx_vars y
  rw [emb16]
  obtain ⟨h0, h1⟩ | ⟨h0, h1⟩ := cases t
  · rw [outsAt0_A m c t h0 h1]
    frame_out
    exact halves _ _ (fun f => sb m c (row t y0) f) y0 (fun f => s1_blk m c t y0 f) (fun f => sb_hi m c t y0 f) y1
  · rw [outsAt0_B m c t h0 h1]
    frame_out
    exact halves _ _ (fun f => sb m c (row t y0) f) y0 (fun f => s1_blk m c t y0 f) (fun f => sb_hi m c t y0 f) y1

end Cert.Kernel3Ideal.Hand
-- ==== Proof.LossRef.lean ====
module
public import proofs.«01_k».proof.Proof.Reals
public import proofs.«01_k».proof.Proof.Loss
public import proofs.«01_k».proof.Proof.Gen.Reference3Ideal.Run
public import proofs.«01_k».proof.Proof.Gen.Reference3Ideal.Read
public import Idealize.ShloMosaic.Lib.StableHlo.RunRead
@[expose] public section
/-! The reference's stages of the layer, its norm and the loss in the kernel's terms. -/
set_option maxRecDepth 16384
noncomputable section
namespace Cert.Kernel3Ideal.Hand
open Idealize.ShloMosaic Idealize.ShloMosaic.TcCoe Idealize.SL.Sem Cert.Kernel3Ideal Cert.Kernel3Ideal.Gen Cert.Reals
open Cert.Reference3Ideal.Read
variable (m : (ℓ : Loc nD τ sig) → Buf (Elt Ideal) ℓ) (c : Dev nD)

/-- Of the packed weights the first part of a chunk is the gate's, the second the other branch's, the third the last weights'. -/
theorem v6_gate (k : Fin 4) (l : Fin 704) (x : Fin 1024) : (V m c main_v6 : S4x2112x1024.Idx → EReal) (ix3 k (⟨l.val, by omega⟩ : Fin 2112) x) =
    m (c.tc.loc main_arg5) (ix2 x (⟨k.val * 704 + l.val, by omega⟩ : Fin 2816)) := by
  unfold_abbrev_sides
  after_reads_simp
  pointwise
  after_reads_simp
  pointwise
theorem v6_up (k : Fin 4) (l : Fin 704) (x : Fin 1024) : (V m c main_v6 : S4x2112x1024.Idx → EReal) (ix3 k (⟨704 + l.val, by omega⟩ : Fin 2112) x) =
    m (c.tc.loc main_arg6) (ix2 x (⟨k.val * 704 + l.val, by omega⟩ : Fin 2816)) := by
  unfold_abbrev_sides
  after_reads_simp
  pointwise
  after_reads_simp
  pointwise
theorem v6_down (k : Fin 4) (l : Fin 704) (x : Fin 1024) : (V m c main_v6 : S4x2112x1024.Idx → EReal) (ix3 k (⟨1408 + l.val, by omega⟩ : Fin 2112) x) =
    m (c.tc.loc main_arg7) (ix2 (⟨k.val * 704 + l.val, by omega⟩ : Fin 2816) x) := by
  unfold_abbrev_sides
  after_reads_simp
  pointwise
  rw [dif_neg (by omega), dif_neg (by omega)]
  after_reads_simp
  pointwise
  exact congrArg (fun f => m (c.tc.loc main_arg7) (ix2 f x)) (Fin.ext (show k.val * 704 + (1408 + l.val - 704 - 704) = k.val * 704 + l.val by omega))

/-- The packed weights by the column of the branches. -/
theorem wall_gate (f : Fin 2816) (x : Fin 1024) : wall m c (ix3 (⟨f.val / 704, by omega⟩ : Fin 4) (⟨f.val % 704, by omega⟩ : Fin 2112) x) = m (c.tc.loc main_arg5) (ix2 x f) := by
  unfold wall
  rw [show (⟨f.val % 704, by omega⟩ : Fin 2112) = ⟨(⟨f.val % 704, Nat.mod_lt _ (by omega)⟩ : Fin 704).val, by omega⟩ from rfl, v6_gate]
  exact congrArg (fun f => m (c.tc.loc main_arg5) (ix2 x f)) (Fin.ext (show f.val / 704 * 704 + f.val % 704 = f.val by omega))
theorem wall_up (f : Fin 2816) (x : Fin 1024) : wall m c (ix3 (⟨f.val / 704, by omega⟩ : Fin 4) (⟨704 + f.val % 704, by omega⟩ : Fin 2112) x) = m (c.tc.loc main_arg6) (ix2 x f) := by
  unfold wall
  rw [show (⟨704 + f.val % 704, by omega⟩ : Fin 2112) = ⟨704 + (⟨f.val % 704, Nat.mod_lt _ (by omega)⟩ : Fin 704).val, by omega⟩ from rfl, v6_up]
  exact congrArg (fun f => m (c.tc.loc main_arg6) (ix2 x f)) (Fin.ext (show f.val / 704 * 704 + f.val % 704 = f.val by omega))
theorem wall_down (f : Fin 2816) (x : Fin 1024) : wall m c (ix3 (⟨f.val / 704, by omega⟩ : Fin 4) (⟨1408 + f.val % 704, by omega⟩ : Fin 2112) x) = m (c.tc.loc main_arg7) (ix2 f x) := by
  unfold wall
  rw [show (⟨1408 + f.val % 704, by omega⟩ : Fin 2112) = ⟨1408 + (⟨f.val % 704, Nat.mod_lt _ (by omega)⟩ : Fin 704).val, by omega⟩ from rfl, v6_down]
  exact congrArg (fun f => m (c.tc.loc main_arg7) (ix2 f x)) (Fin.ext (show f.val / 704 * 704 + f.val % 704 = f.val by omega))

/-- Each array the region finds is an argument. -/
theorem args : xs m c = m (c.tc.loc main_arg0) ∧ shift m c = m (c.tc.loc main_arg1) ∧ scale m c = m (c.tc.loc main_arg2) ∧ gate m c = m (c.tc.loc main_arg3)
    ∧ gain m c = m (c.tc.loc main_arg4) ∧ tgt m c = m (c.tc.loc main_arg8) ∧ fin m c = m (c.tc.loc main_arg9) := by
  unfold xs shift scale gate gain tgt fin
  refine ⟨?_, ?_, ?_, ?_, ?_, ?_, ?_⟩ <;> entry_read <;> rfl

theorem h_eq (i : Fin 8192) (k : Fin 1024) : h m c i k = (val_main_v17 (F := Ideal) (m (c.tc.loc main_arg0)) (m (c.tc.loc main_arg1)) (m (c.tc.loc main_arg2)) (m (c.tc.loc main_arg4)) : S8192x1024.Idx → EReal) (ix2 i k) := by
  obtain ⟨ex, ei, es, -, eg, -, -⟩ := args m c
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
  unfold h rs
  rw [ex, ei, es, eg]
  try rw [Ideal.ofBits_one_f32]

theorem ba_val (i : Fin 8192) (f : Fin 2816) : ba m c i f = (val_main_v18 (F := Ideal) (m (c.tc.loc main_arg0)) (m (c.tc.loc main_arg1)) (m (c.tc.loc main_arg2)) (m (c.tc.loc main_arg4)) (m (c.tc.loc main_arg5)) : S8192x2816.Idx → EReal) (ix2 i f) := by
  pointwise [val_main_v18]
  unfold ba
  exact Finset.sum_congr rfl fun x _ => congrArg₂ (· * ·) (h_eq m c i x) (wall_gate m c f x)
theorem bb_val (i : Fin 8192) (f : Fin 2816) : bb m c i f = (val_main_v19 (F := Ideal) (m (c.tc.loc main_arg0)) (m (c.tc.loc main_arg1)) (m (c.tc.loc main_arg2)) (m (c.tc.loc main_arg4)) (m (c.tc.loc main_arg6)) : S8192x2816.Idx → EReal) (ix2 i f) := by
  pointwise [val_main_v19]
  unfold bb
  exact Finset.sum_congr rfl fun x _ => congrArg₂ (· * ·) (h_eq m c i x) (wall_up m c f x)

section
variable (x0 : S8192x1024.Idx → EReal) (x1 x2 x3 x4 : S1x1024.Idx → EReal) (x5 x6 : S1024x2816.Idx → EReal)
  (x7 : S2816x1024.Idx → EReal) (x8 : S8192x1024.Idx → EReal) (x9 : S1x1024.Idx → EReal)

/-- The reference's logistic, in the activation and in its gradient. -/
theorem sig_eq (j : S8192x2816.Idx) : val_main_call0_v5 (F := Ideal) x0 x1 x2 x4 x5 j = Ideal.logistic (val_main_v18 (F := Ideal) x0 x1 x2 x4 x5 j) := by
  rw [val_main_call0_v5_apply, val_main_call0_v4_apply, val_main_call0_v3_apply, val_main_call0_v2_apply, val_main_call0_v1_apply,
    val_main_call0_v0_apply, val_main_call0_cst_apply, val_main_call0_cst_0_apply]
  simp [Ideal.logistic]
theorem sig_eq' (j : S8192x2816.Idx) : val_main_v21_2 (F := Ideal) x0 x1 x2 x4 x5 j = Ideal.logistic (val_main_v18 (F := Ideal) x0 x1 x2 x4 x5 j) := by
  rw [val_main_v21_2_apply, val_main_call1_v4_apply, val_main_call1_v3_apply, val_main_call1_v2_apply, val_main_call1_v1_apply,
    val_main_call1_v0_apply, val_main_call1_cst_apply, val_main_call1_cst_0_apply]
  simp [Ideal.logistic]

theorem bb_isR (h1 : ∀ i, IsR (x1 i)) (h2 : ∀ i, IsR (x2 i)) (h4 : ∀ i, IsR (x4 i)) (h6 : ∀ i, IsR (x6 i)) (i : Fin 8192) (f : Fin 2816) :
    IsR ((val_main_v19 (F := Ideal) x0 x1 x2 x4 x6 : S8192x2816.Idx → EReal) (ix2 i f)) := by
  pointwise [val_main_v19, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
  obtain ⟨e, he, ee⟩ := eps_eq
  rw [kilo_eq, ee]
  exact IsR.sum _ fun k => ((((row_norm_isR (fun x => x0 (ix2 i x)) 1024 e (by norm_num) he k).mul (h4 _)).mul (IsR.one.add (h2 _))).add (h1 _)).mul (h6 _)

theorem sa_ref (i : Fin 8192) (f : Fin 2816) : (val_main_v81 (F := Ideal) x0 x1 x2 x4 x5 : S8192x2816.Idx → EReal) (ix2 i f) =
    (val_main_v18 (F := Ideal) x0 x1 x2 x4 x5 : S8192x2816.Idx → EReal) (ix2 i f) * sg ((val_main_v18 (F := Ideal) x0 x1 x2 x4 x5 : S8192x2816.Idx → EReal) (ix2 i f)) := by
  pointwise [val_main_v81, val_main_v20]
  rw [sig_eq, sg_logistic]
theorem sb_ref (i : Fin 8192) (f : Fin 2816) : (val_main_v22 (F := Ideal) x0 x1 x2 x4 x5 x6 : S8192x2816.Idx → EReal) (ix2 i f) =
    (val_main_v18 (F := Ideal) x0 x1 x2 x4 x5 : S8192x2816.Idx → EReal) (ix2 i f) * sg ((val_main_v18 (F := Ideal) x0 x1 x2 x4 x5 : S8192x2816.Idx → EReal) (ix2 i f))
      * (val_main_v19 (F := Ideal) x0 x1 x2 x4 x6 : S8192x2816.Idx → EReal) (ix2 i f) := by
  pointwise [val_main_v22, val_main_v21_0]
  rw [sig_eq', sg_logistic]

/-- The activation's gradient times the other branch. -/
theorem ga_ref (h1 : ∀ i, IsR (x1 i)) (h2 : ∀ i, IsR (x2 i)) (h4 : ∀ i, IsR (x4 i)) (h6 : ∀ i, IsR (x6 i)) (i : Fin 8192) (f : Fin 2816) :
    (val_main_v82 (F := Ideal) x0 x1 x2 x4 x5 x6 : S8192x2816.Idx → EReal) (ix2 i f) =
    (val_main_v19 (F := Ideal) x0 x1 x2 x4 x6 : S8192x2816.Idx → EReal) (ix2 i f) * (sg ((val_main_v18 (F := Ideal) x0 x1 x2 x4 x5 : S8192x2816.Idx → EReal) (ix2 i f))
      * (1 + (val_main_v18 (F := Ideal) x0 x1 x2 x4 x5 : S8192x2816.Idx → EReal) (ix2 i f) * (1 - sg ((val_main_v18 (F := Ideal) x0 x1 x2 x4 x5 : S8192x2816.Idx → EReal) (ix2 i f))))) := by
  pointwise [val_main_v82, val_main_v25, val_main_call2_v2, val_main_call2_v1, val_main_call2_v0, val_main_v24, val_main_v23, val_main_v21_1,
    val_main_call1_v7, val_main_call1_v6, val_main_call1_cst_1, val_main_cst_3]
  rw [sig_eq', sg_logistic]
  have e := silu_grad ((val_main_v18 (F := Ideal) x0 x1 x2 x4 x5 : S8192x2816.Idx → EReal) (ix2 i f)) 1 _ IsR.one (bb_isR x0 x1 x2 x4 x6 h1 h2 h4 h6 i f)
  rw [one_mul, one_mul] at e
  exact e.symm
end

theorem fo_val (i : Fin 8192) (k : Fin 1024) : fo m c i k = (val_main_v26 (F := Ideal) (m (c.tc.loc main_arg0)) (m (c.tc.loc main_arg1)) (m (c.tc.loc main_arg2)) (m (c.tc.loc main_arg4)) (m (c.tc.loc main_arg5)) (m (c.tc.loc main_arg6)) (m (c.tc.loc main_arg7)) : S8192x1024.Idx → EReal) (ix2 i k) := by
  pointwise [val_main_v26]
  unfold fo
  refine Finset.sum_congr rfl fun f _ => congrArg₂ (· * ·) ?_ (wall_down m c f k)
  unfold sb sa
  rw [ba_val, bb_val, sb_ref]

theorem xo_val (i : Fin 8192) (k : Fin 1024) : xo m c i k = (val_main_v31 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) : S8192x1024.Idx → EReal) (ix2 i k) := by
  obtain ⟨ex, -, -, eg, -, -, -⟩ := args m c
  pointwise [val_main_v31, val_main_v30, val_main_v29, val_main_v28, val_main_v27, val_main_cst_4]
  unfold xo
  rw [ex, eg, fo_val]
  rfl

theorem rl_val (i : Fin 8192) : rl m c i = (val_main_v39 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) : Cert.Reference3Ideal.S8192x1.Idx → EReal) (ix2 i 0) := by
  pointwise [val_main_v39, val_main_v38, val_main_v37, val_main_v36, val_main_v35, val_main_v34, val_main_v33, val_main_v32, val_main_cst_5, val_main_cst_6, val_main_cst_7]
  unfold rl
  simp only [xo_val]

theorem er_val (i : Fin 8192) (k : Fin 1024) : er m c i k = (val_main_v47 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) : S8192x1024.Idx → EReal) (ix2 i k) := by
  obtain ⟨-, -, -, -, -, et, ef⟩ := args m c
  pointwise [val_main_v47, val_main_v46, val_main_v45, val_main_v44, val_main_v43]
  unfold er
  rw [xo_val, rl_val, et, ef]
/-- The constants of the loss and of its gradient. -/
theorem inv_eq : Ideal.ofBits FTy.f32 0x3A800000#32 = ((1 / 1024 : ℝ) : EReal) := by
  simp [Ideal.ofBits, Ideal.ieee]
  rw [← EReal.coe_mul]; norm_num
theorem inv2_eq : Ideal.ofBits FTy.f32 0x3A000000#32 = ((1 / 2048 : ℝ) : EReal) := by
  simp [Ideal.ofBits, Ideal.ieee]
  rw [← EReal.coe_mul]; norm_num
theorem two_eq : Ideal.ofBits FTy.f32 0x40000000#32 = ((2 : ℝ) : EReal) := by
  simp [Ideal.ofBits, Ideal.ieee]
  rw [← EReal.coe_mul]; norm_num

section
variable (x0 : S8192x1024.Idx → EReal) (x1 x2 x3 x4 : S1x1024.Idx → EReal) (x5 x6 : S1024x2816.Idx → EReal)
  (x7 : S2816x1024.Idx → EReal) (x8 : S8192x1024.Idx → EReal) (x9 : S1x1024.Idx → EReal)

/-- The cotangent of the normalised and scaled row. -/
theorem dy_ref (i : Fin 8192) (k : Fin 1024) : (val_main_v61 (F := Ideal) x0 x1 x2 x3 x4 x5 x6 x7 x8 x9 : S8192x1024.Idx → EReal) (ix2 i k) = (val_main_v47 (F := Ideal) x0 x1 x2 x3 x4 x5 x6 x7 x8 x9 : S8192x1024.Idx → EReal) (ix2 i k) * Ideal.ofBits .f32 0x3A800000#32 := by
  pointwise [val_main_v61, val_main_v60, val_main_v59, val_main_v58, val_main_v57, val_main_v56, val_main_v50, val_main_v49, val_main_cst_9, val_main_cst_14, val_main_cst_15, val_main_cst_16]
  rw [half_eq, kilo_eq, two_eq, inv_eq, div_coe _ _ (by norm_num), ← mul_assoc, ← EReal.coe_mul, EReal.mul_comm]
  norm_num

theorem er_ref (i : Fin 8192) (k : Fin 1024) : (val_main_v47 (F := Ideal) x0 x1 x2 x3 x4 x5 x6 x7 x8 x9 : S8192x1024.Idx → EReal) (ix2 i k) = (val_main_v31 (F := Ideal) x0 x1 x2 x3 x4 x5 x6 x7 : S8192x1024.Idx → EReal) (ix2 i k) * (val_main_v39 (F := Ideal) x0 x1 x2 x3 x4 x5 x6 x7 : Cert.Reference3Ideal.S8192x1.Idx → EReal) (ix2 i 0) * x9 (ix2 0 k) - x8 (ix2 i k) := by
  pointwise [val_main_v47, val_main_v46, val_main_v45, val_main_v44, val_main_v43]

theorem dn_ref (i : Fin 8192) (k : Fin 1024) : (val_main_v66 (F := Ideal) x0 x1 x2 x3 x4 x5 x6 x7 x8 x9 : S8192x1024.Idx → EReal) (ix2 i k) = (val_main_v47 (F := Ideal) x0 x1 x2 x3 x4 x5 x6 x7 x8 x9 : S8192x1024.Idx → EReal) (ix2 i k) * Ideal.ofBits .f32 0x3A800000#32 * x9 (ix2 0 k) := by
  pointwise [val_main_v66, val_main_v65]
  rw [dy_ref]

theorem sq_ref (i : Fin 8192) : (val_main_v38 (F := Ideal) x0 x1 x2 x3 x4 x5 x6 x7 : Cert.Reference3Ideal.S8192x1.Idx → EReal) (ix2 i 0) =
    Ideal.div (∑ k : Fin 1024, (val_main_v31 (F := Ideal) x0 x1 x2 x3 x4 x5 x6 x7 : S8192x1024.Idx → EReal) (ix2 i k) * (val_main_v31 (F := Ideal) x0 x1 x2 x3 x4 x5 x6 x7 : S8192x1024.Idx → EReal) (ix2 i k)) (Ideal.ofBits .f32 0x44800000#32) + Ideal.ofBits .f32 0x358637BD#32 := by
  pointwise [val_main_v38, val_main_v37, val_main_v36, val_main_v35, val_main_v34, val_main_v33, val_main_v32, val_main_cst_5, val_main_cst_6, val_main_cst_7]
theorem rl_ref (i : Fin 8192) : (val_main_v39 (F := Ideal) x0 x1 x2 x3 x4 x5 x6 x7 : Cert.Reference3Ideal.S8192x1.Idx → EReal) (ix2 i 0) = Ideal.rsqrt ((val_main_v38 (F := Ideal) x0 x1 x2 x3 x4 x5 x6 x7 : Cert.Reference3Ideal.S8192x1.Idx → EReal) (ix2 i 0)) := by
  pointwise [val_main_v39]

theorem dn_isR (h8 : ∀ i, IsR (x8 i)) (h9 : ∀ i, IsR (x9 i)) (i : Fin 8192) (k : Fin 1024) : IsR ((val_main_v66 (F := Ideal) x0 x1 x2 x3 x4 x5 x6 x7 x8 x9 : S8192x1024.Idx → EReal) (ix2 i k)) := by
  obtain ⟨e, he, ee⟩ := eps_eq
  rw [dn_ref, er_ref, rl_ref, sq_ref, kilo_eq, ee, inv_eq]
  exact ((((row_norm_isR (fun k => (val_main_v31 (F := Ideal) x0 x1 x2 x3 x4 x5 x6 x7 : S8192x1024.Idx → EReal) (ix2 i k)) 1024 e (by norm_num) he k).mul (h9 _)).sub (h8 _)).mul (IsR.coe _)).mul (h9 _)

/-- The gradient of the rows, in the reference's spelling and the kernel's. -/
theorem dx_ref (hd : ∀ i k, IsR ((val_main_v66 (F := Ideal) x0 x1 x2 x3 x4 x5 x6 x7 x8 x9 : S8192x1024.Idx → EReal) (ix2 i k))) (i : Fin 8192) (k : Fin 1024) :
    (val_main_v39 (F := Ideal) x0 x1 x2 x3 x4 x5 x6 x7 : Cert.Reference3Ideal.S8192x1.Idx → EReal) (ix2 i 0) * ((val_main_v66 (F := Ideal) x0 x1 x2 x3 x4 x5 x6 x7 x8 x9 : S8192x1024.Idx → EReal) (ix2 i k) - (val_main_v31 (F := Ideal) x0 x1 x2 x3 x4 x5 x6 x7 : S8192x1024.Idx → EReal) (ix2 i k) * (val_main_v39 (F := Ideal) x0 x1 x2 x3 x4 x5 x6 x7 : Cert.Reference3Ideal.S8192x1.Idx → EReal) (ix2 i 0) * Ideal.div (∑ k : Fin 1024, (val_main_v66 (F := Ideal) x0 x1 x2 x3 x4 x5 x6 x7 x8 x9 : S8192x1024.Idx → EReal) (ix2 i k) * ((val_main_v31 (F := Ideal) x0 x1 x2 x3 x4 x5 x6 x7 : S8192x1024.Idx → EReal) (ix2 i k) * (val_main_v39 (F := Ideal) x0 x1 x2 x3 x4 x5 x6 x7 : Cert.Reference3Ideal.S8192x1.Idx → EReal) (ix2 i 0))) (Ideal.ofBits .f32 0x44800000#32)) =
      (val_main_v80 (F := Ideal) x0 x1 x2 x3 x4 x5 x6 x7 x8 x9 : S8192x1024.Idx → EReal) (ix2 i k) := by
  obtain ⟨e, he, ee⟩ := eps_eq
  have hS := sq_ref x0 x1 x2 x3 x4 x5 x6 x7 i
  rw [ee, kilo_eq] at hS
  have n := norm_grad (fun k => (val_main_v31 (F := Ideal) x0 x1 x2 x3 x4 x5 x6 x7 : S8192x1024.Idx → EReal) (ix2 i k)) (fun k => (val_main_v66 (F := Ideal) x0 x1 x2 x3 x4 x5 x6 x7 x8 x9 : S8192x1024.Idx → EReal) (ix2 i k)) 0 1024 e (by norm_num) he (hd i) k _ _ _ hS (rl_ref x0 x1 x2 x3 x4 x5 x6 x7 i) rfl
  rw [zero_add, zero_add] at n
  rw [kilo_eq, n]
  pointwise [val_main_v80, val_main_v79, val_main_v78, val_main_v77, val_main_v76, val_main_v75, val_main_v74, val_main_v73, val_main_v72, val_main_v71,
    val_main_v70, val_main_v69, val_main_v68, val_main_v67, val_main_v42, val_main_v41, val_main_v40, val_main_cst_8, val_main_cst_18, val_main_cst_19, val_main_cst_20]
  simp only [kilo_eq, neg_half_eq]
  simp

theorem dfin_ref (k : Fin 1024) : (val_main_v64 (F := Ideal) x0 x1 x2 x3 x4 x5 x6 x7 x8 x9 : S1x1024.Idx → EReal) (ix2 0 k) = ∑ i : Fin 8192, (val_main_v31 (F := Ideal) x0 x1 x2 x3 x4 x5 x6 x7 : S8192x1024.Idx → EReal) (ix2 i k) * (val_main_v39 (F := Ideal) x0 x1 x2 x3 x4 x5 x6 x7 : Cert.Reference3Ideal.S8192x1.Idx → EReal) (ix2 i 0) * ((val_main_v47 (F := Ideal) x0 x1 x2 x3 x4 x5 x6 x7 x8 x9 : S8192x1024.Idx → EReal) (ix2 i k) * Ideal.ofBits .f32 0x3A800000#32) := by
  pointwise [val_main_v64, val_main_v63, val_main_v62, val_main_v44, val_main_v43, val_main_cst_17]
  simp only [dy_ref]

theorem loss_ref (j : Cert.Reference3Ideal.S_.Idx) : (val_main_v55 (F := Ideal) x0 x1 x2 x3 x4 x5 x6 x7 x8 x9 : Cert.Reference3Ideal.S_.Idx → EReal) j = half * ∑ i : Fin 8192, Ideal.div (∑ k : Fin 1024, (val_main_v47 (F := Ideal) x0 x1 x2 x3 x4 x5 x6 x7 x8 x9 : S8192x1024.Idx → EReal) (ix2 i k) * (val_main_v47 (F := Ideal) x0 x1 x2 x3 x4 x5 x6 x7 x8 x9 : S8192x1024.Idx → EReal) (ix2 i k)) (Ideal.ofBits .f32 0x44800000#32) := by
  pointwise [val_main_v55, val_main_v54, val_main_v53, val_main_v52, val_main_v51, val_main_v48, val_main_cst_10, val_main_cst_11, val_main_cst_12, val_main_cst_13]
  rfl
end
end Cert.Kernel3Ideal.Hand
-- ==== Proof.LossRun.lean ====
module
public import proofs.«01_k».proof.Proof.Loss
public import proofs.«01_k».proof.Proof.Windows
public import Idealize.ShloMosaic.Lib.Claim
public import Idealize.ShloMosaic.Lib.StableHlo.RunRead
@[expose] public section
/-! What the layer with the loss leaves in its seven results, by the arrays of the region. -/
set_option maxRecDepth 16384
noncomputable section
namespace Cert.Kernel3Ideal.Hand
open Idealize.ShloMosaic Idealize.ShloMosaic.TcCoe Idealize.SL.Sem Cert.Kernel3Ideal Cert.Kernel3Ideal.Gen
variable (m : (ℓ : Loc nD τ sig) → Buf (Elt Ideal) ℓ) (g : Dev nD → PrngReg) (c : Dev nD)

/-- What the run leaves in the seven results. -/
theorem run_values : θ_run (defs (F := Ideal)) (onTc (τ := τ) (main (F := Ideal))) ⟨m, fun _ => 0, g⟩ (fun r => ∀ c : Dev nD,
    r.2.mem ((c.tc : Thread nD τ).loc main_v8) = Pipeline.afterTail₀ cfgs (dats m) 0 (V0 m) [hostOps1] c main_v8
    ∧ r.2.mem ((c.tc : Thread nD τ).loc main_v7_1) = (dats m 0 c).arrAt 11 cfg0.N
    ∧ r.2.mem ((c.tc : Thread nD τ).loc main_v10) = Pipeline.afterTail₀ cfgs (dats m) 0 (V0 m) [hostOps1] c main_v10
    ∧ r.2.mem ((c.tc : Thread nD τ).loc main_v7_3) = (dats m 0 c).arrAt 13 cfg0.N
    ∧ r.2.mem ((c.tc : Thread nD τ).loc main_v7_4) = (dats m 0 c).arrAt 14 cfg0.N
    ∧ r.2.mem ((c.tc : Thread nD τ).loc main_v7_5) = (dats m 0 c).arrAt 15 cfg0.N
    ∧ r.2.mem ((c.tc : Thread nD τ).loc main_v7_6) = (dats m 0 c).arrAt 16 cfg0.N) :=
  θ_run_mono (run_main m g) fun r h c => ⟨(h c).2 main_v8 (by decide +kernel), (h c).1 11, (h c).2 main_v10 (by decide +kernel),
    (h c).1 13, (h c).1 14, (h c).1 15, (h c).1 16⟩

/-- The partial sums of the loss and of the gain's gradient. -/
@[irreducible] def part10 : S8x128.Idx → EReal := (dats m 0 c).arrAt 10 cfg0.N
@[irreducible] def part12 : S8x1024.Idx → EReal := (dats m 0 c).arrAt 12 cfg0.N

/-- The host's sums of them. -/
theorem tail10 : (Pipeline.afterTail₀ cfgs (dats m) 0 (V0 m) [hostOps1] c main_v8 : S_.Idx → EReal) = fun _ => ∑ y : Fin 8, ∑ l : Fin 128, part10 m c (ix2 y l) := by
  unfold Pipeline.afterTail₀
  have e : Pipeline.withArrays (cfgs 0).spec c (V0 m c) (fun w => (dats m 0 c).arrAt w (cfgs 0).N) (Proc.devRef .tc main_v7_0) = part10 m c := by
    unfold part10
    exact Cert.Windows.withArrays_once (cfgs 0).spec c (V0 m c) (fun w => (dats m 0 c).arrAt w (cfgs 0).N) 10 (by decide +kernel)
  after_reads_simp
  rw [e]
  funext j
  pointwise
theorem tail12 : (Pipeline.afterTail₀ cfgs (dats m) 0 (V0 m) [hostOps1] c main_v10 : S1x1024.Idx → EReal) = fun j => ∑ x : Fin 8, part12 m c (ix2 x (j 1)) := by
  unfold Pipeline.afterTail₀
  have e : Pipeline.withArrays (cfgs 0).spec c (V0 m c) (fun w => (dats m 0 c).arrAt w (cfgs 0).N) (Proc.devRef .tc main_v7_2) = part12 m c := by
    unfold part12
    exact Cert.Windows.withArrays_once (cfgs 0).spec c (V0 m c) (fun w => (dats m 0 c).arrAt w (cfgs 0).N) 12 (by decide +kernel)
  after_reads_simp
  rw [e]
  funext j
  idx_vars j
  pointwise
end Cert.Kernel3Ideal.Hand
-- ==== Proof.LossClaim.lean ====
module
public import proofs.«01_k».proof.Defs
public import proofs.«01_k».proof.Proof.Finite
public import proofs.«01_k».proof.Proof.Loss
public import proofs.«01_k».proof.Proof.LossRef
public import proofs.«01_k».proof.Proof.LossRun
public import proofs.«01_k».proof.Proof.Gen.Reference3Ideal.Run
public import proofs.«01_k».proof.Proof.Gen.Pre_finite_c
@[expose] public section
/-!
The second feed-forward layer with the final norm and the loss: the kernel's seven results are the reference's,
where the arguments that make the other branch and the rows' cotangent are finite.
-/
set_option maxRecDepth 16384
noncomputable section
namespace Cert.Kernel3Ideal.Hand
open Idealize.ShloMosaic Idealize.ShloMosaic.TcCoe Idealize.SL.Sem Cert.Kernel3Ideal Cert.Kernel3Ideal.Gen Cert.Reals
open Cert.Reference3Ideal.Read
variable (m : (ℓ : Loc nD τ sig) → Buf (Elt Ideal) ℓ) (c : Dev nD)

/-- What the precondition says of each argument it names. -/
theorem finite [Cert.Pre_finite_c.Facts] (h : Pre_Kernel3Ideal_finite_c m) (c : Dev nD) :
    (∀ i, IsR ((m (c.tc.loc main_arg1) : S1x1024.Idx → EReal) i)) ∧ (∀ i, IsR ((m (c.tc.loc main_arg2) : S1x1024.Idx → EReal) i))
      ∧ (∀ i, IsR ((m (c.tc.loc main_arg4) : S1x1024.Idx → EReal) i)) ∧ (∀ i, IsR ((m (c.tc.loc main_arg6) : S1024x2816.Idx → EReal) i))
      ∧ (∀ i, IsR ((m (c.tc.loc main_arg8) : S8192x1024.Idx → EReal) i)) ∧ (∀ i, IsR ((m (c.tc.loc main_arg9) : S1x1024.Idx → EReal) i)) := by
  have e := congrFun (h c) ix0
  simp only [Pre_finite_c.fn, Pre_finite_c.fn_part1, andi, IntOp.andi_eq_one] at e
  obtain ⟨⟨⟨⟨⟨⟨-, e1⟩, e2⟩, e4⟩, e6⟩, e8⟩, e9⟩ := e
  exact ⟨isR_of_all e1 fun _ => rfl, isR_of_all e2 fun _ => rfl, isR_of_all e4 fun _ => rfl, isR_of_all e6 fun _ => rfl,
    isR_of_all e8 fun _ => rfl, isR_of_all e9 fun _ => rfl⟩

theorem f_val : ((dats m 0 c).arrAt 13 cfg0.N : S8192x1024.Idx → EReal) = val_main_v26 (F := Ideal) (m (c.tc.loc main_arg0)) (m (c.tc.loc main_arg1)) (m (c.tc.loc main_arg2)) (m (c.tc.loc main_arg4)) (m (c.tc.loc main_arg5)) (m (c.tc.loc main_arg6)) (m (c.tc.loc main_arg7)) := by
  rw [arr13]
  funext j
  idx_vars j
  exact fo_val m c j0 j1

theorem sa_val : ((dats m 0 c).arrAt 14 cfg0.N : S8192x2816.Idx → EReal) = val_main_v81 (F := Ideal) (m (c.tc.loc main_arg0)) (m (c.tc.loc main_arg1)) (m (c.tc.loc main_arg2)) (m (c.tc.loc main_arg4)) (m (c.tc.loc main_arg5)) := by
  rw [arr14]
  funext j
  idx_vars j
  rw [sa_ref, ← ba_val]
  rfl

theorem ga_val (h : Pre_Kernel3Ideal_finite_c m) : ((dats m 0 c).arrAt 15 cfg0.N : S8192x2816.Idx → EReal) = val_main_v82 (F := Ideal) (m (c.tc.loc main_arg0)) (m (c.tc.loc main_arg1)) (m (c.tc.loc main_arg2)) (m (c.tc.loc main_arg4)) (m (c.tc.loc main_arg5)) (m (c.tc.loc main_arg6)) := by
  obtain ⟨h1, h2, h4, h6, -, -⟩ := finite m h c
  rw [arr15]
  funext j
  idx_vars j
  rw [ga_ref _ _ _ _ _ _ h1 h2 h4 h6, ← ba_val, ← bb_val]
  rfl

theorem s_val : ((dats m 0 c).arrAt 16 cfg0.N : S8192x2816.Idx → EReal) = val_main_v83 (F := Ideal) (m (c.tc.loc main_arg0)) (m (c.tc.loc main_arg1)) (m (c.tc.loc main_arg2)) (m (c.tc.loc main_arg4)) (m (c.tc.loc main_arg5)) (m (c.tc.loc main_arg6)) := by
  rw [arr16]
  funext j
  idx_vars j
  rw [show (val_main_v83 (F := Ideal) (m (c.tc.loc main_arg0)) (m (c.tc.loc main_arg1)) (m (c.tc.loc main_arg2)) (m (c.tc.loc main_arg4)) (m (c.tc.loc main_arg5)) (m (c.tc.loc main_arg6)) : S8192x2816.Idx → EReal) (ix2 j0 j1) = (val_main_v22 (F := Ideal) (m (c.tc.loc main_arg0)) (m (c.tc.loc main_arg1)) (m (c.tc.loc main_arg2)) (m (c.tc.loc main_arg4)) (m (c.tc.loc main_arg5)) (m (c.tc.loc main_arg6)) : S8192x2816.Idx → EReal) (ix2 j0 j1) from rfl,
    sb_ref, ← ba_val, ← bb_val]
  rfl

theorem dn_val (i : Fin 8192) (k : Fin 1024) : dn m c i k = (val_main_v66 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) : S8192x1024.Idx → EReal) (ix2 i k) := by
  obtain ⟨-, -, -, -, -, -, ef⟩ := args m c
  rw [dn_ref, ← er_val]
  unfold dn
  rw [ef]

theorem dx_val (h : Pre_Kernel3Ideal_finite_c m) : ((dats m 0 c).arrAt 11 cfg0.N : S8192x1024.Idx → EReal) = val_main_v80 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) := by
  obtain ⟨-, -, -, -, h8, h9⟩ := finite m h c
  rw [arr11]
  funext j
  idx_vars j
  rw [← dx_ref _ _ _ _ _ _ _ _ _ _ (dn_isR _ _ _ _ _ _ _ _ _ _ h8 h9)]
  simp only [← dn_val, ← xo_val, ← rl_val]

/-- The eight partial sums, added up, are the sum over all rows. -/
theorem sum_sub8 (F : Fin 8192 → EReal) : (∑ y : Fin 8, ∑ t : Fin cfg0.N, ∑ x : Fin 64, F (sub8 t x y)) = ∑ n, F n :=
  sum_rows (show 8192 = cfg0.N * 512 by rw [show cfg0.N = 16 from N_0]) F (fun y t x => sub8 t x y) fun _ _ _ => row_val _ _

/-- The lanes' sums, added up, are the sum over all columns. -/
theorem sum_lanes (F : Fin 1024 → EReal) : (∑ l : Fin 128, ∑ g : Fin 8, F (lane g l)) = ∑ k, F k := by
  rw [Finset.sum_comm, ← Fintype.sum_prod_type']
  exact Fintype.sum_equiv (finProdFinEquiv (m := 8) (n := 128)) _ _ fun ⟨g, l⟩ => congrArg F (Fin.ext (by simp [lane, finProdFinEquiv]; omega))

theorem dfin_val : (Pipeline.afterTail₀ cfgs (dats m) 0 (V0 m) [hostOps1] c main_v10 : S1x1024.Idx → EReal) = val_main_v64 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) := by
  rw [tail12]
  funext j
  idx_vars j
  obtain rfl : j0 = 0 := Subsingleton.elim _ _
  rw [dfin_ref]
  unfold part12
  rw [arr12]
  refine (sum_sub8 fun n => er m c n j1 * Ideal.ofBits .f32 0x3A800000#32 * (xo m c n j1 * rl m c n)).trans (Finset.sum_congr rfl fun n _ => ?_)
  rw [er_val, xo_val, rl_val, EReal.mul_comm]

theorem loss_val : (Pipeline.afterTail₀ cfgs (dats m) 0 (V0 m) [hostOps1] c main_v8 : S_.Idx → EReal) = val_main_v55 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) := by
  rw [tail10]
  funext j
  rw [loss_ref]
  simp only [← er_val]
  unfold part10 half
  rw [arr10, half_eq, kilo_eq, inv2_eq, pos_mul_sum _ _ _ (by norm_num)]
  have e : ∀ n : Fin 8192, ((1 / 2 : ℝ) : EReal) * Ideal.div (∑ k : Fin 1024, er m c n k * er m c n k) ((1024 : ℝ) : EReal)
      = ∑ l : Fin 128, ((1 / 2048 : ℝ) : EReal) * ∑ g : Fin 8, er m c n (lane g l) * er m c n (lane g l) := fun n => by
    rw [← pos_mul_sum _ _ _ (by norm_num), sum_lanes fun k => er m c n k * er m c n k, Ideal.div, if_neg (by norm_num), ← EReal.coe_inv,
      EReal.mul_comm (∑ k, _), ← mul_assoc, ← EReal.coe_mul]
    norm_num
  simp only [e]
  rw [← sum_sub8 fun n => ∑ l : Fin 128, ((1 / 2048 : ℝ) : EReal) * ∑ g : Fin 8, er m c n (lane g l) * er m c n (lane g l)]
  refine Finset.sum_congr rfl fun y _ => ?_
  rw [Finset.sum_comm]
  refine Finset.sum_congr rfl fun t _ => ?_
  rw [Finset.sum_comm]
  refine Finset.sum_congr rfl fun l _ => ?_
  rw [EReal.mul_comm, pos_mul_sum _ _ _ (by norm_num)]
  rfl

/-- The reference's run, its results as the stages of its text. -/
theorem ref_values (m' : (ℓ : Loc Cert.Reference3Ideal.nD Cert.Reference3Ideal.τ Cert.Reference3Ideal.sig) → Buf (Elt Ideal) ℓ) (g' : Dev Cert.Reference3Ideal.nD → PrngReg) :
    θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
      r.2.mem ((c.tc : Thread Cert.Reference3Ideal.nD Cert.Reference3Ideal.τ).loc Cert.Reference3Ideal.main_v55) = val_main_v55 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (m' (c.tc.loc Cert.Reference3Ideal.main_arg7)) (m' (c.tc.loc Cert.Reference3Ideal.main_arg8)) (m' (c.tc.loc Cert.Reference3Ideal.main_arg9))
      ∧ r.2.mem ((c.tc : Thread Cert.Reference3Ideal.nD Cert.Reference3Ideal.τ).loc Cert.Reference3Ideal.main_v80) = val_main_v80 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (m' (c.tc.loc Cert.Reference3Ideal.main_arg7)) (m' (c.tc.loc Cert.Reference3Ideal.main_arg8)) (m' (c.tc.loc Cert.Reference3Ideal.main_arg9))
      ∧ r.2.mem ((c.tc : Thread Cert.Reference3Ideal.nD Cert.Reference3Ideal.τ).loc Cert.Reference3Ideal.main_v64) = val_main_v64 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (m' (c.tc.loc Cert.Reference3Ideal.main_arg7)) (m' (c.tc.loc Cert.Reference3Ideal.main_arg8)) (m' (c.tc.loc Cert.Reference3Ideal.main_arg9))
      ∧ r.2.mem ((c.tc : Thread Cert.Reference3Ideal.nD Cert.Reference3Ideal.τ).loc Cert.Reference3Ideal.main_v26) = val_main_v26 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg4)) (m' (c.tc.loc Cert.Reference3Ideal.main_arg5)) (m' (c.tc.loc Cert.Reference3Ideal.main_arg6)) (m' (c.tc.loc Cert.Reference3Ideal.main_arg7))
      ∧ r.2.mem ((c.tc : Thread Cert.Reference3Ideal.nD Cert.Reference3Ideal.τ).loc Cert.Reference3Ideal.main_v81) = val_main_v81 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg4)) (m' (c.tc.loc Cert.Reference3Ideal.main_arg5))
      ∧ r.2.mem ((c.tc : Thread Cert.Reference3Ideal.nD Cert.Reference3Ideal.τ).loc Cert.Reference3Ideal.main_v82) = val_main_v82 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg4)) (m' (c.tc.loc Cert.Reference3Ideal.main_arg5)) (m' (c.tc.loc Cert.Reference3Ideal.main_arg6))
      ∧ r.2.mem ((c.tc : Thread Cert.Reference3Ideal.nD Cert.Reference3Ideal.τ).loc Cert.Reference3Ideal.main_v83) = val_main_v83 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg4)) (m' (c.tc.loc Cert.Reference3Ideal.main_arg5)) (m' (c.tc.loc Cert.Reference3Ideal.main_arg6))
      ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)) :=
  θ_run_mono (Cert.Reference3Ideal.Value.run m' g') fun r h c =>
    ⟨(h c).1.trans (val_main_v55_eq m' c), (h c).2.1.trans (val_main_v80_eq m' c), (h c).2.2.1.trans (val_main_v64_eq m' c), (h c).2.2.2.1.trans (val_main_v26_eq _ _ _ _ _ _ _), (h c).2.2.2.2.1.trans (val_main_v81_eq _ _ _ _ _), (h c).2.2.2.2.2.1.trans (val_main_v82_eq m' c), (h c).2.2.2.2.2.2.1.trans (val_main_v83_eq _ _ _ _ _ _), (h c).2.2.2.2.2.2.2⟩

/-- Kernel and reference leave the same seven results. -/
theorem algebraic : Cert.algebraic_Kernel3Ideal_Reference3Ideal_pre_finite_c := by
  intro m g m' g' hpre hagree
  refine ⟨fun c => val_main_v55 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)),
    fun c => val_main_v80 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)),
    fun c => val_main_v64 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)),
    fun c => val_main_v26 (F := Ideal) (m (c.tc.loc main_arg0)) (m (c.tc.loc main_arg1)) (m (c.tc.loc main_arg2)) (m (c.tc.loc main_arg4)) (m (c.tc.loc main_arg5)) (m (c.tc.loc main_arg6)) (m (c.tc.loc main_arg7)),
    fun c => val_main_v81 (F := Ideal) (m (c.tc.loc main_arg0)) (m (c.tc.loc main_arg1)) (m (c.tc.loc main_arg2)) (m (c.tc.loc main_arg4)) (m (c.tc.loc main_arg5)),
    fun c => val_main_v82 (F := Ideal) (m (c.tc.loc main_arg0)) (m (c.tc.loc main_arg1)) (m (c.tc.loc main_arg2)) (m (c.tc.loc main_arg4)) (m (c.tc.loc main_arg5)) (m (c.tc.loc main_arg6)),
    fun c => val_main_v83 (F := Ideal) (m (c.tc.loc main_arg0)) (m (c.tc.loc main_arg1)) (m (c.tc.loc main_arg2)) (m (c.tc.loc main_arg4)) (m (c.tc.loc main_arg5)) (m (c.tc.loc main_arg6)),
    θ_run_mono (θ_run_and (run_values m g) (unchanged m g)) fun r h c => ?_, θ_run_mono (ref_values m' g') fun r h c => ?_⟩
  · exact ⟨(h.1 c).1.trans (loss_val m c), (h.1 c).2.1.trans (dx_val m c hpre), (h.1 c).2.2.1.trans (dfin_val m c), (h.1 c).2.2.2.1.trans (f_val m c), (h.1 c).2.2.2.2.1.trans (sa_val m c), (h.1 c).2.2.2.2.2.1.trans (ga_val m c hpre), (h.1 c).2.2.2.2.2.2.trans (s_val m c), h.2 c⟩
  · obtain ⟨a0, a1, a2, a3, a4, a5, a6, a7, a8, a9⟩ := hagree c
    have h := h c
    rw [a0, a1, a2, a3, a4, a5, a6, a7, a8, a9] at h
    rw [a0, a1, a2, a3, a4, a5, a6, a7, a8, a9]
    exact h
end Cert.Kernel3Ideal.Hand
-- ==== Proof.MixProj.lean ====
module
public import proofs.«01_k».proof.Proof.Gen.Kernel4Ideal.Frame
public import proofs.«01_k».proof.Proof.Reals
public import Idealize.ShloMosaic.Lib.Pipeline.ValueKit
public import Idealize.ShloMosaic.Lib.Pointwise
public import Idealize.ShloMosaic.Lib.ValueIdx
public import Idealize.ShloMosaic.Lib.ValueIdxCore
@[expose] public section
/-!
The mixer's projections, by blocks of 512 rows: what each output array holds after the last block, by the arrays
the region finds. The convolution reads three rows above the block; they are the last rows of the block before,
kept in the scratch, and zero above the first block.
-/
set_option maxRecDepth 16384
noncomputable section
namespace Cert.Kernel4Ideal.Hand
open Cert.Kernel4Ideal Cert.Kernel4Ideal.Gen Idealize.ShloMosaic Idealize.ShloMosaic.TcCoe Idealize.SL.Sem
open Idealize.ShloMosaic.Pipeline (Dat)
open Cert.Reals
variable (m : (ℓ : Loc nD τ sig) → Buf (Elt Ideal) ℓ)

/-- The block each window holds at point `t`. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0])

theorem point_lt (t : Fin cfg0.N) : t.val < 16 := lt_of_lt_of_eq t.isLt (show cfg0.N = 16 from N_0)

/-- Row `i` of block `t`. -/
def row (t : Fin cfg0.N) (i : Fin 512) : Fin 8192 := ⟨t.val * 512 + i.val, by have := point_lt t; omega⟩

theorem row_val (t : Fin cfg0.N) (i : Fin 512) : (row t i).val = t.val * 512 + i.val := rfl

/-- The arrays the region finds. -/
@[irreducible] def xs (c : Dev nD) : S8192x1024.Idx → EReal := V m c main_arg0
@[irreducible] def shift (c : Dev nD) : S1x1024.Idx → EReal := V m c main_arg1
@[irreducible] def scale (c : Dev nD) : S1x1024.Idx → EReal := V m c main_arg2
@[irreducible] def gain (c : Dev nD) : S1x1024.Idx → EReal := V m c main_arg3
@[irreducible] def wt (c : Dev nD) : S2688x1024.Idx → EReal := V m c main_v6
@[irreducible] def cw (c : Dev nD) : S4x1536.Idx → EReal := V m c main_arg5
@[irreducible] def al (c : Dev nD) : S1x128.Idx → EReal := V m c main_v12
@[irreducible] def dt (c : Dev nD) : S1x128.Idx → EReal := V m c main_v18

theorem blk0 (c : Dev nD) (t : Fin cfg0.N) (i : Fin 512) (j : Fin 1024) :
    iblk m c 0 t (ix2 i j) = xs m c (ix2 (row t i) j) := by
  have e : ((cfg0.win 0).blk t).view.emb (ix2 i j) = ix2 (row t i) j := by blk_ext [idx t, row_val]
  unfold iblk xs; exact congrArg (V m c main_arg0) e
theorem blk1 (c : Dev nD) (t : Fin cfg0.N) (i : Fin 1) (j : Fin 1024) :
    iblk m c 1 t (ix2 i j) = shift m c (ix2 i j) := by
  have e : ((cfg0.win 1).blk t).view.emb (ix2 i j) = ix2 i j := by blk_ext [idx t, row_val]
  unfold iblk shift; exact congrArg (V m c main_arg1) e
theorem blk2 (c : Dev nD) (t : Fin cfg0.N) (i : Fin 1) (j : Fin 1024) :
    iblk m c 2 t (ix2 i j) = scale m c (ix2 i j) := by
  have e : ((cfg0.win 2).blk t).view.emb (ix2 i j) = ix2 i j := by blk_ext [idx t, row_val]
  unfold iblk scale; exact congrArg (V m c main_arg2) e
theorem blk3 (c : Dev nD) (t : Fin cfg0.N) (i : Fin 1) (j : Fin 1024) :
    iblk m c 3 t (ix2 i j) = gain m c (ix2 i j) := by
  have e : ((cfg0.win 3).blk t).view.emb (ix2 i j) = ix2 i j := by blk_ext [idx t, row_val]
  unfold iblk gain; exact congrArg (V m c main_arg3) e
theorem blk4 (c : Dev nD) (t : Fin cfg0.N) (i : Fin 2688) (j : Fin 1024) :
    iblk m c 4 t (ix2 i j) = wt m c (ix2 i j) := by
  have e : ((cfg0.win 4).blk t).view.emb (ix2 i j) = ix2 i j := by blk_ext [idx t, row_val]
  unfold iblk wt; exact congrArg (V m c main_v6) e
theorem blk5 (c : Dev nD) (t : Fin cfg0.N) (i : Fin 4) (j : Fin 1536) :
    iblk m c 5 t (ix2 i j) = cw m c (ix2 i j) := by
  have e : ((cfg0.win 5).blk t).view.emb (ix2 i j) = ix2 i j := by blk_ext [idx t, row_val]
  unfold iblk cw; exact congrArg (V m c main_arg5) e
theorem blk6 (c : Dev nD) (t : Fin cfg0.N) (i : Fin 1) (j : Fin 128) :
    iblk m c 6 t (ix2 i j) = al m c (ix2 i j) := by
  have e : ((cfg0.win 6).blk t).view.emb (ix2 i j) = ix2 i j := by blk_ext [idx t, row_val]
  unfold iblk al; exact congrArg (V m c main_v12) e
theorem blk7 (c : Dev nD) (t : Fin cfg0.N) (i : Fin 1) (j : Fin 128) :
    iblk m c 7 t (ix2 i j) = dt m c (ix2 i j) := by
  have e : ((cfg0.win 7).blk t).view.emb (ix2 i j) = ix2 i j := by blk_ext [idx t, row_val]
  unfold iblk dt; exact congrArg (V m c main_v18) e
theorem emb8 (t : Fin cfg0.N) (i : Fin 512) (j : Fin 1536) :
    ((View.whole main_v19_0).slice (win0_8.rect t)).emb (ix2 i j) = ix2 (row t i) j := by blk_ext [idx t, row_val]
theorem emb9 (t : Fin cfg0.N) (i : Fin 512) (j : Fin 128) :
    ((View.whole main_v19_1).slice (win0_9.rect t)).emb (ix2 i j) = ix2 (row t i) j := by blk_ext [idx t, row_val]
theorem emb10 (t : Fin cfg0.N) (i : Fin 512) (j : Fin 512) :
    ((View.whole main_v19_2).slice (win0_10.rect t)).emb (ix2 i j) = ix2 (row t i) j := by blk_ext [idx t, row_val]
theorem emb11 (t : Fin cfg0.N) (i : Fin 512) (j : Fin 512) :
    ((View.whole main_v19_3).slice (win0_11.rect t)).emb (ix2 i j) = ix2 (row t i) j := by blk_ext [idx t, row_val]
theorem emb12 (t : Fin cfg0.N) (i : Fin 512) (j : Fin 512) :
    ((View.whole main_v19_4).slice (win0_12.rect t)).emb (ix2 i j) = ix2 (row t i) j := by blk_ext [idx t, row_val]
theorem emb13 (t : Fin cfg0.N) (i : Fin 512) (j : Fin 512) :
    ((View.whole main_v19_5).slice (win0_13.rect t)).emb (ix2 i j) = ix2 (row t i) j := by blk_ext [idx t, row_val]
theorem emb14 (t : Fin cfg0.N) (i : Fin 512) (j : Fin 512) :
    ((View.whole main_v19_6).slice (win0_14.rect t)).emb (ix2 i j) = ix2 (row t i) j := by blk_ext [idx t, row_val]
theorem emb15 (t : Fin cfg0.N) (i : Fin 512) (j : Fin 128) :
    ((View.whole main_v19_7).slice (win0_15.rect t)).emb (ix2 i j) = ix2 (row t i) j := by blk_ext [idx t, row_val]
theorem emb16 (t : Fin cfg0.N) (i : Fin 512) (j : Fin 128) :
    ((View.whole main_v19_8).slice (win0_16.rect t)).emb (ix2 i j) = ix2 (row t i) j := by blk_ext [idx t, row_val]

/-- One over the root mean square of a row. -/
@[irreducible] def rs (c : Dev nD) (i : Fin 8192) : EReal :=
  Ideal.rsqrt (Ideal.div (∑ k : Fin 1024, xs m c (ix2 i k) * xs m c (ix2 i k)) (Ideal.ofBits .f32 0x44800000#32) + Ideal.ofBits .f32 0x358637BD#32)

/-- The modulated norm. -/
@[irreducible] def h (c : Dev nD) (i : Fin 8192) (k : Fin 1024) : EReal :=
  xs m c (ix2 i k) * rs m c i * gain m c (ix2 0 k) * (1 + scale m c (ix2 0 k)) + shift m c (ix2 0 k)

/-- The projection, its columns in the packed order. -/
@[irreducible] def pr (c : Dev nD) (i : Fin 8192) (f : Fin 2688) : EReal := ∑ k : Fin 1024, h m c i k * wt m c (ix2 f k)

theorem h_blk (c : Dev nD) (t : Fin cfg0.N) (i : Fin 512) (k : Fin 1024) :
    k0_pay1 (iblk m c 0 t) (iblk m c 3 t) (iblk m c 1 t) (iblk m c 2 t) (ix2 i k) = h m c (row t i) k := by
  unfold h rs
  pointwise [k0_pay1]
  simp only [blk0, blk1, blk2, blk3]

/-- The rows the convolution reads: eight rows of zeros above the projection's first 1536 columns. -/
@[irreducible] def xe (c : Dev nD) (n : ℕ) (j : Fin 1536) : EReal :=
  if hn : 8 ≤ n ∧ n < 8200 then pr m c ⟨n - 8, by omega⟩ ⟨j.val, by omega⟩ else 0

theorem xe_row (c : Dev nD) (t : Fin cfg0.N) (i : Fin 512) (j : Fin 1536) (n : ℕ) (hn : n = t.val * 512 + 8 + i.val) :
    xe m c n j = pr m c (row t i) ⟨j.val, by omega⟩ := by
  have := point_lt t
  unfold xe
  rw [dif_pos (by omega)]
  congr 1
  exact Fin.ext (by rw [row_val]; show n - 8 = _; omega)

theorem xe_top (c : Dev nD) (n : ℕ) (j : Fin 1536) (hn : n < 8) : xe m c n j = 0 := by
  unfold xe; rw [dif_neg (by omega)]

theorem p3_blk (c : Dev nD) (t : Fin cfg0.N) (i : Fin 512) (j : Fin 1536) :
    k0_pay3 (iblk m c 0 t) (iblk m c 3 t) (iblk m c 1 t) (iblk m c 2 t) (View.ld (Val := Elt Idealize.ShloMosaic.Ideal) (S := S2688x1024) (e' := EltTy.bf16) (iblk m c 4 t) (Rect.unit ![0, 0] ![1536, 1024] inb_S2688x1024_S1536x1024_0_0)) (ix2 i j)
      = pr m c (row t i) ⟨j.val, by omega⟩ := by
  unfold pr
  pointwise [k0_pay3]
  simp only [h_blk, blk4]

/-- The block's projection, as it is kept below the eight rows of the block before. -/
@[irreducible] def P4 (c : Dev nD) (t : Fin cfg0.N) : FVec Idealize.ShloMosaic.Ideal S512x1536 .f32 :=
  k0_pay4 (iblk m c 0 t) (iblk m c 3 t) (iblk m c 1 t) (iblk m c 2 t) (View.ld (Val := Elt Idealize.ShloMosaic.Ideal) (S := S2688x1024) (e' := EltTy.bf16) (iblk m c 4 t) (Rect.unit ![0, 0] ![1536, 1024] inb_S2688x1024_S1536x1024_0_0))

theorem p4_blk (c : Dev nD) (t : Fin cfg0.N) (i : Fin 512) (j : Fin 1536) : P4 m c t (ix2 i j) = pr m c (row t i) ⟨j.val, by omega⟩ := by
  unfold P4
  pointwise [k0_pay4]
  exact p3_blk m c t i j

abbrev R8 : Rect S520x1536 := Rect.unit ![8, 0] ![512, 1536] inb_S520x1536_S512x1536_8_0
abbrev R0 : Rect S520x1536 := Rect.unit ![0, 0] ![8, 1536] inb_S520x1536_S8x1536_0_0
abbrev R512 : Rect S520x1536 := Rect.unit ![512, 0] ![8, 1536] inb_S520x1536_S8x1536_512_0

theorem emb_R8 (x : Fin 512) (b : Fin 1536) (a : Fin 520) (h : a.val = 8 + x.val) : R8.emb (ix2 x b) = ix2 a b := by
  refine Rect.emb_eq_of_coords _ _ _ fun k => ?_
  match k with
  | ⟨0, _⟩ => show a.val = 8 + 1 * x.val; omega
  | ⟨1, _⟩ => show b.val = 0 + 1 * b.val; omega
theorem emb_R0 (x : Fin 8) (b : Fin 1536) (a : Fin 520) (h : a.val = x.val) : R0.emb (ix2 x b) = ix2 a b := by
  refine Rect.emb_eq_of_coords _ _ _ fun k => ?_
  match k with
  | ⟨0, _⟩ => show a.val = 0 + 1 * x.val; omega
  | ⟨1, _⟩ => show b.val = 0 + 1 * b.val; omega
theorem not_R8 (a : Fin 520) (b : Fin 1536) (h : a.val < 8) : (ix2 a b : S520x1536.Idx) ∉ R8.set :=
  Rect.not_mem_set_of_axis _ _ 0 8 512 rfl rfl rfl (Or.inl h)

/-- The pieces of the scratch: the block's projection under the eight rows kept from the block before. -/
abbrev P8 (c : Dev nD) (t : Fin cfg0.N) : View.Piece (Elt Idealize.ShloMosaic.Ideal) S520x1536 EltTy.f32 := ⟨R8, P4 m c t⟩
abbrev P0 : View.Piece (Elt Idealize.ShloMosaic.Ideal) S520x1536 EltTy.f32 := ⟨R0, k0_pay2 (F := Idealize.ShloMosaic.Ideal)⟩

/-- The scratch of the first block: the projection under zeros. -/
theorem scr_first (c : Dev nD) (t : Fin cfg0.N) (h0 : t.val % 16 = 0) (a : Fin 520) (b : Fin 1536) :
    View.canon [P8 m c t, P0] (ix2 a b) = xe m c (t.val * 512 + a.val) b := by
  have := point_lt t
  by_cases ha : a.val < 8
  · rw [View.canon_cons_of_not_mem (P8 m c t) [P0] (not_R8 a b ha), ← emb_R0 ⟨a.val, ha⟩ b a rfl, View.canon_cons_emb, xe_top m c _ _ (by omega)]
    pointwise [k0_pay2]
  · rw [← emb_R8 ⟨a.val - 8, by omega⟩ b a (by show _ = 8 + (a.val - 8); omega), View.canon_cons_emb, p4_blk,
      xe_row m c t ⟨a.val - 8, by omega⟩ b _ (by show _ = _ + 8 + (a.val - 8); omega)]

/-- The eight rows kept for the next block are the block's last ones. -/
theorem kept (c : Dev nD) (t : Fin cfg0.N) (L M : List (View.Piece (Elt Idealize.ShloMosaic.Ideal) S520x1536 EltTy.f32)) (a : Fin 520) (ha : a.val < 8) (b : Fin 1536) :
    View.canon (⟨R0, k0_pay9 (F := Idealize.ShloMosaic.Ideal) ((View.whole cc0_scratch0).readCov (P8 m c t :: L) R512.toLoadRect)⟩ :: M) (ix2 a b)
      = xe m c ((t.val + 1) * 512 + a.val) b := by
  rw [← emb_R0 ⟨a.val, ha⟩ b a rfl, View.canon_cons_emb]
  pointwise [k0_pay9]
  rw [View.readCov_eq_canon']
  have e' : R512.toLoadRect.idx (ix2 (⟨a.val, ha⟩ : Fin 8) b) = R8.emb (ix2 (⟨504 + a.val, by omega⟩ : Fin 512) b) := by
    rw [emb_R8 ⟨504 + a.val, by omega⟩ b ⟨512 + a.val, by omega⟩ (by show 512 + a.val = 8 + (504 + a.val); omega)]
    refine (Rect.emb_eq_of_coords R512 _ _ fun k => ?_)
    match k with
    | ⟨0, _⟩ => show 512 + a.val = 512 + 1 * a.val; omega
    | ⟨1, _⟩ => show b.val = 0 + 1 * b.val; omega
  show View.canon (P8 m c t :: L) _ = _
  rw [e', View.canon_cons_emb, p4_blk, xe_row m c t ⟨504 + a.val, by omega⟩ b _ (by show _ = _ + 8 + (504 + a.val); omega)]

theorem scr_A (c : Dev nD) (t : Fin cfg0.N) (h0 : t.val % 16 = 0) :
    (outsAt0 m c t.val t.isLt).2.2.2.2.2.2.2.2.2 = View.canon (⟨R0, k0_pay9 (F := Idealize.ShloMosaic.Ideal) ((View.whole cc0_scratch0).readCov (P8 m c t :: [P0]) R512.toLoadRect)⟩ :: [P8 m c t, P0]) := by
  rw [outsAt0_A m c t h0]
  frame_out
  unfold P8 P4
  rfl
theorem scr_B (c : Dev nD) (t : Fin cfg0.N) (h0 : ¬ t.val % 16 = 0) :
    (outsAt0 m c t.val t.isLt).2.2.2.2.2.2.2.2.2 = View.canon (⟨R0, k0_pay9 (F := Idealize.ShloMosaic.Ideal) ((View.whole cc0_scratch0).readCov (P8 m c t :: []) R512.toLoadRect)⟩ :: [P8 m c t]) := by
  rw [outsAt0_B m c t h0]
  frame_out
  unfold P8 P4
  rfl

theorem scr_after (c : Dev nD) (t : Fin cfg0.N) (a : Fin 520) (ha : a.val < 8) (b : Fin 1536) :
    (outsAt0 m c t.val t.isLt).2.2.2.2.2.2.2.2.2 (ix2 a b) = xe m c ((t.val + 1) * 512 + a.val) b := by
  by_cases h0 : t.val % 16 = 0
  · rw [scr_A m c t h0, kept m c t _ _ a ha b]
  · rw [scr_B m c t h0, kept m c t _ _ a ha b]

/-- The scratch read in a block after the first. -/
theorem scr_next (c : Dev nD) (t : Fin cfg0.N) (h0 : ¬ t.val % 16 = 0) (hp : t.val - 1 < cfg0.N) (q : (Memref.whole cc0_scratch0).IsWhole) (a : Fin 520) (b : Fin 1536) :
    View.read (Elt Idealize.ShloMosaic.Ideal) (View.whole cc0_scratch0) ((View.whole cc0_scratch0).writes (Elt Idealize.ShloMosaic.Ideal)
      (q.unread (outsAt0 m c (t.val - 1) hp).2.2.2.2.2.2.2.2.2) [P8 m c t]) (ix2 a b) = xe m c (t.val * 512 + a.val) b := by
  by_cases ha : a.val < 8
  · rw [View.read_writes_cons_miss _ _ (P8 m c t) [] _ (not_R8 a b ha), View.writes_nil]
    refine (congrFun (q.read_unread _) _).trans ?_
    refine (scr_after m c ⟨t.val - 1, hp⟩ a ha b).trans ?_
    congr 1
    show (t.val - 1 + 1) * 512 + a.val = _
    rw [Nat.sub_add_cancel (by omega)]
  · rw [← emb_R8 ⟨a.val - 8, by omega⟩ b a (by show _ = 8 + (a.val - 8); omega), View.read_writes_cons_emb, p4_blk,
      xe_row m c t ⟨a.val - 8, by omega⟩ b _ (by show _ = _ + 8 + (a.val - 8); omega)]
end Cert.Kernel4Ideal.Hand
-- ==== Proof.MixPack.lean ====
module
public import proofs.«01_k».proof.Proof.Reals
public import proofs.«01_k».proof.Proof.MixProj
public import Idealize.ShloMosaic.Lib.StableHlo.RunRead
public import Idealize.ShloMosaic.Lib.Routing.OpsSet
@[expose] public section
/-! What the region of the mixer's projection finds in its arrays: the arguments, and the packed weights and lanes. -/
set_option maxRecDepth 16384
noncomputable section
namespace Cert.Kernel4Ideal.Hand
open Idealize.ShloMosaic.Routing (scatter_set_hit)
open Idealize.ShloMosaic Idealize.ShloMosaic.TcCoe Idealize.SL.Sem Cert.Kernel4Ideal Cert.Kernel4Ideal.Gen Cert.Reals
variable (m : (ℓ : Loc nD τ sig) → Buf (Elt Ideal) ℓ) (c : Dev nD)

/-- Each array the region finds, but the packed ones, is an argument. -/
theorem args : xs m c = m (c.tc.loc main_arg0) ∧ shift m c = m (c.tc.loc main_arg1) ∧ scale m c = m (c.tc.loc main_arg2)
    ∧ gain m c = m (c.tc.loc main_arg3) ∧ cw m c = m (c.tc.loc main_arg5) := by
  unfold xs shift scale gain cw
  refine ⟨?_, ?_, ?_, ?_, ?_⟩ <;> entry_read <;> rfl

/-- The packed weights' rows: first the columns of the convolution's input and of `z`, then those of `p`, then the gates'. -/
theorem wt_main (f : Fin 2048) (k : Fin 1024) : (V m c main_v6 : S2688x1024.Idx → EReal) (ix2 (⟨f.val, by omega⟩ : Fin 2688) k) = m (c.tc.loc main_arg4) (ix2 k (⟨f.val, by omega⟩ : Fin 2568)) := by
  unfold_abbrev_sides
  after_reads_simp
  pointwise
  after_reads_simp
  pointwise
theorem wt_p (f : Fin 512) (k : Fin 1024) : (V m c main_v6 : S2688x1024.Idx → EReal) (ix2 (⟨2048 + f.val, by omega⟩ : Fin 2688) k) = m (c.tc.loc main_arg4) (ix2 k (⟨2056 + f.val, by omega⟩ : Fin 2568)) := by
  unfold_abbrev_sides
  after_reads_simp
  pointwise
  after_reads_simp
  pointwise
theorem wt_gate (f : Fin 8) (k : Fin 1024) : (V m c main_v6 : S2688x1024.Idx → EReal) (ix2 (⟨2560 + f.val, by omega⟩ : Fin 2688) k) = m (c.tc.loc main_arg4) (ix2 k (⟨2048 + f.val, by omega⟩ : Fin 2568)) := by
  unfold_abbrev_sides
  after_reads_simp
  pointwise
  rw [dif_neg (by omega), dif_neg (by omega), dif_pos (by omega)]
  after_reads_simp
  pointwise
  exact congrArg (fun f => m (c.tc.loc main_arg4) (ix2 k f)) (Fin.ext (show 2048 + (2560 + f.val - 2048 - 512) = 2048 + f.val by omega))

/-- Four values written into a row from lane four on: lane `4 + l` holds value `l`. -/
theorem lanes (x : S1x128.Idx → EReal) (i : IVec S2 32) (u : S4.Idx → EReal) (h : i = fun j => if (j 0).val = 0 then 0#32 else 4#32) (l : Fin 4) :
    Host.scatter scatter_S1x128_S2_S4_0_0_01_0 (fun _ b => b) x i u (ix2 (0 : Fin 1) (⟨4 + l.val, by omega⟩ : Fin 128)) = u (ix1 l) := by
  subst h
  have hit : ∀ a l : Fin 4, scatter_S1x128_S2_S4_0_0_01_0.resultIdx? (ix1 a) (fun j : S2.Idx => if (j 0).val = 0 then 0#32 else 4#32) = some (ix2 (0 : Fin 1) (⟨4 + l.val, by omega⟩ : Fin 128)) ↔ a = l := by
    decide +kernel
  refine scatter_set_hit _ _ _ _ _ _ (fun k hk => ?_) (ix1 l) ((hit l l).2 rfl)
  idx_vars k
  rw [(hit k0 l).1 hk]

/-- The rates' logarithms and the biases lie in lanes four to seven. -/
theorem al_lane (l : Fin 4) : (V m c main_v12 : S1x128.Idx → EReal) (ix2 (0 : Fin 1) (⟨4 + l.val, by omega⟩ : Fin 128)) = m (c.tc.loc main_arg6) (ix2 (0 : Fin 1) l) := by
  unfold_abbrev_sides
  after_reads_simp
  refine (lanes _ _ _ ?_ l).trans ?_
  · after_reads_simp
    funext j
    idx_vars j
    pointwise
    fin_cases j0 <;> rfl
  pointwise
theorem dt_lane (l : Fin 4) : (V m c main_v18 : S1x128.Idx → EReal) (ix2 (0 : Fin 1) (⟨4 + l.val, by omega⟩ : Fin 128)) = m (c.tc.loc main_arg7) (ix2 (0 : Fin 1) l) := by
  unfold_abbrev_sides
  after_reads_simp
  refine (lanes _ _ _ ?_ l).trans ?_
  · after_reads_simp
    funext j
    idx_vars j
    pointwise
    fin_cases j0 <;> rfl
  pointwise
end Cert.Kernel4Ideal.Hand
-- ==== Proof.MixHeads.lean ====
module
public import proofs.«01_k».proof.Proof.Gen.Kernel4Ideal.Frame
public import proofs.«01_k».proof.Proof.Reals
public import Idealize.ShloMosaic.Lib.Pipeline.ValueKit
public import Idealize.ShloMosaic.Lib.Pointwise
public import Idealize.ShloMosaic.Lib.ValueIdx
public import Idealize.ShloMosaic.Lib.ValueIdxCore
@[expose] public section
/-! The queries and keys of a block: each head's row over its length, and the gates of a block. -/
set_option maxRecDepth 16384
noncomputable section
namespace Cert.Kernel4Ideal.Hand
open Cert.Kernel4Ideal Cert.Kernel4Ideal.Gen Idealize.ShloMosaic Idealize.ShloMosaic.TcCoe
open Cert.Reals

/-- One over the length of the head a column lies in. -/
@[irreducible] def len (q : Fin 1536 → EReal) (f : Fin 1536) : EReal :=
  Ideal.rsqrt ((∑ l : Fin 128, q ⟨f.val / 128 * 128 + l.val, by omega⟩ * q ⟨f.val / 128 * 128 + l.val, by omega⟩) + Ideal.ofBits .f32 0x358637BD#32)

theorem len_eq (q : Fin 1536 → EReal) (f : Fin 1536) (o : ℕ) (h : f.val / 128 * 128 = o) (ho : o + 128 ≤ 1536) :
    len q f = Ideal.rsqrt ((∑ l : Fin 128, q ⟨o + l.val, by omega⟩ * q ⟨o + l.val, by omega⟩) + Ideal.ofBits .f32 0x358637BD#32) := by
  subst h; unfold len; rfl

theorem p8_at (a b d : FVec Idealize.ShloMosaic.Ideal S1x1536 .f32) (A5 A6 A7 : FVec Idealize.ShloMosaic.Ideal S512x1536 .f32) (i : Fin 512) (j : Fin 1536) :
    k0_pay8 a A5 b A6 d A7 (ix2 i j) = a (ix2 0 j) * A5 (ix2 i j) + b (ix2 0 j) * A6 (ix2 i j) + d (ix2 0 j) * A7 (ix2 i j) := by
  pointwise [k0_pay8]
theorem p10_at (v58 : FVec Idealize.ShloMosaic.Ideal S512x1536 .f32) (v59 : FVec Idealize.ShloMosaic.Ideal S1x1536 .f32) (v60 : FVec Idealize.ShloMosaic.Ideal S512x1536 .f32) (i : Fin 512) (j : Fin 1536) :
    k0_pay10 v58 v59 v60 (ix2 i j) = (v58 (ix2 i j) + v59 (ix2 0 j) * v60 (ix2 i j)) * sg (v58 (ix2 i j) + v59 (ix2 0 j) * v60 (ix2 i j)) := by
  unfold sg
  pointwise [k0_pay10]
  rfl

variable (v58 : FVec Idealize.ShloMosaic.Ideal S512x1536 .f32) (v59 : FVec Idealize.ShloMosaic.Ideal S1x1536 .f32) (v60 : FVec Idealize.ShloMosaic.Ideal S512x1536 .f32)
  (q : Fin 512 → Fin 1536 → EReal) (hq : ∀ i j, k0_pay10 v58 v59 v60 (ix2 i j) = q i j) (i : Fin 512) (j : Fin 128)
include hq
theorem q0 : k0_pay11 v58 v59 v60 (ix2 i j) = q i ⟨0 + j.val, by omega⟩ * (len (q i) ⟨0 + j.val, by omega⟩ * Ideal.ofBits .f32 0x3DB504F3#32) := by
  rw [len_eq (q i) _ 0 (by show (0 + j.val) / 128 * 128 = 0; omega) (by omega)]
  pointwise [k0_pay11]
  simp only [hq]
theorem k0 : k0_pay12 v58 v59 v60 (ix2 i j) = q i ⟨512 + j.val, by omega⟩ * len (q i) ⟨512 + j.val, by omega⟩ := by
  rw [len_eq (q i) _ 512 (by show (512 + j.val) / 128 * 128 = 512; omega) (by omega)]
  pointwise [k0_pay12]
  simp only [hq]
theorem q1 : k0_pay16 (k0_pay13 v58 v59 v60) (k0_pay15 v58 v59 v60) (ix2 i j) = q i ⟨128 + j.val, by omega⟩ * (len (q i) ⟨128 + j.val, by omega⟩ * Ideal.ofBits .f32 0x3DB504F3#32) := by
  rw [len_eq (q i) _ 128 (by show (128 + j.val) / 128 * 128 = 128; omega) (by omega)]
  pointwise [k0_pay16, k0_pay13, k0_pay15]
  simp only [hq]
theorem k1 : k0_pay17 (k0_pay14 v58 v59 v60) (ix2 i j) = q i ⟨640 + j.val, by omega⟩ * len (q i) ⟨640 + j.val, by omega⟩ := by
  rw [len_eq (q i) _ 640 (by show (640 + j.val) / 128 * 128 = 640; omega) (by omega)]
  pointwise [k0_pay17, k0_pay14]
  simp only [hq]
theorem q2 : k0_pay18 (k0_pay10 v58 v59 v60) (ix2 i j) = q i ⟨256 + j.val, by omega⟩ * (len (q i) ⟨256 + j.val, by omega⟩ * Ideal.ofBits .f32 0x3DB504F3#32) := by
  rw [len_eq (q i) _ 256 (by show (256 + j.val) / 128 * 128 = 256; omega) (by omega)]
  pointwise [k0_pay18]
  simp only [hq]
theorem k2 : k0_pay19 (k0_pay10 v58 v59 v60) (ix2 i j) = q i ⟨768 + j.val, by omega⟩ * len (q i) ⟨768 + j.val, by omega⟩ := by
  rw [len_eq (q i) _ 768 (by show (768 + j.val) / 128 * 128 = 768; omega) (by omega)]
  pointwise [k0_pay19]
  simp only [hq]
theorem q3 : k0_pay20 (k0_pay10 v58 v59 v60) (ix2 i j) = q i ⟨384 + j.val, by omega⟩ * (len (q i) ⟨384 + j.val, by omega⟩ * Ideal.ofBits .f32 0x3DB504F3#32) := by
  rw [len_eq (q i) _ 384 (by show (384 + j.val) / 128 * 128 = 384; omega) (by omega)]
  pointwise [k0_pay20]
  simp only [hq]
theorem k3 : k0_pay21 (k0_pay10 v58 v59 v60) (ix2 i j) = q i ⟨896 + j.val, by omega⟩ * len (q i) ⟨896 + j.val, by omega⟩ := by
  rw [len_eq (q i) _ 896 (by show (896 + j.val) / 128 * 128 = 896; omega) (by omega)]
  pointwise [k0_pay21]
  simp only [hq]
omit hq
/-- Four heads stored side by side. -/
theorem quarters (W0 W1 W2 W3 : FVec Idealize.ShloMosaic.Ideal S512x128 .f32) (g : Fin 512 → EReal) (r : Fin 512)
    (g0 : ∀ j : Fin 128, W0 (ix2 r j) = g ⟨j.val, by omega⟩) (g1 : ∀ j : Fin 128, W1 (ix2 r j) = g ⟨128 + j.val, by omega⟩)
    (g2 : ∀ j : Fin 128, W2 (ix2 r j) = g ⟨256 + j.val, by omega⟩) (g3 : ∀ j : Fin 128, W3 (ix2 r j) = g ⟨384 + j.val, by omega⟩) (y : Fin 512) :
    View.canon (Val := Elt Idealize.ShloMosaic.Ideal) (s := S512x512) (e := EltTy.f32)
    [⟨Rect.unit ![0, 384] ![512, 128] inb_S512x512_S512x128_0_384, W3⟩, ⟨Rect.unit ![0, 256] ![512, 128] inb_S512x512_S512x128_0_256, W2⟩,
      ⟨Rect.unit ![0, 128] ![512, 128] inb_S512x512_S512x128_0_128, W1⟩, ⟨Rect.unit ![0, 0] ![512, 128] inb_S512x512_S512x128_0_0, W0⟩] (ix2 r y) = g y := by
  canon_tiles x h
  · idx_vars x
    obtain rfl := Fin.ext h0
    exact (g3 _).trans (congrArg g (Fin.ext h1.symm))
  · idx_vars x
    obtain rfl := Fin.ext h0
    exact (g2 _).trans (congrArg g (Fin.ext h1.symm))
  · idx_vars x
    obtain rfl := Fin.ext h0
    exact (g1 _).trans (congrArg g (Fin.ext h1.symm))
  · idx_vars x
    obtain rfl := Fin.ext h0
    exact (g0 _).trans (congrArg g (Fin.ext h1.symm))

theorem v_at (v75 : FVec Idealize.ShloMosaic.Ideal S512x1536 .f32) (i y : Fin 512) : k0_pay22 v75 (ix2 i y) = v75 (ix2 i ⟨1024 + y.val, by omega⟩) := by
  pointwise [k0_pay22]
end Cert.Kernel4Ideal.Hand
-- ==== Proof.MixConv.lean ====
module
public import proofs.«01_k».proof.Proof.MixProj
public import proofs.«01_k».proof.Proof.MixHeads
@[expose] public section
/-!
The convolution of the mixer's projection, its silu, and the heads of queries, keys and values, by blocks of 512 rows.
-/
set_option maxRecDepth 16384
noncomputable section
namespace Cert.Kernel4Ideal.Hand
open Cert.Kernel4Ideal Cert.Kernel4Ideal.Gen Idealize.ShloMosaic Idealize.ShloMosaic.TcCoe Idealize.SL.Sem
open Idealize.ShloMosaic.Pipeline (Dat)
open Cert.Reals
variable (m : (ℓ : Loc nD τ sig) → Buf (Elt Ideal) ℓ)

/-- The convolution of four rows. -/
@[irreducible] def cv (c : Dev nD) (i : Fin 8192) (j : Fin 1536) : EReal :=
  cw m c (ix2 0 j) * xe m c (i.val + 5) j + cw m c (ix2 1 j) * xe m c (i.val + 6) j + cw m c (ix2 2 j) * xe m c (i.val + 7) j
    + cw m c (ix2 3 j) * xe m c (i.val + 8) j

/-- Its silu. -/
@[irreducible] def qt (c : Dev nD) (i : Fin 8192) (j : Fin 1536) : EReal := cv m c i j * sg (cv m c i j)

abbrev C0 (c : Dev nD) (t : Fin cfg0.N) := View.ld (Val := Elt Idealize.ShloMosaic.Ideal) (S := S4x1536) (e' := EltTy.f32) (iblk m c 5 t) (Rect.unit ![0, 0] ![1, 1536] inb_S4x1536_S1x1536_0_0)
abbrev C1 (c : Dev nD) (t : Fin cfg0.N) := View.ld (Val := Elt Idealize.ShloMosaic.Ideal) (S := S4x1536) (e' := EltTy.f32) (iblk m c 5 t) (Rect.unit ![1, 0] ![1, 1536] inb_S4x1536_S1x1536_1_0)
abbrev C2 (c : Dev nD) (t : Fin cfg0.N) := View.ld (Val := Elt Idealize.ShloMosaic.Ideal) (S := S4x1536) (e' := EltTy.f32) (iblk m c 5 t) (Rect.unit ![2, 0] ![1, 1536] inb_S4x1536_S1x1536_2_0)
abbrev C3 (c : Dev nD) (t : Fin cfg0.N) := View.ld (Val := Elt Idealize.ShloMosaic.Ideal) (S := S4x1536) (e' := EltTy.f32) (iblk m c 5 t) (Rect.unit ![3, 0] ![1, 1536] inb_S4x1536_S1x1536_3_0)

theorem qt_blk (c : Dev nD) (t : Fin cfg0.N) (A5 A6 A7 A8 : FVec Idealize.ShloMosaic.Ideal S512x1536 .f32)
    (h5 : ∀ i j, A5 (ix2 i j) = xe m c (t.val * 512 + (5 + i.val)) j) (h6 : ∀ i j, A6 (ix2 i j) = xe m c (t.val * 512 + (6 + i.val)) j)
    (h7 : ∀ i j, A7 (ix2 i j) = xe m c (t.val * 512 + (7 + i.val)) j) (h8 : ∀ i j, A8 (ix2 i j) = xe m c (t.val * 512 + (8 + i.val)) j)
    (i : Fin 512) (j : Fin 1536) :
    k0_pay10 (k0_pay8 (C0 m c t) A5 (C1 m c t) A6 (C2 m c t) A7) (C3 m c t) A8 (ix2 i j) = qt m c (row t i) j := by
  have b0 : C0 m c t (ix2 0 j) = cw m c (ix2 0 j) := by pointwise [C0, C1, C2, C3]; rw [blk5]
  have b1 : C1 m c t (ix2 0 j) = cw m c (ix2 1 j) := by pointwise [C0, C1, C2, C3]; rw [blk5]
  have b2 : C2 m c t (ix2 0 j) = cw m c (ix2 2 j) := by pointwise [C0, C1, C2, C3]; rw [blk5]
  have b3 : C3 m c t (ix2 0 j) = cw m c (ix2 3 j) := by pointwise [C0, C1, C2, C3]; rw [blk5]
  unfold qt cv
  rw [p10_at, p8_at, h5, h6, h7, h8, b0, b1, b2, b3, row_val]
  rw [show t.val * 512 + i.val + 5 = t.val * 512 + (5 + i.val) by omega, show t.val * 512 + i.val + 6 = t.val * 512 + (6 + i.val) by omega,
    show t.val * 512 + i.val + 7 = t.val * 512 + (7 + i.val) by omega, show t.val * 512 + i.val + 8 = t.val * 512 + (8 + i.val) by omega]

/-- 512 rows of the scratch from row `o`. -/
abbrev RO (o : ℕ) (inb : ∀ a, (![o, 0] : Fin 2 → ℕ) a + S512x1536.size a ≤ S520x1536.size a) : Rect S520x1536 := Rect.unit ![o, 0] ![512, 1536] inb

theorem emb_RO (o : ℕ) (ho : o ≤ 8) (inb : ∀ a, (![o, 0] : Fin 2 → ℕ) a + S512x1536.size a ≤ S520x1536.size a) (i : Fin 512) (j : Fin 1536) :
    (RO o inb).emb (ix2 i j) = ix2 ⟨o + i.val, by omega⟩ j := by
  refine Rect.emb_eq_of_coords _ _ _ fun k => ?_
  match k with
  | ⟨0, _⟩ => show o + i.val = o + 1 * i.val; omega
  | ⟨1, _⟩ => show j.val = 0 + 1 * j.val; omega

/-- What the first block reads from its scratch. -/
abbrev LA (c : Dev nD) (t : Fin cfg0.N) (o : ℕ) (inb : ∀ a, (![o, 0] : Fin 2 → ℕ) a + S512x1536.size a ≤ S520x1536.size a) :=
  (View.whole cc0_scratch0).readCov [P8 m c t, P0] (RO o inb).toLoadRect

theorem la_row (c : Dev nD) (t : Fin cfg0.N) (h0 : t.val % 16 = 0) (o : ℕ) (ho : o ≤ 8)
    (inb : ∀ a, (![o, 0] : Fin 2 → ℕ) a + S512x1536.size a ≤ S520x1536.size a) (i : Fin 512) (j : Fin 1536) :
    LA m c t o inb (ix2 i j) = xe m c (t.val * 512 + (o + i.val)) j := by
  unfold LA
  rw [View.readCov_eq_canon']
  refine Eq.trans ?_ (scr_first m c t h0 ⟨o + i.val, by omega⟩ j)
  exact congrArg (View.canon [P8 m c t, P0]) (emb_RO o ho inb i j)

/-- What a later block reads from its scratch. -/
abbrev LB (c : Dev nD) (t : Fin cfg0.N) (hp : t.val - 1 < cfg0.N) (o : ℕ) (inb : ∀ a, (![o, 0] : Fin 2 → ℕ) a + S512x1536.size a ≤ S520x1536.size a) :=
  View.ld (Val := Elt Idealize.ShloMosaic.Ideal) (S := S520x1536) (e' := EltTy.f32) (View.read (Elt Idealize.ShloMosaic.Ideal) (View.whole cc0_scratch0) ((View.whole cc0_scratch0).writes (Elt Idealize.ShloMosaic.Ideal)
      ((Memref.isWhole_whole cc0_scratch0).unread (outsAt0 m c (t.val - 1) hp).2.2.2.2.2.2.2.2.2) [P8 m c t])) (RO o inb)

theorem lb_row (c : Dev nD) (t : Fin cfg0.N) (h0 : ¬ t.val % 16 = 0) (hp : t.val - 1 < cfg0.N) (o : ℕ) (ho : o ≤ 8)
    (inb : ∀ a, (![o, 0] : Fin 2 → ℕ) a + S512x1536.size a ≤ S520x1536.size a) (i : Fin 512) (j : Fin 1536) :
    LB m c t hp o inb (ix2 i j) = xe m c (t.val * 512 + (o + i.val)) j := by
  refine Eq.trans ?_ (scr_next m c t h0 hp (Memref.isWhole_whole cc0_scratch0) ⟨o + i.val, by omega⟩ j)
  exact congrArg (View.read (Elt Idealize.ShloMosaic.Ideal) (View.whole cc0_scratch0) ((View.whole cc0_scratch0).writes (Elt Idealize.ShloMosaic.Ideal)
      ((Memref.isWhole_whole cc0_scratch0).unread (outsAt0 m c (t.val - 1) hp).2.2.2.2.2.2.2.2.2) [P8 m c t])) (emb_RO o ho inb i j)

theorem l8_row (c : Dev nD) (t : Fin cfg0.N) (L : List (View.Piece (Elt Idealize.ShloMosaic.Ideal) S520x1536 EltTy.f32)) (i : Fin 512) (j : Fin 1536) :
    (View.whole cc0_scratch0).readCov (P8 m c t :: L) R8.toLoadRect (ix2 i j) = xe m c (t.val * 512 + (8 + i.val)) j := by
  rw [View.readCov_cons_toLoadRect, p4_blk, xe_row m c t i j _ (by omega)]

/-- Three of the convolution's four terms, and its last row, in the first block. -/
abbrev VA (c : Dev nD) (t : Fin cfg0.N) : FVec Idealize.ShloMosaic.Ideal S512x1536 .f32 :=
  k0_pay8 (C0 m c t) (LA m c t 5 inb_S520x1536_S512x1536_5_0) (C1 m c t) (LA m c t 6 inb_S520x1536_S512x1536_6_0) (C2 m c t) (LA m c t 7 inb_S520x1536_S512x1536_7_0)
abbrev WA (c : Dev nD) (t : Fin cfg0.N) : FVec Idealize.ShloMosaic.Ideal S512x1536 .f32 := LA m c t 8 inb_S520x1536_S512x1536_8_0
/-- The same in a later block. -/
abbrev VB (c : Dev nD) (t : Fin cfg0.N) (hp : t.val - 1 < cfg0.N) : FVec Idealize.ShloMosaic.Ideal S512x1536 .f32 :=
  k0_pay8 (C0 m c t) (LB m c t hp 5 inb_S520x1536_S512x1536_5_0) (C1 m c t) (LB m c t hp 6 inb_S520x1536_S512x1536_6_0) (C2 m c t) (LB m c t hp 7 inb_S520x1536_S512x1536_7_0)
abbrev WB (c : Dev nD) (t : Fin cfg0.N) : FVec Idealize.ShloMosaic.Ideal S512x1536 .f32 := (View.whole cc0_scratch0).readCov [P8 m c t] R8.toLoadRect

theorem qt_A (c : Dev nD) (t : Fin cfg0.N) (h0 : t.val % 16 = 0) (i : Fin 512) (j : Fin 1536) :
    k0_pay10 (VA m c t) (C3 m c t) (WA m c t) (ix2 i j) = qt m c (row t i) j :=
  qt_blk m c t _ _ _ _ (la_row m c t h0 5 (by omega) _) (la_row m c t h0 6 (by omega) _) (la_row m c t h0 7 (by omega) _) (la_row m c t h0 8 (by omega) _) i j
theorem qt_B (c : Dev nD) (t : Fin cfg0.N) (h0 : ¬ t.val % 16 = 0) (hp : t.val - 1 < cfg0.N) (i : Fin 512) (j : Fin 1536) :
    k0_pay10 (VB m c t hp) (C3 m c t) (WB m c t) (ix2 i j) = qt m c (row t i) j :=
  qt_blk m c t _ _ _ _ (lb_row m c t h0 hp 5 (by omega) _) (lb_row m c t h0 hp 6 (by omega) _) (lb_row m c t h0 hp 7 (by omega) _) (l8_row m c t []) i j

/-- The queries, keys and values of a block from its convolution. -/
abbrev HQ (v58 : FVec Idealize.ShloMosaic.Ideal S512x1536 .f32) (v59 : FVec Idealize.ShloMosaic.Ideal S1x1536 .f32) (v60 : FVec Idealize.ShloMosaic.Ideal S512x1536 .f32) :
    S512x512.Idx → EReal := View.canon (Val := Elt Idealize.ShloMosaic.Ideal) (s := S512x512) (e := EltTy.f32)
    [⟨Rect.unit ![0, 384] ![512, 128] inb_S512x512_S512x128_0_384, k0_pay20 (k0_pay10 v58 v59 v60)⟩,
      ⟨Rect.unit ![0, 256] ![512, 128] inb_S512x512_S512x128_0_256, k0_pay18 (k0_pay10 v58 v59 v60)⟩,
      ⟨Rect.unit ![0, 128] ![512, 128] inb_S512x512_S512x128_0_128, k0_pay16 (k0_pay13 v58 v59 v60) (k0_pay15 v58 v59 v60)⟩,
      ⟨Rect.unit ![0, 0] ![512, 128] inb_S512x512_S512x128_0_0, k0_pay11 v58 v59 v60⟩]
abbrev HK (v58 : FVec Idealize.ShloMosaic.Ideal S512x1536 .f32) (v59 : FVec Idealize.ShloMosaic.Ideal S1x1536 .f32) (v60 : FVec Idealize.ShloMosaic.Ideal S512x1536 .f32) :
    S512x512.Idx → EReal := View.canon (Val := Elt Idealize.ShloMosaic.Ideal) (s := S512x512) (e := EltTy.f32)
    [⟨Rect.unit ![0, 384] ![512, 128] inb_S512x512_S512x128_0_384, k0_pay21 (k0_pay10 v58 v59 v60)⟩,
      ⟨Rect.unit ![0, 256] ![512, 128] inb_S512x512_S512x128_0_256, k0_pay19 (k0_pay10 v58 v59 v60)⟩,
      ⟨Rect.unit ![0, 128] ![512, 128] inb_S512x512_S512x128_0_128, k0_pay17 (k0_pay14 v58 v59 v60)⟩,
      ⟨Rect.unit ![0, 0] ![512, 128] inb_S512x512_S512x128_0_0, k0_pay12 v58 v59 v60⟩]

theorem p4_fold (c : Dev nD) (t : Fin cfg0.N) : k0_pay4 (iblk m c 0 t) (iblk m c 3 t) (iblk m c 1 t) (iblk m c 2 t)
    (View.ld (Val := Elt Idealize.ShloMosaic.Ideal) (S := S2688x1024) (e' := EltTy.bf16) (iblk m c 4 t) (Rect.unit ![0, 0] ![1536, 1024] inb_S2688x1024_S1536x1024_0_0)) = P4 m c t := by unfold P4; rfl
theorem out10_A (c : Dev nD) (t : Fin cfg0.N) (h0 : t.val % 16 = 0) : (outsAt0 m c t.val t.isLt).2.2.1 = HQ (VA m c t) (C3 m c t) (WA m c t) := by
  rw [outsAt0_A m c t h0]; frame_out; simp only [p4_fold]
theorem out11_A (c : Dev nD) (t : Fin cfg0.N) (h0 : t.val % 16 = 0) : (outsAt0 m c t.val t.isLt).2.2.2.1 = HK (VA m c t) (C3 m c t) (WA m c t) := by
  rw [outsAt0_A m c t h0]; frame_out; simp only [p4_fold]
theorem out12_A (c : Dev nD) (t : Fin cfg0.N) (h0 : t.val % 16 = 0) :
    (outsAt0 m c t.val t.isLt).2.2.2.2.1 = k0_pay22 (k0_pay10 (VA m c t) (C3 m c t) (WA m c t)) := by
  rw [outsAt0_A m c t h0]; frame_out; simp only [p4_fold]
theorem out10_B (c : Dev nD) (t : Fin cfg0.N) (h0 : ¬ t.val % 16 = 0) (hp : t.val - 1 < cfg0.N) :
    (outsAt0 m c t.val t.isLt).2.2.1 = HQ (VB m c t hp) (C3 m c t) (WB m c t) := by
  rw [outsAt0_B m c t h0]; frame_out; simp only [p4_fold]
theorem out11_B (c : Dev nD) (t : Fin cfg0.N) (h0 : ¬ t.val % 16 = 0) (hp : t.val - 1 < cfg0.N) :
    (outsAt0 m c t.val t.isLt).2.2.2.1 = HK (VB m c t hp) (C3 m c t) (WB m c t) := by
  rw [outsAt0_B m c t h0]; frame_out; simp only [p4_fold]
theorem out12_B (c : Dev nD) (t : Fin cfg0.N) (h0 : ¬ t.val % 16 = 0) (hp : t.val - 1 < cfg0.N) :
    (outsAt0 m c t.val t.isLt).2.2.2.2.1 = k0_pay22 (k0_pay10 (VB m c t hp) (C3 m c t) (WB m c t)) := by
  rw [outsAt0_B m c t h0]; frame_out; simp only [p4_fold]

theorem hq_row (v58 : FVec Idealize.ShloMosaic.Ideal S512x1536 .f32) (v59 : FVec Idealize.ShloMosaic.Ideal S1x1536 .f32) (v60 : FVec Idealize.ShloMosaic.Ideal S512x1536 .f32)
    (q : Fin 512 → Fin 1536 → EReal) (hq : ∀ i j, k0_pay10 v58 v59 v60 (ix2 i j) = q i j) (i : Fin 512) (y : Fin 512) :
    HQ v58 v59 v60 (ix2 i y) = q i ⟨y.val, by omega⟩ * (len (q i) ⟨y.val, by omega⟩ * Ideal.ofBits .f32 0x3DB504F3#32) :=
  quarters _ _ _ _ (fun y : Fin 512 => q i ⟨y.val, by omega⟩ * (len (q i) ⟨y.val, by omega⟩ * Ideal.ofBits .f32 0x3DB504F3#32)) i
    (fun j => (q0 v58 v59 v60 q hq i j).trans (by simp only [Nat.zero_add])) (q1 v58 v59 v60 q hq i) (q2 v58 v59 v60 q hq i) (q3 v58 v59 v60 q hq i) y
theorem hk_row (v58 : FVec Idealize.ShloMosaic.Ideal S512x1536 .f32) (v59 : FVec Idealize.ShloMosaic.Ideal S1x1536 .f32) (v60 : FVec Idealize.ShloMosaic.Ideal S512x1536 .f32)
    (q : Fin 512 → Fin 1536 → EReal) (hq : ∀ i j, k0_pay10 v58 v59 v60 (ix2 i j) = q i j) (i : Fin 512) (y : Fin 512) :
    HK v58 v59 v60 (ix2 i y) = q i ⟨512 + y.val, by omega⟩ * len (q i) ⟨512 + y.val, by omega⟩ :=
  quarters _ _ _ _ (fun y : Fin 512 => q i ⟨512 + y.val, by omega⟩ * len (q i) ⟨512 + y.val, by omega⟩) i
    (k0 v58 v59 v60 q hq i) (fun j => (k1 v58 v59 v60 q hq i j).trans (by simp only [← Nat.add_assoc, Nat.reduceAdd]))
    (fun j => (k2 v58 v59 v60 q hq i j).trans (by simp only [← Nat.add_assoc, Nat.reduceAdd])) (fun j => (k3 v58 v59 v60 q hq i j).trans (by simp only [← Nat.add_assoc, Nat.reduceAdd])) y

/-- The queries, the keys and the values. -/
@[irreducible] def nq (c : Dev nD) (i : Fin 8192) (y : Fin 512) : EReal :=
  qt m c i ⟨y.val, by omega⟩ * (len (qt m c i) ⟨y.val, by omega⟩ * Ideal.ofBits .f32 0x3DB504F3#32)
@[irreducible] def nk (c : Dev nD) (i : Fin 8192) (y : Fin 512) : EReal := qt m c i ⟨512 + y.val, by omega⟩ * len (qt m c i) ⟨512 + y.val, by omega⟩
@[irreducible] def nv (c : Dev nD) (i : Fin 8192) (y : Fin 512) : EReal := qt m c i ⟨1024 + y.val, by omega⟩

theorem row10 (c : Dev nD) (t : Fin cfg0.N) (i y : Fin 512) : (outsAt0 m c t.val t.isLt).2.2.1 (ix2 i y) = nq m c (row t i) y := by
  unfold nq
  by_cases h0 : t.val % 16 = 0
  · rw [out10_A m c t h0]
    exact hq_row _ _ _ (fun i => qt m c (row t i)) (qt_A m c t h0) i y
  · rw [out10_B m c t h0 (by have := t.isLt; omega)]
    exact hq_row _ _ _ (fun i => qt m c (row t i)) (qt_B m c t h0 _) i y
theorem row11 (c : Dev nD) (t : Fin cfg0.N) (i y : Fin 512) : (outsAt0 m c t.val t.isLt).2.2.2.1 (ix2 i y) = nk m c (row t i) y := by
  unfold nk
  by_cases h0 : t.val % 16 = 0
  · rw [out11_A m c t h0]
    exact hk_row _ _ _ (fun i => qt m c (row t i)) (qt_A m c t h0) i y
  · rw [out11_B m c t h0 (by have := t.isLt; omega)]
    exact hk_row _ _ _ (fun i => qt m c (row t i)) (qt_B m c t h0 _) i y
theorem row12 (c : Dev nD) (t : Fin cfg0.N) (i y : Fin 512) : (outsAt0 m c t.val t.isLt).2.2.2.2.1 (ix2 i y) = nv m c (row t i) y := by
  unfold nv
  by_cases h0 : t.val % 16 = 0
  · rw [out12_A m c t h0, v_at]
    exact qt_A m c t h0 i _
  · rw [out12_B m c t h0 (by have := t.isLt; omega), v_at]
    exact qt_B m c t h0 _ i _

theorem arr10 (c : Dev nD) : (dats m 0 c).arrAt 10 cfg0.N = fun j : S8192x512.Idx => nq m c (j 0) (j 1) := by
  refine (dats m 0 c).arrAt_eq_of_covers 10 _ (by decide +kernel) fun t hf y => ?_
  blk_simp
  rw [after0_10]
  idx_vars y
  rw [emb10]
  exact row10 m c t _ _
theorem arr11 (c : Dev nD) : (dats m 0 c).arrAt 11 cfg0.N = fun j : S8192x512.Idx => nk m c (j 0) (j 1) := by
  refine (dats m 0 c).arrAt_eq_of_covers 11 _ (by decide +kernel) fun t hf y => ?_
  blk_simp
  rw [after0_11]
  idx_vars y
  rw [emb11]
  exact row11 m c t _ _
theorem arr12 (c : Dev nD) : (dats m 0 c).arrAt 12 cfg0.N = fun j : S8192x512.Idx => nv m c (j 0) (j 1) := by
  refine (dats m 0 c).arrAt_eq_of_covers 12 _ (by decide +kernel) fun t hf y => ?_
  blk_simp
  rw [after0_12]
  idx_vars y
  rw [emb12]
  exact row12 m c t _ _
end Cert.Kernel4Ideal.Hand
-- ==== Proof.MixRef.lean ====
module
public import proofs.«01_k».proof.Proof.Reals
public import proofs.«01_k».proof.Proof.MixPack
public import proofs.«01_k».proof.Proof.MixConv
public import proofs.«01_k».proof.Proof.Gen.Reference4Ideal.Run
public import proofs.«01_k».proof.Proof.Gen.Reference4Ideal.Read
public import Idealize.ShloMosaic.Lib.StableHlo.RunRead
@[expose] public section
/-! The reference's projection, convolution and activation in the kernel's terms. -/
set_option maxRecDepth 16384
noncomputable section
namespace Cert.Kernel4Ideal.Hand
open Idealize.ShloMosaic Idealize.ShloMosaic.TcCoe Idealize.SL.Sem Cert.Kernel4Ideal Cert.Kernel4Ideal.Gen Cert.Reals
open Cert.Reference4Ideal.Read
variable (m : (ℓ : Loc nD τ sig) → Buf (Elt Ideal) ℓ) (c : Dev nD)

theorem h_eq (i : Fin 8192) (k : Fin 1024) : h m c i k = ((val_main_v17 (F := Ideal) (m (c.tc.loc main_arg0)) (m (c.tc.loc main_arg1)) (m (c.tc.loc main_arg2)) (m (c.tc.loc main_arg3))) : S8192x1024.Idx → EReal) (ix2 i k) := by
  obtain ⟨ex, ei, es, eg, -⟩ := args m c
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
  unfold h rs
  rw [ex, ei, es, eg]
  try rw [Ideal.ofBits_one_f32]

/-- The projection's columns, from the packed order to the weights' own. -/
theorem pr_main (i : Fin 8192) (f : Fin 2048) : pr m c i ⟨f.val, by omega⟩ = ((val_main_v18 (F := Ideal) (m (c.tc.loc main_arg0)) (m (c.tc.loc main_arg1)) (m (c.tc.loc main_arg2)) (m (c.tc.loc main_arg3)) (m (c.tc.loc main_arg4))) : Cert.Reference4Ideal.S8192x2568.Idx → EReal) (ix2 i (⟨f.val, by omega⟩ : Fin 2568)) := by
  pointwise [val_main_v18]
  unfold pr wt
  exact Finset.sum_congr rfl fun x _ => congrArg₂ (· * ·) (h_eq m c i x) (wt_main m c f x)
theorem pr_p (i : Fin 8192) (f : Fin 512) : pr m c i ⟨2048 + f.val, by omega⟩ = ((val_main_v18 (F := Ideal) (m (c.tc.loc main_arg0)) (m (c.tc.loc main_arg1)) (m (c.tc.loc main_arg2)) (m (c.tc.loc main_arg3)) (m (c.tc.loc main_arg4))) : Cert.Reference4Ideal.S8192x2568.Idx → EReal) (ix2 i (⟨2056 + f.val, by omega⟩ : Fin 2568)) := by
  pointwise [val_main_v18]
  unfold pr wt
  exact Finset.sum_congr rfl fun x _ => congrArg₂ (· * ·) (h_eq m c i x) (wt_p m c f x)
theorem pr_gate (i : Fin 8192) (f : Fin 8) : pr m c i ⟨2560 + f.val, by omega⟩ = ((val_main_v18 (F := Ideal) (m (c.tc.loc main_arg0)) (m (c.tc.loc main_arg1)) (m (c.tc.loc main_arg2)) (m (c.tc.loc main_arg3)) (m (c.tc.loc main_arg4))) : Cert.Reference4Ideal.S8192x2568.Idx → EReal) (ix2 i (⟨2048 + f.val, by omega⟩ : Fin 2568)) := by
  pointwise [val_main_v18]
  unfold pr wt
  exact Finset.sum_congr rfl fun x _ => congrArg₂ (· * ·) (h_eq m c i x) (wt_gate m c f x)
theorem pr_19 (i : Fin 8192) (j : Fin 1536) : pr m c i ⟨j.val, by omega⟩ = ((val_main_v19 (F := Ideal) (m (c.tc.loc main_arg0)) (m (c.tc.loc main_arg1)) (m (c.tc.loc main_arg2)) (m (c.tc.loc main_arg3)) (m (c.tc.loc main_arg4))) : S8192x1536.Idx → EReal) (ix2 i j) := by
  pointwise [val_main_v19]
  exact pr_main m c i ⟨j.val, by omega⟩

/-- The convolution's rows: three of zero, then the projection's. -/
theorem rows_low (n : Fin 8195) (h : n.val < 3) (j : Fin 1536) : ((val_main_v25 (F := Ideal) (m (c.tc.loc main_arg0)) (m (c.tc.loc main_arg1)) (m (c.tc.loc main_arg2)) (m (c.tc.loc main_arg3)) (m (c.tc.loc main_arg4))) : Cert.Reference4Ideal.S8195x1536.Idx → EReal) (ix2 n j) = 0 := by
  pointwise [val_main_v25]
  rw [dif_pos h]
  pointwise [val_main_v24, val_main_cst_3]
theorem rows_high (n : Fin 8195) (h : ¬ n.val < 3) (j : Fin 1536) : ((val_main_v25 (F := Ideal) (m (c.tc.loc main_arg0)) (m (c.tc.loc main_arg1)) (m (c.tc.loc main_arg2)) (m (c.tc.loc main_arg3)) (m (c.tc.loc main_arg4))) : Cert.Reference4Ideal.S8195x1536.Idx → EReal) (ix2 n j) = ((val_main_v19 (F := Ideal) (m (c.tc.loc main_arg0)) (m (c.tc.loc main_arg1)) (m (c.tc.loc main_arg2)) (m (c.tc.loc main_arg3)) (m (c.tc.loc main_arg4))) : S8192x1536.Idx → EReal) (ix2 (⟨n.val - 3, by omega⟩ : Fin 8192) j) := by
  pointwise [val_main_v25]
  rw [dif_neg h]
theorem xe_eq (n : Fin 8195) (r : ℕ) (h : n.val + 5 = r) (j : Fin 1536) : xe m c r j = ((val_main_v25 (F := Ideal) (m (c.tc.loc main_arg0)) (m (c.tc.loc main_arg1)) (m (c.tc.loc main_arg2)) (m (c.tc.loc main_arg3)) (m (c.tc.loc main_arg4))) : Cert.Reference4Ideal.S8195x1536.Idx → EReal) (ix2 n j) := by
  subst h
  unfold xe
  by_cases h : n.val < 3
  · rw [dif_neg (by omega), rows_low m c _ h]
  · rw [dif_pos (by omega), rows_high m c _ h, ← pr_19]
    exact congrArg (fun n => pr m c n ⟨j.val, by omega⟩) (Fin.ext (show n.val + 5 - 8 = n.val - 3 by omega))

theorem cv_eq (i : Fin 8192) (j : Fin 1536) : cv m c i j = ((val_main_v46 (F := Ideal) (m (c.tc.loc main_arg0)) (m (c.tc.loc main_arg1)) (m (c.tc.loc main_arg2)) (m (c.tc.loc main_arg3)) (m (c.tc.loc main_arg4)) (m (c.tc.loc main_arg5))) : S8192x1536.Idx → EReal) (ix2 i j) := by
  obtain ⟨-, -, -, -, ew⟩ := args m c
  pointwise [val_main_v46, val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v27, val_main_v26, val_main_cst_4]
  unfold cv
  rw [ew, xe_eq m c ⟨i.val, by omega⟩ _ (by rfl), xe_eq m c ⟨1 + i.val, by omega⟩ _ (show 1 + i.val + 5 = i.val + 6 by omega),
    xe_eq m c ⟨2 + i.val, by omega⟩ _ (show 2 + i.val + 5 = i.val + 7 by omega), xe_eq m c ⟨3 + i.val, by omega⟩ _ (show 3 + i.val + 5 = i.val + 8 by omega)]

theorem sig_eq (x0 : S8192x1024.Idx → EReal) (x1 x2 x3 : S1x1024.Idx → EReal) (x4 : S1024x2568.Idx → EReal) (x5 : S4x1536.Idx → EReal) (j : S8192x1536.Idx) :
    val_main_call0_v5 (F := Ideal) x0 x1 x2 x3 x4 x5 j = Ideal.logistic (val_main_v46 (F := Ideal) x0 x1 x2 x3 x4 x5 j) := by
  rw [val_main_call0_v5_apply, val_main_call0_v4_apply, val_main_call0_v3_apply, val_main_call0_v2_apply, val_main_call0_v1_apply,
    val_main_call0_v0_apply, val_main_call0_cst_apply, val_main_call0_cst_0_apply]
  simp [Ideal.logistic]
theorem qt_eq (i : Fin 8192) (j : Fin 1536) : qt m c i j = ((val_main_v47 (F := Ideal) (m (c.tc.loc main_arg0)) (m (c.tc.loc main_arg1)) (m (c.tc.loc main_arg2)) (m (c.tc.loc main_arg3)) (m (c.tc.loc main_arg4)) (m (c.tc.loc main_arg5))) : S8192x1536.Idx → EReal) (ix2 i j) := by
  pointwise [val_main_v47]
  unfold qt
  rw [cv_eq, sig_eq, sg_logistic]
end Cert.Kernel4Ideal.Hand
-- ==== Proof.MixGates.lean ====
module
public import proofs.«01_k».proof.Proof.MixConv
@[expose] public section
/-! The gates of the mixer and their running sums over 64 rows, by blocks of 512 rows. -/
set_option maxRecDepth 16384
noncomputable section
namespace Cert.Kernel4Ideal.Hand
open Cert.Kernel4Ideal Cert.Kernel4Ideal.Gen Idealize.ShloMosaic Idealize.ShloMosaic.TcCoe Idealize.SL.Sem
open Idealize.ShloMosaic.Pipeline (Dat)
open Cert.Reals
variable (m : (ℓ : Loc nD τ sig) → Buf (Elt Ideal) ℓ)

/-- The sum of a row's values and those of the rows above it in its chunk of 64, at most `n` of them. -/
def part (g : ℕ → EReal) (n r : ℕ) : EReal := ∑ j ∈ Finset.range (min n (r % 64 + 1)), g (r - j)

theorem part_one (g : ℕ → EReal) (r : ℕ) : part g 1 r = g r := by
  unfold part; rw [Nat.min_eq_left (by omega), Finset.sum_range_one, Nat.sub_zero]

theorem part_add (g : ℕ → EReal) (n r : ℕ) (h : n ≤ r % 64) : part g n r + part g n (r - n) = part g (n + n) r := by
  unfold part
  have e : (r - n) % 64 = r % 64 - n := by omega
  rw [e, Nat.min_eq_left (by omega : n ≤ r % 64 + 1)]
  rw [show min (n + n) (r % 64 + 1) = n + min n (r % 64 - n + 1) by omega, Finset.sum_range_add]
  refine congrArg _ (Finset.sum_congr rfl fun j _ => ?_)
  rw [Nat.sub_sub]

theorem part_full (g : ℕ → EReal) (n r : ℕ) (h : ¬ n ≤ r % 64) : part g n r = part g (n + n) r := by
  unfold part; rw [show min n (r % 64 + 1) = min (n + n) (r % 64 + 1) by omega]

theorem pick_one (a b : EReal) : Scalar.select 1#1 a b = a := if_pos rfl
theorem pick_zero (a b : EReal) : Scalar.select 0#1 a b = b := if_neg (by decide)
theorem ge_at (r : Fin 512) (n : ℕ) (hn : n < 64) :
    IntOp.cmpi CmpIPredicate.sge (BitVec.ofNat 32 (r.val % 64)) (BitVec.ofNat 32 n) = if n ≤ r.val % 64 then 1#1 else 0#1 :=
  (by decide +kernel : ∀ (a n : Fin 64), IntOp.cmpi CmpIPredicate.sge (BitVec.ofNat 32 a.val) (BitVec.ofNat 32 n.val) = if n.val ≤ a.val then 1#1 else 0#1)
    ⟨r.val % 64, by omega⟩ ⟨n, hn⟩

/-- Doubling the sums: each row adds what the row `2ᵏ` above it holds, where that one lies in the same chunk. -/
abbrev dbl (s : BitVec 32) (M : IVec S512x128 32) (X : FVec Idealize.ShloMosaic.Ideal S512x128 .f32) : FVec Idealize.ShloMosaic.Ideal S512x128 .f32 :=
  addf X (select (cmpi .sge M (broadcast S512x128 s)) (dynamicRotate 0 s none X rotates_S512x128_d0)
    (broadcast S512x128 (Scalar.ofBits (F := Idealize.ShloMosaic.Ideal) .f32 0x00000000#32)))

theorem dbl_part (n : ℕ) (hn : n < 64) (M : IVec S512x128 32) (X : FVec Idealize.ShloMosaic.Ideal S512x128 .f32) (l : Fin 128) (g : ℕ → EReal)
    (hM : ∀ r : Fin 512, M (ix2 r l) = BitVec.ofNat 32 (r.val % 64)) (hX : ∀ r : Fin 512, X (ix2 r l) = part g n r.val) (r : Fin 512) :
    dbl (BitVec.ofNat 32 n) M X (ix2 r l) = part g (n + n) r.val := by
  pointwise [dbl]
  rw [hM, ge_at r n hn, hX]
  have e : (BitVec.ofNat 32 n).toNat % 512 = n := by rw [BitVec.toNat_ofNat]; omega
  by_cases h : n ≤ r.val % 64
  · rw [if_pos h, pick_one, ← part_add g n r.val h]
    refine congrArg _ ((hX _).trans (congrArg (part g n) ?_))
    show (r.val + 512 - (BitVec.ofNat 32 n).toNat % 512) % 512 = r.val - n
    rw [e]
    omega
  · rw [if_neg h, pick_zero, add_zero, part_full g n r.val h]

theorem pay29 (M : IVec S512x128 32) (X : FVec Idealize.ShloMosaic.Ideal S512x128 .f32) :
    k0_pay29 M X = dbl 32#32 M (dbl 16#32 M (dbl 8#32 M (dbl 4#32 M (dbl 2#32 M (dbl 1#32 M X))))) := by
  rfl
theorem rows_mod (r : Fin 512) (l : Fin 128) : k0_pay26 64#32 k0_pay23 k0_pay24 k0_pay25 (ix2 r l) = BitVec.ofNat 32 (r.val % 64) := by
  pointwise [k0_pay26, k0_pay23, k0_pay24, k0_pay25]
  exact (by decide +kernel : ∀ r : Fin 512, Scalar.select (IntOp.andi (IntOp.xori (IntOp.cmpi CmpIPredicate.slt
            (IntOp.remsi ArithUnit.vector (BitVec.ofNat 32 r.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 r.val) (Scalar.select (Scalar.cmpi CmpIPredicate.eq 64#32 0#32) 1#32 64#32)) 0#32))
      (IntOp.addi (IntOp.remsi ArithUnit.vector (BitVec.ofNat 32 r.val) (Scalar.select (Scalar.cmpi CmpIPredicate.eq 64#32 0#32) 1#32 64#32)) 64#32)
      (IntOp.remsi ArithUnit.vector (BitVec.ofNat 32 r.val) (Scalar.select (Scalar.cmpi CmpIPredicate.eq 64#32 0#32) 1#32 64#32)) = BitVec.ofNat 32 (r.val % 64)) r

/-- The decay's logarithm, of a projected value, the logarithm of its rate and the bias. -/
@[irreducible] def decay (z a b : EReal) : EReal :=
  (0 - Ideal.exp a) * (max (z + b) 0 + Ideal.log (1 + Ideal.exp (0 - FloatOps.absf (F := Idealize.ShloMosaic.Ideal) (φ := .f32) (z + b))))

theorem lanes_4_8 (l : Fin 128) : IntOp.andi (IntOp.cmpi CmpIPredicate.sge (BitVec.ofNat 32 l.val) 4#32) (IntOp.cmpi CmpIPredicate.slt (BitVec.ofNat 32 l.val) 8#32)
    = if 4 ≤ l.val ∧ l.val < 8 then 1#1 else 0#1 :=
  (by decide +kernel : ∀ l : Fin 128, IntOp.andi (IntOp.cmpi CmpIPredicate.sge (BitVec.ofNat 32 l.val) 4#32) (IntOp.cmpi CmpIPredicate.slt (BitVec.ofNat 32 l.val) 8#32)
    = if 4 ≤ l.val ∧ l.val < 8 then 1#1 else 0#1) l
theorem lanes_0_4 (l : Fin 128) : IntOp.cmpi CmpIPredicate.slt (BitVec.ofNat 32 l.val) 4#32 = if l.val < 4 then 1#1 else 0#1 :=
  (by decide +kernel : ∀ l : Fin 128, IntOp.cmpi CmpIPredicate.slt (BitVec.ofNat 32 l.val) 4#32 = if l.val < 4 then 1#1 else 0#1) l

theorem p27 (z : FVec Idealize.ShloMosaic.Ideal S512x128 .f32) (a b : FVec Idealize.ShloMosaic.Ideal S1x128 .f32) (r : Fin 512) (l : Fin 128) :
    k0_pay27 z (iota Kind.tc S512x128 32 [1] iota_S512x128_d1_w32) a b (ix2 r l)
      = if 4 ≤ l.val ∧ l.val < 8 then decay (z (ix2 r l)) (a (ix2 0 l)) (b (ix2 0 l)) else 0 := by
  pointwise [k0_pay27]
  rw [lanes_4_8]
  unfold decay
  by_cases h : 4 ≤ l.val ∧ l.val < 8
  · rw [if_pos h, if_pos h, pick_one]
  · rw [if_neg h, if_neg h, pick_zero]
theorem p28 (z : FVec Idealize.ShloMosaic.Ideal S512x128 .f32) (a b : FVec Idealize.ShloMosaic.Ideal S1x128 .f32) (r : Fin 512) (l : Fin 128) :
    k0_pay28 z (iota Kind.tc S512x128 32 [1] iota_S512x128_d1_w32) a b (ix2 r l)
      = if l.val < 4 then sg (z (ix2 r l)) else if 4 ≤ l.val ∧ l.val < 8 then decay (z (ix2 r l)) (a (ix2 0 l)) (b (ix2 0 l)) else 0 := by
  unfold sg
  pointwise [k0_pay28]
  rw [lanes_0_4, p27]
  by_cases h : l.val < 4
  · rw [if_pos h, if_pos h, if_neg (by omega), pick_one, add_zero]
    rfl
  · rw [if_neg h, if_neg h, pick_zero, zero_add]

/-- The running sums of a block. -/
theorem p29 (X : FVec Idealize.ShloMosaic.Ideal S512x128 .f32) (l : Fin 128) (g : ℕ → EReal) (hX : ∀ r : Fin 512, X (ix2 r l) = g r.val) (r : Fin 512) :
    k0_pay29 (k0_pay26 64#32 k0_pay23 k0_pay24 k0_pay25) X (ix2 r l) = ∑ j ∈ Finset.range (r.val % 64 + 1), g (r.val - j) := by
  have hM := fun r : Fin 512 => rows_mod r l
  rw [pay29]
  have s1 := dbl_part 1 (by omega) _ X l g hM fun r => (hX r).trans (part_one g r.val).symm
  have s2 := dbl_part 2 (by omega) _ _ l g hM s1
  have s3 := dbl_part 4 (by omega) _ _ l g hM s2
  have s4 := dbl_part 8 (by omega) _ _ l g hM s3
  have s5 := dbl_part 16 (by omega) _ _ l g hM s4
  refine (dbl_part 32 (by omega) _ _ l g hM s5 r).trans ?_
  unfold part
  rw [Nat.min_eq_right (by omega)]

theorem p7_blk (c : Dev nD) (t : Fin cfg0.N) (i : Fin 512) (l : Fin 128) :
    k0_pay7 (k0_pay1 (iblk m c 0 t) (iblk m c 3 t) (iblk m c 1 t) (iblk m c 2 t))
      (View.ld (Val := Elt Idealize.ShloMosaic.Ideal) (S := S2688x1024) (e' := EltTy.bf16) (iblk m c 4 t) (Rect.unit ![2560, 0] ![128, 1024] inb_S2688x1024_S128x1024_2560_0)) (ix2 i l)
      = pr m c (row t i) ⟨2560 + l.val, by omega⟩ := by
  unfold pr
  pointwise [k0_pay7]
  simp only [h_blk, blk4]
theorem p5_blk (c : Dev nD) (t : Fin cfg0.N) (i : Fin 512) (l : Fin 512) :
    k0_pay5 (k0_pay1 (iblk m c 0 t) (iblk m c 3 t) (iblk m c 1 t) (iblk m c 2 t))
      (View.ld (Val := Elt Idealize.ShloMosaic.Ideal) (S := S2688x1024) (e' := EltTy.bf16) (iblk m c 4 t) (Rect.unit ![1536, 0] ![512, 1024] inb_S2688x1024_S512x1024_1536_0)) (ix2 i l)
      = pr m c (row t i) ⟨1536 + l.val, by omega⟩ := by
  unfold pr
  pointwise [k0_pay5]
  simp only [h_blk, blk4]
theorem p6_blk (c : Dev nD) (t : Fin cfg0.N) (i : Fin 512) (l : Fin 512) :
    k0_pay6 (k0_pay1 (iblk m c 0 t) (iblk m c 3 t) (iblk m c 1 t) (iblk m c 2 t))
      (View.ld (Val := Elt Idealize.ShloMosaic.Ideal) (S := S2688x1024) (e' := EltTy.bf16) (iblk m c 4 t) (Rect.unit ![2048, 0] ![512, 1024] inb_S2688x1024_S512x1024_2048_0)) (ix2 i l)
      = pr m c (row t i) ⟨2048 + l.val, by omega⟩ := by
  unfold pr
  pointwise [k0_pay6]
  simp only [h_blk, blk4]

/-- The logarithms of the decays, in lanes 4 to 7, and with the betas in lanes 0 to 3. -/
@[irreducible] def gv (c : Dev nD) (i : Fin 8192) (l : Fin 128) : EReal :=
  if 4 ≤ l.val ∧ l.val < 8 then decay (pr m c i ⟨2560 + l.val, by omega⟩) (al m c (ix2 0 l)) (dt m c (ix2 0 l)) else 0
@[irreducible] def bgv (c : Dev nD) (i : Fin 8192) (l : Fin 128) : EReal := if l.val < 4 then sg (pr m c i ⟨2560 + l.val, by omega⟩) else gv m c i l

theorem row8 (c : Dev nD) (t : Fin cfg0.N) (i : Fin 512) (j : Fin 1536) :
    (outsAt0 m c t.val t.isLt).1 (ix2 i j) = pr m c (row t i) ⟨j.val, by omega⟩ := by
  by_cases h0 : t.val % 16 = 0
  · rw [outsAt0_A m c t h0]; frame_out; exact p3_blk m c t i j
  · rw [outsAt0_B m c t h0]; frame_out; exact p3_blk m c t i j
theorem row9 (c : Dev nD) (t : Fin cfg0.N) (i : Fin 512) (l : Fin 128) :
    (outsAt0 m c t.val t.isLt).2.1 (ix2 i l) = pr m c (row t i) ⟨2560 + l.val, by omega⟩ := by
  by_cases h0 : t.val % 16 = 0
  · rw [outsAt0_A m c t h0]; frame_out; exact p7_blk m c t i l
  · rw [outsAt0_B m c t h0]; frame_out; exact p7_blk m c t i l
theorem row13 (c : Dev nD) (t : Fin cfg0.N) (i : Fin 512) (l : Fin 512) :
    (outsAt0 m c t.val t.isLt).2.2.2.2.2.1 (ix2 i l) = pr m c (row t i) ⟨1536 + l.val, by omega⟩ := by
  by_cases h0 : t.val % 16 = 0
  · rw [outsAt0_A m c t h0]; frame_out; exact p5_blk m c t i l
  · rw [outsAt0_B m c t h0]; frame_out; exact p5_blk m c t i l
theorem row14 (c : Dev nD) (t : Fin cfg0.N) (i : Fin 512) (l : Fin 512) :
    (outsAt0 m c t.val t.isLt).2.2.2.2.2.2.1 (ix2 i l) = pr m c (row t i) ⟨2048 + l.val, by omega⟩ := by
  by_cases h0 : t.val % 16 = 0
  · rw [outsAt0_A m c t h0]; frame_out; exact p6_blk m c t i l
  · rw [outsAt0_B m c t h0]; frame_out; exact p6_blk m c t i l

theorem gates_blk (c : Dev nD) (t : Fin cfg0.N) (i : Fin 512) (l : Fin 128) :
    k0_pay28 (k0_pay7 (k0_pay1 (iblk m c 0 t) (iblk m c 3 t) (iblk m c 1 t) (iblk m c 2 t))
      (View.ld (Val := Elt Idealize.ShloMosaic.Ideal) (S := S2688x1024) (e' := EltTy.bf16) (iblk m c 4 t) (Rect.unit ![2560, 0] ![128, 1024] inb_S2688x1024_S128x1024_2560_0)))
      (iota Kind.tc S512x128 32 [1] iota_S512x128_d1_w32) (iblk m c 6 t) (iblk m c 7 t) (ix2 i l) = bgv m c (row t i) l := by
  unfold bgv gv
  rw [p28, p7_blk, blk6, blk7]
theorem sums_blk (c : Dev nD) (t : Fin cfg0.N) (i : Fin 512) (l : Fin 128) :
    k0_pay29 (k0_pay26 64#32 k0_pay23 k0_pay24 k0_pay25) (k0_pay27 (k0_pay7 (k0_pay1 (iblk m c 0 t) (iblk m c 3 t) (iblk m c 1 t) (iblk m c 2 t))
      (View.ld (Val := Elt Idealize.ShloMosaic.Ideal) (S := S2688x1024) (e' := EltTy.bf16) (iblk m c 4 t) (Rect.unit ![2560, 0] ![128, 1024] inb_S2688x1024_S128x1024_2560_0)))
      (iota Kind.tc S512x128 32 [1] iota_S512x128_d1_w32) (iblk m c 6 t) (iblk m c 7 t)) (ix2 i l)
      = ∑ j ∈ Finset.range ((row t i).val % 64 + 1), gv m c ⟨(row t i).val - j, by omega⟩ l := by
  have hr : (row t i).val % 64 = i.val % 64 := by rw [row_val]; omega
  refine (p29 _ l (fun n => if h : n < 512 then gv m c (row t ⟨n, h⟩) l else 0) (fun r => ?_) i).trans ?_
  · rw [dif_pos r.isLt]
    unfold gv
    rw [p27, p7_blk, blk6, blk7]
  · rw [hr]
    refine Finset.sum_congr rfl fun j hj => ?_
    rw [dif_pos (by omega)]
    refine congrArg (fun n => gv m c n l) (Fin.ext ?_)
    have := Finset.mem_range.mp hj
    show t.val * 512 + (i.val - j) = t.val * 512 + i.val - j
    omega
theorem row15 (c : Dev nD) (t : Fin cfg0.N) (i : Fin 512) (l : Fin 128) :
    (outsAt0 m c t.val t.isLt).2.2.2.2.2.2.2.1 (ix2 i l) = bgv m c (row t i) l := by
  by_cases h0 : t.val % 16 = 0
  · rw [outsAt0_A m c t h0]; frame_out; exact gates_blk m c t i l
  · rw [outsAt0_B m c t h0]; frame_out; exact gates_blk m c t i l
theorem row16 (c : Dev nD) (t : Fin cfg0.N) (i : Fin 512) (l : Fin 128) :
    (outsAt0 m c t.val t.isLt).2.2.2.2.2.2.2.2.1 (ix2 i l) = ∑ j ∈ Finset.range ((row t i).val % 64 + 1), gv m c ⟨(row t i).val - j, by omega⟩ l := by
  by_cases h0 : t.val % 16 = 0
  · rw [outsAt0_A m c t h0]; frame_out; exact sums_blk m c t i l
  · rw [outsAt0_B m c t h0]; frame_out; exact sums_blk m c t i l

/-- The results' columns of the projection, and the running sums. -/
@[irreducible] def x8 (c : Dev nD) (i : Fin 8192) (j : Fin 1536) : EReal := pr m c i ⟨j.val, by omega⟩
@[irreducible] def x9 (c : Dev nD) (i : Fin 8192) (j : Fin 128) : EReal := pr m c i ⟨2560 + j.val, by omega⟩
@[irreducible] def x13 (c : Dev nD) (i : Fin 8192) (j : Fin 512) : EReal := pr m c i ⟨1536 + j.val, by omega⟩
@[irreducible] def x14 (c : Dev nD) (i : Fin 8192) (j : Fin 512) : EReal := pr m c i ⟨2048 + j.val, by omega⟩
@[irreducible] def gs (c : Dev nD) (i : Fin 8192) (l : Fin 128) : EReal := ∑ n ∈ Finset.range (i.val % 64 + 1), gv m c ⟨i.val - n, by omega⟩ l

theorem arr8 (c : Dev nD) : (dats m 0 c).arrAt 8 cfg0.N = fun j : S8192x1536.Idx => x8 m c (j 0) (j 1) := by
  refine (dats m 0 c).arrAt_eq_of_covers 8 _ (by decide +kernel) fun t hf y => ?_
  blk_simp
  rw [after0_8]
  idx_vars y
  rw [emb8]
  show _ = x8 m c (row t _) _
  unfold x8
  exact row8 m c t _ _
theorem arr9 (c : Dev nD) : (dats m 0 c).arrAt 9 cfg0.N = fun j : S8192x128.Idx => x9 m c (j 0) (j 1) := by
  refine (dats m 0 c).arrAt_eq_of_covers 9 _ (by decide +kernel) fun t hf y => ?_
  blk_simp
  rw [after0_9]
  idx_vars y
  rw [emb9]
  show _ = x9 m c (row t _) _
  unfold x9
  exact row9 m c t _ _
theorem arr13 (c : Dev nD) : (dats m 0 c).arrAt 13 cfg0.N = fun j : S8192x512.Idx => x13 m c (j 0) (j 1) := by
  refine (dats m 0 c).arrAt_eq_of_covers 13 _ (by decide +kernel) fun t hf y => ?_
  blk_simp
  rw [after0_13]
  idx_vars y
  rw [emb13]
  show _ = x13 m c (row t _) _
  unfold x13
  exact row13 m c t _ _
theorem arr14 (c : Dev nD) : (dats m 0 c).arrAt 14 cfg0.N = fun j : S8192x512.Idx => x14 m c (j 0) (j 1) := by
  refine (dats m 0 c).arrAt_eq_of_covers 14 _ (by decide +kernel) fun t hf y => ?_
  blk_simp
  rw [after0_14]
  idx_vars y
  rw [emb14]
  show _ = x14 m c (row t _) _
  unfold x14
  exact row14 m c t _ _
theorem arr15 (c : Dev nD) : (dats m 0 c).arrAt 15 cfg0.N = fun j : S8192x128.Idx => bgv m c (j 0) (j 1) := by
  refine (dats m 0 c).arrAt_eq_of_covers 15 _ (by decide +kernel) fun t hf y => ?_
  blk_simp
  rw [after0_15]
  idx_vars y
  rw [emb15]
  exact row15 m c t _ _
theorem arr16 (c : Dev nD) : (dats m 0 c).arrAt 16 cfg0.N = fun j : S8192x128.Idx => gs m c (j 0) (j 1) := by
  refine (dats m 0 c).arrAt_eq_of_covers 16 _ (by decide +kernel) fun t hf y => ?_
  blk_simp
  rw [after0_16]
  idx_vars y
  rw [emb16]
  show _ = gs m c (row t _) _
  unfold gs
  exact row16 m c t _ _
end Cert.Kernel4Ideal.Hand
-- ==== Proof.MixVal.lean ====
module
public import proofs.«01_k».proof.Proof.Reals
public import proofs.«01_k».proof.Proof.MixRef
public import proofs.«01_k».proof.Proof.MixGates
public import Idealize.ShloMosaic.Lib.StableHlo.RunRead
@[expose] public section
/-! The reference's heads and gates in the kernel's terms. -/
set_option maxRecDepth 16384
noncomputable section
namespace Cert.Kernel4Ideal.Hand
open Idealize.ShloMosaic Idealize.ShloMosaic.TcCoe Idealize.SL.Sem Cert.Kernel4Ideal Cert.Kernel4Ideal.Gen Cert.Reals
open Cert.Reference4Ideal.Read
variable (m : (ℓ : Loc nD τ sig) → Buf (Elt Ideal) ℓ) (c : Dev nD)

/-- A head's columns of the reference. -/
theorem q_head (i : Fin 8192) (a : Fin 4) (l : Fin 128) : ((val_main_v51 (F := Ideal) (m (c.tc.loc main_arg0)) (m (c.tc.loc main_arg1)) (m (c.tc.loc main_arg2)) (m (c.tc.loc main_arg3)) (m (c.tc.loc main_arg4)) (m (c.tc.loc main_arg5))) : Cert.Reference4Ideal.S8192x4x128.Idx → EReal) (ix3 i a l) = qt m c i ⟨a.val * 128 + l.val, by omega⟩ := by
  rw [qt_eq]
  pointwise [val_main_v51, val_main_v48]
theorem k_head (i : Fin 8192) (a : Fin 4) (l : Fin 128) : ((val_main_v62 (F := Ideal) (m (c.tc.loc main_arg0)) (m (c.tc.loc main_arg1)) (m (c.tc.loc main_arg2)) (m (c.tc.loc main_arg3)) (m (c.tc.loc main_arg4)) (m (c.tc.loc main_arg5))) : Cert.Reference4Ideal.S8192x4x128.Idx → EReal) (ix3 i a l) = qt m c i ⟨512 + (a.val * 128 + l.val), by omega⟩ := by
  rw [qt_eq]
  pointwise [val_main_v62, val_main_v49]

theorem nq_eq (i : Fin 8192) (y : Fin 512) : nq m c i y = ((val_main_v87 (F := Ideal) (m (c.tc.loc main_arg0)) (m (c.tc.loc main_arg1)) (m (c.tc.loc main_arg2)) (m (c.tc.loc main_arg3)) (m (c.tc.loc main_arg4)) (m (c.tc.loc main_arg5))) : S8192x512.Idx → EReal) (ix2 i y) := by
  have e : ((val_main_v87 (F := Ideal) (m (c.tc.loc main_arg0)) (m (c.tc.loc main_arg1)) (m (c.tc.loc main_arg2)) (m (c.tc.loc main_arg3)) (m (c.tc.loc main_arg4)) (m (c.tc.loc main_arg5))) : S8192x512.Idx → EReal) (ix2 i y) = ((val_main_v61 (F := Ideal) (m (c.tc.loc main_arg0)) (m (c.tc.loc main_arg1)) (m (c.tc.loc main_arg2)) (m (c.tc.loc main_arg3)) (m (c.tc.loc main_arg4)) (m (c.tc.loc main_arg5))) : Cert.Reference4Ideal.S8192x4x128.Idx → EReal) (ix3 i (⟨y.val / 128, by omega⟩ : Fin 4) (⟨y.val % 128, by omega⟩ : Fin 128)) := by
    pointwise [val_main_v87]
  rw [e]
  pointwise [val_main_v61, val_main_v60, val_main_v59, val_main_v58, val_main_v57, val_main_v56, val_main_v55, val_main_v54, val_main_v53, val_main_v52, val_main_cst_5, val_main_cst_6, val_main_cst_7]
  unfold nq
  simp only [q_head m c]
  rw [len_eq (qt m c i) _ (y.val / 128 * 128) (by rfl) (by omega), show (⟨y.val / 128 * 128 + y.val % 128, by omega⟩ : Fin 1536) = ⟨y.val, by omega⟩ from Fin.ext (show y.val / 128 * 128 + y.val % 128 = y.val by omega), mul_assoc]
theorem nk_eq (i : Fin 8192) (y : Fin 512) : nk m c i y = ((val_main_v88 (F := Ideal) (m (c.tc.loc main_arg0)) (m (c.tc.loc main_arg1)) (m (c.tc.loc main_arg2)) (m (c.tc.loc main_arg3)) (m (c.tc.loc main_arg4)) (m (c.tc.loc main_arg5))) : S8192x512.Idx → EReal) (ix2 i y) := by
  have e : ((val_main_v88 (F := Ideal) (m (c.tc.loc main_arg0)) (m (c.tc.loc main_arg1)) (m (c.tc.loc main_arg2)) (m (c.tc.loc main_arg3)) (m (c.tc.loc main_arg4)) (m (c.tc.loc main_arg5))) : S8192x512.Idx → EReal) (ix2 i y) = ((val_main_v70 (F := Ideal) (m (c.tc.loc main_arg0)) (m (c.tc.loc main_arg1)) (m (c.tc.loc main_arg2)) (m (c.tc.loc main_arg3)) (m (c.tc.loc main_arg4)) (m (c.tc.loc main_arg5))) : Cert.Reference4Ideal.S8192x4x128.Idx → EReal) (ix3 i (⟨y.val / 128, by omega⟩ : Fin 4) (⟨y.val % 128, by omega⟩ : Fin 128)) := by
    pointwise [val_main_v88]
  rw [e]
  pointwise [val_main_v70, val_main_v69, val_main_v68, val_main_v67, val_main_v66, val_main_v65, val_main_v64, val_main_v63, val_main_cst_8, val_main_cst_9]
  unfold nk
  simp only [k_head m c]
  have d : (512 + y.val) / 128 * 128 = 512 + y.val / 128 * 128 := by omega
  rw [len_eq (qt m c i) ⟨512 + y.val, by omega⟩ (512 + y.val / 128 * 128) d (by omega),
    show (⟨512 + (y.val / 128 * 128 + y.val % 128), by omega⟩ : Fin 1536) = ⟨512 + y.val, by omega⟩ from Fin.ext (show 512 + (y.val / 128 * 128 + y.val % 128) = 512 + y.val by omega)]
  simp only [Nat.add_assoc]
theorem nv_eq (i : Fin 8192) (y : Fin 512) : nv m c i y = ((val_main_v50 (F := Ideal) (m (c.tc.loc main_arg0)) (m (c.tc.loc main_arg1)) (m (c.tc.loc main_arg2)) (m (c.tc.loc main_arg3)) (m (c.tc.loc main_arg4)) (m (c.tc.loc main_arg5))) : S8192x512.Idx → EReal) (ix2 i y) := by
  pointwise [val_main_v50]
  unfold nv
  exact qt_eq m c i _

theorem x8_eq (i : Fin 8192) (y : Fin 1536) : x8 m c i y = ((val_main_v19 (F := Ideal) (m (c.tc.loc main_arg0)) (m (c.tc.loc main_arg1)) (m (c.tc.loc main_arg2)) (m (c.tc.loc main_arg3)) (m (c.tc.loc main_arg4))) : S8192x1536.Idx → EReal) (ix2 i y) := by
  unfold x8
  exact pr_19 m c i y
theorem x13_eq (i : Fin 8192) (y : Fin 512) : x13 m c i y = ((val_main_v20 (F := Ideal) (m (c.tc.loc main_arg0)) (m (c.tc.loc main_arg1)) (m (c.tc.loc main_arg2)) (m (c.tc.loc main_arg3)) (m (c.tc.loc main_arg4))) : S8192x512.Idx → EReal) (ix2 i y) := by
  pointwise [val_main_v20]
  unfold x13
  exact pr_main m c i ⟨1536 + y.val, by omega⟩
theorem x14_eq (i : Fin 8192) (y : Fin 512) : x14 m c i y = ((val_main_v23 (F := Ideal) (m (c.tc.loc main_arg0)) (m (c.tc.loc main_arg1)) (m (c.tc.loc main_arg2)) (m (c.tc.loc main_arg3)) (m (c.tc.loc main_arg4))) : S8192x512.Idx → EReal) (ix2 i y) := by
  pointwise [val_main_v23]
  unfold x14
  exact pr_p m c i y
theorem x9_eq (i : Fin 8192) (y : Fin 8) : x9 m c i ⟨y.val, by omega⟩ = ((val_main_v86 (F := Ideal) (m (c.tc.loc main_arg0)) (m (c.tc.loc main_arg1)) (m (c.tc.loc main_arg2)) (m (c.tc.loc main_arg3)) (m (c.tc.loc main_arg4))) : S8192x8.Idx → EReal) (ix2 i y) := by
  unfold x9
  rw [pr_gate]
  pointwise [val_main_v86]
  by_cases h : y.val < 4
  · rw [dif_pos h]
    pointwise [val_main_v21]
  · rw [dif_neg h]
    pointwise [val_main_v22]
    exact congrArg (fun n => (val_main_v18 (F := Ideal) (m (c.tc.loc main_arg0)) (m (c.tc.loc main_arg1)) (m (c.tc.loc main_arg2)) (m (c.tc.loc main_arg3)) (m (c.tc.loc main_arg4))) (ix2 i n)) (Fin.ext (show 2048 + y.val = 2052 + (y.val - 4) by omega))

/-- The gates. -/
theorem beta_eq (i : Fin 8192) (l : Fin 4) : bgv m c i ⟨l.val, by omega⟩ = ((val_main_v76 (F := Ideal) (m (c.tc.loc main_arg0)) (m (c.tc.loc main_arg1)) (m (c.tc.loc main_arg2)) (m (c.tc.loc main_arg3)) (m (c.tc.loc main_arg4))) : S8192x4.Idx → EReal) (ix2 i l) := by
  pointwise [val_main_v76, val_main_v75, val_main_v74, val_main_v73, val_main_v72, val_main_v71, val_main_v21, val_main_cst_10, val_main_cst_11]
  unfold bgv
  rw [if_pos l.isLt, pr_gate m c i ⟨l.val, by omega⟩, sg_logistic]
  simp [Ideal.logistic]
theorem g_eq (i : Fin 8192) (l : Fin 4) : gv m c i ⟨4 + l.val, by omega⟩ = ((val_main_v83 (F := Ideal) (m (c.tc.loc main_arg0)) (m (c.tc.loc main_arg1)) (m (c.tc.loc main_arg2)) (m (c.tc.loc main_arg3)) (m (c.tc.loc main_arg4)) (m (c.tc.loc main_arg6)) (m (c.tc.loc main_arg7))) : S8192x4.Idx → EReal) (ix2 i l) := by
  pointwise [val_main_v83, val_main_v82, val_main_v81, val_main_v78, val_main_v77, val_main_call1_v11, val_main_call1_v10, val_main_call1_v9, val_main_call1_v8, val_main_call1_v7, val_main_call1_v6,
    val_main_call1_v5, val_main_call1_v4, val_main_call1_v3, val_main_call1_v2, val_main_call1_v1, val_main_call1_v0, val_main_call1_cst, val_main_v80, val_main_v79, val_main_v22]
  unfold gv decay al dt
  rw [if_pos (by show 4 ≤ 4 + l.val ∧ 4 + l.val < 8; omega), al_lane, dt_lane]
  have e : pr m c i (⟨2560 + (4 + l.val), by omega⟩ : Fin 2688) = (val_main_v18 (F := Ideal) (m (c.tc.loc main_arg0)) (m (c.tc.loc main_arg1)) (m (c.tc.loc main_arg2)) (m (c.tc.loc main_arg3)) (m (c.tc.loc main_arg4))) (ix2 i (⟨2052 + l.val, by omega⟩ : Fin 2568)) :=
    (pr_gate m c i ⟨4 + l.val, by omega⟩).trans (congrArg (fun n => (val_main_v18 (F := Ideal) (m (c.tc.loc main_arg0)) (m (c.tc.loc main_arg1)) (m (c.tc.loc main_arg2)) (m (c.tc.loc main_arg3)) (m (c.tc.loc main_arg4))) (ix2 i n)) (Fin.ext (show 2048 + (4 + l.val) = 2052 + l.val by omega)))
  rw [e, if_neg (not_not.mpr rfl), zero_sub, zero_sub]
  rfl
end Cert.Kernel4Ideal.Hand
-- ==== Proof.MixSum.lean ====
module
public import proofs.«01_k».proof.Proof.Reals
public import proofs.«01_k».proof.Proof.MixVal
public import Idealize.ShloMosaic.Lib.StableHlo.RunRead
@[expose] public section
/-! The reference's running sums of the decays in the kernel's terms. -/
set_option maxRecDepth 16384
noncomputable section
namespace Cert.Kernel4Ideal.Hand
open Idealize.ShloMosaic Idealize.ShloMosaic.TcCoe Idealize.SL.Sem Cert.Kernel4Ideal Cert.Kernel4Ideal.Gen Cert.Reals
open Cert.Reference4Ideal.Read
variable (m : (ℓ : Loc nD τ sig) → Buf (Elt Ideal) ℓ) (c : Dev nD)

theorem foldl_add {N : ℕ} (L : List (Fin N)) (f : Fin N → EReal) (s : EReal) : L.foldl (fun r n => r + f n) s = s + (L.map f).sum := by
  induction L generalizing s with
  | nil => simp
  | cons a L ih => rw [List.foldl_cons, ih, List.map_cons, List.sum_cons, add_assoc]

/-- A sum over windows: the initial value, and for each place of the window the entry it meets, or the initial value again. -/
theorem windows_sum {s t : Shape} (window strides lo hi : Fin s.rank → ℕ) (h : s.ReduceWindows window strides lo hi t) (x : s.Idx → EReal) (init : EReal) (j : t.Idx) :
    Ideal.hostReduceWindowAdd window strides lo hi h x init j = init + ∑ w : (⟨s.rank, window⟩ : Shape).Idx,
      if hin : ∀ d, lo d ≤ (j (d.cast h.1.symm)).val * strides d + (w d).val ∧ (j (d.cast h.1.symm)).val * strides d + (w d).val - lo d < s.size d
        then x (fun d => ⟨(j (d.cast h.1.symm)).val * strides d + (w d).val - lo d, (hin d).2⟩) else init := by
  unfold Ideal.hostReduceWindowAdd Host.reduceWindow
  dsimp only
  rw [foldl_add, ← Fin.sum_univ_def, ← Equiv.sum_comp (⟨s.rank, window⟩ : Shape).rowMajor.symm]
  refine congrArg (init + ·) (Finset.sum_congr rfl fun n _ => ?_)
  congr

/-- A window's entry: the row `63 - w` above, or zero where the chunk has none. -/
theorem window_at (x : Cert.Reference4Ideal.S128x64x4.Idx → EReal) (a : Fin 128) (b : Fin 64) (l : Fin 4) (g : ℕ → EReal)
    (hx : ∀ b : Fin 64, x (ix3 a b l) = g b.val) (w : Fin 64) :
    (if hin : ∀ d : Fin 3, (![0, 63, 0] : Fin 3 → ℕ) d ≤ (ix3 a b l d).val * (![1, 1, 1] : Fin 3 → ℕ) d + (ix3 (0 : Fin 1) w (0 : Fin 1) d).val
        ∧ (ix3 a b l d).val * (![1, 1, 1] : Fin 3 → ℕ) d + (ix3 (0 : Fin 1) w (0 : Fin 1) d).val - (![0, 63, 0] : Fin 3 → ℕ) d < Cert.Reference4Ideal.S128x64x4.size d
      then x (fun d => ⟨(ix3 a b l d).val * (![1, 1, 1] : Fin 3 → ℕ) d + (ix3 (0 : Fin 1) w (0 : Fin 1) d).val - (![0, 63, 0] : Fin 3 → ℕ) d, (hin d).2⟩) else 0)
      = if 63 - w.val ≤ b.val then g (b.val - (63 - w.val)) else 0 := by
  by_cases h : 63 - w.val ≤ b.val
  · rw [if_pos h, dif_pos fun d => by
      match d with
      | ⟨0, _⟩ => exact ⟨Nat.zero_le _, show a.val * 1 + 0 - 0 < 128 by omega⟩
      | ⟨1, _⟩ => exact ⟨show 63 ≤ b.val * 1 + w.val by omega, show b.val * 1 + w.val - 63 < 64 by omega⟩
      | ⟨2, _⟩ => exact ⟨Nat.zero_le _, show l.val * 1 + 0 - 0 < 4 by omega⟩]
    refine Eq.trans (congrArg x (funext fun d => Fin.ext ?_)) (hx ⟨b.val - (63 - w.val), by omega⟩)
    match d with
    | ⟨0, _⟩ => show a.val * 1 + 0 - 0 = a.val; omega
    | ⟨1, _⟩ => show b.val * 1 + w.val - 63 = b.val - (63 - w.val); omega
    | ⟨2, _⟩ => show l.val * 1 + 0 - 0 = l.val; omega
  · rw [if_neg h, dif_neg fun hin => ?_]
    have := (hin 1).1
    change 63 ≤ b.val * 1 + w.val at this
    omega

/-- The sum over the windows along a chunk's rows is the running sum. -/
theorem chunk_sum (x : Cert.Reference4Ideal.S128x64x4.Idx → EReal) (v : Cert.Reference4Ideal.S_.Idx → EReal) (hv : ∀ j, v j = 0)
    (h : Cert.Reference4Ideal.S128x64x4.ReduceWindows ![1, 64, 1] ![1, 1, 1] ![0, 63, 0] ![0, 0, 0] Cert.Reference4Ideal.S128x64x4) (hu : 0 < Cert.Reference4Ideal.S_.numel)
    (a : Fin 128) (b : Fin 64) (l : Fin 4) (g : ℕ → EReal) (hx : ∀ b : Fin 64, x (ix3 a b l) = g b.val) :
    Host.reduceWindowAdd (F := Idealize.ShloMosaic.Ideal) (φ := .f32) ![1, 64, 1] ![1, 1, 1] ![0, 63, 0] ![0, 0, 0] x v h hu (ix3 a b l)
      = ∑ n ∈ Finset.range (b.val + 1), g (b.val - n) := by
  unfold Host.reduceWindowAdd
  rw [Ideal.hostReduceWindowAdd_def, hv, windows_sum, zero_add]
  refine (sum_idx3 (n0 := 1) (n1 := 64) (n2 := 1) _).trans ?_
  rw [Fin.sum_univ_one]
  simp only [Fin.sum_univ_one]
  refine (Finset.sum_congr rfl fun w _ => window_at x a b l g hx w).trans ?_
  rw [← Equiv.sum_comp Fin.revPerm]
  have q : ∀ w : Fin 64, (if 63 - (Fin.revPerm w).val ≤ b.val then g (b.val - (63 - (Fin.revPerm w).val)) else 0) = (fun n => if n ≤ b.val then g (b.val - n) else 0) w.val := fun w => by
    rw [show 63 - (Fin.revPerm w).val = w.val by rw [Fin.revPerm_apply, Fin.val_rev]; omega]
  rw [Finset.sum_congr rfl fun w _ => q w, Fin.sum_univ_eq_sum_range (fun n => if n ≤ b.val then g (b.val - n) else 0) 64, ← Finset.sum_filter]
  exact Finset.sum_congr (Finset.ext fun n => by rw [Finset.mem_filter, Finset.mem_range, Finset.mem_range]; omega) fun _ _ => rfl

/-- The decay's logarithm by the row's number. -/
@[irreducible] def gd (k : ℕ) (l : Fin 4) : EReal := if h : k < 8192 then gv m c ⟨k, h⟩ ⟨4 + l.val, by omega⟩ else 0

theorem gs_eq (i : Fin 8192) (l : Fin 4) : gs m c i ⟨4 + l.val, by omega⟩ = ((val_main_v89 (F := Ideal) (m (c.tc.loc main_arg0)) (m (c.tc.loc main_arg1)) (m (c.tc.loc main_arg2)) (m (c.tc.loc main_arg3)) (m (c.tc.loc main_arg4)) (m (c.tc.loc main_arg6)) (m (c.tc.loc main_arg7))) : S8192x4.Idx → EReal) (ix2 i l) := by
  have e : ((val_main_v89 (F := Ideal) (m (c.tc.loc main_arg0)) (m (c.tc.loc main_arg1)) (m (c.tc.loc main_arg2)) (m (c.tc.loc main_arg3)) (m (c.tc.loc main_arg4)) (m (c.tc.loc main_arg6)) (m (c.tc.loc main_arg7))) : S8192x4.Idx → EReal) (ix2 i l) = ((val_main_v85 (F := Ideal) (m (c.tc.loc main_arg0)) (m (c.tc.loc main_arg1)) (m (c.tc.loc main_arg2)) (m (c.tc.loc main_arg3)) (m (c.tc.loc main_arg4)) (m (c.tc.loc main_arg6)) (m (c.tc.loc main_arg7))) : Cert.Reference4Ideal.S128x64x4.Idx → EReal) (ix3 (⟨i.val / 64, by omega⟩ : Fin 128) (⟨i.val % 64, by omega⟩ : Fin 64) l) := by
    pointwise [val_main_v89]
  have hx : ∀ b : Fin 64, ((val_main_v84 (F := Ideal) (m (c.tc.loc main_arg0)) (m (c.tc.loc main_arg1)) (m (c.tc.loc main_arg2)) (m (c.tc.loc main_arg3)) (m (c.tc.loc main_arg4)) (m (c.tc.loc main_arg6)) (m (c.tc.loc main_arg7))) : Cert.Reference4Ideal.S128x64x4.Idx → EReal) (ix3 (⟨i.val / 64, by omega⟩ : Fin 128) b l)
      = (fun n => gd m c (i.val / 64 * 64 + n) l) b.val := fun b => by
    pointwise [val_main_v84]
    unfold gd
    rw [dif_pos (by omega), g_eq]
  rw [e]
  unfold val_main_v85 gs
  have hv : ∀ j, val_main_call2_call0_v0 (F := Idealize.ShloMosaic.Ideal) j = 0 := fun j => by pointwise [val_main_call2_call0_v0, val_main_call2_call0_cst]
  rw [chunk_sum _ _ hv _ _ _ _ _ (fun n => gd m c (i.val / 64 * 64 + n) l) hx]
  refine Finset.sum_congr rfl fun n hn => ?_
  have hn : n < i.val % 64 + 1 := Finset.mem_range.mp hn
  unfold gd
  rw [dif_pos (show i.val / 64 * 64 + (i.val % 64 - n) < 8192 by omega)]
  exact congrArg (fun k => gv m c k ⟨4 + l.val, by omega⟩) (Fin.ext (show i.val - n = i.val / 64 * 64 + (i.val % 64 - n) by omega))
end Cert.Kernel4Ideal.Hand
-- ==== Proof.MixRun.lean ====
module
public import proofs.«01_k».proof.Proof.MixProj
public import proofs.«01_k».proof.Proof.Windows
public import Idealize.ShloMosaic.Lib.Claim
public import Idealize.ShloMosaic.Lib.StableHlo.RunRead
@[expose] public section
/-! What the mixer's projection leaves in its ten results, by the arrays of the region. -/
set_option maxRecDepth 16384
noncomputable section
namespace Cert.Kernel4Ideal.Hand
open Idealize.ShloMosaic Idealize.ShloMosaic.TcCoe Idealize.SL.Sem Cert.Kernel4Ideal Cert.Kernel4Ideal.Gen
variable (m : (ℓ : Loc nD τ sig) → Buf (Elt Ideal) ℓ) (g : Dev nD → PrngReg) (c : Dev nD)

theorem run_values : θ_run (defs (F := Ideal)) (onTc (τ := τ) (main (F := Ideal))) ⟨m, fun _ => 0, g⟩ (fun r => ∀ c : Dev nD,
    r.2.mem ((c.tc : Thread nD τ).loc main_v19_0) = (dats m 0 c).arrAt 8 cfg0.N
    ∧ r.2.mem ((c.tc : Thread nD τ).loc main_v20) = Pipeline.afterTail₀ cfgs (dats m) 0 (V0 m) [hostOps1] c main_v20
    ∧ r.2.mem ((c.tc : Thread nD τ).loc main_v19_2) = (dats m 0 c).arrAt 10 cfg0.N
    ∧ r.2.mem ((c.tc : Thread nD τ).loc main_v19_3) = (dats m 0 c).arrAt 11 cfg0.N
    ∧ r.2.mem ((c.tc : Thread nD τ).loc main_v19_4) = (dats m 0 c).arrAt 12 cfg0.N
    ∧ r.2.mem ((c.tc : Thread nD τ).loc main_v19_5) = (dats m 0 c).arrAt 13 cfg0.N
    ∧ r.2.mem ((c.tc : Thread nD τ).loc main_v19_6) = (dats m 0 c).arrAt 14 cfg0.N
    ∧ r.2.mem ((c.tc : Thread nD τ).loc main_v21) = Pipeline.afterTail₀ cfgs (dats m) 0 (V0 m) [hostOps1] c main_v21
    ∧ r.2.mem ((c.tc : Thread nD τ).loc main_v22) = Pipeline.afterTail₀ cfgs (dats m) 0 (V0 m) [hostOps1] c main_v22
    ∧ r.2.mem ((c.tc : Thread nD τ).loc main_v23) = Pipeline.afterTail₀ cfgs (dats m) 0 (V0 m) [hostOps1] c main_v23) :=
  θ_run_mono (run_main m g) fun r h c => ⟨(h c).1 8, (h c).2 main_v20 (by decide +kernel), (h c).1 10, (h c).1 11, (h c).1 12, (h c).1 13, (h c).1 14, (h c).2 main_v21 (by decide +kernel), (h c).2 main_v22 (by decide +kernel), (h c).2 main_v23 (by decide +kernel)⟩

/-- The arrays of which the host keeps some lanes. -/
@[irreducible] def part9 : S8192x128.Idx → EReal := (dats m 0 c).arrAt 9 cfg0.N
@[irreducible] def part15 : S8192x128.Idx → EReal := (dats m 0 c).arrAt 15 cfg0.N
@[irreducible] def part16 : S8192x128.Idx → EReal := (dats m 0 c).arrAt 16 cfg0.N

/-- The lanes it keeps. -/
theorem tail_v20 (i : Fin 8192) (l : Fin 8) : (Pipeline.afterTail₀ cfgs (dats m) 0 (V0 m) [hostOps1] c main_v20 : S8192x8.Idx → EReal) (ix2 i l) = part9 m c (ix2 i (⟨l.val, by omega⟩ : Fin 128)) := by
  unfold Pipeline.afterTail₀
  have e : Pipeline.withArrays (cfgs 0).spec c (V0 m c) (fun w => (dats m 0 c).arrAt w (cfgs 0).N) (Proc.devRef .tc main_v19_1) = part9 m c := by
    unfold part9
    exact Cert.Windows.withArrays_once (cfgs 0).spec c (V0 m c) (fun w => (dats m 0 c).arrAt w (cfgs 0).N) 9 (by decide +kernel)
  after_reads_simp
  rw [e]
  pointwise
theorem tail_v21 (i : Fin 8192) (l : Fin 4) : (Pipeline.afterTail₀ cfgs (dats m) 0 (V0 m) [hostOps1] c main_v21 : S8192x4.Idx → EReal) (ix2 i l) = part15 m c (ix2 i (⟨l.val, by omega⟩ : Fin 128)) := by
  unfold Pipeline.afterTail₀
  have e : Pipeline.withArrays (cfgs 0).spec c (V0 m c) (fun w => (dats m 0 c).arrAt w (cfgs 0).N) (Proc.devRef .tc main_v19_7) = part15 m c := by
    unfold part15
    exact Cert.Windows.withArrays_once (cfgs 0).spec c (V0 m c) (fun w => (dats m 0 c).arrAt w (cfgs 0).N) 15 (by decide +kernel)
  after_reads_simp
  rw [e]
  pointwise
theorem tail_v22 (i : Fin 8192) (l : Fin 4) : (Pipeline.afterTail₀ cfgs (dats m) 0 (V0 m) [hostOps1] c main_v22 : S8192x4.Idx → EReal) (ix2 i l) = part15 m c (ix2 i (⟨4 + l.val, by omega⟩ : Fin 128)) := by
  unfold Pipeline.afterTail₀
  have e : Pipeline.withArrays (cfgs 0).spec c (V0 m c) (fun w => (dats m 0 c).arrAt w (cfgs 0).N) (Proc.devRef .tc main_v19_7) = part15 m c := by
    unfold part15
    exact Cert.Windows.withArrays_once (cfgs 0).spec c (V0 m c) (fun w => (dats m 0 c).arrAt w (cfgs 0).N) 15 (by decide +kernel)
  after_reads_simp
  rw [e]
  pointwise
theorem tail_v23 (i : Fin 8192) (l : Fin 4) : (Pipeline.afterTail₀ cfgs (dats m) 0 (V0 m) [hostOps1] c main_v23 : S8192x4.Idx → EReal) (ix2 i l) = part16 m c (ix2 i (⟨4 + l.val, by omega⟩ : Fin 128)) := by
  unfold Pipeline.afterTail₀
  have e : Pipeline.withArrays (cfgs 0).spec c (V0 m c) (fun w => (dats m 0 c).arrAt w (cfgs 0).N) (Proc.devRef .tc main_v19_8) = part16 m c := by
    unfold part16
    exact Cert.Windows.withArrays_once (cfgs 0).spec c (V0 m c) (fun w => (dats m 0 c).arrAt w (cfgs 0).N) 16 (by decide +kernel)
  after_reads_simp
  rw [e]
  pointwise
end Cert.Kernel4Ideal.Hand
-- ==== Proof.MixClaim.lean ====
module
public import proofs.«01_k».proof.Defs
public import proofs.«01_k».proof.Proof.MixSum
public import proofs.«01_k».proof.Proof.MixRun
public import Idealize.ShloMosaic.Lib.StableHlo.RunRead
@[expose] public section
/-! The mixer's projection: the kernel's ten results are the reference's, at every argument. -/
set_option maxRecDepth 16384
noncomputable section
namespace Cert.Kernel4Ideal.Hand
open Idealize.ShloMosaic Idealize.ShloMosaic.TcCoe Idealize.SL.Sem Cert.Kernel4Ideal Cert.Kernel4Ideal.Gen Cert.Reals
open Cert.Reference4Ideal.Read
variable (m : (ℓ : Loc nD τ sig) → Buf (Elt Ideal) ℓ) (c : Dev nD)

theorem res_v19_0 : ((dats m 0 c).arrAt 8 cfg0.N : S8192x1536.Idx → EReal) = (val_main_v19 (F := Ideal) (m (c.tc.loc main_arg0)) (m (c.tc.loc main_arg1)) (m (c.tc.loc main_arg2)) (m (c.tc.loc main_arg3)) (m (c.tc.loc main_arg4))) := by
  rw [arr8]
  funext j
  idx_vars j
  exact x8_eq m c j0 j1

theorem res_v20 : (Pipeline.afterTail₀ cfgs (dats m) 0 (V0 m) [hostOps1] c main_v20 : S8192x8.Idx → EReal) = (val_main_v86 (F := Ideal) (m (c.tc.loc main_arg0)) (m (c.tc.loc main_arg1)) (m (c.tc.loc main_arg2)) (m (c.tc.loc main_arg3)) (m (c.tc.loc main_arg4))) := by
  funext j
  idx_vars j
  rw [tail_v20]
  unfold part9
  rw [arr9]
  exact x9_eq m c j0 j1

theorem res_v19_2 : ((dats m 0 c).arrAt 10 cfg0.N : S8192x512.Idx → EReal) = (val_main_v87 (F := Ideal) (m (c.tc.loc main_arg0)) (m (c.tc.loc main_arg1)) (m (c.tc.loc main_arg2)) (m (c.tc.loc main_arg3)) (m (c.tc.loc main_arg4)) (m (c.tc.loc main_arg5))) := by
  rw [arr10]
  funext j
  idx_vars j
  exact nq_eq m c j0 j1

theorem res_v19_3 : ((dats m 0 c).arrAt 11 cfg0.N : S8192x512.Idx → EReal) = (val_main_v88 (F := Ideal) (m (c.tc.loc main_arg0)) (m (c.tc.loc main_arg1)) (m (c.tc.loc main_arg2)) (m (c.tc.loc main_arg3)) (m (c.tc.loc main_arg4)) (m (c.tc.loc main_arg5))) := by
  rw [arr11]
  funext j
  idx_vars j
  exact nk_eq m c j0 j1

theorem res_v19_4 : ((dats m 0 c).arrAt 12 cfg0.N : S8192x512.Idx → EReal) = (val_main_v50 (F := Ideal) (m (c.tc.loc main_arg0)) (m (c.tc.loc main_arg1)) (m (c.tc.loc main_arg2)) (m (c.tc.loc main_arg3)) (m (c.tc.loc main_arg4)) (m (c.tc.loc main_arg5))) := by
  rw [arr12]
  funext j
  idx_vars j
  exact nv_eq m c j0 j1

theorem res_v19_5 : ((dats m 0 c).arrAt 13 cfg0.N : S8192x512.Idx → EReal) = (val_main_v20 (F := Ideal) (m (c.tc.loc main_arg0)) (m (c.tc.loc main_arg1)) (m (c.tc.loc main_arg2)) (m (c.tc.loc main_arg3)) (m (c.tc.loc main_arg4))) := by
  rw [arr13]
  funext j
  idx_vars j
  exact x13_eq m c j0 j1

theorem res_v19_6 : ((dats m 0 c).arrAt 14 cfg0.N : S8192x512.Idx → EReal) = (val_main_v23 (F := Ideal) (m (c.tc.loc main_arg0)) (m (c.tc.loc main_arg1)) (m (c.tc.loc main_arg2)) (m (c.tc.loc main_arg3)) (m (c.tc.loc main_arg4))) := by
  rw [arr14]
  funext j
  idx_vars j
  exact x14_eq m c j0 j1

theorem res_v21 : (Pipeline.afterTail₀ cfgs (dats m) 0 (V0 m) [hostOps1] c main_v21 : S8192x4.Idx → EReal) = (val_main_v76 (F := Ideal) (m (c.tc.loc main_arg0)) (m (c.tc.loc main_arg1)) (m (c.tc.loc main_arg2)) (m (c.tc.loc main_arg3)) (m (c.tc.loc main_arg4))) := by
  funext j
  idx_vars j
  rw [tail_v21]
  unfold part15
  rw [arr15]
  exact beta_eq m c j0 j1

theorem res_v22 : (Pipeline.afterTail₀ cfgs (dats m) 0 (V0 m) [hostOps1] c main_v22 : S8192x4.Idx → EReal) = (val_main_v83 (F := Ideal) (m (c.tc.loc main_arg0)) (m (c.tc.loc main_arg1)) (m (c.tc.loc main_arg2)) (m (c.tc.loc main_arg3)) (m (c.tc.loc main_arg4)) (m (c.tc.loc main_arg6)) (m (c.tc.loc main_arg7))) := by
  funext j
  idx_vars j
  rw [tail_v22]
  unfold part15
  rw [arr15]
  show bgv m c j0 (⟨4 + j1.val, by omega⟩ : Fin 128) = _
  unfold bgv
  rw [if_neg (show ¬ 4 + j1.val < 4 by omega)]
  exact g_eq m c j0 j1

theorem res_v23 : (Pipeline.afterTail₀ cfgs (dats m) 0 (V0 m) [hostOps1] c main_v23 : S8192x4.Idx → EReal) = (val_main_v89 (F := Ideal) (m (c.tc.loc main_arg0)) (m (c.tc.loc main_arg1)) (m (c.tc.loc main_arg2)) (m (c.tc.loc main_arg3)) (m (c.tc.loc main_arg4)) (m (c.tc.loc main_arg6)) (m (c.tc.loc main_arg7))) := by
  funext j
  idx_vars j
  rw [tail_v23]
  unfold part16
  rw [arr16]
  exact gs_eq m c j0 j1

/-- The reference's run, its results as the stages of its text. -/
theorem ref_values (m' : (ℓ : Loc Cert.Reference4Ideal.nD Cert.Reference4Ideal.τ Cert.Reference4Ideal.sig) → Buf (Elt Ideal) ℓ) (g' : Dev Cert.Reference4Ideal.nD → PrngReg) :
    θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
      r.2.mem ((c.tc : Thread Cert.Reference4Ideal.nD Cert.Reference4Ideal.τ).loc Cert.Reference4Ideal.main_v19) = val_main_v19 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4))
      ∧ r.2.mem ((c.tc : Thread Cert.Reference4Ideal.nD Cert.Reference4Ideal.τ).loc Cert.Reference4Ideal.main_v86) = val_main_v86 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4))
      ∧ r.2.mem ((c.tc : Thread Cert.Reference4Ideal.nD Cert.Reference4Ideal.τ).loc Cert.Reference4Ideal.main_v87) = val_main_v87 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5))
      ∧ r.2.mem ((c.tc : Thread Cert.Reference4Ideal.nD Cert.Reference4Ideal.τ).loc Cert.Reference4Ideal.main_v88) = val_main_v88 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5))
      ∧ r.2.mem ((c.tc : Thread Cert.Reference4Ideal.nD Cert.Reference4Ideal.τ).loc Cert.Reference4Ideal.main_v50) = val_main_v50 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5))
      ∧ r.2.mem ((c.tc : Thread Cert.Reference4Ideal.nD Cert.Reference4Ideal.τ).loc Cert.Reference4Ideal.main_v20) = val_main_v20 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4))
      ∧ r.2.mem ((c.tc : Thread Cert.Reference4Ideal.nD Cert.Reference4Ideal.τ).loc Cert.Reference4Ideal.main_v23) = val_main_v23 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4))
      ∧ r.2.mem ((c.tc : Thread Cert.Reference4Ideal.nD Cert.Reference4Ideal.τ).loc Cert.Reference4Ideal.main_v76) = val_main_v76 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4))
      ∧ r.2.mem ((c.tc : Thread Cert.Reference4Ideal.nD Cert.Reference4Ideal.τ).loc Cert.Reference4Ideal.main_v83) = val_main_v83 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg6)) (m' (c.tc.loc Cert.Reference4Ideal.main_arg7))
      ∧ r.2.mem ((c.tc : Thread Cert.Reference4Ideal.nD Cert.Reference4Ideal.τ).loc Cert.Reference4Ideal.main_v89) = val_main_v89 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg6)) (m' (c.tc.loc Cert.Reference4Ideal.main_arg7))
      ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)) :=
  θ_run_mono (Cert.Reference4Ideal.Value.run m' g') fun r h c =>
    ⟨(h c).1.trans (val_main_v19_eq _ _ _ _ _), (h c).2.1.trans (val_main_v86_eq _ _ _ _ _), (h c).2.2.1.trans (val_main_v87_eq m' c), (h c).2.2.2.1.trans (val_main_v88_eq m' c), (h c).2.2.2.2.1.trans (val_main_v50_eq m' c), (h c).2.2.2.2.2.1.trans (val_main_v20_eq _ _ _ _ _), (h c).2.2.2.2.2.2.1.trans (val_main_v23_eq _ _ _ _ _), (h c).2.2.2.2.2.2.2.1.trans (val_main_v76_eq _ _ _ _ _), (h c).2.2.2.2.2.2.2.2.1.trans (val_main_v83_eq m' c), (h c).2.2.2.2.2.2.2.2.2.1.trans (val_main_v89_eq m' c), (h c).2.2.2.2.2.2.2.2.2.2⟩

/-- Kernel and reference leave the same ten results. -/
theorem algebraic : Cert.algebraic_Kernel4Ideal_Reference4Ideal := by
  intro m g m' g' _ hagree
  refine ⟨fun c => (val_main_v19 (F := Ideal) (m (c.tc.loc main_arg0)) (m (c.tc.loc main_arg1)) (m (c.tc.loc main_arg2)) (m (c.tc.loc main_arg3)) (m (c.tc.loc main_arg4))),
    fun c => (val_main_v86 (F := Ideal) (m (c.tc.loc main_arg0)) (m (c.tc.loc main_arg1)) (m (c.tc.loc main_arg2)) (m (c.tc.loc main_arg3)) (m (c.tc.loc main_arg4))),
    fun c => (val_main_v87 (F := Ideal) (m (c.tc.loc main_arg0)) (m (c.tc.loc main_arg1)) (m (c.tc.loc main_arg2)) (m (c.tc.loc main_arg3)) (m (c.tc.loc main_arg4)) (m (c.tc.loc main_arg5))),
    fun c => (val_main_v88 (F := Ideal) (m (c.tc.loc main_arg0)) (m (c.tc.loc main_arg1)) (m (c.tc.loc main_arg2)) (m (c.tc.loc main_arg3)) (m (c.tc.loc main_arg4)) (m (c.tc.loc main_arg5))),
    fun c => (val_main_v50 (F := Ideal) (m (c.tc.loc main_arg0)) (m (c.tc.loc main_arg1)) (m (c.tc.loc main_arg2)) (m (c.tc.loc main_arg3)) (m (c.tc.loc main_arg4)) (m (c.tc.loc main_arg5))),
    fun c => (val_main_v20 (F := Ideal) (m (c.tc.loc main_arg0)) (m (c.tc.loc main_arg1)) (m (c.tc.loc main_arg2)) (m (c.tc.loc main_arg3)) (m (c.tc.loc main_arg4))),
    fun c => (val_main_v23 (F := Ideal) (m (c.tc.loc main_arg0)) (m (c.tc.loc main_arg1)) (m (c.tc.loc main_arg2)) (m (c.tc.loc main_arg3)) (m (c.tc.loc main_arg4))),
    fun c => (val_main_v76 (F := Ideal) (m (c.tc.loc main_arg0)) (m (c.tc.loc main_arg1)) (m (c.tc.loc main_arg2)) (m (c.tc.loc main_arg3)) (m (c.tc.loc main_arg4))),
    fun c => (val_main_v83 (F := Ideal) (m (c.tc.loc main_arg0)) (m (c.tc.loc main_arg1)) (m (c.tc.loc main_arg2)) (m (c.tc.loc main_arg3)) (m (c.tc.loc main_arg4)) (m (c.tc.loc main_arg6)) (m (c.tc.loc main_arg7))),
    fun c => (val_main_v89 (F := Ideal) (m (c.tc.loc main_arg0)) (m (c.tc.loc main_arg1)) (m (c.tc.loc main_arg2)) (m (c.tc.loc main_arg3)) (m (c.tc.loc main_arg4)) (m (c.tc.loc main_arg6)) (m (c.tc.loc main_arg7))),
    θ_run_mono (θ_run_and (run_values m g) (unchanged m g)) fun r h c => ?_, θ_run_mono (ref_values m' g') fun r h c => ?_⟩
  · exact ⟨(h.1 c).1.trans (res_v19_0 m c), (h.1 c).2.1.trans (res_v20 m c), (h.1 c).2.2.1.trans (res_v19_2 m c), (h.1 c).2.2.2.1.trans (res_v19_3 m c), (h.1 c).2.2.2.2.1.trans (res_v19_4 m c), (h.1 c).2.2.2.2.2.1.trans (res_v19_5 m c), (h.1 c).2.2.2.2.2.2.1.trans (res_v19_6 m c), (h.1 c).2.2.2.2.2.2.2.1.trans (res_v21 m c), (h.1 c).2.2.2.2.2.2.2.2.1.trans (res_v22 m c), (h.1 c).2.2.2.2.2.2.2.2.2.trans (res_v23 m c), h.2 c⟩
  · obtain ⟨a0, a1, a2, a3, a4, a5, a6, a7⟩ := hagree c
    have h := h c
    rw [a0, a1, a2, a3, a4, a5, a6, a7] at h
    rw [a0, a1, a2, a3, a4, a5, a6, a7]
    exact h
end Cert.Kernel4Ideal.Hand
-- ==== Proof.Layer.lean ====
module
public import proofs.«01_k».proof.Proof.Gen.Kernel5Ideal.Frame
public import proofs.«01_k».proof.Proof.Reals
public import Idealize.ShloMosaic.Lib.Pipeline.ValueKit
public import Idealize.ShloMosaic.Lib.Pointwise
public import Idealize.ShloMosaic.Lib.ValueIdx
public import Idealize.ShloMosaic.Lib.ValueIdxCore
@[expose] public section
/-!
The feed-forward layer without the loss, by blocks of 512 rows: what each output array holds after the last block, by
the arrays the region finds. The branches are computed in two halves of their columns.
-/
set_option maxRecDepth 16384
noncomputable section
namespace Cert.Kernel5Ideal.Hand
open Cert.Kernel5Ideal Cert.Kernel5Ideal.Gen Idealize.ShloMosaic Idealize.ShloMosaic.TcCoe Idealize.SL.Sem
open Idealize.ShloMosaic.Pipeline (Dat)
open Cert.Reals
variable (m : (ℓ : Loc nD τ sig) → Buf (Elt Ideal) ℓ)

/-- The block each window holds at point `t`. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0, 0] ∧ win0_6.index t = ![0, 1, 0] ∧ win0_7.index t = ![0, 2, 0] ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0, 0] ∧ win0_6.index t = ![0, 1, 0] ∧ win0_7.index t = ![0, 2, 0] ∧ win0_8.index t = ![t.val, 0] ∧ win0_9.index t = ![t.val, 0] ∧ win0_10.index t = ![t.val, 0] ∧ win0_11.index t = ![t.val, 0] ∧ win0_12.index t = ![t.val, 0])

theorem point_lt (t : Fin cfg0.N) : t.val < 16 := lt_of_lt_of_eq t.isLt (show cfg0.N = 16 from N_0)

/-- Row `i` of block `t`. -/
def row (t : Fin cfg0.N) (i : Fin 512) : Fin 8192 := ⟨t.val * 512 + i.val, by have := point_lt t; omega⟩

theorem row_val (t : Fin cfg0.N) (i : Fin 512) : (row t i).val = t.val * 512 + i.val := rfl

/-- The arrays the region finds. -/
@[irreducible] def xs (c : Dev nD) : S8192x1024.Idx → EReal := V m c main_arg0
@[irreducible] def shift (c : Dev nD) : S1x1024.Idx → EReal := V m c main_arg1
@[irreducible] def scale (c : Dev nD) : S1x1024.Idx → EReal := V m c main_arg2
@[irreducible] def gate (c : Dev nD) : S1x1024.Idx → EReal := V m c main_arg3
@[irreducible] def gain (c : Dev nD) : S1x1024.Idx → EReal := V m c main_arg4
@[irreducible] def wall (c : Dev nD) : S4x2112x1024.Idx → EReal := V m c main_v6

theorem blk0 (c : Dev nD) (t : Fin cfg0.N) (i : Fin 512) (j : Fin 1024) :
    iblk m c 0 t (ix2 i j) = xs m c (ix2 (row t i) j) := by
  have e : ((cfg0.win 0).blk t).view.emb (ix2 i j) = ix2 (row t i) j := by blk_ext [idx t, row_val]
  unfold iblk xs; exact congrArg (V m c main_arg0) e
theorem blk1 (c : Dev nD) (t : Fin cfg0.N) (i : Fin 1) (j : Fin 1024) :
    iblk m c 1 t (ix2 i j) = shift m c (ix2 i j) := by
  have e : ((cfg0.win 1).blk t).view.emb (ix2 i j) = ix2 i j := by blk_ext [idx t, row_val]
  unfold iblk shift; exact congrArg (V m c main_arg1) e
theorem blk2 (c : Dev nD) (t : Fin cfg0.N) (i : Fin 1) (j : Fin 1024) :
    iblk m c 2 t (ix2 i j) = scale m c (ix2 i j) := by
  have e : ((cfg0.win 2).blk t).view.emb (ix2 i j) = ix2 i j := by blk_ext [idx t, row_val]
  unfold iblk scale; exact congrArg (V m c main_arg2) e
theorem blk3 (c : Dev nD) (t : Fin cfg0.N) (i : Fin 1) (j : Fin 1024) :
    iblk m c 3 t (ix2 i j) = gate m c (ix2 i j) := by
  have e : ((cfg0.win 3).blk t).view.emb (ix2 i j) = ix2 i j := by blk_ext [idx t, row_val]
  unfold iblk gate; exact congrArg (V m c main_arg3) e
theorem blk4 (c : Dev nD) (t : Fin cfg0.N) (i : Fin 1) (j : Fin 1024) :
    iblk m c 4 t (ix2 i j) = gain m c (ix2 i j) := by
  have e : ((cfg0.win 4).blk t).view.emb (ix2 i j) = ix2 i j := by blk_ext [idx t, row_val]
  unfold iblk gain; exact congrArg (V m c main_arg4) e
theorem blk5 (c : Dev nD) (t : Fin cfg0.N) (k : Fin 4) (i : Fin 704) (j : Fin 1024) :
    iblk m c 5 t (ix3 k i j) = wall m c (ix3 k (⟨i.val, by omega⟩ : Fin 2112) j) := by
  have e : ((cfg0.win 5).blk t).view.emb (ix3 k i j) = ix3 k (⟨i.val, by omega⟩ : Fin 2112) j := by blk_ext [idx t, row_val]
  unfold iblk wall; exact congrArg (V m c main_v6) e
theorem blk6 (c : Dev nD) (t : Fin cfg0.N) (k : Fin 4) (i : Fin 704) (j : Fin 1024) :
    iblk m c 6 t (ix3 k i j) = wall m c (ix3 k (⟨704 + i.val, by omega⟩ : Fin 2112) j) := by
  have e : ((cfg0.win 6).blk t).view.emb (ix3 k i j) = ix3 k (⟨704 + i.val, by omega⟩ : Fin 2112) j := by blk_ext [idx t, row_val]
  unfold iblk wall; exact congrArg (V m c main_v6) e
theorem blk7 (c : Dev nD) (t : Fin cfg0.N) (k : Fin 4) (i : Fin 704) (j : Fin 1024) :
    iblk m c 7 t (ix3 k i j) = wall m c (ix3 k (⟨1408 + i.val, by omega⟩ : Fin 2112) j) := by
  have e : ((cfg0.win 7).blk t).view.emb (ix3 k i j) = ix3 k (⟨1408 + i.val, by omega⟩ : Fin 2112) j := by blk_ext [idx t, row_val]
  unfold iblk wall; exact congrArg (V m c main_v6) e

theorem emb8 (t : Fin cfg0.N) (i : Fin 512) (j : Fin 1024) :
    ((View.whole main_v7_0).slice (win0_8.rect t)).emb (ix2 i j) = ix2 (row t i) j := by blk_ext [idx t, row_val]
theorem emb9 (t : Fin cfg0.N) (i : Fin 512) (j : Fin 1024) :
    ((View.whole main_v7_1).slice (win0_9.rect t)).emb (ix2 i j) = ix2 (row t i) j := by blk_ext [idx t, row_val]
theorem emb10 (t : Fin cfg0.N) (i : Fin 512) (j : Fin 2816) :
    ((View.whole main_v7_2).slice (win0_10.rect t)).emb (ix2 i j) = ix2 (row t i) j := by blk_ext [idx t, row_val]
theorem emb11 (t : Fin cfg0.N) (i : Fin 512) (j : Fin 2816) :
    ((View.whole main_v7_3).slice (win0_11.rect t)).emb (ix2 i j) = ix2 (row t i) j := by blk_ext [idx t, row_val]
theorem emb12 (t : Fin cfg0.N) (i : Fin 512) (j : Fin 2816) :
    ((View.whole main_v7_4).slice (win0_12.rect t)).emb (ix2 i j) = ix2 (row t i) j := by blk_ext [idx t, row_val]

/-- One over the root mean square of a row of the layer's argument. -/
@[irreducible] def rs (c : Dev nD) (i : Fin 8192) : EReal :=
  Ideal.rsqrt (Ideal.div (∑ k : Fin 1024, xs m c (ix2 i k) * xs m c (ix2 i k)) (Ideal.ofBits .f32 0x44800000#32) + Ideal.ofBits .f32 0x358637BD#32)

/-- The modulated norm. -/
@[irreducible] def h (c : Dev nD) (i : Fin 8192) (k : Fin 1024) : EReal :=
  xs m c (ix2 i k) * rs m c i * gain m c (ix2 0 k) * (1 + scale m c (ix2 0 k)) + shift m c (ix2 0 k)

/-- The gate branch before its activation, and the other branch, from the packed weights. -/
@[irreducible] def ba (c : Dev nD) (i : Fin 8192) (f : Fin 2816) : EReal :=
  ∑ k : Fin 1024, h m c i k * wall m c (ix3 (⟨f.val / 704, by omega⟩ : Fin 4) (⟨f.val % 704, by omega⟩ : Fin 2112) k)
@[irreducible] def bb (c : Dev nD) (i : Fin 8192) (f : Fin 2816) : EReal :=
  ∑ k : Fin 1024, h m c i k * wall m c (ix3 (⟨f.val / 704, by omega⟩ : Fin 4) (⟨704 + f.val % 704, by omega⟩ : Fin 2112) k)

/-- The gate branch behind its activation, the activation's gradient times the other branch, and the branches' product. -/
def sa (c : Dev nD) (i : Fin 8192) (f : Fin 2816) : EReal := ba m c i f * sg (ba m c i f)
def ga (c : Dev nD) (i : Fin 8192) (f : Fin 2816) : EReal :=
  bb m c i f * (sg (ba m c i f) * (1 + ba m c i f * (1 - sg (ba m c i f))))
def sb (c : Dev nD) (i : Fin 8192) (f : Fin 2816) : EReal := sa m c i f * bb m c i f

/-- The layer's product of branches through the last weights. -/
@[irreducible] def fo (c : Dev nD) (i : Fin 8192) (k : Fin 1024) : EReal :=
  ∑ f : Fin 2816, sb m c i f * wall m c (ix3 (⟨f.val / 704, by omega⟩ : Fin 4) (⟨1408 + f.val % 704, by omega⟩ : Fin 2112) k)

/-- The layer's result. -/
@[irreducible] def xo (c : Dev nD) (i : Fin 8192) (k : Fin 1024) : EReal := xs m c (ix2 i k) + half * gate m c (ix2 0 k) * fo m c i k

/-- The columns of the first and of the second half. -/
def lo (f : Fin 1408) : Fin 2816 := ⟨f.val, by omega⟩
def hi (f : Fin 1408) : Fin 2816 := ⟨1408 + f.val, by omega⟩

theorem sum_halves (g : Fin 2816 → EReal) : ∑ f, g f = ∑ f, g (lo f) + ∑ f, g (hi f) :=
  Fin.sum_univ_add (a := 1408) (b := 1408) g

/-- What the three products of a half read of the packed weights. -/
theorem ba_eq (c : Dev nD) (i : Fin 8192) (y : Fin 2816) (k : Fin 4) (l : Fin 2112) (hk : k.val = y.val / 704) (hl : l.val = y.val % 704) :
    (∑ x : Fin 1024, h m c i x * wall m c (ix3 k l x)) = ba m c i y := by
  unfold ba
  exact Finset.sum_congr rfl fun x _ => congrArg _ (congrArg (wall m c) (by blk_ext [hk, hl]))
theorem bb_eq (c : Dev nD) (i : Fin 8192) (y : Fin 2816) (k : Fin 4) (l : Fin 2112) (hk : k.val = y.val / 704) (hl : l.val = 704 + y.val % 704) :
    (∑ x : Fin 1024, h m c i x * wall m c (ix3 k l x)) = bb m c i y := by
  unfold bb
  exact Finset.sum_congr rfl fun x _ => congrArg _ (congrArg (wall m c) (by blk_ext [hk, hl]))

section
variable (c : Dev nD) (t : Fin cfg0.N) (i : Fin 512)

/-- The blocks' own intermediate arrays, of the first and the second half. -/
abbrev H0 := k0_pay8 (iblk m c 0 t) (iblk m c 4 t) (iblk m c 1 t) (iblk m c 2 t)
abbrev A1 := k0_pay10 (iblk m c 0 t) (iblk m c 4 t) (iblk m c 1 t) (iblk m c 2 t) (View.ld (iblk m c 5 t) (Rect.unit ![0, 0, 0] ![2, 704, 1024] inb_S4x704x1024_S2x704x1024_0_0_0))
abbrev B1 := k0_pay11 (iblk m c 0 t) (iblk m c 4 t) (iblk m c 1 t) (iblk m c 2 t) (View.ld (iblk m c 6 t) (Rect.unit ![0, 0, 0] ![2, 704, 1024] inb_S4x704x1024_S2x704x1024_0_0_0))
abbrev T1 := k0_pay12 (iblk m c 0 t) (iblk m c 4 t) (iblk m c 1 t) (iblk m c 2 t) (View.ld (iblk m c 5 t) (Rect.unit ![0, 0, 0] ![2, 704, 1024] inb_S4x704x1024_S2x704x1024_0_0_0))
abbrev A2 := k0_pay20 (k0_pay8 (iblk m c 0 t) (iblk m c 4 t) (iblk m c 1 t) (iblk m c 2 t)) (View.ld (iblk m c 5 t) (Rect.unit ![2, 0, 0] ![2, 704, 1024] inb_S4x704x1024_S2x704x1024_2_0_0))
abbrev B2 := k0_pay21 (k0_pay8 (iblk m c 0 t) (iblk m c 4 t) (iblk m c 1 t) (iblk m c 2 t)) (View.ld (iblk m c 6 t) (Rect.unit ![2, 0, 0] ![2, 704, 1024] inb_S4x704x1024_S2x704x1024_2_0_0))
abbrev T2 := k0_pay22 (k0_pay8 (iblk m c 0 t) (iblk m c 4 t) (iblk m c 1 t) (iblk m c 2 t)) (View.ld (iblk m c 5 t) (Rect.unit ![2, 0, 0] ![2, 704, 1024] inb_S4x704x1024_S2x704x1024_2_0_0))
abbrev F1 := k0_pay19 k0_pay9 (A1 m c t) (B1 m c t) (T1 m c t) k0_pay13 (View.ld (iblk m c 7 t) (Rect.unit ![0, 0, 0] ![2, 704, 1024] inb_S4x704x1024_S2x704x1024_0_0_0))
abbrev Y := k0_pay7 (iblk m c 0 t) (F1 m c t) (A2 m c t) (B2 m c t) (T2 m c t) (Ideal.ofBits FTy.f32 1056964608#32) (View.ld (iblk m c 7 t) (Rect.unit ![2, 0, 0] ![2, 704, 1024] inb_S4x704x1024_S2x704x1024_2_0_0)) (iblk m c 3 t)

/-- What a block computes, row by row. -/
theorem h_blk (k : Fin 1024) : H0 m c t (ix2 i k) = h m c (row t i) k := by
  pointwise [k0_pay8]
  simp only [blk0, blk1, blk2, blk4]
  unfold h rs
  rfl

theorem a1_blk (f : Fin 1408) : A1 m c t (ix2 i f) = ba m c (row t i) (lo f) := by
  pointwise [k0_pay10]
  simp only [h_blk, blk5]
  exact ba_eq m c _ _ _ _ (by simp only [lo]) (by simp only [lo])
theorem b1_blk (f : Fin 1408) : B1 m c t (ix2 i f) = bb m c (row t i) (lo f) := by
  pointwise [k0_pay11]
  simp only [h_blk, blk6]
  exact bb_eq m c _ _ _ _ (by simp only [lo]) (by simp only [lo])
theorem a2_blk (f : Fin 1408) : A2 m c t (ix2 i f) = ba m c (row t i) (hi f) := by
  pointwise [k0_pay20]
  simp only [h_blk, blk5]
  exact ba_eq m c _ _ _ _ (by simp only [hi]; omega) (by simp only [hi]; omega)
theorem b2_blk (f : Fin 1408) : B2 m c t (ix2 i f) = bb m c (row t i) (hi f) := by
  pointwise [k0_pay21]
  simp only [h_blk, blk6]
  exact bb_eq m c _ _ _ _ (by simp only [hi]; omega) (by simp only [hi]; omega)
theorem t1_blk (f : Fin 1408) : T1 m c t (ix2 i f) = Ideal.tanh (half * ba m c (row t i) (lo f)) := by
  pointwise [k0_pay12]
  simp only [a1_blk]
  rfl
theorem t2_blk (f : Fin 1408) : T2 m c t (ix2 i f) = Ideal.tanh (half * ba m c (row t i) (hi f)) := by
  pointwise [k0_pay22]
  simp only [a2_blk]
  rfl
theorem s1_blk (f : Fin 1408) : k0_pay18 (A1 m c t) (B1 m c t) (T1 m c t) k0_pay13 (ix2 i f) = sb m c (row t i) (lo f) := by
  pointwise [k0_pay13, k0_pay15, k0_pay14, k0_pay18]
  simp only [a1_blk, b1_blk, t1_blk]
  rfl
theorem f1_blk (k : Fin 1024) : F1 m c t (ix2 i k) = ∑ f, (fun f : Fin 2816 => sb m c (row t i) f
      * wall m c (ix3 (⟨f.val / 704, by omega⟩ : Fin 4) (⟨1408 + f.val % 704, by omega⟩ : Fin 2112) k)) (lo f) := by
  pointwise [k0_pay19, k0_pay9]
  simp only [s1_blk, blk7]
  exact Finset.sum_congr rfl fun f _ => congrArg _ (congrArg (wall m c) (by blk_ext [lo]))
theorem f_blk (k : Fin 1024) : k0_pay6 (F1 m c t) (A2 m c t) (B2 m c t) (T2 m c t) (Ideal.ofBits FTy.f32 1056964608#32) (View.ld (iblk m c 7 t) (Rect.unit ![2, 0, 0] ![2, 704, 1024] inb_S4x704x1024_S2x704x1024_2_0_0)) (ix2 i k) = fo m c (row t i) k := by
  pointwise [k0_pay6, k0_pay5, k0_pay2, k0_pay1]
  simp only [f1_blk, a2_blk, b2_blk, t2_blk, blk7]
  unfold fo
  rw [sum_halves]
  refine congrArg _ (Finset.sum_congr rfl fun f _ => congrArg _ (congrArg (wall m c) ?_))
  blk_ext [hi]
theorem y_blk (k : Fin 1024) : Y m c t (ix2 i k) = xo m c (row t i) k := by
  pointwise [k0_pay7]
  simp only [f_blk, blk3, blk0]
  unfold xo
  rfl
end

theorem arr9 (c : Dev nD) : (dats m 0 c).arrAt 9 cfg0.N = fun j => fo m c (j 0) (j 1) := by
  refine (dats m 0 c).arrAt_eq_of_covers 9 _ (by decide +kernel) fun t hf y => ?_
  blk_simp
  rw [after0_9]
  have e : out0_9 (iblk m c 0 t) (iblk m c 1 t) (iblk m c 2 t) (iblk m c 3 t) (iblk m c 4 t) (iblk m c 5 t) (iblk m c 6 t) (iblk m c 7 t) = k0_pay6 (F1 m c t) (A2 m c t) (B2 m c t) (T2 m c t) (Ideal.ofBits FTy.f32 1056964608#32)
      (View.ld (iblk m c 7 t) (Rect.unit ![2, 0, 0] ![2, 704, 1024] inb_S4x704x1024_S2x704x1024_2_0_0)) := by
    unfold_out out0_9
    frame_out
    rfl
  rw [e]
  idx_vars y
  rw [emb9]
  simp only [f_blk]
  rfl

theorem arr8 (c : Dev nD) : (dats m 0 c).arrAt 8 cfg0.N = fun j => xo m c (j 0) (j 1) := by
  refine (dats m 0 c).arrAt_eq_of_covers 8 _ (by decide +kernel) fun t hf y => ?_
  blk_simp
  rw [after0_8]
  have e : out0_8 (iblk m c 0 t) (iblk m c 1 t) (iblk m c 2 t) (iblk m c 3 t) (iblk m c 4 t) (iblk m c 5 t) (iblk m c 6 t) (iblk m c 7 t) = Y m c t := by
    unfold_out out0_8
    frame_out
    rfl
  rw [e]
  idx_vars y
  rw [emb8]
  simp only [y_blk]
  rfl

/-- Two halves stored side by side hold, at a column, what the half of the column holds. -/
theorem halves (P Q : FVec Idealize.ShloMosaic.Ideal S512x1408 .bf16) (g : Fin 2816 → EReal) (r : Fin 512) (hP : ∀ f, P (ix2 r f) = g (lo f))
    (hQ : ∀ f, Q (ix2 r f) = g (hi f)) (y : Fin 2816) :
    View.canon (Val := Elt Idealize.ShloMosaic.Ideal) (s := S512x2816) (e := EltTy.bf16) [⟨Rect.unit ![0, 1408] ![512, 1408] inb_S512x2816_S512x1408_0_1408, Q⟩,
      ⟨Rect.unit ![0, 0] ![512, 1408] inb_S512x2816_S512x1408_0_0, P⟩] (ix2 r y) = g y := by
  canon_tiles x h
  · idx_vars x
    obtain rfl := Fin.ext h0
    exact (hQ _).trans (congrArg g (Fin.ext h1.symm))
  · idx_vars x
    obtain rfl := Fin.ext h0
    refine (hP _).trans (congrArg g (Fin.ext ?_))
    simp only [lo]
    omega

theorem sa_lo (c : Dev nD) (t : Fin cfg0.N) (i : Fin 512) (f : Fin 1408) :
    k0_pay16 (A1 m c t) (T1 m c t) k0_pay13 (ix2 i f) = sa m c (row t i) (lo f) := by
  pointwise [k0_pay16, k0_pay15, k0_pay14, k0_pay13]
  simp only [a1_blk, t1_blk]
  rfl
theorem sa_hi (c : Dev nD) (t : Fin cfg0.N) (i : Fin 512) (f : Fin 1408) :
    k0_pay3 (A2 m c t) (T2 m c t) (Ideal.ofBits FTy.f32 1056964608#32) (ix2 i f) = sa m c (row t i) (hi f) := by
  pointwise [k0_pay3, k0_pay2, k0_pay1]
  simp only [a2_blk, t2_blk]
  rfl

theorem ga_lo (c : Dev nD) (t : Fin cfg0.N) (i : Fin 512) (f : Fin 1408) :
    k0_pay17 (A1 m c t) (B1 m c t) (T1 m c t) k0_pay13 (ix2 i f) = ga m c (row t i) (lo f) := by
  pointwise [k0_pay17, k0_pay14, k0_pay13]
  simp only [a1_blk, b1_blk, t1_blk]
  rfl
theorem ga_hi (c : Dev nD) (t : Fin cfg0.N) (i : Fin 512) (f : Fin 1408) :
    k0_pay4 (A2 m c t) (B2 m c t) (T2 m c t) (Ideal.ofBits FTy.f32 1056964608#32) (ix2 i f) = ga m c (row t i) (hi f) := by
  pointwise [k0_pay4, k0_pay1]
  simp only [a2_blk, b2_blk, t2_blk]
  rfl

theorem sb_hi (c : Dev nD) (t : Fin cfg0.N) (i : Fin 512) (f : Fin 1408) :
    k0_pay5 (A2 m c t) (B2 m c t) (T2 m c t) (Ideal.ofBits FTy.f32 1056964608#32) (ix2 i f) = sb m c (row t i) (hi f) := by
  pointwise [k0_pay5, k0_pay2, k0_pay1]
  simp only [a2_blk, b2_blk, t2_blk]
  rfl

theorem arr10 (c : Dev nD) : (dats m 0 c).arrAt 10 cfg0.N = fun j => sa m c (j 0) (j 1) := by
  refine (dats m 0 c).arrAt_eq_of_covers 10 _ (by decide +kernel) fun t hf y => ?_
  blk_simp
  rw [after0_10]
  idx_vars y
  rw [emb10]
  unfold_out out0_10
  frame_out
  exact halves _ _ (fun f => sa m c (row t y0) f) y0 (fun f => sa_lo m c t y0 f) (fun f => sa_hi m c t y0 f) y1

theorem arr11 (c : Dev nD) : (dats m 0 c).arrAt 11 cfg0.N = fun j => ga m c (j 0) (j 1) := by
  refine (dats m 0 c).arrAt_eq_of_covers 11 _ (by decide +kernel) fun t hf y => ?_
  blk_simp
  rw [after0_11]
  idx_vars y
  rw [emb11]
  unfold_out out0_11
  frame_out
  exact halves _ _ (fun f => ga m c (row t y0) f) y0 (fun f => ga_lo m c t y0 f) (fun f => ga_hi m c t y0 f) y1

theorem arr12 (c : Dev nD) : (dats m 0 c).arrAt 12 cfg0.N = fun j => sb m c (j 0) (j 1) := by
  refine (dats m 0 c).arrAt_eq_of_covers 12 _ (by decide +kernel) fun t hf y => ?_
  blk_simp
  rw [after0_12]
  idx_vars y
  rw [emb12]
  unfold_out out0_12
  frame_out
  exact halves _ _ (fun f => sb m c (row t y0) f) y0 (fun f => s1_blk m c t y0 f) (fun f => sb_hi m c t y0 f) y1

end Cert.Kernel5Ideal.Hand
-- ==== Proof.LayerRef.lean ====
module
public import proofs.«01_k».proof.Proof.Layer
public import proofs.«01_k».proof.Proof.LossRef
public import proofs.«01_k».proof.Proof.Gen.Reference5Ideal.Read
public import Idealize.ShloMosaic.Lib.StableHlo.RunRead
@[expose] public section
/-! The reference's stages of the layer in the kernel's terms. Up to the layer's result they are the stages of the
reference of the layer with the loss, whose readings are used as they stand. -/
set_option maxRecDepth 16384
noncomputable section
namespace Cert.Kernel5Ideal.Hand
open Idealize.ShloMosaic Idealize.ShloMosaic.TcCoe Idealize.SL.Sem Cert.Kernel5Ideal Cert.Kernel5Ideal.Gen Cert.Reals
open Cert.Reference3Ideal.Read
variable (m : (ℓ : Loc nD τ sig) → Buf (Elt Ideal) ℓ) (c : Dev nD)

/-- Of the packed weights the first part of a chunk is the gate's, the second the other branch's, the third the last weights'. -/
theorem v6_gate (k : Fin 4) (l : Fin 704) (x : Fin 1024) : (V m c main_v6 : S4x2112x1024.Idx → EReal) (ix3 k (⟨l.val, by omega⟩ : Fin 2112) x) =
    m (c.tc.loc main_arg5) (ix2 x (⟨k.val * 704 + l.val, by omega⟩ : Fin 2816)) := by
  unfold_abbrev_sides
  after_reads_simp
  pointwise
  after_reads_simp
  pointwise
theorem v6_up (k : Fin 4) (l : Fin 704) (x : Fin 1024) : (V m c main_v6 : S4x2112x1024.Idx → EReal) (ix3 k (⟨704 + l.val, by omega⟩ : Fin 2112) x) =
    m (c.tc.loc main_arg6) (ix2 x (⟨k.val * 704 + l.val, by omega⟩ : Fin 2816)) := by
  unfold_abbrev_sides
  after_reads_simp
  pointwise
  after_reads_simp
  pointwise
theorem v6_down (k : Fin 4) (l : Fin 704) (x : Fin 1024) : (V m c main_v6 : S4x2112x1024.Idx → EReal) (ix3 k (⟨1408 + l.val, by omega⟩ : Fin 2112) x) =
    m (c.tc.loc main_arg7) (ix2 (⟨k.val * 704 + l.val, by omega⟩ : Fin 2816) x) := by
  unfold_abbrev_sides
  after_reads_simp
  pointwise
  rw [dif_neg (by omega), dif_neg (by omega)]
  after_reads_simp
  pointwise
  exact congrArg (fun f => m (c.tc.loc main_arg7) (ix2 f x)) (Fin.ext (show k.val * 704 + (1408 + l.val - 704 - 704) = k.val * 704 + l.val by omega))

/-- The packed weights by the column of the branches. -/
theorem wall_gate (f : Fin 2816) (x : Fin 1024) : wall m c (ix3 (⟨f.val / 704, by omega⟩ : Fin 4) (⟨f.val % 704, by omega⟩ : Fin 2112) x) = m (c.tc.loc main_arg5) (ix2 x f) := by
  unfold wall
  rw [show (⟨f.val % 704, by omega⟩ : Fin 2112) = ⟨(⟨f.val % 704, Nat.mod_lt _ (by omega)⟩ : Fin 704).val, by omega⟩ from rfl, v6_gate]
  exact congrArg (fun f => m (c.tc.loc main_arg5) (ix2 x f)) (Fin.ext (show f.val / 704 * 704 + f.val % 704 = f.val by omega))
theorem wall_up (f : Fin 2816) (x : Fin 1024) : wall m c (ix3 (⟨f.val / 704, by omega⟩ : Fin 4) (⟨704 + f.val % 704, by omega⟩ : Fin 2112) x) = m (c.tc.loc main_arg6) (ix2 x f) := by
  unfold wall
  rw [show (⟨704 + f.val % 704, by omega⟩ : Fin 2112) = ⟨704 + (⟨f.val % 704, Nat.mod_lt _ (by omega)⟩ : Fin 704).val, by omega⟩ from rfl, v6_up]
  exact congrArg (fun f => m (c.tc.loc main_arg6) (ix2 x f)) (Fin.ext (show f.val / 704 * 704 + f.val % 704 = f.val by omega))
theorem wall_down (f : Fin 2816) (x : Fin 1024) : wall m c (ix3 (⟨f.val / 704, by omega⟩ : Fin 4) (⟨1408 + f.val % 704, by omega⟩ : Fin 2112) x) = m (c.tc.loc main_arg7) (ix2 f x) := by
  unfold wall
  rw [show (⟨1408 + f.val % 704, by omega⟩ : Fin 2112) = ⟨1408 + (⟨f.val % 704, Nat.mod_lt _ (by omega)⟩ : Fin 704).val, by omega⟩ from rfl, v6_down]
  exact congrArg (fun f => m (c.tc.loc main_arg7) (ix2 f x)) (Fin.ext (show f.val / 704 * 704 + f.val % 704 = f.val by omega))

/-- Each array the region finds is an argument. -/
theorem args : xs m c = m (c.tc.loc main_arg0) ∧ shift m c = m (c.tc.loc main_arg1) ∧ scale m c = m (c.tc.loc main_arg2) ∧ gate m c = m (c.tc.loc main_arg3)
    ∧ gain m c = m (c.tc.loc main_arg4) := by
  unfold xs shift scale gate gain
  refine ⟨?_, ?_, ?_, ?_, ?_⟩ <;> entry_read <;> rfl

theorem h_eq (i : Fin 8192) (k : Fin 1024) : h m c i k = (val_main_v17 (F := Ideal) (m (c.tc.loc main_arg0)) (m (c.tc.loc main_arg1)) (m (c.tc.loc main_arg2)) (m (c.tc.loc main_arg4)) : S8192x1024.Idx → EReal) (ix2 i k) := by
  obtain ⟨ex, ei, es, -, eg⟩ := args m c
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2]
  unfold h rs
  rw [ex, ei, es, eg]
  try rw [Ideal.ofBits_one_f32]

theorem ba_val (i : Fin 8192) (f : Fin 2816) : ba m c i f = (val_main_v18 (F := Ideal) (m (c.tc.loc main_arg0)) (m (c.tc.loc main_arg1)) (m (c.tc.loc main_arg2)) (m (c.tc.loc main_arg4)) (m (c.tc.loc main_arg5)) : S8192x2816.Idx → EReal) (ix2 i f) := by
  pointwise [val_main_v18]
  unfold ba
  exact Finset.sum_congr rfl fun x _ => congrArg₂ (· * ·) (h_eq m c i x) (wall_gate m c f x)
theorem bb_val (i : Fin 8192) (f : Fin 2816) : bb m c i f = (val_main_v19 (F := Ideal) (m (c.tc.loc main_arg0)) (m (c.tc.loc main_arg1)) (m (c.tc.loc main_arg2)) (m (c.tc.loc main_arg4)) (m (c.tc.loc main_arg6)) : S8192x2816.Idx → EReal) (ix2 i f) := by
  pointwise [val_main_v19]
  unfold bb
  exact Finset.sum_congr rfl fun x _ => congrArg₂ (· * ·) (h_eq m c i x) (wall_up m c f x)

theorem fo_val (i : Fin 8192) (k : Fin 1024) : fo m c i k = (val_main_v26 (F := Ideal) (m (c.tc.loc main_arg0)) (m (c.tc.loc main_arg1)) (m (c.tc.loc main_arg2)) (m (c.tc.loc main_arg4)) (m (c.tc.loc main_arg5)) (m (c.tc.loc main_arg6)) (m (c.tc.loc main_arg7)) : S8192x1024.Idx → EReal) (ix2 i k) := by
  pointwise [val_main_v26]
  unfold fo
  refine Finset.sum_congr rfl fun f _ => congrArg₂ (· * ·) ?_ (wall_down m c f k)
  unfold sb sa
  rw [ba_val, bb_val, Cert.Kernel3Ideal.Hand.sb_ref]

theorem xo_val (i : Fin 8192) (k : Fin 1024) : xo m c i k = (val_main_v31 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) : S8192x1024.Idx → EReal) (ix2 i k) := by
  obtain ⟨ex, -, -, eg, -⟩ := args m c
  pointwise [val_main_v31, val_main_v30, val_main_v29, val_main_v28, val_main_v27, val_main_cst_4]
  unfold xo
  rw [ex, eg, fo_val]
  rfl

/-- The stages the two references share. -/
theorem stage_xo : Cert.Reference5Ideal.Read.val_main_v31 (F := Ideal) = val_main_v31 (F := Ideal) := rfl
theorem stage_f : Cert.Reference5Ideal.Read.val_main_v26 (F := Ideal) = val_main_v26 (F := Ideal) := rfl
theorem stage_sa : Cert.Reference5Ideal.Read.val_main_v32 (F := Ideal) = val_main_v81 (F := Ideal) := rfl
theorem stage_ga : Cert.Reference5Ideal.Read.val_main_v33 (F := Ideal) = val_main_v82 (F := Ideal) := rfl
theorem stage_s : Cert.Reference5Ideal.Read.val_main_v34 (F := Ideal) = val_main_v22 (F := Ideal) := rfl
end Cert.Kernel5Ideal.Hand
-- ==== Proof.LayerClaim.lean ====
module
public import proofs.«01_k».proof.Defs
public import proofs.«01_k».proof.Proof.Finite
public import proofs.«01_k».proof.Proof.LayerRef
public import proofs.«01_k».proof.Proof.Gen.Reference5Ideal.Run
public import proofs.«01_k».proof.Proof.Gen.Pre_finite_e
public import Idealize.ShloMosaic.Lib.Claim
@[expose] public section
/-!
The feed-forward layer without the loss: the kernel's five results are the reference's, where the arguments that make
the other branch are finite.
-/
set_option maxRecDepth 16384
noncomputable section
namespace Cert.Kernel5Ideal.Hand
open Idealize.ShloMosaic Idealize.ShloMosaic.TcCoe Idealize.SL.Sem Cert.Kernel5Ideal Cert.Kernel5Ideal.Gen Cert.Reals
open Cert.Reference5Ideal.Read
variable (m : (ℓ : Loc nD τ sig) → Buf (Elt Ideal) ℓ) (c : Dev nD)

/-- What the precondition says of each argument it names. -/
theorem finite [Cert.Pre_finite_e.Facts] (h : Pre_Kernel5Ideal_finite_e m) (c : Dev nD) :
    (∀ i, IsR ((m (c.tc.loc main_arg1) : S1x1024.Idx → EReal) i)) ∧ (∀ i, IsR ((m (c.tc.loc main_arg2) : S1x1024.Idx → EReal) i))
      ∧ (∀ i, IsR ((m (c.tc.loc main_arg4) : S1x1024.Idx → EReal) i)) ∧ (∀ i, IsR ((m (c.tc.loc main_arg6) : S1024x2816.Idx → EReal) i)) := by
  have e := congrFun (h c) ix0
  simp only [Pre_finite_e.fn, Pre_finite_e.fn_part1, andi, IntOp.andi_eq_one] at e
  obtain ⟨⟨⟨⟨-, e1⟩, e2⟩, e4⟩, e6⟩ := e
  exact ⟨isR_of_all e1 fun _ => rfl, isR_of_all e2 fun _ => rfl, isR_of_all e4 fun _ => rfl, isR_of_all e6 fun _ => rfl⟩

theorem xo_eq : ((dats m 0 c).arrAt 8 cfg0.N : S8192x1024.Idx → EReal) = val_main_v31 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  rw [arr8]
  funext j
  idx_vars j
  exact (xo_val m c j0 j1).trans (by rw [stage_xo])

theorem fo_eq : ((dats m 0 c).arrAt 9 cfg0.N : S8192x1024.Idx → EReal) = val_main_v26 (F := Ideal) (m (c.tc.loc main_arg0)) (m (c.tc.loc main_arg1)) (m (c.tc.loc main_arg2)) (m (c.tc.loc main_arg4)) (m (c.tc.loc main_arg5)) (m (c.tc.loc main_arg6)) (m (c.tc.loc main_arg7)) := by
  rw [arr9]
  funext j
  idx_vars j
  exact (fo_val m c j0 j1).trans (by rw [stage_f])

theorem sa_eq : ((dats m 0 c).arrAt 10 cfg0.N : S8192x2816.Idx → EReal) = val_main_v32 (F := Ideal) (m (c.tc.loc main_arg0)) (m (c.tc.loc main_arg1)) (m (c.tc.loc main_arg2)) (m (c.tc.loc main_arg4)) (m (c.tc.loc main_arg5)) := by
  rw [arr10]
  funext j
  idx_vars j
  rw [stage_sa, Cert.Kernel3Ideal.Hand.sa_ref, ← ba_val]
  rfl

theorem ga_eq (h : Pre_Kernel5Ideal_finite_e m) : ((dats m 0 c).arrAt 11 cfg0.N : S8192x2816.Idx → EReal) = val_main_v33 (F := Ideal) (m (c.tc.loc main_arg0)) (m (c.tc.loc main_arg1)) (m (c.tc.loc main_arg2)) (m (c.tc.loc main_arg4)) (m (c.tc.loc main_arg5)) (m (c.tc.loc main_arg6)) := by
  obtain ⟨h1, h2, h4, h6⟩ := finite m h c
  rw [arr11]
  funext j
  idx_vars j
  rw [stage_ga, Cert.Kernel3Ideal.Hand.ga_ref _ _ _ _ _ _ h1 h2 h4 h6, ← ba_val, ← bb_val]
  rfl

theorem sb_eq : ((dats m 0 c).arrAt 12 cfg0.N : S8192x2816.Idx → EReal) = val_main_v34 (F := Ideal) (m (c.tc.loc main_arg0)) (m (c.tc.loc main_arg1)) (m (c.tc.loc main_arg2)) (m (c.tc.loc main_arg4)) (m (c.tc.loc main_arg5)) (m (c.tc.loc main_arg6)) := by
  rw [arr12]
  funext j
  idx_vars j
  rw [stage_s, Cert.Kernel3Ideal.Hand.sb_ref, ← ba_val, ← bb_val]
  rfl

/-- What the run leaves in the five results. -/
theorem run_values (g : Dev nD → PrngReg) : θ_run (defs (F := Ideal)) (onTc (τ := τ) (main (F := Ideal))) ⟨m, fun _ => 0, g⟩ (fun r => ∀ c : Dev nD,
    r.2.mem ((c.tc : Thread nD τ).loc main_v7_0) = (dats m 0 c).arrAt 8 cfg0.N
    ∧ r.2.mem ((c.tc : Thread nD τ).loc main_v7_1) = (dats m 0 c).arrAt 9 cfg0.N
    ∧ r.2.mem ((c.tc : Thread nD τ).loc main_v7_2) = (dats m 0 c).arrAt 10 cfg0.N
    ∧ r.2.mem ((c.tc : Thread nD τ).loc main_v7_3) = (dats m 0 c).arrAt 11 cfg0.N
    ∧ r.2.mem ((c.tc : Thread nD τ).loc main_v7_4) = (dats m 0 c).arrAt 12 cfg0.N) :=
  θ_run_mono (run_main m g) fun r h c => ⟨(h c).1 8, (h c).1 9, (h c).1 10, (h c).1 11, (h c).1 12⟩

/-- The reference's run, its results as the stages of its text. -/
theorem ref_values (m' : (ℓ : Loc Cert.Reference5Ideal.nD Cert.Reference5Ideal.τ Cert.Reference5Ideal.sig) → Buf (Elt Ideal) ℓ) (g' : Dev Cert.Reference5Ideal.nD → PrngReg) :
    θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
      r.2.mem ((c.tc : Thread Cert.Reference5Ideal.nD Cert.Reference5Ideal.τ).loc Cert.Reference5Ideal.main_v31) = val_main_v31 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7))
      ∧ r.2.mem ((c.tc : Thread Cert.Reference5Ideal.nD Cert.Reference5Ideal.τ).loc Cert.Reference5Ideal.main_v26) = val_main_v26 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg4)) (m' (c.tc.loc Cert.Reference5Ideal.main_arg5)) (m' (c.tc.loc Cert.Reference5Ideal.main_arg6)) (m' (c.tc.loc Cert.Reference5Ideal.main_arg7))
      ∧ r.2.mem ((c.tc : Thread Cert.Reference5Ideal.nD Cert.Reference5Ideal.τ).loc Cert.Reference5Ideal.main_v32) = val_main_v32 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg4)) (m' (c.tc.loc Cert.Reference5Ideal.main_arg5))
      ∧ r.2.mem ((c.tc : Thread Cert.Reference5Ideal.nD Cert.Reference5Ideal.τ).loc Cert.Reference5Ideal.main_v33) = val_main_v33 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg4)) (m' (c.tc.loc Cert.Reference5Ideal.main_arg5)) (m' (c.tc.loc Cert.Reference5Ideal.main_arg6))
      ∧ r.2.mem ((c.tc : Thread Cert.Reference5Ideal.nD Cert.Reference5Ideal.τ).loc Cert.Reference5Ideal.main_v34) = val_main_v34 (F := Ideal) (m' (c.tc.loc Cert.Reference5Ideal.main_arg0)) (m' (c.tc.loc Cert.Reference5Ideal.main_arg1)) (m' (c.tc.loc Cert.Reference5Ideal.main_arg2)) (m' (c.tc.loc Cert.Reference5Ideal.main_arg4)) (m' (c.tc.loc Cert.Reference5Ideal.main_arg5)) (m' (c.tc.loc Cert.Reference5Ideal.main_arg6))
      ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)) :=
  θ_run_mono (Cert.Reference5Ideal.Value.run m' g') fun r h c =>
    ⟨(h c).1.trans (val_main_v31_eq _ _ _ _ _ _ _ _), (h c).2.1.trans (val_main_v26_eq _ _ _ _ _ _ _), (h c).2.2.1.trans (val_main_v32_eq _ _ _ _ _), (h c).2.2.2.1.trans (val_main_v33_eq m' c), (h c).2.2.2.2.1.trans (val_main_v34_eq _ _ _ _ _ _), (h c).2.2.2.2.2⟩

/-- Kernel and reference leave the same five results. -/
theorem algebraic : Cert.algebraic_Kernel5Ideal_Reference5Ideal_pre_finite_e := by
  intro m g m' g' hpre hagree
  refine ⟨fun c => val_main_v31 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)),
    fun c => val_main_v26 (F := Ideal) (m (c.tc.loc main_arg0)) (m (c.tc.loc main_arg1)) (m (c.tc.loc main_arg2)) (m (c.tc.loc main_arg4)) (m (c.tc.loc main_arg5)) (m (c.tc.loc main_arg6)) (m (c.tc.loc main_arg7)),
    fun c => val_main_v32 (F := Ideal) (m (c.tc.loc main_arg0)) (m (c.tc.loc main_arg1)) (m (c.tc.loc main_arg2)) (m (c.tc.loc main_arg4)) (m (c.tc.loc main_arg5)),
    fun c => val_main_v33 (F := Ideal) (m (c.tc.loc main_arg0)) (m (c.tc.loc main_arg1)) (m (c.tc.loc main_arg2)) (m (c.tc.loc main_arg4)) (m (c.tc.loc main_arg5)) (m (c.tc.loc main_arg6)),
    fun c => val_main_v34 (F := Ideal) (m (c.tc.loc main_arg0)) (m (c.tc.loc main_arg1)) (m (c.tc.loc main_arg2)) (m (c.tc.loc main_arg4)) (m (c.tc.loc main_arg5)) (m (c.tc.loc main_arg6)),
    θ_run_mono (θ_run_and (run_values m g) (unchanged m g)) fun r h c => ?_, θ_run_mono (ref_values m' g') fun r h c => ?_⟩
  · exact ⟨(h.1 c).1.trans (xo_eq m c), (h.1 c).2.1.trans (fo_eq m c), (h.1 c).2.2.1.trans (sa_eq m c), (h.1 c).2.2.2.1.trans (ga_eq m c hpre), (h.1 c).2.2.2.2.trans (sb_eq m c), h.2 c⟩
  · obtain ⟨a0, a1, a2, a3, a4, a5, a6, a7⟩ := hagree c
    have h := h c
    rw [a0, a1, a2, a3, a4, a5, a6, a7] at h
    rw [a0, a1, a2, a3, a4, a5, a6, a7]
    exact h
end Cert.Kernel5Ideal.Hand
-- ==== Proof.Weights.lean ====
module
public import proofs.«01_k».proof.Proof.Gen.Kernel6Ideal.Frame
public import Idealize.ShloMosaic.Lib.Pipeline.ValueKit
public import Idealize.ShloMosaic.Lib.Pointwise
public import Idealize.ShloMosaic.Lib.ValueIdx
public import Idealize.ShloMosaic.Lib.ValueIdxCore
@[expose] public section
/-!
The gradients of the feed-forward weights, over a grid of 2 blocks of 1408 columns by 16 blocks of 512 rows: each
block of columns sums its 16 blocks of rows in an accumulator and stores it after the last. What each output array
holds after the last point, by the arrays the region finds.
-/
set_option maxRecDepth 16384
noncomputable section
namespace Cert.Kernel6Ideal.Hand
open Cert.Kernel6Ideal Cert.Kernel6Ideal.Gen Idealize.ShloMosaic Idealize.ShloMosaic.TcCoe Idealize.SL.Sem
open Idealize.ShloMosaic.Pipeline (Dat)
variable (m : (ℓ : Loc nD τ sig) → Buf (Elt Ideal) ℓ)

/-- The block each window holds at point `t`. -/
theorem idx : ∀ t : Fin cfg0.N, win0_0.index t = ![t.val % 16, t.val / 16] ∧ win0_1.index t = ![t.val % 16, t.val / 16] ∧ win0_2.index t = ![t.val % 16, t.val / 16]
    ∧ win0_3.index t = ![t.val % 16, 0] ∧ win0_4.index t = ![t.val % 16, 0] ∧ win0_5.index t = ![t.val / 16, 0] ∧ win0_6.index t = ![t.val / 16, 0] ∧ win0_7.index t = ![t.val / 16, 0] :=
  (by decide +kernel : ∀ t : Fin grid0.N, win0_0.index t = ![t.val % 16, t.val / 16] ∧ win0_1.index t = ![t.val % 16, t.val / 16] ∧ win0_2.index t = ![t.val % 16, t.val / 16]
    ∧ win0_3.index t = ![t.val % 16, 0] ∧ win0_4.index t = ![t.val % 16, 0] ∧ win0_5.index t = ![t.val / 16, 0] ∧ win0_6.index t = ![t.val / 16, 0] ∧ win0_7.index t = ![t.val / 16, 0])

theorem point_lt (t : Fin cfg0.N) : t.val < 32 := lt_of_lt_of_eq t.isLt (show cfg0.N = 32 from N_0)

/-- Row `i` of the rows of point `t`, and column `f` of its columns. -/
def row (t : Fin cfg0.N) (i : Fin 512) : Fin 8192 := ⟨t.val % 16 * 512 + i.val, by omega⟩
def col (t : Fin cfg0.N) (f : Fin 1408) : Fin 2816 := ⟨t.val / 16 * 1408 + f.val, by have := point_lt t; omega⟩

theorem row_val (t : Fin cfg0.N) (i : Fin 512) : (row t i).val = t.val % 16 * 512 + i.val := rfl
theorem col_val (t : Fin cfg0.N) (f : Fin 1408) : (col t f).val = t.val / 16 * 1408 + f.val := rfl

/-- The arrays the region finds. -/
@[irreducible] def da (c : Dev nD) : S8192x2816.Idx → EReal := V m c main_arg6
@[irreducible] def db (c : Dev nD) : S8192x2816.Idx → EReal := V m c main_arg7
@[irreducible] def s (c : Dev nD) : S8192x2816.Idx → EReal := V m c main_v29
@[irreducible] def h (c : Dev nD) : S8192x1024.Idx → EReal := V m c main_v30
@[irreducible] def df (c : Dev nD) : S8192x1024.Idx → EReal := V m c main_arg8

theorem blk0 (c : Dev nD) (t : Fin cfg0.N) (i : Fin 512) (f : Fin 1408) : iblk m c 0 t (ix2 i f) = da m c (ix2 (row t i) (col t f)) := by
  have e : ((cfg0.win 0).blk t).view.emb (ix2 i f) = ix2 (row t i) (col t f) := by blk_ext [idx t, row_val, col_val]
  unfold iblk da; exact congrArg (V m c main_arg6) e
theorem blk1 (c : Dev nD) (t : Fin cfg0.N) (i : Fin 512) (f : Fin 1408) : iblk m c 1 t (ix2 i f) = db m c (ix2 (row t i) (col t f)) := by
  have e : ((cfg0.win 1).blk t).view.emb (ix2 i f) = ix2 (row t i) (col t f) := by blk_ext [idx t, row_val, col_val]
  unfold iblk db; exact congrArg (V m c main_arg7) e
theorem blk2 (c : Dev nD) (t : Fin cfg0.N) (i : Fin 512) (f : Fin 1408) : iblk m c 2 t (ix2 i f) = s m c (ix2 (row t i) (col t f)) := by
  have e : ((cfg0.win 2).blk t).view.emb (ix2 i f) = ix2 (row t i) (col t f) := by blk_ext [idx t, row_val, col_val]
  unfold iblk s; exact congrArg (V m c main_v29) e
theorem blk3 (c : Dev nD) (t : Fin cfg0.N) (i : Fin 512) (k : Fin 1024) : iblk m c 3 t (ix2 i k) = h m c (ix2 (row t i) k) := by
  have e : ((cfg0.win 3).blk t).view.emb (ix2 i k) = ix2 (row t i) k := by blk_ext [idx t, row_val]
  unfold iblk h; exact congrArg (V m c main_v30) e
theorem blk4 (c : Dev nD) (t : Fin cfg0.N) (i : Fin 512) (k : Fin 1024) : iblk m c 4 t (ix2 i k) = df m c (ix2 (row t i) k) := by
  have e : ((cfg0.win 4).blk t).view.emb (ix2 i k) = ix2 (row t i) k := by blk_ext [idx t, row_val]
  unfold iblk df; exact congrArg (V m c main_arg8) e

theorem emb5 (t : Fin cfg0.N) (f : Fin 1408) (k : Fin 1024) : ((View.whole main_v31_0).slice (win0_5.rect t)).emb (ix2 f k) = ix2 (col t f) k := by blk_ext [idx t, col_val]
theorem emb6 (t : Fin cfg0.N) (f : Fin 1408) (k : Fin 1024) : ((View.whole main_v31_1).slice (win0_6.rect t)).emb (ix2 f k) = ix2 (col t f) k := by blk_ext [idx t, col_val]
theorem emb7 (t : Fin cfg0.N) (f : Fin 1408) (k : Fin 1024) : ((View.whole main_v31_2).slice (win0_7.rect t)).emb (ix2 f k) = ix2 (col t f) k := by blk_ext [idx t, col_val]

/-- A point's summand: the products of its rows. -/
def part (u : S8192x2816.Idx → EReal) (v : S8192x1024.Idx → EReal) (t : Fin cfg0.N) (j : S1408x1024.Idx) : EReal :=
  ∑ i : Fin 512, u (ix2 (row t i) (col t (j 0))) * v (ix2 (row t i) (j 1))

theorem pay8 (c : Dev nD) (t : Fin cfg0.N) (a : S1408x1024.Idx → EReal) (j : S1408x1024.Idx) :
    k0_pay8 (F := Ideal) a (iblk m c 0 t) (iblk m c 3 t) j = a j + part (da m c) (h m c) t j := by
  idx_vars j
  pointwise [k0_pay8]
  simp only [blk0, blk3]
  rfl
theorem pay9 (c : Dev nD) (t : Fin cfg0.N) (a : S1408x1024.Idx → EReal) (j : S1408x1024.Idx) :
    k0_pay9 (F := Ideal) a (iblk m c 1 t) (iblk m c 3 t) j = a j + part (db m c) (h m c) t j := by
  idx_vars j
  pointwise [k0_pay9]
  simp only [blk1, blk3]
  rfl
theorem pay10 (c : Dev nD) (t : Fin cfg0.N) (a : S1408x1024.Idx → EReal) (j : S1408x1024.Idx) :
    k0_pay1 (F := Ideal) (k0_pay10 (F := Ideal) a (iblk m c 2 t) (iblk m c 4 t)) j = a j + part (s m c) (df m c) t j := by
  idx_vars j
  pointwise [k0_pay1, k0_pay10]
  simp only [blk2, blk4]
  rfl

/-- A whole scratch read back after it was left at `a` holds `a`. -/
theorem left {r : Ref sig .tc} (q : (Memref.whole r).IsWhole) (a : r.ty.Contents (Elt Ideal)) :
    View.read (Elt Ideal) (View.whole r) (q.unread a) = a := q.read_unread a

/-- An accumulator over the 16 points of a block of columns: after the last it is the sum over all rows. -/
theorem acc_sum (f : (n : ℕ) → n < cfg0.N → S1408x1024.Idx → EReal) (u : S8192x2816.Idx → EReal) (v : S8192x1024.Idx → EReal)
    (h0 : ∀ t : Fin cfg0.N, t.val % 16 = 0 → ∀ j, f t.val t.isLt j = 0 + part u v t j)
    (hs : ∀ t : Fin cfg0.N, ¬ t.val % 16 = 0 → ∀ j, f t.val t.isLt j = f (t.val - 1) (Nat.lt_of_le_of_lt (Nat.sub_le _ _) t.isLt) j + part u v t j)
    (t : Fin cfg0.N) (h1 : t.val % 16 = 15) (j : S1408x1024.Idx) :
    f t.val t.isLt j = ∑ n : Fin 8192, u (ix2 n (col t (j 0))) * v (ix2 n (j 1)) := by
  rw [Pipeline.eq_sum_fin_of_reset_step_apply_of_flush f 16 (fun _ => 0) (fun t j => part u v t j) h0 hs t h1 j, zero_add]
  refine Fin.sum_mul_add_congr (S := 16) (n := 512) (L := 8192) fun a k hl => ?_
  have := point_lt t
  have ha := a.isLt
  have hp : 16 * (t.val / 16) + a.val < cfg0.N := lt_of_lt_of_eq (by omega : _ < 32) (show 32 = cfg0.N from N_0.symm)
  have er : row ⟨16 * (t.val / 16) + a.val, hp⟩ k = ⟨a.val * 512 + k.val, hl⟩ := Fin.ext ((row_val _ _).trans (by dsimp only; omega))
  have ec (f : Fin 1408) : col ⟨16 * (t.val / 16) + a.val, hp⟩ f = col t f :=
    Fin.ext ((col_val _ _).trans (Eq.trans (by dsimp only; omega) (col_val t f).symm))
  rw [er, ec (j 0)]

section
variable (c : Dev nD) (t : Fin cfg0.N)

theorem first5 (h0 : t.val % 16 = 0) (j : S1408x1024.Idx) : (outsAt0 m c t.val t.isLt).2.2.2.1 j = 0 + part (da m c) (h m c) t j := by
  rw [outsAt0_A m c t h0 (by omega)]
  frame_out
  rw [pay8]
  pointwise [k0_pay5]
theorem next5 (h0 : ¬ t.val % 16 = 0) (j : S1408x1024.Idx) :
    (outsAt0 m c t.val t.isLt).2.2.2.1 j = (outsAt0 m c (t.val - 1) (Nat.lt_of_le_of_lt (Nat.sub_le _ _) t.isLt)).2.2.2.1 j + part (da m c) (h m c) t j := by
  by_cases h1 : t.val % 16 = 15
  · rw [outsAt0_C m c t h0 h1]
    frame_out
    rw [pay8, left]
  · rw [outsAt0_B m c t h0 h1]
    frame_out
    rw [pay8, left]
theorem stored5 (h1 : t.val % 16 = 15) (j : S1408x1024.Idx) : (outsAt0 m c t.val t.isLt).1 j = (outsAt0 m c t.val t.isLt).2.2.2.1 j := by
  rw [outsAt0_C m c t (by omega) h1]
  frame_out
  pointwise [k0_pay2]

theorem first6 (h0 : t.val % 16 = 0) (j : S1408x1024.Idx) : (outsAt0 m c t.val t.isLt).2.2.2.2.1 j = 0 + part (db m c) (h m c) t j := by
  rw [outsAt0_A m c t h0 (by omega)]
  frame_out
  rw [pay9]
  pointwise [k0_pay6]
theorem next6 (h0 : ¬ t.val % 16 = 0) (j : S1408x1024.Idx) :
    (outsAt0 m c t.val t.isLt).2.2.2.2.1 j = (outsAt0 m c (t.val - 1) (Nat.lt_of_le_of_lt (Nat.sub_le _ _) t.isLt)).2.2.2.2.1 j + part (db m c) (h m c) t j := by
  by_cases h1 : t.val % 16 = 15
  · rw [outsAt0_C m c t h0 h1]
    frame_out
    rw [pay9, left]
  · rw [outsAt0_B m c t h0 h1]
    frame_out
    rw [pay9, left]
theorem stored6 (h1 : t.val % 16 = 15) (j : S1408x1024.Idx) : (outsAt0 m c t.val t.isLt).2.1 j = (outsAt0 m c t.val t.isLt).2.2.2.2.1 j := by
  rw [outsAt0_C m c t (by omega) h1]
  frame_out
  pointwise [k0_pay3]

theorem first7 (h0 : t.val % 16 = 0) (j : S1408x1024.Idx) : (outsAt0 m c t.val t.isLt).2.2.2.2.2 j = 0 + part (s m c) (df m c) t j := by
  rw [outsAt0_A m c t h0 (by omega)]
  frame_out
  rw [pay10]
  pointwise [k0_pay7]
theorem next7 (h0 : ¬ t.val % 16 = 0) (j : S1408x1024.Idx) :
    (outsAt0 m c t.val t.isLt).2.2.2.2.2 j = (outsAt0 m c (t.val - 1) (Nat.lt_of_le_of_lt (Nat.sub_le _ _) t.isLt)).2.2.2.2.2 j + part (s m c) (df m c) t j := by
  by_cases h1 : t.val % 16 = 15
  · rw [outsAt0_C m c t h0 h1]
    frame_out
    rw [pay10, left]
  · rw [outsAt0_B m c t h0 h1]
    frame_out
    rw [pay10, left]
theorem stored7 (h1 : t.val % 16 = 15) (j : S1408x1024.Idx) : (outsAt0 m c t.val t.isLt).2.2.1 j = (outsAt0 m c t.val t.isLt).2.2.2.2.2 j := by
  rw [outsAt0_C m c t (by omega) h1]
  frame_out
  pointwise [k0_pay4]
end

theorem arr5 (c : Dev nD) : (dats m 0 c).arrAt 5 cfg0.N = fun j : S2816x1024.Idx => ∑ n : Fin 8192, da m c (ix2 n (j 0)) * h m c (ix2 n (j 1)) := by
  refine (dats m 0 c).arrAt_eq_of_covers 5 _ (by decide +kernel) fun t hf y => ?_
  have h1 := (flush0_5 t).mp hf
  blk_simp
  rw [after0_5]
  idx_vars y
  rw [emb5, stored5 m c t h1, acc_sum (fun n h => (outsAt0 m c n h).2.2.2.1) (da m c) (h m c) (first5 m c) (next5 m c) t h1]
  rfl

theorem arr6 (c : Dev nD) : (dats m 0 c).arrAt 6 cfg0.N = fun j : S2816x1024.Idx => ∑ n : Fin 8192, db m c (ix2 n (j 0)) * h m c (ix2 n (j 1)) := by
  refine (dats m 0 c).arrAt_eq_of_covers 6 _ (by decide +kernel) fun t hf y => ?_
  have h1 := (flush0_6 t).mp hf
  blk_simp
  rw [after0_6]
  idx_vars y
  rw [emb6, stored6 m c t h1, acc_sum (fun n h => (outsAt0 m c n h).2.2.2.2.1) (db m c) (h m c) (first6 m c) (next6 m c) t h1]
  rfl

theorem arr7 (c : Dev nD) : (dats m 0 c).arrAt 7 cfg0.N = fun j : S2816x1024.Idx => ∑ n : Fin 8192, s m c (ix2 n (j 0)) * df m c (ix2 n (j 1)) := by
  refine (dats m 0 c).arrAt_eq_of_covers 7 _ (by decide +kernel) fun t hf y => ?_
  have h1 := (flush0_7 t).mp hf
  blk_simp
  rw [after0_7]
  idx_vars y
  rw [emb7, stored7 m c t h1, acc_sum (fun n h => (outsAt0 m c n h).2.2.2.2.2) (s m c) (df m c) (first7 m c) (next7 m c) t h1]
  rfl
end Cert.Kernel6Ideal.Hand
-- ==== Proof.WeightsClaim.lean ====
module
public import proofs.«01_k».proof.Defs
public import proofs.«01_k».proof.Proof.Weights
public import proofs.«01_k».proof.Proof.Windows
public import proofs.«01_k».proof.Proof.LossRef
public import proofs.«01_k».proof.Proof.Gen.Reference6Ideal.Read
public import proofs.«01_k».proof.Proof.Gen.Reference6Ideal.Run
public import Idealize.ShloMosaic.Lib.Claim
public import Idealize.ShloMosaic.Lib.StableHlo.RunRead
@[expose] public section
/-!
The gradients of the feed-forward weights: the kernel's three results are the reference's, at all arguments.
-/
set_option maxRecDepth 16384
noncomputable section
namespace Cert.Kernel6Ideal.Hand
open Idealize.ShloMosaic Idealize.ShloMosaic.TcCoe Idealize.SL.Sem Cert.Kernel6Ideal Cert.Kernel6Ideal.Gen Cert.Reals
open Cert.Reference6Ideal.Read
variable (m : (ℓ : Loc nD τ sig) → Buf (Elt Ideal) ℓ) (c : Dev nD)

/-- The three cotangents are arguments. -/
theorem args : da m c = m (c.tc.loc main_arg6) ∧ db m c = m (c.tc.loc main_arg7) ∧ df m c = m (c.tc.loc main_arg8) := by
  unfold da db df
  refine ⟨?_, ?_, ?_⟩ <;> entry_read <;> rfl

/-- The modulated norm the host lines make is the reference's. -/
theorem h_eq : h m c = (val_main_v17 (F := Ideal) (m (c.tc.loc main_arg0)) (m (c.tc.loc main_arg1)) (m (c.tc.loc main_arg2)) (m (c.tc.loc main_arg3)) : S8192x1024.Idx → EReal) := by
  unfold h
  entry_read
  rfl

/-- The gate branch and the other one. -/
def A : S8192x2816.Idx → EReal := val_main_v18 (F := Ideal) (m (c.tc.loc main_arg0)) (m (c.tc.loc main_arg1)) (m (c.tc.loc main_arg2)) (m (c.tc.loc main_arg3)) (m (c.tc.loc main_arg4))
def B : S8192x2816.Idx → EReal := val_main_v20 (F := Ideal) (m (c.tc.loc main_arg0)) (m (c.tc.loc main_arg1)) (m (c.tc.loc main_arg2)) (m (c.tc.loc main_arg3)) (m (c.tc.loc main_arg5))

theorem s_val (j : S8192x2816.Idx) : s m c j = A m c j * sg (A m c j) * B m c j := by
  unfold s
  entry_read
  rfl

/-- The references of the layer and of its weights' gradients have the same product of the branches. -/
theorem stage_s : val_main_v21 (F := Ideal) = Cert.Reference3Ideal.Read.val_main_v22 (F := Ideal) := rfl
theorem stage_a : val_main_v18 (F := Ideal) = Cert.Reference3Ideal.Read.val_main_v18 (F := Ideal) := rfl
theorem stage_b : val_main_v20 (F := Ideal) = Cert.Reference3Ideal.Read.val_main_v19 (F := Ideal) := rfl

theorem s_eq (i : Fin 8192) (f : Fin 2816) : s m c (ix2 i f) = (val_main_v21 (F := Ideal) (m (c.tc.loc main_arg0)) (m (c.tc.loc main_arg1)) (m (c.tc.loc main_arg2)) (m (c.tc.loc main_arg3)) (m (c.tc.loc main_arg4)) (m (c.tc.loc main_arg5)) : S8192x2816.Idx → EReal) (ix2 i f) := by
  rw [s_val, stage_s, Cert.Kernel3Ideal.Hand.sb_ref, ← stage_a, ← stage_b]
  rfl

/-- The two products before the host's transposes. -/
@[irreducible] def gg : S2816x1024.Idx → EReal := (dats m 0 c).arrAt 5 cfg0.N
@[irreducible] def gu : S2816x1024.Idx → EReal := (dats m 0 c).arrAt 6 cfg0.N

theorem tail32 : (Pipeline.afterTail₀ cfgs (dats m) 0 (V0 m) [hostOps1] c main_v32 : S1024x2816.Idx → EReal) = fun j => gg m c (ix2 (j 1) (j 0)) := by
  unfold Pipeline.afterTail₀
  have e : Pipeline.withArrays (cfgs 0).spec c (V0 m c) (fun w => (dats m 0 c).arrAt w (cfgs 0).N) (Proc.devRef .tc main_v31_0) = gg m c := by
    unfold gg
    exact Cert.Windows.withArrays_once (cfgs 0).spec c (V0 m c) (fun w => (dats m 0 c).arrAt w (cfgs 0).N) 5 (by decide +kernel)
  after_reads_simp
  rw [e]
  funext j
  idx_vars j
  pointwise
theorem tail33 : (Pipeline.afterTail₀ cfgs (dats m) 0 (V0 m) [hostOps1] c main_v33 : S1024x2816.Idx → EReal) = fun j => gu m c (ix2 (j 1) (j 0)) := by
  unfold Pipeline.afterTail₀
  have e : Pipeline.withArrays (cfgs 0).spec c (V0 m c) (fun w => (dats m 0 c).arrAt w (cfgs 0).N) (Proc.devRef .tc main_v31_1) = gu m c := by
    unfold gu
    exact Cert.Windows.withArrays_once (cfgs 0).spec c (V0 m c) (fun w => (dats m 0 c).arrAt w (cfgs 0).N) 6 (by decide +kernel)
  after_reads_simp
  rw [e]
  funext j
  idx_vars j
  pointwise

theorem gg_eq : (Pipeline.afterTail₀ cfgs (dats m) 0 (V0 m) [hostOps1] c main_v32 : S1024x2816.Idx → EReal) = val_main_v35 (F := Ideal) (m (c.tc.loc main_arg0)) (m (c.tc.loc main_arg1)) (m (c.tc.loc main_arg2)) (m (c.tc.loc main_arg3)) (m (c.tc.loc main_arg6)) := by
  obtain ⟨ea, eb, -⟩ := args m c
  rw [tail32]
  funext j
  idx_vars j
  pointwise [val_main_v35, val_main_v34, val_main_v33, val_main_v26]
  unfold gg
  rw [arr5, ea, h_eq]
  rfl

theorem gu_eq : (Pipeline.afterTail₀ cfgs (dats m) 0 (V0 m) [hostOps1] c main_v33 : S1024x2816.Idx → EReal) = val_main_v36 (F := Ideal) (m (c.tc.loc main_arg0)) (m (c.tc.loc main_arg1)) (m (c.tc.loc main_arg2)) (m (c.tc.loc main_arg3)) (m (c.tc.loc main_arg7)) := by
  obtain ⟨ea, eb, -⟩ := args m c
  rw [tail33]
  funext j
  idx_vars j
  pointwise [val_main_v36, val_main_v32, val_main_v31, val_main_v27]
  unfold gu
  rw [arr6, eb, h_eq]
  rfl

theorem gd_eq : ((dats m 0 c).arrAt 7 cfg0.N : S2816x1024.Idx → EReal) = val_main_v37 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg8)) := by
  obtain ⟨-, -, ef⟩ := args m c
  rw [arr7]
  funext j
  idx_vars j
  pointwise [val_main_v37, val_main_v30, val_main_v29, val_main_v28]
  refine Finset.sum_congr rfl fun n _ => ?_
  rw [ef]
  exact (congrArg (· * _) (s_eq m c n j0)).trans (mul_comm _ _)

/-- What the run leaves in the three results. -/
theorem run_values (g : Dev nD → PrngReg) : θ_run (defs (F := Ideal)) (onTc (τ := τ) (main (F := Ideal))) ⟨m, fun _ => 0, g⟩ (fun r => ∀ c : Dev nD,
    r.2.mem ((c.tc : Thread nD τ).loc main_v32) = Pipeline.afterTail₀ cfgs (dats m) 0 (V0 m) [hostOps1] c main_v32
    ∧ r.2.mem ((c.tc : Thread nD τ).loc main_v33) = Pipeline.afterTail₀ cfgs (dats m) 0 (V0 m) [hostOps1] c main_v33
    ∧ r.2.mem ((c.tc : Thread nD τ).loc main_v31_2) = (dats m 0 c).arrAt 7 cfg0.N) :=
  θ_run_mono (run_main m g) fun r h c => ⟨(h c).2 main_v32 (by decide +kernel), (h c).2 main_v33 (by decide +kernel), (h c).1 7⟩

/-- The reference's run, its results as the stages of its text. -/
theorem ref_values (m' : (ℓ : Loc Cert.Reference6Ideal.nD Cert.Reference6Ideal.τ Cert.Reference6Ideal.sig) → Buf (Elt Ideal) ℓ) (g' : Dev Cert.Reference6Ideal.nD → PrngReg) :
    θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
      r.2.mem ((c.tc : Thread Cert.Reference6Ideal.nD Cert.Reference6Ideal.τ).loc Cert.Reference6Ideal.main_v35) = val_main_v35 (F := Ideal) (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg6))
      ∧ r.2.mem ((c.tc : Thread Cert.Reference6Ideal.nD Cert.Reference6Ideal.τ).loc Cert.Reference6Ideal.main_v36) = val_main_v36 (F := Ideal) (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg7))
      ∧ r.2.mem ((c.tc : Thread Cert.Reference6Ideal.nD Cert.Reference6Ideal.τ).loc Cert.Reference6Ideal.main_v37) = val_main_v37 (F := Ideal) (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg4)) (m' (c.tc.loc Cert.Reference6Ideal.main_arg5)) (m' (c.tc.loc Cert.Reference6Ideal.main_arg8))
      ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)) :=
  θ_run_mono (Cert.Reference6Ideal.Value.run m' g') fun r h c =>
    ⟨(h c).1.trans (val_main_v35_eq _ _ _ _ _), (h c).2.1.trans (val_main_v36_eq _ _ _ _ _), (h c).2.2.1.trans (val_main_v37_eq _ _ _ _ _ _ _), (h c).2.2.2⟩

/-- Kernel and reference leave the same three results. -/
theorem algebraic : Cert.algebraic_Kernel6Ideal_Reference6Ideal := by
  intro m g m' g' hpre hagree
  refine ⟨fun c => val_main_v35 (F := Ideal) (m (c.tc.loc main_arg0)) (m (c.tc.loc main_arg1)) (m (c.tc.loc main_arg2)) (m (c.tc.loc main_arg3)) (m (c.tc.loc main_arg6)),
    fun c => val_main_v36 (F := Ideal) (m (c.tc.loc main_arg0)) (m (c.tc.loc main_arg1)) (m (c.tc.loc main_arg2)) (m (c.tc.loc main_arg3)) (m (c.tc.loc main_arg7)),
    fun c => val_main_v37 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg8)),
    θ_run_mono (θ_run_and (run_values m g) (unchanged m g)) fun r h c => ?_, θ_run_mono (ref_values m' g') fun r h c => ?_⟩
  · exact ⟨(h.1 c).1.trans (gg_eq m c), (h.1 c).2.1.trans (gu_eq m c), (h.1 c).2.2.trans (gd_eq m c), h.2 c⟩
  · obtain ⟨a0, a1, a2, a3, a4, a5, a6, a7, a8⟩ := hagree c
    have h := h c
    rw [a0, a1, a2, a3, a4, a5, a6, a7, a8] at h
    rw [a0, a1, a2, a3, a4, a5, a6, a7, a8]
    exact h
end Cert.Kernel6Ideal.Hand
-- ==== Proof.AdamStep.lean ====
module
public import Idealize.ShloMosaic.Lib.Pipeline.ValueKit
public import Idealize.ShloMosaic.Lib.Pointwise
@[expose] public section
/-! One step of the optimiser on one number: the moments, and the change of the weight. -/
noncomputable section
namespace Cert.AdamStep
open Idealize.ShloMosaic

/-- The first moment after the step, from the gradient and the moment before. -/
def mNew (g m : EReal) : EReal := Ideal.ofBits .f32 0x3F666666#32 * m + Ideal.ofBits .f32 0x3DCCCCCD#32 * g
/-- The second moment. -/
def vNew (g v : EReal) : EReal := Ideal.ofBits .f32 0x3F7FBE77#32 * v + Ideal.ofBits .f32 0x3A83126F#32 * (g * g)
/-- The change of the weight. -/
def dNew (g w m v : EReal) : EReal :=
  Ideal.ofBits .f32 0xBA83126F#32 * (Ideal.div (Ideal.div (mNew g m) (Ideal.ofBits .f32 0x3F26BD02#32))
    (Ideal.sqrt (Ideal.div (vNew g v) (Ideal.ofBits .f32 0x3C231ACC#32)) + Ideal.ofBits .f32 0x322BCC77#32) + Ideal.ofBits .f32 0x3C23D70A#32 * w)
end Cert.AdamStep
-- ==== Proof.Ada.lean ====
module
public import proofs.«01_k».proof.Proof.Gen.Kernel7Ideal.Frame
public import proofs.«01_k».proof.Proof.AdamStep
public import proofs.«01_k».proof.Proof.Reals
public import Idealize.ShloMosaic.Lib.Pipeline.ValueKit
public import Idealize.ShloMosaic.Lib.Pointwise
public import Idealize.ShloMosaic.Lib.ValueIdx
public import Idealize.ShloMosaic.Lib.ValueIdxCore
@[expose] public section
/-!
The gradient of the modulation's weights and the optimiser's step on them, over a grid of eight blocks of 128 rows:
what each output array holds after the last point, by the arrays the region finds.
-/
set_option maxRecDepth 16384
noncomputable section
namespace Cert.Kernel7Ideal.Hand
open Cert.Kernel7Ideal Cert.Kernel7Ideal.Gen Idealize.ShloMosaic Idealize.ShloMosaic.TcCoe Idealize.SL.Sem Cert.AdamStep Cert.Reals
open Idealize.ShloMosaic.Pipeline (Dat)
variable (m : (ℓ : Loc nD τ sig) → Buf (Elt Ideal) ℓ) (c : Dev nD)

/-- The block each window holds at point `t`. -/
theorem idx : ∀ t : Fin cfg0.N, win0_0.index t = ![0, 0, t.val] ∧ win0_1.index t = ![0, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, win0_0.index t = ![0, 0, t.val] ∧ win0_1.index t = ![0, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0])

theorem point_lt (t : Fin cfg0.N) : t.val < 8 := lt_of_lt_of_eq t.isLt (show cfg0.N = 8 from N_0)

/-- Row `i` of the rows of point `t`. -/
def row (t : Fin cfg0.N) (i : Fin 128) : Fin 1024 := ⟨t.val * 128 + i.val, by have := point_lt t; omega⟩
theorem row_val (t : Fin cfg0.N) (i : Fin 128) : (row t i).val = t.val * 128 + i.val := rfl

/-- The arrays the region finds: the gathered messages, the modulation's gradients, the weights and the moments. -/
@[irreducible] def msgs : S8x16x1024.Idx → EReal := V m c main_v4
@[irreducible] def dm : S8x2304.Idx → EReal := V m c main_arg2
@[irreducible] def w : S1024x2304.Idx → EReal := V m c main_arg3
@[irreducible] def m1 : S1024x2304.Idx → EReal := V m c main_arg4
@[irreducible] def m2 : S1024x2304.Idx → EReal := V m c main_arg5

section
variable (t : Fin cfg0.N) (i : Fin 128) (k : Fin 2304)
theorem blk0 (d : Fin 8) (e : Fin 16) : iblk m c 0 t (ix3 d e i) = msgs m c (ix3 d e (row t i)) := by
  have h : ((cfg0.win 0).blk t).view.emb (ix3 d e i) = ix3 d e (row t i) := by blk_ext [idx t, row_val]
  unfold iblk msgs; exact congrArg (V m c main_v4) h
theorem blk1 (d : Fin 8) : iblk m c 1 t (ix2 d k) = dm m c (ix2 d k) := by
  have e : ((cfg0.win 1).blk t).view.emb (ix2 d k) = ix2 d k := by blk_ext [idx t]
  unfold iblk dm; exact congrArg (V m c main_arg2) e
theorem blk2 : iblk m c 2 t (ix2 i k) = w m c (ix2 (row t i) k) := by
  have e : ((cfg0.win 2).blk t).view.emb (ix2 i k) = ix2 (row t i) k := by blk_ext [idx t, row_val]
  unfold iblk w; exact congrArg (V m c main_arg3) e
theorem blk3 : iblk m c 3 t (ix2 i k) = m1 m c (ix2 (row t i) k) := by
  have e : ((cfg0.win 3).blk t).view.emb (ix2 i k) = ix2 (row t i) k := by blk_ext [idx t, row_val]
  unfold iblk m1; exact congrArg (V m c main_arg4) e
theorem blk4 : iblk m c 4 t (ix2 i k) = m2 m c (ix2 (row t i) k) := by
  have e : ((cfg0.win 4).blk t).view.emb (ix2 i k) = ix2 (row t i) k := by blk_ext [idx t, row_val]
  unfold iblk m2; exact congrArg (V m c main_arg5) e

theorem emb5 : ((View.whole main_v5_0).slice (win0_5.rect t)).emb (ix2 i k) = ix2 (row t i) k := by blk_ext [idx t, row_val]
theorem emb6 : ((View.whole main_v5_1).slice (win0_6.rect t)).emb (ix2 i k) = ix2 (row t i) k := by blk_ext [idx t, row_val]
theorem emb7 : ((View.whole main_v5_2).slice (win0_7.rect t)).emb (ix2 i k) = ix2 (row t i) k := by blk_ext [idx t, row_val]
theorem emb8 : ((View.whole main_v5_3).slice (win0_8.rect t)).emb (ix2 i k) = ix2 (row t i) k := by blk_ext [idx t, row_val]
end

/-- The gradient: over the eight devices, the activation of the first row of each one's message times its modulation's gradient. -/
def g (j : S1024x2304.Idx) : EReal :=
  ∑ d : Fin 8, msgs m c (ix3 d (0 : Fin 16) (j 0)) * sg (msgs m c (ix3 d (0 : Fin 16) (j 0))) * dm m c (ix2 d (j 1))

/-- Eight rows stored one below the other hold, at a row, that row. -/
theorem rows {α : Type} (f : Fin 8 → α) (d : Fin 8) : (if _ : d.val < 1 then f 0 else if _ : d.val - 1 < 1 then f 1 else if _ : d.val - 1 - 1 < 1 then f 2 else if _ : d.val - 1 - 1 - 1 < 1 then f 3 else if _ : d.val - 1 - 1 - 1 - 1 < 1 then f 4 else if _ : d.val - 1 - 1 - 1 - 1 - 1 < 1 then f 5 else if _ : d.val - 1 - 1 - 1 - 1 - 1 - 1 < 1 then f 6 else f 7) = f d := by
  fin_cases d <;> rfl

theorem pay5 (t : Fin cfg0.N) (i : Fin 128) (k : Fin 2304) :
    k0_pay5 (F := Ideal) (iblk m c 0 t) (iblk m c 1 t) (iblk m c 2 t) (iblk m c 3 t) (iblk m c 4 t) (ix2 i k) = g m c (ix2 (row t i) k) := by
  unfold k0_pay5
  pointwise [k0_pay4]
  refine Finset.sum_congr rfl fun d _ => ?_
  have e := rows (fun d => iblk m c 0 t (ix3 d (0 : Fin 16) i)) d
  dsimp only at e
  rw [e, blk0, blk1]
  rfl

theorem arr5 : (dats m 0 c).arrAt 5 cfg0.N = g m c := by
  refine (dats m 0 c).arrAt_eq_of_covers 5 _ (by decide +kernel) fun t hf y => ?_
  blk_simp
  rw [after0_5]
  idx_vars y
  rw [emb5]
  unfold out0_5
  frame_out
  exact pay5 m c t y0 y1

theorem arr6 : (dats m 0 c).arrAt 6 cfg0.N = fun j => dNew (g m c j) (w m c j) (m1 m c j) (m2 m c j) := by
  refine (dats m 0 c).arrAt_eq_of_covers 6 _ (by decide +kernel) fun t hf y => ?_
  blk_simp
  rw [after0_6]
  idx_vars y
  rw [emb6]
  unfold out0_6
  frame_out
  pointwise [k0_pay3, k0_pay2, k0_pay1]
  simp only [pay5, blk2, blk3, blk4]
  rfl

theorem arr7 : (dats m 0 c).arrAt 7 cfg0.N = fun j => mNew (g m c j) (m1 m c j) := by
  refine (dats m 0 c).arrAt_eq_of_covers 7 _ (by decide +kernel) fun t hf y => ?_
  blk_simp
  rw [after0_7]
  idx_vars y
  rw [emb7]
  unfold out0_7
  frame_out
  pointwise [k0_pay1]
  simp only [pay5, blk3]
  rfl

theorem arr8 : (dats m 0 c).arrAt 8 cfg0.N = fun j => vNew (g m c j) (m2 m c j) := by
  refine (dats m 0 c).arrAt_eq_of_covers 8 _ (by decide +kernel) fun t hf y => ?_
  blk_simp
  rw [after0_8]
  idx_vars y
  rw [emb8]
  unfold out0_8
  frame_out
  pointwise [k0_pay2]
  simp only [pay5, blk4]
  rfl
end Cert.Kernel7Ideal.Hand
-- ==== Proof.AdaClaim.lean ====
module
public import proofs.«01_k».proof.Defs
public import proofs.«01_k».proof.Proof.Ada
public import proofs.«01_k».proof.Proof.Windows
public import proofs.«01_k».proof.Proof.Gen.Reference7Ideal.Read
public import proofs.«01_k».proof.Proof.Gen.Reference7Ideal.Run
public import Idealize.ShloMosaic.Lib.Claim
public import Idealize.ShloMosaic.Lib.StableHlo.RunRead
@[expose] public section
/-!
The gradient of the modulation's weights and the optimiser's step on them: the kernel's four results are the
reference's, at all arguments.
-/
set_option maxRecDepth 16384
noncomputable section
namespace Cert.Kernel7Ideal.Hand
open Idealize.ShloMosaic Idealize.ShloMosaic.TcCoe Idealize.SL.Sem Cert.Kernel7Ideal Cert.Kernel7Ideal.Gen Cert.AdamStep Cert.Reals
open Cert.Reference7Ideal.Read
variable (m : (ℓ : Loc nD τ sig) → Buf (Elt Ideal) ℓ) (c : Dev nD)

/-- The arrays of the call that are arguments. -/
theorem args : dm m c = m (c.tc.loc main_arg2) ∧ w m c = m (c.tc.loc main_arg3) ∧ m1 m c = m (c.tc.loc main_arg4) ∧ m2 m c = m (c.tc.loc main_arg5) := by
  unfold dm w m1 m2
  refine ⟨?_, ?_, ?_, ?_⟩ <;> entry_read <;> rfl
/-- The first row of a device's message is its row of `c`. -/
theorem msgs_eq (d : Fin 8) (k : Fin 1024) : msgs m c (ix3 d (0 : Fin 16) k) = (m (c.tc.loc main_arg0) : S8x1024.Idx → EReal) (ix2 d k) := by
  unfold msgs
  unfold_abbrev_sides
  after_reads_simp
  pointwise
  after_reads_simp
  pointwise

/-- The activation in the reference. -/
theorem act_eq (x : S8x1024.Idx → EReal) (j : S8x1024.Idx) : (val_main_v0 (F := Ideal) x : S8x1024.Idx → EReal) j = x j * sg (x j) := by
  rw [sg_logistic, val_main_v0_apply, val_main_call0_v5_apply, val_main_call0_v4_apply, val_main_call0_v3_apply, val_main_call0_v2_apply,
    val_main_call0_v1_apply, val_main_call0_v0_apply, val_main_call0_cst_apply, val_main_call0_cst_0_apply]
  simp [Ideal.logistic]

/-- The gradient is the reference's. -/
theorem r0 : ((dats m 0 c).arrAt 5 cfg0.N : S1024x2304.Idx → EReal) = val_main_v3 (F := Ideal) (m (c.tc.loc main_arg0)) (m (c.tc.loc main_arg2)) := by
  obtain ⟨ed, -, -, -⟩ := args m c
  rw [arr5]
  funext j
  idx_vars j
  pointwise [val_main_v3, val_main_v2]
  refine Finset.sum_congr rfl fun d _ => ?_
  rw [act_eq, ed]
  refine (congrArg (fun a : EReal => a * sg a * _) (msgs_eq m c d j0)).trans (mul_comm _ _)

theorem r1 : ((dats m 0 c).arrAt 6 cfg0.N : S1024x2304.Idx → EReal) = val_main_v27 (F := Ideal) (m (c.tc.loc main_arg0)) (m (c.tc.loc main_arg2)) (m (c.tc.loc main_arg3)) (m (c.tc.loc main_arg4)) (m (c.tc.loc main_arg5)) := by
  obtain ⟨-, ew, e1, e2⟩ := args m c
  rw [arr6, ← arr5, r0, ew, e1, e2]
  funext j
  idx_vars j
  pointwise [val_main_v27, val_main_v25, val_main_v24, val_main_v22, val_main_v21, val_main_v19, val_main_v18, val_main_v16, val_main_v14, val_main_v13, val_main_v11, val_main_v10, val_main_v8, val_main_v7, val_main_v5]
  rfl

theorem r2 : ((dats m 0 c).arrAt 7 cfg0.N : S1024x2304.Idx → EReal) = val_main_v8 (F := Ideal) (m (c.tc.loc main_arg0)) (m (c.tc.loc main_arg2)) (m (c.tc.loc main_arg4)) := by
  obtain ⟨-, -, e1, -⟩ := args m c
  rw [arr7, ← arr5, r0, e1]
  funext j
  idx_vars j
  pointwise [val_main_v8, val_main_v7, val_main_v5]
  rfl

theorem r3 : ((dats m 0 c).arrAt 8 cfg0.N : S1024x2304.Idx → EReal) = val_main_v14 (F := Ideal) (m (c.tc.loc main_arg0)) (m (c.tc.loc main_arg2)) (m (c.tc.loc main_arg5)) := by
  obtain ⟨-, -, -, e2⟩ := args m c
  rw [arr8, ← arr5, r0, e2]
  funext j
  idx_vars j
  pointwise [val_main_v14, val_main_v13, val_main_v11, val_main_v10]
  rfl

/-- Kernel and reference leave the same four results. -/
theorem algebraic : Cert.algebraic_Kernel7Ideal_Reference7Ideal := by
  intro m g m' g' hpre hagree
  refine ⟨fun c => val_main_v3 (F := Ideal) (m (c.tc.loc main_arg0)) (m (c.tc.loc main_arg2)),
    fun c => val_main_v27 (F := Ideal) (m (c.tc.loc main_arg0)) (m (c.tc.loc main_arg2)) (m (c.tc.loc main_arg3)) (m (c.tc.loc main_arg4)) (m (c.tc.loc main_arg5)),
    fun c => val_main_v8 (F := Ideal) (m (c.tc.loc main_arg0)) (m (c.tc.loc main_arg2)) (m (c.tc.loc main_arg4)),
    fun c => val_main_v14 (F := Ideal) (m (c.tc.loc main_arg0)) (m (c.tc.loc main_arg2)) (m (c.tc.loc main_arg5)),
    θ_run_mono (θ_run_and (run_main m g) (unchanged m g)) fun r h c => ?_, θ_run_mono (Cert.Reference7Ideal.Value.run m' g') fun r h c => ?_⟩
  · exact ⟨((h.1 c).1 5).trans (r0 m c), ((h.1 c).1 6).trans (r1 m c), ((h.1 c).1 7).trans (r2 m c), ((h.1 c).1 8).trans (r3 m c), h.2 c⟩
  · obtain ⟨a0, a1, a2, a3, a4, a5⟩ := hagree c
    have h := h c
    exact ⟨(h.1.trans (val_main_v3_eq _ _)).trans (by rw [a0, a2]),
      (h.2.1.trans (val_main_v27_eq _ _ _ _ _)).trans (by rw [a0, a2, a3, a4, a5]),
      (h.2.2.1.trans (val_main_v8_eq _ _ _)).trans (by rw [a0, a2, a4]),
      (h.2.2.2.1.trans (val_main_v14_eq _ _ _)).trans (by rw [a0, a2, a5]), h.2.2.2.2⟩
end Cert.Kernel7Ideal.Hand
-- ==== Proof.Adam.lean ====
module
public import proofs.«01_k».proof.Proof.Gen.Kernel8Ideal.Frame
public import proofs.«01_k».proof.Proof.AdamStep
public import Idealize.ShloMosaic.Lib.Pipeline.ValueKit
public import Idealize.ShloMosaic.Lib.Pointwise
public import Idealize.ShloMosaic.Lib.ValueIdx
public import Idealize.ShloMosaic.Lib.ValueIdxCore
@[expose] public section
/-!
The optimiser's step from two parts of the gradient, over a grid of four blocks of 176 rows: what each output array
holds after the last point, by the arrays the region finds.
-/
set_option maxRecDepth 16384
noncomputable section
namespace Cert.Kernel8Ideal.Hand
open Cert.Kernel8Ideal Cert.Kernel8Ideal.Gen Idealize.ShloMosaic Idealize.ShloMosaic.TcCoe Idealize.SL.Sem Cert.AdamStep
open Idealize.ShloMosaic.Pipeline (Dat)
variable (m : (ℓ : Loc nD τ sig) → Buf (Elt Ideal) ℓ) (c : Dev nD)

/-- The block every window holds at point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0])

theorem point_lt (t : Fin cfg0.N) : t.val < 4 := lt_of_lt_of_eq t.isLt (show cfg0.N = 4 from N_0)

/-- Row `i` of the rows of point `t`. -/
def row (t : Fin cfg0.N) (i : Fin 176) : Fin 704 := ⟨t.val * 176 + i.val, by have := point_lt t; omega⟩
theorem row_val (t : Fin cfg0.N) (i : Fin 176) : (row t i).val = t.val * 176 + i.val := rfl

/-- The arrays the region finds: the two parts of the gradient, the weights and the moments. -/
@[irreducible] def p : S704x1024.Idx → EReal := V m c main_arg0
@[irreducible] def q : S704x1024.Idx → EReal := V m c main_arg1
@[irreducible] def w : S704x1024.Idx → EReal := V m c main_v0
@[irreducible] def m1 : S704x1024.Idx → EReal := V m c main_v1
@[irreducible] def m2 : S704x1024.Idx → EReal := V m c main_v2

section
variable (t : Fin cfg0.N) (i : Fin 176) (k : Fin 1024)
theorem blk0 : iblk m c 0 t (ix2 i k) = p m c (ix2 (row t i) k) := by
  have e : ((cfg0.win 0).blk t).view.emb (ix2 i k) = ix2 (row t i) k := by blk_ext [idx t, row_val]
  unfold iblk p; exact congrArg (V m c main_arg0) e
theorem blk1 : iblk m c 1 t (ix2 i k) = q m c (ix2 (row t i) k) := by
  have e : ((cfg0.win 1).blk t).view.emb (ix2 i k) = ix2 (row t i) k := by blk_ext [idx t, row_val]
  unfold iblk q; exact congrArg (V m c main_arg1) e
theorem blk2 : iblk m c 2 t (ix2 i k) = w m c (ix2 (row t i) k) := by
  have e : ((cfg0.win 2).blk t).view.emb (ix2 i k) = ix2 (row t i) k := by blk_ext [idx t, row_val]
  unfold iblk w; exact congrArg (V m c main_v0) e
theorem blk3 : iblk m c 3 t (ix2 i k) = m1 m c (ix2 (row t i) k) := by
  have e : ((cfg0.win 3).blk t).view.emb (ix2 i k) = ix2 (row t i) k := by blk_ext [idx t, row_val]
  unfold iblk m1; exact congrArg (V m c main_v1) e
theorem blk4 : iblk m c 4 t (ix2 i k) = m2 m c (ix2 (row t i) k) := by
  have e : ((cfg0.win 4).blk t).view.emb (ix2 i k) = ix2 (row t i) k := by blk_ext [idx t, row_val]
  unfold iblk m2; exact congrArg (V m c main_v2) e

theorem emb5 : ((View.whole main_v3_0).slice (win0_5.rect t)).emb (ix2 i k) = ix2 (row t i) k := by blk_ext [idx t, row_val]
theorem emb6 : ((View.whole main_v3_1).slice (win0_6.rect t)).emb (ix2 i k) = ix2 (row t i) k := by blk_ext [idx t, row_val]
theorem emb7 : ((View.whole main_v3_2).slice (win0_7.rect t)).emb (ix2 i k) = ix2 (row t i) k := by blk_ext [idx t, row_val]
theorem emb8 : ((View.whole main_v3_3).slice (win0_8.rect t)).emb (ix2 i k) = ix2 (row t i) k := by blk_ext [idx t, row_val]
end

/-- The gradient: the sum of its parts. -/
def g (j : S704x1024.Idx) : EReal := p m c j + q m c j

theorem arr5 : (dats m 0 c).arrAt 5 cfg0.N = g m c := by
  refine (dats m 0 c).arrAt_eq_of_covers 5 _ (by decide +kernel) fun t hf y => ?_
  blk_simp
  rw [after0_5]
  idx_vars y
  rw [emb5]
  unfold out0_5
  frame_out
  pointwise [k0_pay1]
  simp only [blk0, blk1]
  rfl

theorem arr6 : (dats m 0 c).arrAt 6 cfg0.N = fun j => dNew (g m c j) (w m c j) (m1 m c j) (m2 m c j) := by
  refine (dats m 0 c).arrAt_eq_of_covers 6 _ (by decide +kernel) fun t hf y => ?_
  blk_simp
  rw [after0_6]
  idx_vars y
  rw [emb6]
  unfold out0_6
  frame_out
  pointwise [k0_pay4, k0_pay3, k0_pay2, k0_pay1]
  simp only [blk0, blk1, blk2, blk3, blk4]
  rfl

theorem arr7 : (dats m 0 c).arrAt 7 cfg0.N = fun j => mNew (g m c j) (m1 m c j) := by
  refine (dats m 0 c).arrAt_eq_of_covers 7 _ (by decide +kernel) fun t hf y => ?_
  blk_simp
  rw [after0_7]
  idx_vars y
  rw [emb7]
  unfold out0_7
  frame_out
  pointwise [k0_pay2, k0_pay1]
  simp only [blk0, blk1, blk3]
  rfl

theorem arr8 : (dats m 0 c).arrAt 8 cfg0.N = fun j => vNew (g m c j) (m2 m c j) := by
  refine (dats m 0 c).arrAt_eq_of_covers 8 _ (by decide +kernel) fun t hf y => ?_
  blk_simp
  rw [after0_8]
  idx_vars y
  rw [emb8]
  unfold out0_8
  frame_out
  pointwise [k0_pay3, k0_pay1]
  simp only [blk0, blk1, blk4]
  rfl
end Cert.Kernel8Ideal.Hand
-- ==== Proof.AdamClaim.lean ====
module
public import proofs.«01_k».proof.Defs
public import proofs.«01_k».proof.Proof.Adam
public import proofs.«01_k».proof.Proof.Windows
public import proofs.«01_k».proof.Proof.Gen.Reference8Ideal.Read
public import proofs.«01_k».proof.Proof.Gen.Reference8Ideal.Run
public import Idealize.ShloMosaic.Lib.Claim
public import Idealize.ShloMosaic.Lib.StableHlo.RunRead
@[expose] public section
/-!
The optimiser's step of a feed-forward weight, from the gradient's two parts: the kernel's four results are the
reference's, at all arguments.
-/
set_option maxRecDepth 16384
noncomputable section
namespace Cert.Kernel8Ideal.Hand
open Idealize.ShloMosaic Idealize.ShloMosaic.TcCoe Idealize.SL.Sem Cert.Kernel8Ideal Cert.Kernel8Ideal.Gen Cert.AdamStep
open Cert.Reference8Ideal.Read
variable (m : (ℓ : Loc nD τ sig) → Buf (Elt Ideal) ℓ) (c : Dev nD)

/-- The arrays the host lines hand to the call: the weights and the moments, transposed. -/
theorem args : p m c = m (c.tc.loc main_arg0) ∧ q m c = m (c.tc.loc main_arg1) := by
  unfold p q
  refine ⟨?_, ?_⟩ <;> entry_read <;> rfl
theorem w_eq (i : Fin 1024) (k : Fin 704) : w m c (ix2 k i) = (m (c.tc.loc main_arg2) : S1024x704.Idx → EReal) (ix2 i k) := by
  unfold w
  unfold_abbrev_sides
  after_reads_simp
  pointwise
theorem m1_eq (i : Fin 1024) (k : Fin 704) : m1 m c (ix2 k i) = (m (c.tc.loc main_arg3) : S1024x704.Idx → EReal) (ix2 i k) := by
  unfold m1
  unfold_abbrev_sides
  after_reads_simp
  pointwise
theorem m2_eq (i : Fin 1024) (k : Fin 704) : m2 m c (ix2 k i) = (m (c.tc.loc main_arg4) : S1024x704.Idx → EReal) (ix2 i k) := by
  unfold m2
  unfold_abbrev_sides
  after_reads_simp
  pointwise

/-- The four output arrays before the host's transposes. -/
@[irreducible] def out0 : S704x1024.Idx → EReal := (dats m 0 c).arrAt 5 cfg0.N
@[irreducible] def out1 : S704x1024.Idx → EReal := (dats m 0 c).arrAt 6 cfg0.N
@[irreducible] def out2 : S704x1024.Idx → EReal := (dats m 0 c).arrAt 7 cfg0.N
@[irreducible] def out3 : S704x1024.Idx → EReal := (dats m 0 c).arrAt 8 cfg0.N
theorem tail0 : (Pipeline.afterTail₀ cfgs (dats m) 0 (V0 m) [hostOps1] c main_v4 : S1024x704.Idx → EReal) = fun j => out0 m c (ix2 (j 1) (j 0)) := by
  unfold Pipeline.afterTail₀
  have e : Pipeline.withArrays (cfgs 0).spec c (V0 m c) (fun w => (dats m 0 c).arrAt w (cfgs 0).N) (Proc.devRef .tc main_v3_0) = out0 m c := by
    unfold out0
    exact Cert.Windows.withArrays_once (cfgs 0).spec c (V0 m c) (fun w => (dats m 0 c).arrAt w (cfgs 0).N) 5 (by decide +kernel)
  after_reads_simp
  rw [e]
  funext j
  idx_vars j
  pointwise
theorem tail1 : (Pipeline.afterTail₀ cfgs (dats m) 0 (V0 m) [hostOps1] c main_v5 : S1024x704.Idx → EReal) = fun j => out1 m c (ix2 (j 1) (j 0)) := by
  unfold Pipeline.afterTail₀
  have e : Pipeline.withArrays (cfgs 0).spec c (V0 m c) (fun w => (dats m 0 c).arrAt w (cfgs 0).N) (Proc.devRef .tc main_v3_1) = out1 m c := by
    unfold out1
    exact Cert.Windows.withArrays_once (cfgs 0).spec c (V0 m c) (fun w => (dats m 0 c).arrAt w (cfgs 0).N) 6 (by decide +kernel)
  after_reads_simp
  rw [e]
  funext j
  idx_vars j
  pointwise
theorem tail2 : (Pipeline.afterTail₀ cfgs (dats m) 0 (V0 m) [hostOps1] c main_v6 : S1024x704.Idx → EReal) = fun j => out2 m c (ix2 (j 1) (j 0)) := by
  unfold Pipeline.afterTail₀
  have e : Pipeline.withArrays (cfgs 0).spec c (V0 m c) (fun w => (dats m 0 c).arrAt w (cfgs 0).N) (Proc.devRef .tc main_v3_2) = out2 m c := by
    unfold out2
    exact Cert.Windows.withArrays_once (cfgs 0).spec c (V0 m c) (fun w => (dats m 0 c).arrAt w (cfgs 0).N) 7 (by decide +kernel)
  after_reads_simp
  rw [e]
  funext j
  idx_vars j
  pointwise
theorem tail3 : (Pipeline.afterTail₀ cfgs (dats m) 0 (V0 m) [hostOps1] c main_v7 : S1024x704.Idx → EReal) = fun j => out3 m c (ix2 (j 1) (j 0)) := by
  unfold Pipeline.afterTail₀
  have e : Pipeline.withArrays (cfgs 0).spec c (V0 m c) (fun w => (dats m 0 c).arrAt w (cfgs 0).N) (Proc.devRef .tc main_v3_3) = out3 m c := by
    unfold out3
    exact Cert.Windows.withArrays_once (cfgs 0).spec c (V0 m c) (fun w => (dats m 0 c).arrAt w (cfgs 0).N) 8 (by decide +kernel)
  after_reads_simp
  rw [e]
  funext j
  idx_vars j
  pointwise

/-- The gradient is the reference's, transposed. -/
theorem g_eq (i : Fin 1024) (k : Fin 704) : g m c (ix2 k i) = (val_main_v1 (F := Ideal) (m (c.tc.loc main_arg0)) (m (c.tc.loc main_arg1)) : S1024x704.Idx → EReal) (ix2 i k) := by
  obtain ⟨ep, eq⟩ := args m c
  unfold g
  rw [ep, eq]
  pointwise [val_main_v1, val_main_v0]

theorem r0 : (Pipeline.afterTail₀ cfgs (dats m) 0 (V0 m) [hostOps1] c main_v4 : S1024x704.Idx → EReal) = val_main_v1 (F := Ideal) (m (c.tc.loc main_arg0)) (m (c.tc.loc main_arg1)) := by
  rw [tail0]
  funext j
  idx_vars j
  unfold out0
  rw [arr5]
  exact g_eq m c j0 j1

theorem r1 : (Pipeline.afterTail₀ cfgs (dats m) 0 (V0 m) [hostOps1] c main_v5 : S1024x704.Idx → EReal) = val_main_v25 (F := Ideal) (m (c.tc.loc main_arg0)) (m (c.tc.loc main_arg1)) (m (c.tc.loc main_arg2)) (m (c.tc.loc main_arg3)) (m (c.tc.loc main_arg4)) := by
  rw [tail1]
  funext j
  idx_vars j
  unfold out1
  rw [arr6]
  refine (show dNew (g m c (ix2 j1 j0)) (w m c (ix2 j1 j0)) (m1 m c (ix2 j1 j0)) (m2 m c (ix2 j1 j0)) = _ from ?_)
  rw [g_eq, w_eq, m1_eq, m2_eq]
  pointwise [val_main_v25, val_main_v23, val_main_v22, val_main_v20, val_main_v19, val_main_v17, val_main_v16, val_main_v14, val_main_v12, val_main_v11, val_main_v9, val_main_v8, val_main_v6, val_main_v5, val_main_v3]
  rfl

theorem r2 : (Pipeline.afterTail₀ cfgs (dats m) 0 (V0 m) [hostOps1] c main_v6 : S1024x704.Idx → EReal) = val_main_v6 (F := Ideal) (m (c.tc.loc main_arg0)) (m (c.tc.loc main_arg1)) (m (c.tc.loc main_arg3)) := by
  rw [tail2]
  funext j
  idx_vars j
  unfold out2
  rw [arr7]
  refine (show mNew (g m c (ix2 j1 j0)) (m1 m c (ix2 j1 j0)) = _ from ?_)
  rw [g_eq, m1_eq]
  pointwise [val_main_v6, val_main_v5, val_main_v3]
  rfl

theorem r3 : (Pipeline.afterTail₀ cfgs (dats m) 0 (V0 m) [hostOps1] c main_v7 : S1024x704.Idx → EReal) = val_main_v12 (F := Ideal) (m (c.tc.loc main_arg0)) (m (c.tc.loc main_arg1)) (m (c.tc.loc main_arg4)) := by
  rw [tail3]
  funext j
  idx_vars j
  unfold out3
  rw [arr8]
  refine (show vNew (g m c (ix2 j1 j0)) (m2 m c (ix2 j1 j0)) = _ from ?_)
  rw [g_eq, m2_eq]
  pointwise [val_main_v12, val_main_v11, val_main_v9, val_main_v8]
  rfl

/-- Kernel and reference leave the same four results. -/
theorem algebraic : Cert.algebraic_Kernel8Ideal_Reference8Ideal := by
  intro m g m' g' hpre hagree
  refine ⟨fun c => val_main_v1 (F := Ideal) (m (c.tc.loc main_arg0)) (m (c.tc.loc main_arg1)),
    fun c => val_main_v25 (F := Ideal) (m (c.tc.loc main_arg0)) (m (c.tc.loc main_arg1)) (m (c.tc.loc main_arg2)) (m (c.tc.loc main_arg3)) (m (c.tc.loc main_arg4)),
    fun c => val_main_v6 (F := Ideal) (m (c.tc.loc main_arg0)) (m (c.tc.loc main_arg1)) (m (c.tc.loc main_arg3)),
    fun c => val_main_v12 (F := Ideal) (m (c.tc.loc main_arg0)) (m (c.tc.loc main_arg1)) (m (c.tc.loc main_arg4)),
    θ_run_mono (θ_run_and (run_main m g) (unchanged m g)) fun r h c => ?_, θ_run_mono (Cert.Reference8Ideal.Value.run m' g') fun r h c => ?_⟩
  · exact ⟨((h.1 c).2 main_v4 (by decide +kernel)).trans (r0 m c), ((h.1 c).2 main_v5 (by decide +kernel)).trans (r1 m c), ((h.1 c).2 main_v6 (by decide +kernel)).trans (r2 m c), ((h.1 c).2 main_v7 (by decide +kernel)).trans (r3 m c), h.2 c⟩
  · obtain ⟨a0, a1, a2, a3, a4⟩ := hagree c
    have h := h c
    exact ⟨(h.1.trans (val_main_v1_eq _ _)).trans (by rw [a0, a1]),
      (h.2.1.trans (val_main_v25_eq _ _ _ _ _)).trans (by rw [a0, a1, a2, a3, a4]),
      (h.2.2.1.trans (val_main_v6_eq _ _ _)).trans (by rw [a0, a1, a3]),
      (h.2.2.2.1.trans (val_main_v12_eq _ _ _)).trans (by rw [a0, a1, a4]), h.2.2.2.2⟩
end Cert.Kernel8Ideal.Hand
-- ==== Proof.Halves.lean ====
module
public import proofs.«01_k».proof.Proof.Gen.Kernel9Ideal.Frame
public import proofs.«01_k».proof.Proof.AdamStep
public import Idealize.ShloMosaic.Lib.Pipeline.ValueKit
public import Idealize.ShloMosaic.Lib.Pointwise
public import Idealize.ShloMosaic.Lib.ValueIdx
public import Idealize.ShloMosaic.Lib.ValueIdxCore
@[expose] public section
/-!
The optimiser's step from two halves of the gradient, the first half of the rows and the second, over a grid of
these two halves: what each output array holds after the last point, by the arrays the region finds.
-/
set_option maxRecDepth 16384
noncomputable section
namespace Cert.Kernel9Ideal.Hand
open Cert.Kernel9Ideal Cert.Kernel9Ideal.Gen Idealize.ShloMosaic Idealize.ShloMosaic.TcCoe Idealize.SL.Sem Cert.AdamStep
open Idealize.ShloMosaic.Pipeline (Dat)
variable (m : (ℓ : Loc nD τ sig) → Buf (Elt Ideal) ℓ) (c : Dev nD)

/-- The block each window holds at point `t`: the halves of the gradient are held whole at both. -/
theorem idx : ∀ t : Fin cfg0.N, win0_0.index t = ![0, 0] ∧ win0_1.index t = ![0, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, win0_0.index t = ![0, 0] ∧ win0_1.index t = ![0, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0])

theorem point_lt (t : Fin cfg0.N) : t.val < 2 := lt_of_lt_of_eq t.isLt (show cfg0.N = 2 from N_0)

/-- Row `i` of the rows of point `t`. -/
def row (t : Fin cfg0.N) (i : Fin 352) : Fin 704 := ⟨t.val * 352 + i.val, by have := point_lt t; omega⟩
theorem row_val (t : Fin cfg0.N) (i : Fin 352) : (row t i).val = t.val * 352 + i.val := rfl

/-- The arrays the region finds: the two halves of the gradient, the weights and the moments. -/
@[irreducible] def p : S352x1024.Idx → EReal := V m c main_arg0
@[irreducible] def q : S352x1024.Idx → EReal := V m c main_arg1
@[irreducible] def w : S704x1024.Idx → EReal := V m c main_v0
@[irreducible] def m1 : S704x1024.Idx → EReal := V m c main_v1
@[irreducible] def m2 : S704x1024.Idx → EReal := V m c main_v2

section
variable (t : Fin cfg0.N) (i : Fin 352) (k : Fin 1024)
theorem blk0 : iblk m c 0 t (ix2 i k) = p m c (ix2 i k) := by
  have e : ((cfg0.win 0).blk t).view.emb (ix2 i k) = ix2 i k := by blk_ext [idx t]
  unfold iblk p; exact congrArg (V m c main_arg0) e
theorem blk1 : iblk m c 1 t (ix2 i k) = q m c (ix2 i k) := by
  have e : ((cfg0.win 1).blk t).view.emb (ix2 i k) = ix2 i k := by blk_ext [idx t]
  unfold iblk q; exact congrArg (V m c main_arg1) e
theorem blk2 : iblk m c 2 t (ix2 i k) = w m c (ix2 (row t i) k) := by
  have e : ((cfg0.win 2).blk t).view.emb (ix2 i k) = ix2 (row t i) k := by blk_ext [idx t, row_val]
  unfold iblk w; exact congrArg (V m c main_v0) e
theorem blk3 : iblk m c 3 t (ix2 i k) = m1 m c (ix2 (row t i) k) := by
  have e : ((cfg0.win 3).blk t).view.emb (ix2 i k) = ix2 (row t i) k := by blk_ext [idx t, row_val]
  unfold iblk m1; exact congrArg (V m c main_v1) e
theorem blk4 : iblk m c 4 t (ix2 i k) = m2 m c (ix2 (row t i) k) := by
  have e : ((cfg0.win 4).blk t).view.emb (ix2 i k) = ix2 (row t i) k := by blk_ext [idx t, row_val]
  unfold iblk m2; exact congrArg (V m c main_v2) e

theorem emb5 : ((View.whole main_v3_0).slice (win0_5.rect t)).emb (ix2 i k) = ix2 (row t i) k := by blk_ext [idx t, row_val]
theorem emb6 : ((View.whole main_v3_1).slice (win0_6.rect t)).emb (ix2 i k) = ix2 (row t i) k := by blk_ext [idx t, row_val]
theorem emb7 : ((View.whole main_v3_2).slice (win0_7.rect t)).emb (ix2 i k) = ix2 (row t i) k := by blk_ext [idx t, row_val]
theorem emb8 : ((View.whole main_v3_3).slice (win0_8.rect t)).emb (ix2 i k) = ix2 (row t i) k := by blk_ext [idx t, row_val]
end

/-- The gradient: its first half above its second. -/
def gr (f : Fin 704) (k : Fin 1024) : EReal :=
  if h : f.val < 352 then p m c (ix2 (⟨f.val, h⟩ : Fin 352) k) else q m c (ix2 (⟨f.val - 352, by omega⟩ : Fin 352) k)
def g (j : S704x1024.Idx) : EReal := gr m c (j 0) (j 1)

/-- The first point takes the first half, the second point the second. -/
theorem which : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem pay1 (t : Fin cfg0.N) (i : Fin 352) (k : Fin 1024) :
    k0_pay1 (F := Ideal) (grid0.coords t) (iblk m c 0 t) (iblk m c 1 t) (ix2 i k) = g m c (ix2 (row t i) k) := by
  have ht := point_lt t
  unfold k0_pay1
  dsimp only
  rw [which t]
  refine (show _ = gr m c (row t i) k from ?_)
  unfold gr
  by_cases h : t.val = 0
  · have hr : (row t i).val < 352 := by rw [row_val]; omega
    rw [if_pos h, dif_pos hr]
    refine (blk0 m c t i k).trans (congrArg (p m c) ?_)
    exact congrArg (ix2 · k) (Fin.ext (show i.val = t.val * 352 + i.val by omega))
  · have hr : ¬ (row t i).val < 352 := by rw [row_val]; omega
    rw [if_neg h, dif_neg hr]
    refine (blk1 m c t i k).trans (congrArg (q m c) ?_)
    exact congrArg (ix2 · k) (Fin.ext (show i.val = t.val * 352 + i.val - 352 by omega))

theorem arr5 : (dats m 0 c).arrAt 5 cfg0.N = g m c := by
  refine (dats m 0 c).arrAt_eq_of_covers 5 _ (by decide +kernel) fun t hf y => ?_
  blk_simp
  rw [after0_5]
  idx_vars y
  rw [emb5]
  unfold out0_5
  frame_out
  exact pay1 m c t y0 y1

theorem arr6 : (dats m 0 c).arrAt 6 cfg0.N = fun j => dNew (g m c j) (w m c j) (m1 m c j) (m2 m c j) := by
  refine (dats m 0 c).arrAt_eq_of_covers 6 _ (by decide +kernel) fun t hf y => ?_
  blk_simp
  rw [after0_6]
  idx_vars y
  rw [emb6]
  unfold out0_6
  frame_out
  pointwise [k0_pay4, k0_pay3, k0_pay2]
  simp only [pay1, blk2, blk3, blk4]
  rfl

theorem arr7 : (dats m 0 c).arrAt 7 cfg0.N = fun j => mNew (g m c j) (m1 m c j) := by
  refine (dats m 0 c).arrAt_eq_of_covers 7 _ (by decide +kernel) fun t hf y => ?_
  blk_simp
  rw [after0_7]
  idx_vars y
  rw [emb7]
  unfold out0_7
  frame_out
  pointwise [k0_pay2]
  simp only [pay1, blk3]
  rfl

theorem arr8 : (dats m 0 c).arrAt 8 cfg0.N = fun j => vNew (g m c j) (m2 m c j) := by
  refine (dats m 0 c).arrAt_eq_of_covers 8 _ (by decide +kernel) fun t hf y => ?_
  blk_simp
  rw [after0_8]
  idx_vars y
  rw [emb8]
  unfold out0_8
  frame_out
  pointwise [k0_pay3]
  simp only [pay1, blk4]
  rfl
end Cert.Kernel9Ideal.Hand
-- ==== Proof.HalvesClaim.lean ====
module
public import proofs.«01_k».proof.Defs
public import proofs.«01_k».proof.Proof.Halves
public import proofs.«01_k».proof.Proof.Windows
public import proofs.«01_k».proof.Proof.Gen.Reference9Ideal.Read
public import proofs.«01_k».proof.Proof.Gen.Reference9Ideal.Run
public import Idealize.ShloMosaic.Lib.Claim
public import Idealize.ShloMosaic.Lib.StableHlo.RunRead
@[expose] public section
/-!
The optimiser's step of a feed-forward weight, from the gradient's two halves: the kernel's four results are the
reference's, at all arguments.
-/
set_option maxRecDepth 16384
noncomputable section
namespace Cert.Kernel9Ideal.Hand
open Idealize.ShloMosaic Idealize.ShloMosaic.TcCoe Idealize.SL.Sem Cert.Kernel9Ideal Cert.Kernel9Ideal.Gen Cert.AdamStep
open Cert.Reference9Ideal.Read
variable (m : (ℓ : Loc nD τ sig) → Buf (Elt Ideal) ℓ) (c : Dev nD)

/-- The arrays the host lines hand to the call: the weights and the moments, transposed. -/
theorem args : p m c = m (c.tc.loc main_arg0) ∧ q m c = m (c.tc.loc main_arg1) := by
  unfold p q
  refine ⟨?_, ?_⟩ <;> entry_read <;> rfl
theorem w_eq (i : Fin 1024) (k : Fin 704) : w m c (ix2 k i) = (m (c.tc.loc main_arg2) : S1024x704.Idx → EReal) (ix2 i k) := by
  unfold w
  unfold_abbrev_sides
  after_reads_simp
  pointwise
theorem m1_eq (i : Fin 1024) (k : Fin 704) : m1 m c (ix2 k i) = (m (c.tc.loc main_arg3) : S1024x704.Idx → EReal) (ix2 i k) := by
  unfold m1
  unfold_abbrev_sides
  after_reads_simp
  pointwise
theorem m2_eq (i : Fin 1024) (k : Fin 704) : m2 m c (ix2 k i) = (m (c.tc.loc main_arg4) : S1024x704.Idx → EReal) (ix2 i k) := by
  unfold m2
  unfold_abbrev_sides
  after_reads_simp
  pointwise

/-- The four output arrays before the host's transposes. -/
@[irreducible] def out0 : S704x1024.Idx → EReal := (dats m 0 c).arrAt 5 cfg0.N
@[irreducible] def out1 : S704x1024.Idx → EReal := (dats m 0 c).arrAt 6 cfg0.N
@[irreducible] def out2 : S704x1024.Idx → EReal := (dats m 0 c).arrAt 7 cfg0.N
@[irreducible] def out3 : S704x1024.Idx → EReal := (dats m 0 c).arrAt 8 cfg0.N
theorem tail0 : (Pipeline.afterTail₀ cfgs (dats m) 0 (V0 m) [hostOps1] c main_v4 : S1024x704.Idx → EReal) = fun j => out0 m c (ix2 (j 1) (j 0)) := by
  unfold Pipeline.afterTail₀
  have e : Pipeline.withArrays (cfgs 0).spec c (V0 m c) (fun w => (dats m 0 c).arrAt w (cfgs 0).N) (Proc.devRef .tc main_v3_0) = out0 m c := by
    unfold out0
    exact Cert.Windows.withArrays_once (cfgs 0).spec c (V0 m c) (fun w => (dats m 0 c).arrAt w (cfgs 0).N) 5 (by decide +kernel)
  after_reads_simp
  rw [e]
  funext j
  idx_vars j
  pointwise
theorem tail1 : (Pipeline.afterTail₀ cfgs (dats m) 0 (V0 m) [hostOps1] c main_v5 : S1024x704.Idx → EReal) = fun j => out1 m c (ix2 (j 1) (j 0)) := by
  unfold Pipeline.afterTail₀
  have e : Pipeline.withArrays (cfgs 0).spec c (V0 m c) (fun w => (dats m 0 c).arrAt w (cfgs 0).N) (Proc.devRef .tc main_v3_1) = out1 m c := by
    unfold out1
    exact Cert.Windows.withArrays_once (cfgs 0).spec c (V0 m c) (fun w => (dats m 0 c).arrAt w (cfgs 0).N) 6 (by decide +kernel)
  after_reads_simp
  rw [e]
  funext j
  idx_vars j
  pointwise
theorem tail2 : (Pipeline.afterTail₀ cfgs (dats m) 0 (V0 m) [hostOps1] c main_v6 : S1024x704.Idx → EReal) = fun j => out2 m c (ix2 (j 1) (j 0)) := by
  unfold Pipeline.afterTail₀
  have e : Pipeline.withArrays (cfgs 0).spec c (V0 m c) (fun w => (dats m 0 c).arrAt w (cfgs 0).N) (Proc.devRef .tc main_v3_2) = out2 m c := by
    unfold out2
    exact Cert.Windows.withArrays_once (cfgs 0).spec c (V0 m c) (fun w => (dats m 0 c).arrAt w (cfgs 0).N) 7 (by decide +kernel)
  after_reads_simp
  rw [e]
  funext j
  idx_vars j
  pointwise
theorem tail3 : (Pipeline.afterTail₀ cfgs (dats m) 0 (V0 m) [hostOps1] c main_v7 : S1024x704.Idx → EReal) = fun j => out3 m c (ix2 (j 1) (j 0)) := by
  unfold Pipeline.afterTail₀
  have e : Pipeline.withArrays (cfgs 0).spec c (V0 m c) (fun w => (dats m 0 c).arrAt w (cfgs 0).N) (Proc.devRef .tc main_v3_3) = out3 m c := by
    unfold out3
    exact Cert.Windows.withArrays_once (cfgs 0).spec c (V0 m c) (fun w => (dats m 0 c).arrAt w (cfgs 0).N) 8 (by decide +kernel)
  after_reads_simp
  rw [e]
  funext j
  idx_vars j
  pointwise

/-- The gradient is the reference's, transposed. -/
theorem g_eq (i : Fin 1024) (k : Fin 704) : g m c (ix2 k i) = (val_main_v1 (F := Ideal) (m (c.tc.loc main_arg0)) (m (c.tc.loc main_arg1)) : S1024x704.Idx → EReal) (ix2 i k) := by
  obtain ⟨ep, eq⟩ := args m c
  refine (show gr m c k i = _ from ?_)
  unfold gr
  rw [ep, eq]
  pointwise [val_main_v1, val_main_v0]

theorem r0 : (Pipeline.afterTail₀ cfgs (dats m) 0 (V0 m) [hostOps1] c main_v4 : S1024x704.Idx → EReal) = val_main_v1 (F := Ideal) (m (c.tc.loc main_arg0)) (m (c.tc.loc main_arg1)) := by
  rw [tail0]
  funext j
  idx_vars j
  unfold out0
  rw [arr5]
  exact g_eq m c j0 j1

theorem r1 : (Pipeline.afterTail₀ cfgs (dats m) 0 (V0 m) [hostOps1] c main_v5 : S1024x704.Idx → EReal) = val_main_v25 (F := Ideal) (m (c.tc.loc main_arg0)) (m (c.tc.loc main_arg1)) (m (c.tc.loc main_arg2)) (m (c.tc.loc main_arg3)) (m (c.tc.loc main_arg4)) := by
  rw [tail1]
  funext j
  idx_vars j
  unfold out1
  rw [arr6]
  refine (show dNew (g m c (ix2 j1 j0)) (w m c (ix2 j1 j0)) (m1 m c (ix2 j1 j0)) (m2 m c (ix2 j1 j0)) = _ from ?_)
  rw [g_eq, w_eq, m1_eq, m2_eq]
  pointwise [val_main_v25, val_main_v23, val_main_v22, val_main_v20, val_main_v19, val_main_v17, val_main_v16, val_main_v14, val_main_v12, val_main_v11, val_main_v9, val_main_v8, val_main_v6, val_main_v5, val_main_v3]
  rfl

theorem r2 : (Pipeline.afterTail₀ cfgs (dats m) 0 (V0 m) [hostOps1] c main_v6 : S1024x704.Idx → EReal) = val_main_v6 (F := Ideal) (m (c.tc.loc main_arg0)) (m (c.tc.loc main_arg1)) (m (c.tc.loc main_arg3)) := by
  rw [tail2]
  funext j
  idx_vars j
  unfold out2
  rw [arr7]
  refine (show mNew (g m c (ix2 j1 j0)) (m1 m c (ix2 j1 j0)) = _ from ?_)
  rw [g_eq, m1_eq]
  pointwise [val_main_v6, val_main_v5, val_main_v3]
  rfl

theorem r3 : (Pipeline.afterTail₀ cfgs (dats m) 0 (V0 m) [hostOps1] c main_v7 : S1024x704.Idx → EReal) = val_main_v12 (F := Ideal) (m (c.tc.loc main_arg0)) (m (c.tc.loc main_arg1)) (m (c.tc.loc main_arg4)) := by
  rw [tail3]
  funext j
  idx_vars j
  unfold out3
  rw [arr8]
  refine (show vNew (g m c (ix2 j1 j0)) (m2 m c (ix2 j1 j0)) = _ from ?_)
  rw [g_eq, m2_eq]
  pointwise [val_main_v12, val_main_v11, val_main_v9, val_main_v8]
  rfl

/-- Kernel and reference leave the same four results. -/
theorem algebraic : Cert.algebraic_Kernel9Ideal_Reference9Ideal := by
  intro m g m' g' hpre hagree
  refine ⟨fun c => val_main_v1 (F := Ideal) (m (c.tc.loc main_arg0)) (m (c.tc.loc main_arg1)),
    fun c => val_main_v25 (F := Ideal) (m (c.tc.loc main_arg0)) (m (c.tc.loc main_arg1)) (m (c.tc.loc main_arg2)) (m (c.tc.loc main_arg3)) (m (c.tc.loc main_arg4)),
    fun c => val_main_v6 (F := Ideal) (m (c.tc.loc main_arg0)) (m (c.tc.loc main_arg1)) (m (c.tc.loc main_arg3)),
    fun c => val_main_v12 (F := Ideal) (m (c.tc.loc main_arg0)) (m (c.tc.loc main_arg1)) (m (c.tc.loc main_arg4)),
    θ_run_mono (θ_run_and (run_main m g) (unchanged m g)) fun r h c => ?_, θ_run_mono (Cert.Reference9Ideal.Value.run m' g') fun r h c => ?_⟩
  · exact ⟨((h.1 c).2 main_v4 (by decide +kernel)).trans (r0 m c), ((h.1 c).2 main_v5 (by decide +kernel)).trans (r1 m c), ((h.1 c).2 main_v6 (by decide +kernel)).trans (r2 m c), ((h.1 c).2 main_v7 (by decide +kernel)).trans (r3 m c), h.2 c⟩
  · obtain ⟨a0, a1, a2, a3, a4⟩ := hagree c
    have h := h c
    exact ⟨(h.1.trans (val_main_v1_eq _ _)).trans (by rw [a0, a1]),
      (h.2.1.trans (val_main_v25_eq _ _ _ _ _)).trans (by rw [a0, a1, a2, a3, a4]),
      (h.2.2.1.trans (val_main_v6_eq _ _ _)).trans (by rw [a0, a1, a3]),
      (h.2.2.2.1.trans (val_main_v12_eq _ _ _)).trans (by rw [a0, a1, a4]), h.2.2.2.2⟩
end Cert.Kernel9Ideal.Hand
-- ==== Proof.Small.lean ====
module
public import proofs.«01_k».proof.Proof.Gen.Kernel10Ideal.Frame
public import proofs.«01_k».proof.Proof.AdamStep
public import Idealize.ShloMosaic.Lib.Pipeline.ValueKit
public import Idealize.ShloMosaic.Lib.Pointwise
public import Idealize.ShloMosaic.Lib.ValueIdx
public import Idealize.ShloMosaic.Lib.ValueIdxCore
@[expose] public section
/-!
The optimiser's step of the small leaves, packed one to a row, from the eight devices' parts of the gradient: what each
output array holds after the call, by the arrays it finds.
-/
set_option maxRecDepth 16384
noncomputable section
namespace Cert.Kernel10Ideal.Hand
open Cert.Kernel10Ideal Cert.Kernel10Ideal.Gen Idealize.ShloMosaic Idealize.ShloMosaic.TcCoe Idealize.SL.Sem Cert.AdamStep
open Idealize.ShloMosaic.Pipeline (Dat)
variable (m : (ℓ : Loc nD τ sig) → Buf (Elt Ideal) ℓ) (c : Dev nD)

/-- Every window holds the whole of its array. -/
theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0])

/-- The arrays the region finds: the parts of the gradient, the weights and the moments. -/
@[irreducible] def p : S8x24x1024.Idx → EReal := V m c main_arg0
@[irreducible] def w : S24x1024.Idx → EReal := V m c main_v19
@[irreducible] def m1 : S24x1024.Idx → EReal := V m c main_v39
@[irreducible] def m2 : S24x1024.Idx → EReal := V m c main_v59

section
variable (t : Fin cfg0.N) (i : Fin 24) (k : Fin 1024)
theorem blk0 (d : Fin 8) : iblk m c 0 t (ix3 d i k) = p m c (ix3 d i k) := by
  have e : ((cfg0.win 0).blk t).view.emb (ix3 d i k) = ix3 d i k := by blk_ext [idx t]
  unfold iblk p; exact congrArg (V m c main_arg0) e
theorem blk1 : iblk m c 1 t (ix2 i k) = w m c (ix2 i k) := by
  have e : ((cfg0.win 1).blk t).view.emb (ix2 i k) = ix2 i k := by blk_ext [idx t]
  unfold iblk w; exact congrArg (V m c main_v19) e
theorem blk2 : iblk m c 2 t (ix2 i k) = m1 m c (ix2 i k) := by
  have e : ((cfg0.win 2).blk t).view.emb (ix2 i k) = ix2 i k := by blk_ext [idx t]
  unfold iblk m1; exact congrArg (V m c main_v39) e
theorem blk3 : iblk m c 3 t (ix2 i k) = m2 m c (ix2 i k) := by
  have e : ((cfg0.win 3).blk t).view.emb (ix2 i k) = ix2 i k := by blk_ext [idx t]
  unfold iblk m2; exact congrArg (V m c main_v59) e

theorem emb4 : ((View.whole main_v60_0).slice (win0_4.rect t)).emb (ix2 i k) = ix2 i k := by blk_ext [idx t]
theorem emb5 : ((View.whole main_v60_1).slice (win0_5.rect t)).emb (ix2 i k) = ix2 i k := by blk_ext [idx t]
theorem emb6 : ((View.whole main_v60_2).slice (win0_6.rect t)).emb (ix2 i k) = ix2 i k := by blk_ext [idx t]
theorem emb7 : ((View.whole main_v60_3).slice (win0_7.rect t)).emb (ix2 i k) = ix2 i k := by blk_ext [idx t]
end

/-- The gradient: the sum of its parts. -/
def g (j : S24x1024.Idx) : EReal := ∑ d : Fin 8, p m c (ix3 d (j 0) (j 1))

theorem sum8 (f : Fin 8 → EReal) : ∑ d : Fin 8, f d = f 0 + f 1 + f 2 + f 3 + f 4 + f 5 + f 6 + f 7 := Fin.sum_univ_eight f

/-- The gradient as the call computes it. -/
theorem pay8 (t : Fin cfg0.N) (i : Fin 24) (k : Fin 1024) :
    k0_pay8 (F := Ideal) (iblk m c 0 t) (iblk m c 1 t) (iblk m c 2 t) (iblk m c 3 t) (ix2 i k) = g m c (ix2 i k) := by
  unfold k0_pay8 g
  pointwise [k0_pay4]
  rw [sum8]
  simp only [blk0]

theorem arr4 : (dats m 0 c).arrAt 4 cfg0.N = g m c := by
  refine (dats m 0 c).arrAt_eq_of_covers 4 _ (by decide +kernel) fun t hf y => ?_
  blk_simp
  rw [after0_4]
  idx_vars y
  rw [emb4]
  unfold out0_4
  frame_out
  exact pay8 m c t y0 y1

theorem arr5 : (dats m 0 c).arrAt 5 cfg0.N = fun j => dNew (g m c j) (w m c j) (m1 m c j) (m2 m c j) := by
  refine (dats m 0 c).arrAt_eq_of_covers 5 _ (by decide +kernel) fun t hf y => ?_
  blk_simp
  rw [after0_5]
  idx_vars y
  rw [emb5]
  unfold out0_5
  frame_out
  pointwise [k0_pay3, k0_pay2, k0_pay1, k0_pay5, k0_pay9, k0_pay10, k0_pay6, k0_pay7]
  simp only [pay8, blk1, blk2, blk3]
  rfl

theorem arr6 : (dats m 0 c).arrAt 6 cfg0.N = fun j => mNew (g m c j) (m1 m c j) := by
  refine (dats m 0 c).arrAt_eq_of_covers 6 _ (by decide +kernel) fun t hf y => ?_
  blk_simp
  rw [after0_6]
  idx_vars y
  rw [emb6]
  unfold out0_6
  frame_out
  pointwise [k0_pay1, k0_pay9, k0_pay6]
  simp only [pay8, blk2]
  rfl

theorem arr7 : (dats m 0 c).arrAt 7 cfg0.N = fun j => vNew (g m c j) (m2 m c j) := by
  refine (dats m 0 c).arrAt_eq_of_covers 7 _ (by decide +kernel) fun t hf y => ?_
  blk_simp
  rw [after0_7]
  idx_vars y
  rw [emb7]
  unfold out0_7
  frame_out
  pointwise [k0_pay2, k0_pay10, k0_pay7]
  simp only [pay8, blk3]
  rfl

end Cert.Kernel10Ideal.Hand
-- ==== Proof.SmallClaim.lean ====
module
public import proofs.«01_k».proof.Defs
public import proofs.«01_k».proof.Proof.Small
public import proofs.«01_k».proof.Proof.Windows
public import proofs.«01_k».proof.Proof.Gen.Reference10Ideal.Read
public import proofs.«01_k».proof.Proof.Gen.Reference10Ideal.Run
public import Idealize.ShloMosaic.Lib.Claim
public import Idealize.ShloMosaic.Lib.StableHlo.RunRead
@[expose] public section
/-!
The optimiser's step of the three norms among the packed small leaves: the rows of the kernel's four results are the
reference's results, at all arguments.
-/
set_option maxRecDepth 16384
noncomputable section
namespace Cert.Kernel10Ideal.Hand
open Idealize.ShloMosaic Idealize.ShloMosaic.TcCoe Idealize.SL.Sem Cert.Kernel10Ideal Cert.Kernel10Ideal.Gen Cert.AdamStep
open Cert.Reference10Ideal.Read
variable (m : (ℓ : Loc nD τ sig) → Buf (Elt Ideal) ℓ) (c : Dev nD)

theorem p_eq : p m c = m (c.tc.loc main_arg0) := by
  unfold p
  entry_read <;> rfl

/-- The rows of the norms in the packed weights and moments are the norms' own. -/
theorem w_row0 (k : Fin 1024) : w m c (ix2 (0 : Fin 24) k) = (m (c.tc.loc main_arg1) : S1x1024.Idx → EReal) (ix2 (0 : Fin 1) k) := by
  unfold w
  unfold_abbrev_sides
  after_reads_simp
  pointwise
theorem m1_row0 (k : Fin 1024) : m1 m c (ix2 (0 : Fin 24) k) = (m (c.tc.loc main_arg10) : S1x1024.Idx → EReal) (ix2 (0 : Fin 1) k) := by
  unfold m1
  unfold_abbrev_sides
  after_reads_simp
  pointwise
theorem m2_row0 (k : Fin 1024) : m2 m c (ix2 (0 : Fin 24) k) = (m (c.tc.loc main_arg19) : S1x1024.Idx → EReal) (ix2 (0 : Fin 1) k) := by
  unfold m2
  unfold_abbrev_sides
  after_reads_simp
  pointwise
theorem w_row2 (k : Fin 1024) : w m c (ix2 (2 : Fin 24) k) = (m (c.tc.loc main_arg3) : S1x1024.Idx → EReal) (ix2 (0 : Fin 1) k) := by
  unfold w
  unfold_abbrev_sides
  after_reads_simp
  pointwise
theorem m1_row2 (k : Fin 1024) : m1 m c (ix2 (2 : Fin 24) k) = (m (c.tc.loc main_arg12) : S1x1024.Idx → EReal) (ix2 (0 : Fin 1) k) := by
  unfold m1
  unfold_abbrev_sides
  after_reads_simp
  pointwise
theorem m2_row2 (k : Fin 1024) : m2 m c (ix2 (2 : Fin 24) k) = (m (c.tc.loc main_arg21) : S1x1024.Idx → EReal) (ix2 (0 : Fin 1) k) := by
  unfold m2
  unfold_abbrev_sides
  after_reads_simp
  pointwise
theorem w_row3 (k : Fin 1024) : w m c (ix2 (3 : Fin 24) k) = (m (c.tc.loc main_arg4) : S1024.Idx → EReal) (ix1 k) := by
  unfold w
  unfold_abbrev_sides
  after_reads_simp
  pointwise
  after_reads_simp
  pointwise
theorem m1_row3 (k : Fin 1024) : m1 m c (ix2 (3 : Fin 24) k) = (m (c.tc.loc main_arg13) : S1024.Idx → EReal) (ix1 k) := by
  unfold m1
  unfold_abbrev_sides
  after_reads_simp
  pointwise
  after_reads_simp
  pointwise
theorem m2_row3 (k : Fin 1024) : m2 m c (ix2 (3 : Fin 24) k) = (m (c.tc.loc main_arg22) : S1024.Idx → EReal) (ix1 k) := by
  unfold m2
  unfold_abbrev_sides
  after_reads_simp
  pointwise
  after_reads_simp
  pointwise

/-- What the call leaves in each of its output arrays. -/
@[irreducible] def out0 : S24x1024.Idx → EReal := (dats m 0 c).arrAt 4 cfg0.N
@[irreducible] def out1 : S24x1024.Idx → EReal := (dats m 0 c).arrAt 5 cfg0.N
@[irreducible] def out2 : S24x1024.Idx → EReal := (dats m 0 c).arrAt 6 cfg0.N
@[irreducible] def out3 : S24x1024.Idx → EReal := (dats m 0 c).arrAt 7 cfg0.N
theorem whole0 : Pipeline.withArrays (cfgs 0).spec c (V0 m c) (fun w => (dats m 0 c).arrAt w (cfgs 0).N) (Proc.devRef .tc main_v60_0) = out0 m c := by
  unfold out0
  exact Cert.Windows.withArrays_once (cfgs 0).spec c (V0 m c) (fun w => (dats m 0 c).arrAt w (cfgs 0).N) 4 (by decide +kernel)
theorem whole1 : Pipeline.withArrays (cfgs 0).spec c (V0 m c) (fun w => (dats m 0 c).arrAt w (cfgs 0).N) (Proc.devRef .tc main_v60_1) = out1 m c := by
  unfold out1
  exact Cert.Windows.withArrays_once (cfgs 0).spec c (V0 m c) (fun w => (dats m 0 c).arrAt w (cfgs 0).N) 5 (by decide +kernel)
theorem whole2 : Pipeline.withArrays (cfgs 0).spec c (V0 m c) (fun w => (dats m 0 c).arrAt w (cfgs 0).N) (Proc.devRef .tc main_v60_2) = out2 m c := by
  unfold out2
  exact Cert.Windows.withArrays_once (cfgs 0).spec c (V0 m c) (fun w => (dats m 0 c).arrAt w (cfgs 0).N) 6 (by decide +kernel)
theorem whole3 : Pipeline.withArrays (cfgs 0).spec c (V0 m c) (fun w => (dats m 0 c).arrAt w (cfgs 0).N) (Proc.devRef .tc main_v60_3) = out3 m c := by
  unfold out3
  exact Cert.Windows.withArrays_once (cfgs 0).spec c (V0 m c) (fun w => (dats m 0 c).arrAt w (cfgs 0).N) 7 (by decide +kernel)

/-- The host lines after the call cut the rows out. -/
theorem cut0_0 : (Pipeline.afterTail₀ cfgs (dats m) 0 (V0 m) [hostOps1] c main_v61 : S1x1024.Idx → EReal) = fun j => out0 m c (ix2 (0 : Fin 24) (j 1)) := by
  unfold Pipeline.afterTail₀
  have e := whole0 m c
  after_reads_simp
  rw [e]
  funext j
  idx_vars j
  pointwise
theorem cut2_0 : (Pipeline.afterTail₀ cfgs (dats m) 0 (V0 m) [hostOps1] c main_v65 : S1x1024.Idx → EReal) = fun j => out0 m c (ix2 (2 : Fin 24) (j 1)) := by
  unfold Pipeline.afterTail₀
  have e := whole0 m c
  after_reads_simp
  rw [e]
  funext j
  idx_vars j
  pointwise
theorem cut3_0 : (Pipeline.afterTail₀ cfgs (dats m) 0 (V0 m) [hostOps1] c main_v70 : S1024.Idx → EReal) = fun j => out0 m c (ix2 (3 : Fin 24) (j 0)) := by
  unfold Pipeline.afterTail₀
  have e := whole0 m c
  after_reads_simp
  rw [e]
  funext j
  idx_vars j
  pointwise
theorem cut0_1 : (Pipeline.afterTail₀ cfgs (dats m) 0 (V0 m) [hostOps1] c main_v62 : S1x1024.Idx → EReal) = fun j => out1 m c (ix2 (0 : Fin 24) (j 1)) := by
  unfold Pipeline.afterTail₀
  have e := whole1 m c
  after_reads_simp
  rw [e]
  funext j
  idx_vars j
  pointwise
theorem cut2_1 : (Pipeline.afterTail₀ cfgs (dats m) 0 (V0 m) [hostOps1] c main_v66 : S1x1024.Idx → EReal) = fun j => out1 m c (ix2 (2 : Fin 24) (j 1)) := by
  unfold Pipeline.afterTail₀
  have e := whole1 m c
  after_reads_simp
  rw [e]
  funext j
  idx_vars j
  pointwise
theorem cut3_1 : (Pipeline.afterTail₀ cfgs (dats m) 0 (V0 m) [hostOps1] c main_v72 : S1024.Idx → EReal) = fun j => out1 m c (ix2 (3 : Fin 24) (j 0)) := by
  unfold Pipeline.afterTail₀
  have e := whole1 m c
  after_reads_simp
  rw [e]
  funext j
  idx_vars j
  pointwise
theorem cut0_2 : (Pipeline.afterTail₀ cfgs (dats m) 0 (V0 m) [hostOps1] c main_v63 : S1x1024.Idx → EReal) = fun j => out2 m c (ix2 (0 : Fin 24) (j 1)) := by
  unfold Pipeline.afterTail₀
  have e := whole2 m c
  after_reads_simp
  rw [e]
  funext j
  idx_vars j
  pointwise
theorem cut2_2 : (Pipeline.afterTail₀ cfgs (dats m) 0 (V0 m) [hostOps1] c main_v67 : S1x1024.Idx → EReal) = fun j => out2 m c (ix2 (2 : Fin 24) (j 1)) := by
  unfold Pipeline.afterTail₀
  have e := whole2 m c
  after_reads_simp
  rw [e]
  funext j
  idx_vars j
  pointwise
theorem cut3_2 : (Pipeline.afterTail₀ cfgs (dats m) 0 (V0 m) [hostOps1] c main_v74 : S1024.Idx → EReal) = fun j => out2 m c (ix2 (3 : Fin 24) (j 0)) := by
  unfold Pipeline.afterTail₀
  have e := whole2 m c
  after_reads_simp
  rw [e]
  funext j
  idx_vars j
  pointwise
theorem cut0_3 : (Pipeline.afterTail₀ cfgs (dats m) 0 (V0 m) [hostOps1] c main_v64 : S1x1024.Idx → EReal) = fun j => out3 m c (ix2 (0 : Fin 24) (j 1)) := by
  unfold Pipeline.afterTail₀
  have e := whole3 m c
  after_reads_simp
  rw [e]
  funext j
  idx_vars j
  pointwise
theorem cut2_3 : (Pipeline.afterTail₀ cfgs (dats m) 0 (V0 m) [hostOps1] c main_v68 : S1x1024.Idx → EReal) = fun j => out3 m c (ix2 (2 : Fin 24) (j 1)) := by
  unfold Pipeline.afterTail₀
  have e := whole3 m c
  after_reads_simp
  rw [e]
  funext j
  idx_vars j
  pointwise
theorem cut3_3 : (Pipeline.afterTail₀ cfgs (dats m) 0 (V0 m) [hostOps1] c main_v76 : S1024.Idx → EReal) = fun j => out3 m c (ix2 (3 : Fin 24) (j 0)) := by
  unfold Pipeline.afterTail₀
  have e := whole3 m c
  after_reads_simp
  rw [e]
  funext j
  idx_vars j
  pointwise

/-- Row 0: the gradient is the reference's, and so are the step's results. -/
theorem g_row0 (k : Fin 1024) : g m c (ix2 (0 : Fin 24) k) = (val_main_v3 (F := Ideal) (m (c.tc.loc main_arg0)) : S1x1024.Idx → EReal) (ix2 (0 : Fin 1) k) := by
  unfold g
  rw [p_eq]
  pointwise [val_main_v3, val_main_v2, val_main_v1, val_main_v0]
  rw [val_main_cst_apply]
  simp
theorem r0_0 : (Pipeline.afterTail₀ cfgs (dats m) 0 (V0 m) [hostOps1] c main_v61 : S1x1024.Idx → EReal) = val_main_v3 (F := Ideal) (m (c.tc.loc main_arg0)) := by
  rw [cut0_0]
  funext j
  idx_vars j
  obtain rfl : j0 = (0 : Fin 1) := Subsingleton.elim _ _
  unfold out0
  rw [arr4]
  refine (show g m c (ix2 (0 : Fin 24) j1) = _ from ?_)
  rw [g_row0]
theorem r0_1 : (Pipeline.afterTail₀ cfgs (dats m) 0 (V0 m) [hostOps1] c main_v62 : S1x1024.Idx → EReal) = val_main_v27 (F := Ideal) (m (c.tc.loc main_arg0)) (m (c.tc.loc main_arg1)) (m (c.tc.loc main_arg10)) (m (c.tc.loc main_arg19)) := by
  rw [cut0_1]
  funext j
  idx_vars j
  obtain rfl : j0 = (0 : Fin 1) := Subsingleton.elim _ _
  unfold out1
  rw [arr5]
  refine (show dNew (g m c (ix2 (0 : Fin 24) j1)) (w m c (ix2 (0 : Fin 24) j1)) (m1 m c (ix2 (0 : Fin 24) j1)) (m2 m c (ix2 (0 : Fin 24) j1)) = _ from ?_)
  rw [g_row0, w_row0, m1_row0, m2_row0]
  pointwise [val_main_v27, val_main_v25, val_main_v24, val_main_v22, val_main_v21, val_main_v19, val_main_v18, val_main_v16, val_main_v14, val_main_v13, val_main_v11, val_main_v10, val_main_v8, val_main_v7, val_main_v5]
  rfl
theorem r0_2 : (Pipeline.afterTail₀ cfgs (dats m) 0 (V0 m) [hostOps1] c main_v63 : S1x1024.Idx → EReal) = val_main_v8 (F := Ideal) (m (c.tc.loc main_arg0)) (m (c.tc.loc main_arg10)) := by
  rw [cut0_2]
  funext j
  idx_vars j
  obtain rfl : j0 = (0 : Fin 1) := Subsingleton.elim _ _
  unfold out2
  rw [arr6]
  refine (show mNew (g m c (ix2 (0 : Fin 24) j1)) (m1 m c (ix2 (0 : Fin 24) j1)) = _ from ?_)
  rw [g_row0, m1_row0]
  pointwise [val_main_v8, val_main_v7, val_main_v5]
  rfl
theorem r0_3 : (Pipeline.afterTail₀ cfgs (dats m) 0 (V0 m) [hostOps1] c main_v64 : S1x1024.Idx → EReal) = val_main_v14 (F := Ideal) (m (c.tc.loc main_arg0)) (m (c.tc.loc main_arg19)) := by
  rw [cut0_3]
  funext j
  idx_vars j
  obtain rfl : j0 = (0 : Fin 1) := Subsingleton.elim _ _
  unfold out3
  rw [arr7]
  refine (show vNew (g m c (ix2 (0 : Fin 24) j1)) (m2 m c (ix2 (0 : Fin 24) j1)) = _ from ?_)
  rw [g_row0, m2_row0]
  pointwise [val_main_v14, val_main_v13, val_main_v11, val_main_v10]
  rfl

/-- Row 2: the gradient is the reference's, and so are the step's results. -/
theorem g_row2 (k : Fin 1024) : g m c (ix2 (2 : Fin 24) k) = (val_main_v31 (F := Ideal) (m (c.tc.loc main_arg0)) : S1x1024.Idx → EReal) (ix2 (0 : Fin 1) k) := by
  unfold g
  rw [p_eq]
  pointwise [val_main_v31, val_main_v30, val_main_v29, val_main_v28]
  rw [val_main_cst_9_apply]
  simp
theorem r2_0 : (Pipeline.afterTail₀ cfgs (dats m) 0 (V0 m) [hostOps1] c main_v65 : S1x1024.Idx → EReal) = val_main_v31 (F := Ideal) (m (c.tc.loc main_arg0)) := by
  rw [cut2_0]
  funext j
  idx_vars j
  obtain rfl : j0 = (0 : Fin 1) := Subsingleton.elim _ _
  unfold out0
  rw [arr4]
  refine (show g m c (ix2 (2 : Fin 24) j1) = _ from ?_)
  rw [g_row2]
theorem r2_1 : (Pipeline.afterTail₀ cfgs (dats m) 0 (V0 m) [hostOps1] c main_v66 : S1x1024.Idx → EReal) = val_main_v55 (F := Ideal) (m (c.tc.loc main_arg0)) (m (c.tc.loc main_arg3)) (m (c.tc.loc main_arg12)) (m (c.tc.loc main_arg21)) := by
  rw [cut2_1]
  funext j
  idx_vars j
  obtain rfl : j0 = (0 : Fin 1) := Subsingleton.elim _ _
  unfold out1
  rw [arr5]
  refine (show dNew (g m c (ix2 (2 : Fin 24) j1)) (w m c (ix2 (2 : Fin 24) j1)) (m1 m c (ix2 (2 : Fin 24) j1)) (m2 m c (ix2 (2 : Fin 24) j1)) = _ from ?_)
  rw [g_row2, w_row2, m1_row2, m2_row2]
  pointwise [val_main_v55, val_main_v53, val_main_v52, val_main_v50, val_main_v49, val_main_v47, val_main_v46, val_main_v44, val_main_v42, val_main_v41, val_main_v39, val_main_v38, val_main_v36, val_main_v35, val_main_v33]
  rfl
theorem r2_2 : (Pipeline.afterTail₀ cfgs (dats m) 0 (V0 m) [hostOps1] c main_v67 : S1x1024.Idx → EReal) = val_main_v36 (F := Ideal) (m (c.tc.loc main_arg0)) (m (c.tc.loc main_arg12)) := by
  rw [cut2_2]
  funext j
  idx_vars j
  obtain rfl : j0 = (0 : Fin 1) := Subsingleton.elim _ _
  unfold out2
  rw [arr6]
  refine (show mNew (g m c (ix2 (2 : Fin 24) j1)) (m1 m c (ix2 (2 : Fin 24) j1)) = _ from ?_)
  rw [g_row2, m1_row2]
  pointwise [val_main_v36, val_main_v35, val_main_v33]
  rfl
theorem r2_3 : (Pipeline.afterTail₀ cfgs (dats m) 0 (V0 m) [hostOps1] c main_v68 : S1x1024.Idx → EReal) = val_main_v42 (F := Ideal) (m (c.tc.loc main_arg0)) (m (c.tc.loc main_arg21)) := by
  rw [cut2_3]
  funext j
  idx_vars j
  obtain rfl : j0 = (0 : Fin 1) := Subsingleton.elim _ _
  unfold out3
  rw [arr7]
  refine (show vNew (g m c (ix2 (2 : Fin 24) j1)) (m2 m c (ix2 (2 : Fin 24) j1)) = _ from ?_)
  rw [g_row2, m2_row2]
  pointwise [val_main_v42, val_main_v41, val_main_v39, val_main_v38]
  rfl

/-- Row 3: the gradient is the reference's, and so are the step's results. -/
theorem g_row3 (k : Fin 1024) : g m c (ix2 (3 : Fin 24) k) = (val_main_v58 (F := Ideal) (m (c.tc.loc main_arg0)) : S1024.Idx → EReal) (ix1 k) := by
  unfold g
  rw [p_eq]
  pointwise [val_main_v58, val_main_v57, val_main_v56]
  rw [val_main_cst_19_apply]
  simp
theorem r3_0 : (Pipeline.afterTail₀ cfgs (dats m) 0 (V0 m) [hostOps1] c main_v70 : S1024.Idx → EReal) = val_main_v58 (F := Ideal) (m (c.tc.loc main_arg0)) := by
  rw [cut3_0]
  funext j
  idx_vars j
  unfold out0
  rw [arr4]
  refine (show g m c (ix2 (3 : Fin 24) j0) = _ from ?_)
  rw [g_row3]
theorem r3_1 : (Pipeline.afterTail₀ cfgs (dats m) 0 (V0 m) [hostOps1] c main_v72 : S1024.Idx → EReal) = val_main_v82 (F := Ideal) (m (c.tc.loc main_arg0)) (m (c.tc.loc main_arg4)) (m (c.tc.loc main_arg13)) (m (c.tc.loc main_arg22)) := by
  rw [cut3_1]
  funext j
  idx_vars j
  unfold out1
  rw [arr5]
  refine (show dNew (g m c (ix2 (3 : Fin 24) j0)) (w m c (ix2 (3 : Fin 24) j0)) (m1 m c (ix2 (3 : Fin 24) j0)) (m2 m c (ix2 (3 : Fin 24) j0)) = _ from ?_)
  rw [g_row3, w_row3, m1_row3, m2_row3]
  pointwise [val_main_v82, val_main_v80, val_main_v79, val_main_v77, val_main_v76, val_main_v74, val_main_v73, val_main_v71, val_main_v69, val_main_v68, val_main_v66, val_main_v65, val_main_v63, val_main_v62, val_main_v60]
  rfl
theorem r3_2 : (Pipeline.afterTail₀ cfgs (dats m) 0 (V0 m) [hostOps1] c main_v74 : S1024.Idx → EReal) = val_main_v63 (F := Ideal) (m (c.tc.loc main_arg0)) (m (c.tc.loc main_arg13)) := by
  rw [cut3_2]
  funext j
  idx_vars j
  unfold out2
  rw [arr6]
  refine (show mNew (g m c (ix2 (3 : Fin 24) j0)) (m1 m c (ix2 (3 : Fin 24) j0)) = _ from ?_)
  rw [g_row3, m1_row3]
  pointwise [val_main_v63, val_main_v62, val_main_v60]
  rfl
theorem r3_3 : (Pipeline.afterTail₀ cfgs (dats m) 0 (V0 m) [hostOps1] c main_v76 : S1024.Idx → EReal) = val_main_v69 (F := Ideal) (m (c.tc.loc main_arg0)) (m (c.tc.loc main_arg22)) := by
  rw [cut3_3]
  funext j
  idx_vars j
  unfold out3
  rw [arr7]
  refine (show vNew (g m c (ix2 (3 : Fin 24) j0)) (m2 m c (ix2 (3 : Fin 24) j0)) = _ from ?_)
  rw [g_row3, m2_row3]
  pointwise [val_main_v69, val_main_v68, val_main_v66, val_main_v65]
  rfl

/-- Kernel and reference leave the same twelve results. -/
theorem algebraic : Cert.algebraic_Kernel10Ideal_Reference10Ideal := by
  intro m g m' g' hpre hagree
  refine ⟨fun c => val_main_v3 (F := Ideal) (m (c.tc.loc main_arg0)),
    fun c => val_main_v27 (F := Ideal) (m (c.tc.loc main_arg0)) (m (c.tc.loc main_arg1)) (m (c.tc.loc main_arg10)) (m (c.tc.loc main_arg19)),
    fun c => val_main_v8 (F := Ideal) (m (c.tc.loc main_arg0)) (m (c.tc.loc main_arg10)),
    fun c => val_main_v14 (F := Ideal) (m (c.tc.loc main_arg0)) (m (c.tc.loc main_arg19)),
    fun c => val_main_v31 (F := Ideal) (m (c.tc.loc main_arg0)),
    fun c => val_main_v55 (F := Ideal) (m (c.tc.loc main_arg0)) (m (c.tc.loc main_arg3)) (m (c.tc.loc main_arg12)) (m (c.tc.loc main_arg21)),
    fun c => val_main_v36 (F := Ideal) (m (c.tc.loc main_arg0)) (m (c.tc.loc main_arg12)),
    fun c => val_main_v42 (F := Ideal) (m (c.tc.loc main_arg0)) (m (c.tc.loc main_arg21)),
    fun c => val_main_v58 (F := Ideal) (m (c.tc.loc main_arg0)),
    fun c => val_main_v82 (F := Ideal) (m (c.tc.loc main_arg0)) (m (c.tc.loc main_arg4)) (m (c.tc.loc main_arg13)) (m (c.tc.loc main_arg22)),
    fun c => val_main_v63 (F := Ideal) (m (c.tc.loc main_arg0)) (m (c.tc.loc main_arg13)),
    fun c => val_main_v69 (F := Ideal) (m (c.tc.loc main_arg0)) (m (c.tc.loc main_arg22)),
    θ_run_mono (θ_run_and (run_main m g) (unchanged m g)) fun r h c => ?_, θ_run_mono (Cert.Reference10Ideal.Value.run m' g') fun r h c => ?_⟩
  · exact ⟨((h.1 c).2 main_v61 (by decide +kernel)).trans (r0_0 m c),
      ((h.1 c).2 main_v62 (by decide +kernel)).trans (r0_1 m c),
      ((h.1 c).2 main_v63 (by decide +kernel)).trans (r0_2 m c),
      ((h.1 c).2 main_v64 (by decide +kernel)).trans (r0_3 m c),
      ((h.1 c).2 main_v65 (by decide +kernel)).trans (r2_0 m c),
      ((h.1 c).2 main_v66 (by decide +kernel)).trans (r2_1 m c),
      ((h.1 c).2 main_v67 (by decide +kernel)).trans (r2_2 m c),
      ((h.1 c).2 main_v68 (by decide +kernel)).trans (r2_3 m c),
      ((h.1 c).2 main_v70 (by decide +kernel)).trans (r3_0 m c),
      ((h.1 c).2 main_v72 (by decide +kernel)).trans (r3_1 m c),
      ((h.1 c).2 main_v74 (by decide +kernel)).trans (r3_2 m c),
      ((h.1 c).2 main_v76 (by decide +kernel)).trans (r3_3 m c), h.2 c⟩
  · obtain ⟨a0, a1, a2, a3, a4, a5, a6, a7, a8, a9, a10, a11, a12, a13, a14, a15, a16, a17, a18, a19, a20, a21, a22, a23, a24, a25, a26, a27⟩ := hagree c
    have h := h c
    exact ⟨(h.1.trans (val_main_v3_eq _)).trans (by rw [a0]),
      (h.2.1.trans (val_main_v27_eq _ _ _ _)).trans (by rw [a0, a1, a10, a19]),
      (h.2.2.1.trans (val_main_v8_eq _ _)).trans (by rw [a0, a10]),
      (h.2.2.2.1.trans (val_main_v14_eq _ _)).trans (by rw [a0, a19]),
      (h.2.2.2.2.1.trans (val_main_v31_eq _)).trans (by rw [a0]),
      (h.2.2.2.2.2.1.trans (val_main_v55_eq _ _ _ _)).trans (by rw [a0, a3, a12, a21]),
      (h.2.2.2.2.2.2.1.trans (val_main_v36_eq _ _)).trans (by rw [a0, a12]),
      (h.2.2.2.2.2.2.2.1.trans (val_main_v42_eq _ _)).trans (by rw [a0, a21]),
      (h.2.2.2.2.2.2.2.2.1.trans (val_main_v58_eq _)).trans (by rw [a0]),
      (h.2.2.2.2.2.2.2.2.2.1.trans (val_main_v82_eq _ _ _ _)).trans (by rw [a0, a4, a13, a22]),
      (h.2.2.2.2.2.2.2.2.2.2.1.trans (val_main_v63_eq _ _)).trans (by rw [a0, a13]),
      (h.2.2.2.2.2.2.2.2.2.2.2.1.trans (val_main_v69_eq _ _)).trans (by rw [a0, a22]), h.2.2.2.2.2.2.2.2.2.2.2.2⟩
end Cert.Kernel10Ideal.Hand
-- ==== Proof.SlotSum.lean ====
module
public import proofs.«01_k».proof.Defs
public import proofs.«01_k».proof.Proof.Gen.Kernel11Ideal.Frame
public import proofs.«01_k».proof.Proof.Gen.Reference11Ideal.Read
public import proofs.«01_k».proof.Proof.Gen.Reference11Ideal.Run
public import Idealize.ShloMosaic.Lib.Claim
public import Idealize.ShloMosaic.Lib.Pipeline.ValueKit
public import Idealize.ShloMosaic.Lib.Pointwise
public import Idealize.ShloMosaic.Lib.StableHlo.RunRead
public import Idealize.ShloMosaic.Lib.ValueIdx
public import Idealize.ShloMosaic.Lib.ValueIdxCore
@[expose] public section
/-!
The sum of a gradient's four parts, over a grid of two blocks of 352 rows: the kernel's result is the reference's, at
all arguments.
-/
set_option maxRecDepth 16384
noncomputable section
namespace Cert.Kernel11Ideal.Hand
open Cert.Kernel11Ideal Cert.Kernel11Ideal.Gen Idealize.ShloMosaic Idealize.ShloMosaic.TcCoe Idealize.SL.Sem
open Cert.Reference11Ideal.Read
open Idealize.ShloMosaic.Pipeline (Dat)
variable (m : (ℓ : Loc nD τ sig) → Buf (Elt Ideal) ℓ) (c : Dev nD)

/-- The block each window holds at point `t`. -/
theorem idx : ∀ t : Fin cfg0.N, win0_0.index t = ![0, t.val, 0] ∧ win0_1.index t = ![t.val, 0] :=
  (by decide +kernel : ∀ t : Fin grid0.N, win0_0.index t = ![0, t.val, 0] ∧ win0_1.index t = ![t.val, 0])

theorem point_lt (t : Fin cfg0.N) : t.val < 2 := lt_of_lt_of_eq t.isLt (show cfg0.N = 2 from N_0)

/-- Row `i` of the rows of point `t`. -/
def row (t : Fin cfg0.N) (i : Fin 352) : Fin 704 := ⟨t.val * 352 + i.val, by have := point_lt t; omega⟩
theorem row_val (t : Fin cfg0.N) (i : Fin 352) : (row t i).val = t.val * 352 + i.val := rfl

/-- The array the region finds: the parts. -/
@[irreducible] def p : S4x704x1024.Idx → EReal := V m c main_arg0

theorem blk0 (t : Fin cfg0.N) (d : Fin 4) (i : Fin 352) (k : Fin 1024) : iblk m c 0 t (ix3 d i k) = p m c (ix3 d (row t i) k) := by
  have e : ((cfg0.win 0).blk t).view.emb (ix3 d i k) = ix3 d (row t i) k := by blk_ext [idx t, row_val]
  unfold iblk p; exact congrArg (V m c main_arg0) e
theorem emb1 (t : Fin cfg0.N) (i : Fin 352) (k : Fin 1024) : ((View.whole main_v0).slice (win0_1.rect t)).emb (ix2 i k) = ix2 (row t i) k := by blk_ext [idx t, row_val]

theorem arr1 : (dats m 0 c).arrAt 1 cfg0.N = fun j => ∑ d : Fin 4, p m c (ix3 d (j 0) (j 1)) := by
  refine (dats m 0 c).arrAt_eq_of_covers 1 _ (by decide +kernel) fun t hf y => ?_
  blk_simp
  rw [after0_1]
  idx_vars y
  rw [emb1]
  unfold out0_1
  frame_out
  pointwise [k0_pay1]
  rw [Fin.sum_univ_four]
  simp only [blk0]

theorem p_eq : p m c = m (c.tc.loc main_arg0) := by
  unfold p
  entry_read <;> rfl

theorem r0 : ((dats m 0 c).arrAt 1 cfg0.N : S704x1024.Idx → EReal) = val_main_v1 (F := Ideal) (m (c.tc.loc main_arg0)) := by
  rw [arr1, p_eq]
  funext j
  idx_vars j
  pointwise [val_main_v1, val_main_v0]
  rw [val_main_cst_apply]
  simp

/-- Kernel and reference leave the same result. -/
theorem algebraic : Cert.algebraic_Kernel11Ideal_Reference11Ideal := by
  intro m g m' g' hpre hagree
  refine ⟨fun c => val_main_v1 (F := Ideal) (m (c.tc.loc main_arg0)),
    θ_run_mono (θ_run_and (run_main m g) (unchanged m g)) fun r h c => ?_, θ_run_mono (Cert.Reference11Ideal.Value.run m' g') fun r h c => ?_⟩
  · exact ⟨((h.1 c).1 1).trans (r0 m c), h.2 c⟩
  · have a0 := hagree c
    have h := h c
    exact ⟨(h.1.trans (val_main_v1_eq _)).trans (by rw [a0]), h.2⟩
end Cert.Kernel11Ideal.Hand
-- ==== Proof.PairAdd.lean ====
module
public import proofs.«01_k».proof.Defs
public import proofs.«01_k».proof.Proof.Gen.Kernel12Ideal.Frame
public import proofs.«01_k».proof.Proof.Gen.Reference12Ideal.Read
public import proofs.«01_k».proof.Proof.Gen.Reference12Ideal.Run
public import Idealize.ShloMosaic.Lib.Claim
public import Idealize.ShloMosaic.Lib.Pipeline.ValueKit
public import Idealize.ShloMosaic.Lib.Pointwise
public import Idealize.ShloMosaic.Lib.StableHlo.RunRead
public import Idealize.ShloMosaic.Lib.ValueIdx
public import Idealize.ShloMosaic.Lib.ValueIdxCore
@[expose] public section
/-!
The sum of a pair's blocks of a gradient, over a grid of four blocks, each with the first half of its rows on the one
side and the other device's half on the other: the kernel's result is the reference's, at all arguments.
-/
set_option maxRecDepth 16384
noncomputable section
namespace Cert.Kernel12Ideal.Hand
open Cert.Kernel12Ideal Cert.Kernel12Ideal.Gen Idealize.ShloMosaic Idealize.ShloMosaic.TcCoe Idealize.SL.Sem
open Cert.Reference12Ideal.Read
open Idealize.ShloMosaic.Pipeline (Dat)
variable (m : (ℓ : Loc nD τ sig) → Buf (Elt Ideal) ℓ) (c : Dev nD)

/-- The block each window holds at point `t`. -/
theorem idx : ∀ t : Fin cfg0.N, win0_0.index t = ![t.val, 0, 0] ∧ win0_1.index t = ![t.val, 0, 0] ∧ win0_2.index t = ![t.val, 0, 0] :=
  (by decide +kernel : ∀ t : Fin grid0.N, win0_0.index t = ![t.val, 0, 0] ∧ win0_1.index t = ![t.val, 0, 0] ∧ win0_2.index t = ![t.val, 0, 0])

/-- The block of point `t`. -/
def at_ (t : Fin cfg0.N) : Fin 4 := ⟨t.val, lt_of_lt_of_eq t.isLt (show cfg0.N = 4 from N_0)⟩
theorem at_val (t : Fin cfg0.N) : (at_ t).val = t.val := rfl

/-- The arrays the region finds: the own blocks and the other device's. -/
@[irreducible] def p : S4x704x1024.Idx → EReal := V m c main_arg0
@[irreducible] def q : S4x352x1024.Idx → EReal := V m c main_arg1

theorem blk0 (t : Fin cfg0.N) (i : Fin 704) (k : Fin 1024) : iblk m c 0 t (ix3 (0 : Fin 1) i k) = p m c (ix3 (at_ t) i k) := by
  have e : ((cfg0.win 0).blk t).view.emb (ix3 (0 : Fin 1) i k) = ix3 (at_ t) i k := by blk_ext [idx t, at_val]
  unfold iblk p; exact congrArg (V m c main_arg0) e
theorem blk1 (t : Fin cfg0.N) (i : Fin 352) (k : Fin 1024) : iblk m c 1 t (ix3 (0 : Fin 1) i k) = q m c (ix3 (at_ t) i k) := by
  have e : ((cfg0.win 1).blk t).view.emb (ix3 (0 : Fin 1) i k) = ix3 (at_ t) i k := by blk_ext [idx t, at_val]
  unfold iblk q; exact congrArg (V m c main_arg1) e
theorem emb2 (t : Fin cfg0.N) (i : Fin 352) (k : Fin 1024) : ((View.whole main_v0).slice (win0_2.rect t)).emb (ix3 (0 : Fin 1) i k) = ix3 (at_ t) i k := by blk_ext [idx t, at_val]

theorem arr2 : (dats m 0 c).arrAt 2 cfg0.N = fun j : S4x352x1024.Idx => p m c (ix3 (j 0) (Fin.castLE (by decide) (j 1 : Fin 352) : Fin 704) (j 2)) + q m c j := by
  refine (dats m 0 c).arrAt_eq_of_covers 2 _ (by decide +kernel) fun t hf y => ?_
  blk_simp
  rw [after0_2]
  idx_vars y
  obtain rfl : y0 = (0 : Fin 1) := Subsingleton.elim _ _
  rw [emb2]
  unfold out0_2
  frame_out
  pointwise [k0_pay1]
  simp only [blk0, blk1]
  rfl

theorem args : p m c = m (c.tc.loc main_arg0) ∧ q m c = m (c.tc.loc main_arg1) := by
  unfold p q
  refine ⟨?_, ?_⟩ <;> entry_read <;> rfl

theorem r0 : ((dats m 0 c).arrAt 2 cfg0.N : S4x352x1024.Idx → EReal) = val_main_v4 (F := Ideal) (m (c.tc.loc main_arg0)) (m (c.tc.loc main_arg1)) := by
  obtain ⟨ep, eq⟩ := args m c
  rw [arr2, ep, eq]
  funext j
  idx_vars j
  pointwise [val_main_v4, val_main_v3, val_main_v2, val_main_v1, val_main_v0]
  rfl

/-- Kernel and reference leave the same result. -/
theorem algebraic : Cert.algebraic_Kernel12Ideal_Reference12Ideal := by
  intro m g m' g' hpre hagree
  refine ⟨fun c => val_main_v4 (F := Ideal) (m (c.tc.loc main_arg0)) (m (c.tc.loc main_arg1)),
    θ_run_mono (θ_run_and (run_main m g) (unchanged m g)) fun r h c => ?_, θ_run_mono (Cert.Reference12Ideal.Value.run m' g') fun r h c => ?_⟩
  · exact ⟨((h.1 c).1 2).trans (r0 m c), h.2 c⟩
  · obtain ⟨a0, a1⟩ := hagree c
    have h := h c
    exact ⟨(h.1.trans (val_main_v4_eq _ _)).trans (by rw [a0, a1]), h.2⟩
end Cert.Kernel12Ideal.Hand
-- ==== Proof.References.lean ====
module
public import proofs.«01_k».proof.Defs
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.Gen.Reference6Ideal
public import proofs.«01_k».proof.Proof.Gen.Reference6Ideal.Run
public import proofs.«01_k».proof.Proof.Gen.Reference7Ideal
public import proofs.«01_k».proof.Proof.Gen.Reference7Ideal.Run
public import proofs.«01_k».proof.Proof.Gen.Reference8Ideal
public import proofs.«01_k».proof.Proof.Gen.Reference8Ideal.Run
public import proofs.«01_k».proof.Proof.Gen.Reference9Ideal
public import proofs.«01_k».proof.Proof.Gen.Reference9Ideal.Run
public import proofs.«01_k».proof.Proof.Gen.Reference10Ideal
public import proofs.«01_k».proof.Proof.Gen.Reference10Ideal.Run
public import proofs.«01_k».proof.Proof.Gen.Reference11Ideal
public import proofs.«01_k».proof.Proof.Gen.Reference11Ideal.Run
public import proofs.«01_k».proof.Proof.Gen.Reference12Ideal
public import proofs.«01_k».proof.Proof.Gen.Reference12Ideal.Run
public import Idealize.ShloMosaic.Lib.Claim
@[expose] public section
/-! The references are host operations one after the other: each terminates and leaves its arguments as they were,
and declares no semaphore. -/
set_option maxRecDepth 16384
noncomputable section
namespace Cert.References
open Idealize.ShloMosaic Idealize.ShloMosaic.TcCoe Idealize.SL.Sem

theorem frame : Cert.quiescent_ReferenceIdeal := fun m g _ =>
  θ_run_mono (Cert.ReferenceIdeal.Value.run m g) fun r h => ⟨fun c => (h c).2.2.2.2, sem_eq_zero_of_no_sems (by decide) r.2⟩
theorem frame2 : Cert.quiescent_Reference2Ideal := fun m g _ =>
  θ_run_mono (Cert.Reference2Ideal.Value.run m g) fun r h => ⟨fun c => (h c).2.2.2.2.2, sem_eq_zero_of_no_sems (by decide) r.2⟩
theorem frame3 : Cert.quiescent_Reference3Ideal := fun m g _ =>
  θ_run_mono (Cert.Reference3Ideal.Value.run m g) fun r h => ⟨fun c => (h c).2.2.2.2.2.2.2, sem_eq_zero_of_no_sems (by decide) r.2⟩
theorem frame4 : Cert.quiescent_Reference4Ideal := fun m g _ =>
  θ_run_mono (Cert.Reference4Ideal.Value.run m g) fun r h => ⟨fun c => (h c).2.2.2.2.2.2.2.2.2.2, sem_eq_zero_of_no_sems (by decide) r.2⟩
theorem frame5 : Cert.quiescent_Reference5Ideal := fun m g _ =>
  θ_run_mono (Cert.Reference5Ideal.Value.run m g) fun r h => ⟨fun c => (h c).2.2.2.2.2, sem_eq_zero_of_no_sems (by decide) r.2⟩
theorem frame6 : Cert.quiescent_Reference6Ideal := fun m g _ =>
  θ_run_mono (Cert.Reference6Ideal.Value.run m g) fun r h => ⟨fun c => (h c).2.2.2, sem_eq_zero_of_no_sems (by decide) r.2⟩
theorem frame7 : Cert.quiescent_Reference7Ideal := fun m g _ =>
  θ_run_mono (Cert.Reference7Ideal.Value.run m g) fun r h => ⟨fun c => (h c).2.2.2.2, sem_eq_zero_of_no_sems (by decide) r.2⟩
theorem frame8 : Cert.quiescent_Reference8Ideal := fun m g _ =>
  θ_run_mono (Cert.Reference8Ideal.Value.run m g) fun r h => ⟨fun c => (h c).2.2.2.2, sem_eq_zero_of_no_sems (by decide) r.2⟩
theorem frame9 : Cert.quiescent_Reference9Ideal := fun m g _ =>
  θ_run_mono (Cert.Reference9Ideal.Value.run m g) fun r h => ⟨fun c => (h c).2.2.2.2, sem_eq_zero_of_no_sems (by decide) r.2⟩
theorem frame10 : Cert.quiescent_Reference10Ideal := fun m g _ =>
  θ_run_mono (Cert.Reference10Ideal.Value.run m g) fun r h => ⟨fun c => (h c).2.2.2.2.2.2.2.2.2.2.2.2, sem_eq_zero_of_no_sems (by decide) r.2⟩
theorem frame11 : Cert.quiescent_Reference11Ideal := fun m g _ =>
  θ_run_mono (Cert.Reference11Ideal.Value.run m g) fun r h => ⟨fun c => (h c).2, sem_eq_zero_of_no_sems (by decide) r.2⟩
theorem frame12 : Cert.quiescent_Reference12Ideal := fun m g _ =>
  θ_run_mono (Cert.Reference12Ideal.Value.run m g) fun r h => ⟨fun c => (h c).2, sem_eq_zero_of_no_sems (by decide) r.2⟩
end Cert.References
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_a
public import proofs.«01_k».proof.Proof.Gen.Pre_finite_b
public import proofs.«01_k».proof.Proof.Gen.ReferenceIdeal.Run
public import proofs.«01_k».proof.Proof.Gen.Reference2Ideal.Run
public import proofs.«01_k».proof.Proof.Gen.ReferenceIdeal.Read
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_c
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_e
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.GateGradClaim
public import proofs.«01_k».proof.Proof.NormGradClaim
public import proofs.«01_k».proof.Proof.LossClaim
public import proofs.«01_k».proof.Proof.MixClaim
public import proofs.«01_k».proof.Proof.LayerClaim
public import proofs.«01_k».proof.Proof.WeightsClaim
public import proofs.«01_k».proof.Proof.AdaClaim
public import proofs.«01_k».proof.Proof.AdamClaim
public import proofs.«01_k».proof.Proof.HalvesClaim
public import proofs.«01_k».proof.Proof.SmallClaim
public import proofs.«01_k».proof.Proof.SlotSum
public import proofs.«01_k».proof.Proof.PairAdd
public import proofs.«01_k».proof.Proof.References
public import Idealize.ShloMosaic.Adequacy
public import Idealize.ShloMosaic.Init

@[expose] public section

noncomputable section

/-!
Every claim of the certificate: the generated frames, the plain runs of the references, and the equations of the
value modules.
-/
namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite_a.Gen.facts, Cert.Pre_finite_b.Gen.facts, Cert.Pre_finite_c.Gen.facts, Cert.Pre_finite_e.Gen.facts,
  fun m ρ _ => Cert.Kernel.Gen.frame m ρ, fun m ρ _ => Cert.KernelIdeal.Gen.frame m ρ, fun m ρ _ => Cert.KernelIdeal.Gen.frame m ρ,
  Cert.References.frame, fun m ρ _ => Cert.References.frame m ρ trivial,
  fun m ρ _ => Cert.Kernel2.Gen.frame m ρ, fun m ρ _ => Cert.Kernel2Ideal.Gen.frame m ρ, fun m ρ _ => Cert.Kernel2Ideal.Gen.frame m ρ,
  Cert.References.frame2, fun m ρ _ => Cert.References.frame2 m ρ trivial,
  fun m ρ _ => Cert.Kernel3.Gen.frame m ρ, fun m ρ _ => Cert.Kernel3Ideal.Gen.frame m ρ, fun m ρ _ => Cert.Kernel3Ideal.Gen.frame m ρ,
  Cert.References.frame3, fun m ρ _ => Cert.References.frame3 m ρ trivial,
  fun m ρ _ => Cert.Kernel4.Gen.frame m ρ, fun m ρ _ => Cert.Kernel4Ideal.Gen.frame m ρ, Cert.References.frame4,
  fun m ρ _ => Cert.Kernel5.Gen.frame m ρ, fun m ρ _ => Cert.Kernel5Ideal.Gen.frame m ρ, fun m ρ _ => Cert.Kernel5Ideal.Gen.frame m ρ,
  Cert.References.frame5, fun m ρ _ => Cert.References.frame5 m ρ trivial,
  fun m ρ _ => Cert.Kernel6.Gen.frame m ρ, fun m ρ _ => Cert.Kernel6Ideal.Gen.frame m ρ, Cert.References.frame6,
  fun m ρ _ => Cert.Kernel7.Gen.frame m ρ, fun m ρ _ => Cert.Kernel7Ideal.Gen.frame m ρ, Cert.References.frame7,
  fun m ρ _ => Cert.Kernel8.Gen.frame m ρ, fun m ρ _ => Cert.Kernel8Ideal.Gen.frame m ρ, Cert.References.frame8,
  fun m ρ _ => Cert.Kernel9.Gen.frame m ρ, fun m ρ _ => Cert.Kernel9Ideal.Gen.frame m ρ, Cert.References.frame9,
  fun m ρ _ => Cert.Kernel10.Gen.frame m ρ, fun m ρ _ => Cert.Kernel10Ideal.Gen.frame m ρ, Cert.References.frame10,
  fun m ρ _ => Cert.Kernel11.Gen.frame m ρ, fun m ρ _ => Cert.Kernel11Ideal.Gen.frame m ρ, Cert.References.frame11,
  fun m ρ _ => Cert.Kernel12.Gen.frame m ρ, fun m ρ _ => Cert.Kernel12Ideal.Gen.frame m ρ, Cert.References.frame12,
  trivial, Cert.KernelIdeal.Hand.algebraic, trivial, Cert.Kernel2Ideal.Hand.algebraic, trivial, Cert.Kernel3Ideal.Hand.algebraic,
  trivial, Cert.Kernel4Ideal.Hand.algebraic, trivial, Cert.Kernel5Ideal.Hand.algebraic, trivial, Cert.Kernel6Ideal.Hand.algebraic,
  trivial, Cert.Kernel7Ideal.Hand.algebraic, trivial, Cert.Kernel8Ideal.Hand.algebraic, trivial, Cert.Kernel9Ideal.Hand.algebraic,
  trivial, Cert.Kernel10Ideal.Hand.algebraic, trivial, Cert.Kernel11Ideal.Hand.algebraic, trivial, Cert.Kernel12Ideal.Hand.algebraic⟩

end Cert.Proof

end
